-- ==== Defs.lean ====
def Pre_Kernel [hPre_causal_tables : Cert.Pre_causal_tables.Facts] (m : (ℓ : Loc Cert.Kernel.nD Cert.Kernel.τ Cert.Kernel.sig) → Buf (Elt Bits) ℓ) : Prop :=
  ∀ c : Dev Cert.Kernel.nD,
    (Cert.Pre_causal_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_causal_tables : Cert.Pre_causal_tables.Facts] (m : (ℓ : Loc Cert.KernelIdeal.nD Cert.KernelIdeal.τ Cert.KernelIdeal.sig) → Buf (Elt Ideal) ℓ) : Prop :=
  ∀ c : Dev Cert.KernelIdeal.nD,
    (Cert.Pre_causal_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_causal_finite [hPre_causal_finite : Cert.Pre_causal_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_finite [hPre_causal_finite : Cert.Pre_causal_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_rotary_layout [hPre_rotary_layout : Cert.Pre_rotary_layout.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rotary_layout.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rotary_layout [hPre_rotary_layout : Cert.Pre_rotary_layout.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rotary_layout.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_sample_layout [hPre_sample_layout : Cert.Pre_sample_layout.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_sample_layout.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_sample_layout [hPre_sample_layout : Cert.Pre_sample_layout.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_sample_layout.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_sample_buffer [hPre_sample_buffer : Cert.Pre_sample_buffer.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_sample_buffer.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_sample_buffer [hPre_sample_buffer : Cert.Pre_sample_buffer.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_sample_buffer.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def quiescent_Kernel [hKernel : Cert.Kernel.Facts] [hPre_causal_tables : Cert.Pre_causal_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_causal_tables : Cert.Pre_causal_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_causal_finite [hKernelIdeal : Cert.KernelIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_causal_finite [hReferenceIdeal : Cert.ReferenceIdeal.Facts] [hPre_causal_finite : Cert.Pre_causal_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_rotary_layout [hKernel3Ideal : Cert.Kernel3Ideal.Facts] [hPre_rotary_layout : Cert.Pre_rotary_layout.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_rotary_layout m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_rotary_layout [hReference3Ideal : Cert.Reference3Ideal.Facts] [hPre_rotary_layout : Cert.Pre_rotary_layout.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rotary_layout m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_sample_layout [hKernel4Ideal : Cert.Kernel4Ideal.Facts] [hPre_sample_layout : Cert.Pre_sample_layout.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_sample_layout m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_sample_layout [hReference4Ideal : Cert.Reference4Ideal.Facts] [hPre_sample_layout : Cert.Pre_sample_layout.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_sample_layout m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_sample_buffer [hKernel5Ideal : Cert.Kernel5Ideal.Facts] [hPre_sample_buffer : Cert.Pre_sample_buffer.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_sample_buffer m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_sample_buffer [hReference5Ideal : Cert.Reference5Ideal.Facts] [hPre_sample_buffer : Cert.Pre_sample_buffer.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_sample_buffer m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_causal_finite [hKernelIdeal : Cert.KernelIdeal.Facts] [hReferenceIdeal : Cert.ReferenceIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_rotary_layout [hKernel3Ideal : Cert.Kernel3Ideal.Facts] [hReference3Ideal : Cert.Reference3Ideal.Facts] [hPre_rotary_layout : Cert.Pre_rotary_layout.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_rotary_layout m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)) (v8 : (c : Dev Cert.Kernel3Ideal.nD) → Buf (Elt Ideal) ((c.tc : Thread Cert.Kernel3Ideal.nD Cert.Kernel3Ideal.τ).loc Cert.Kernel3Ideal.main_v0_8)) (v9 : (c : Dev Cert.Kernel3Ideal.nD) → Buf (Elt Ideal) ((c.tc : Thread Cert.Kernel3Ideal.nD Cert.Kernel3Ideal.τ).loc Cert.Kernel3Ideal.main_v0_9)) (v10 : (c : Dev Cert.Kernel3Ideal.nD) → Buf (Elt Ideal) ((c.tc : Thread Cert.Kernel3Ideal.nD Cert.Kernel3Ideal.τ).loc Cert.Kernel3Ideal.main_v0_11)) (v11 : (c : Dev Cert.Kernel3Ideal.nD) → Buf (Elt Ideal) ((c.tc : Thread Cert.Kernel3Ideal.nD Cert.Kernel3Ideal.τ).loc Cert.Kernel3Ideal.main_v0_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_v0_8) = v8 c
          ∧ r.2.mem ((c.tc : Thread Cert.Kernel3Ideal.nD Cert.Kernel3Ideal.τ).loc Cert.Kernel3Ideal.main_v0_9) = v9 c
          ∧ r.2.mem ((c.tc : Thread Cert.Kernel3Ideal.nD Cert.Kernel3Ideal.τ).loc Cert.Kernel3Ideal.main_v0_11) = v10 c
          ∧ r.2.mem ((c.tc : Thread Cert.Kernel3Ideal.nD Cert.Kernel3Ideal.τ).loc Cert.Kernel3Ideal.main_v0_12) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_v66) = v4 c
          ∧ r.2.mem ((c.tc : Thread Cert.Reference3Ideal.nD Cert.Reference3Ideal.τ).loc Cert.Reference3Ideal.main_v68) = v5 c
          ∧ r.2.mem ((c.tc : Thread Cert.Reference3Ideal.nD Cert.Reference3Ideal.τ).loc Cert.Reference3Ideal.main_v20) = v6 c
          ∧ r.2.mem ((c.tc : Thread Cert.Reference3Ideal.nD Cert.Reference3Ideal.τ).loc Cert.Reference3Ideal.main_v69) = v7 c
          ∧ r.2.mem ((c.tc : Thread Cert.Reference3Ideal.nD Cert.Reference3Ideal.τ).loc Cert.Reference3Ideal.main_v22) = v8 c
          ∧ r.2.mem ((c.tc : Thread Cert.Reference3Ideal.nD Cert.Reference3Ideal.τ).loc Cert.Reference3Ideal.main_v34) = v9 c
          ∧ r.2.mem ((c.tc : Thread Cert.Reference3Ideal.nD Cert.Reference3Ideal.τ).loc Cert.Reference3Ideal.main_v70) = v10 c
          ∧ r.2.mem ((c.tc : Thread Cert.Reference3Ideal.nD Cert.Reference3Ideal.τ).loc Cert.Reference3Ideal.main_v60) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_sample_layout [hKernel4Ideal : Cert.Kernel4Ideal.Facts] [hReference4Ideal : Cert.Reference4Ideal.Facts] [hPre_sample_layout : Cert.Pre_sample_layout.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_sample_layout m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)) (v10 : (c : Dev Cert.Kernel4Ideal.nD) → Buf (Elt Ideal) ((c.tc : Thread Cert.Kernel4Ideal.nD Cert.Kernel4Ideal.τ).loc Cert.Kernel4Ideal.main_v0_11)) (v11 : (c : Dev Cert.Kernel4Ideal.nD) → Buf (Elt Ideal) ((c.tc : Thread Cert.Kernel4Ideal.nD Cert.Kernel4Ideal.τ).loc Cert.Kernel4Ideal.main_v0_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_v0_11) = v10 c
          ∧ r.2.mem ((c.tc : Thread Cert.Kernel4Ideal.nD Cert.Kernel4Ideal.τ).loc Cert.Kernel4Ideal.main_v0_12) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v65) = v5 c
          ∧ r.2.mem ((c.tc : Thread Cert.Reference4Ideal.nD Cert.Reference4Ideal.τ).loc Cert.Reference4Ideal.main_v20) = v6 c
          ∧ r.2.mem ((c.tc : Thread Cert.Reference4Ideal.nD Cert.Reference4Ideal.τ).loc Cert.Reference4Ideal.main_v21) = v7 c
          ∧ r.2.mem ((c.tc : Thread Cert.Reference4Ideal.nD Cert.Reference4Ideal.τ).loc Cert.Reference4Ideal.main_v22) = v8 c
          ∧ r.2.mem ((c.tc : Thread Cert.Reference4Ideal.nD Cert.Reference4Ideal.τ).loc Cert.Reference4Ideal.main_v34) = v9 c
          ∧ r.2.mem ((c.tc : Thread Cert.Reference4Ideal.nD Cert.Reference4Ideal.τ).loc Cert.Reference4Ideal.main_v61) = v10 c
          ∧ r.2.mem ((c.tc : Thread Cert.Reference4Ideal.nD Cert.Reference4Ideal.τ).loc Cert.Reference4Ideal.main_v60) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_sample_buffer [hKernel5Ideal : Cert.Kernel5Ideal.Facts] [hReference5Ideal : Cert.Reference5Ideal.Facts] [hPre_sample_buffer : Cert.Pre_sample_buffer.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_sample_buffer m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_causal_tables : Cert.Pre_causal_tables.Facts) (hPre_causal_finite : Cert.Pre_causal_finite.Facts) (hPre_rotary_layout : Cert.Pre_rotary_layout.Facts) (hPre_sample_layout : Cert.Pre_sample_layout.Facts) (hPre_sample_buffer : Cert.Pre_sample_buffer.Facts),
    quiescent_Kernel (hKernel := hKernel) (hPre_causal_tables := hPre_causal_tables)
    ∧ quiescent_KernelIdeal (hKernelIdeal := hKernelIdeal) (hPre_causal_tables := hPre_causal_tables)
    ∧ quiescent_KernelIdeal_pre_causal_finite (hKernelIdeal := hKernelIdeal) (hPre_causal_finite := hPre_causal_finite)
    ∧ quiescent_ReferenceIdeal (hReferenceIdeal := hReferenceIdeal)
    ∧ quiescent_ReferenceIdeal_pre_causal_finite (hReferenceIdeal := hReferenceIdeal) (hPre_causal_finite := hPre_causal_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_rotary_layout (hKernel3Ideal := hKernel3Ideal) (hPre_rotary_layout := hPre_rotary_layout)
    ∧ quiescent_Reference3Ideal (hReference3Ideal := hReference3Ideal)
    ∧ quiescent_Reference3Ideal_pre_rotary_layout (hReference3Ideal := hReference3Ideal) (hPre_rotary_layout := hPre_rotary_layout)
    ∧ quiescent_Kernel4 (hKernel4 := hKernel4)
    ∧ quiescent_Kernel4Ideal (hKernel4Ideal := hKernel4Ideal)
    ∧ quiescent_Kernel4Ideal_pre_sample_layout (hKernel4Ideal := hKernel4Ideal) (hPre_sample_layout := hPre_sample_layout)
    ∧ quiescent_Reference4Ideal (hReference4Ideal := hReference4Ideal)
    ∧ quiescent_Reference4Ideal_pre_sample_layout (hReference4Ideal := hReference4Ideal) (hPre_sample_layout := hPre_sample_layout)
    ∧ quiescent_Kernel5 (hKernel5 := hKernel5)
    ∧ quiescent_Kernel5Ideal (hKernel5Ideal := hKernel5Ideal)
    ∧ quiescent_Kernel5Ideal_pre_sample_buffer (hKernel5Ideal := hKernel5Ideal) (hPre_sample_buffer := hPre_sample_buffer)
    ∧ quiescent_Reference5Ideal (hReference5Ideal := hReference5Ideal)
    ∧ quiescent_Reference5Ideal_pre_sample_buffer (hReference5Ideal := hReference5Ideal) (hPre_sample_buffer := hPre_sample_buffer)
    ∧ preserves_Kernel_KernelIdeal
    ∧ algebraic_KernelIdeal_ReferenceIdeal_pre_causal_finite (hKernelIdeal := hKernelIdeal) (hReferenceIdeal := hReferenceIdeal) (hPre_causal_finite := hPre_causal_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_rotary_layout (hKernel3Ideal := hKernel3Ideal) (hReference3Ideal := hReference3Ideal) (hPre_rotary_layout := hPre_rotary_layout)
    ∧ preserves_Kernel4_Kernel4Ideal
    ∧ algebraic_Kernel4Ideal_Reference4Ideal_pre_sample_layout (hKernel4Ideal := hKernel4Ideal) (hReference4Ideal := hReference4Ideal) (hPre_sample_layout := hPre_sample_layout)
    ∧ preserves_Kernel5_Kernel5Ideal
    ∧ algebraic_Kernel5Ideal_Reference5Ideal_pre_sample_buffer (hKernel5Ideal := hKernel5Ideal) (hReference5Ideal := hReference5Ideal) (hPre_sample_buffer := hPre_sample_buffer)
-- ==== Pre_causal_finite.lean ====
abbrev S136 : Shape := ⟨1, ![136]⟩
abbrev S4x2x256x8192 : Shape := ⟨4, ![4, 2, 256, 8192]⟩
abbrev S2x8192x256 : Shape := ⟨3, ![2, 8192, 256]⟩
abbrev S2x144x8192 : Shape := ⟨3, ![2, 144, 8192]⟩
abbrev S4x256x128 : Shape := ⟨3, ![4, 256, 128]⟩
abbrev S_ : Shape := ⟨0, ![]⟩
abbrev S2x1x8192 : Shape := ⟨3, ![2, 1, 8192]⟩
abbrev S2x8192 : Shape := ⟨2, ![2, 8192]⟩

class Facts : Prop where
  reducesTo_S136_S_d0 : S136.ReducesTo [0] S_
  h_S_ : 0 < S_.numel
  slices_S2x144x8192_S2x1x8192_0_128_0 : S2x144x8192.Slices ![0, 128, 0] S2x1x8192
  shapeCasts_S2x1x8192_S2x8192 : S2x1x8192.ShapeCasts S2x8192
  bcast_S_S2x8192 : S_.BroadcastsInDim S2x8192 (![] : Fin 0 → Fin S2x8192.rank)
  reducesTo_S2x8192_S_d0_1 : S2x8192.ReducesTo [0, 1] S_
  bcast_S_S4x2x256x8192 : S_.BroadcastsInDim S4x2x256x8192 (![] : Fin 0 → Fin S4x2x256x8192.rank)
  reducesTo_S4x2x256x8192_S_d0_1_2_3 : S4x2x256x8192.ReducesTo [0, 1, 2, 3] S_
  bcast_S_S2x8192x256 : S_.BroadcastsInDim S2x8192x256 (![] : Fin 0 → Fin S2x8192x256.rank)
  reducesTo_S2x8192x256_S_d0_1_2 : S2x8192x256.ReducesTo [0, 1, 2] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_v14 : IVec S_ 1) (main_v15 : FVec F S2x8192x256 .bf16) (main_cst_5 : FVec F S_ .bf16) : IVec S_ 1 :=
  let main_v16 : FVec F S2x8192x256 .bf16 := broadcastInDim S2x8192x256 ![] bcast_S_S2x8192x256 main_cst_5
  let main_v17 : IVec S2x8192x256 1 := cmpf .olt main_v15 main_v16
  let main_c_6 : IVec S_ 1 := constantI S_ 1 1#1
  let main_v18 : IVec S_ 1 := (fun x v => Host.reduce IntOp.andi x v reducesTo_S2x8192x256_S_d0_1_2 h_S_) main_v17 main_c_6
  let main_v19 : IVec S_ 1 := andi main_v14 main_v18
  main_v19

def fn {F : FTy → Type} [FloatOps F] (main_arg0 : IVec S136 32) (main_arg1 : IVec S136 32) (main_arg2 : FVec F S4x2x256x8192 .bf16) (main_arg3 : FVec F S2x8192x256 .bf16) (main_arg4 : FVec F S2x144x8192 .bf16) (main_arg5 : FVec F S4x256x128 .bf16) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  let main_v2 : IVec S136 1 := andi main_v0 main_v1
  let main_c_1 : IVec S_ 1 := constantI S_ 1 1#1
  let main_v3 : IVec S_ 1 := (fun x v => Host.reduce IntOp.andi x v reducesTo_S136_S_d0 h_S_) main_v2 main_c_1
  let main_v4 : FVec F S2x1x8192 .bf16 := (extractStridedSlice S2x1x8192 ![0, 128, 0] · slices_S2x144x8192_S2x1x8192_0_128_0) main_arg4
  let main_v5 : FVec F S2x8192 .bf16 := shapeCast S2x8192 main_v4 shapeCasts_S2x1x8192_S2x8192
  let main_cst : FVec F S_ .bf16 := constant S_ .bf16 0x3F80#16
  let main_v6 : FVec F S2x8192 .bf16 := broadcastInDim S2x8192 ![] bcast_S_S2x8192 main_cst
  let main_v7 : IVec S2x8192 1 := cmpf .oeq main_v5 main_v6
  let main_c_2 : IVec S_ 1 := constantI S_ 1 1#1
  let main_v8 : IVec S_ 1 := (fun x v => Host.reduce IntOp.andi x v reducesTo_S2x8192_S_d0_1 h_S_) main_v7 main_c_2
  let main_v9 : IVec S_ 1 := andi main_v3 main_v8
  let main_v10 : FVec F S4x2x256x8192 .bf16 := Host.absf main_arg2
  let main_cst_3 : FVec F S_ .bf16 := constant S_ .bf16 0x7F80#16
  let main_v11 : FVec F S4x2x256x8192 .bf16 := broadcastInDim S4x2x256x8192 ![] bcast_S_S4x2x256x8192 main_cst_3
  let main_v12 : IVec S4x2x256x8192 1 := cmpf .olt main_v10 main_v11
  let main_c_4 : IVec S_ 1 := constantI S_ 1 1#1
  let main_v13 : IVec S_ 1 := (fun x v => Host.reduce IntOp.andi x v reducesTo_S4x2x256x8192_S_d0_1_2_3 h_S_) main_v12 main_c_4
  let main_v14 : IVec S_ 1 := andi main_v9 main_v13
  let main_v15 : FVec F S2x8192x256 .bf16 := Host.absf main_arg3
  let main_cst_5 : FVec F S_ .bf16 := constant S_ .bf16 0x7F80#16
  fn_part1 (F := F) main_v14 main_v15 main_cst_5
-- ==== Pre_causal_tables.lean ====
abbrev S136 : Shape := ⟨1, ![136]⟩
abbrev S4x2x256x8192 : Shape := ⟨4, ![4, 2, 256, 8192]⟩
abbrev S2x8192x256 : Shape := ⟨3, ![2, 8192, 256]⟩
abbrev S2x144x8192 : Shape := ⟨3, ![2, 144, 8192]⟩
abbrev S4x256x128 : Shape := ⟨3, ![4, 256, 128]⟩

class Facts : Prop where

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S4x2x256x8192 .bf16) (main_arg3 : FVec F S2x8192x256 .bf16) (main_arg4 : FVec F S2x144x8192 .bf16) (main_arg5 : FVec F S4x256x128 .bf16) : IVec S136 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  let main_v2 : IVec S136 1 := andi main_v0 main_v1
  main_v2
-- ==== Pre_rotary_layout.lean ====
abbrev S16384x1024 : Shape := ⟨2, ![16384, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S16384x128 : Shape := ⟨2, ![16384, 128]⟩
abbrev S1024x32 : Shape := ⟨2, ![1024, 32]⟩
abbrev S1024x1x32 : Shape := ⟨3, ![1024, 1, 32]⟩
abbrev S1024x128 : Shape := ⟨2, ![1024, 128]⟩
abbrev S1024x4x32 : Shape := ⟨3, ![1024, 4, 32]⟩
abbrev S16384x8x16 : Shape := ⟨3, ![16384, 8, 16]⟩
abbrev S16384x4x32 : Shape := ⟨3, ![16384, 4, 32]⟩
abbrev S_ : Shape := ⟨0, ![]⟩
abbrev S1024x4x16 : Shape := ⟨3, ![1024, 4, 16]⟩
abbrev S1024x1x16 : Shape := ⟨3, ![1024, 1, 16]⟩
abbrev S16384x16 : Shape := ⟨2, ![16384, 16]⟩
abbrev S16384x1x16 : Shape := ⟨3, ![16384, 1, 16]⟩
abbrev S16384x4x16 : Shape := ⟨3, ![16384, 4, 16]⟩

class Facts : Prop where
  bitsLt_bf16_f32 : FTy.bits .bf16 < FTy.bits .f32
  slices_S1024x3072_S1024x32_0_2816 : S1024x3072.Slices ![0, 2816] S1024x32
  bcast_S1024x32_S1024x1x32_0_2 : S1024x32.BroadcastsInDim S1024x1x32 (![0, 2] : Fin 2 → Fin S1024x1x32.rank)
  slices_S1024x3072_S1024x128_0_2816 : S1024x3072.Slices ![0, 2816] S1024x128
  shapeCasts_S1024x128_S1024x4x32 : S1024x128.ShapeCasts S1024x4x32
  slices_S1024x3072_S1024x128_0_2944 : S1024x3072.Slices ![0, 2944] S1024x128
  shapeCasts_S16384x128_S16384x8x16 : S16384x128.ShapeCasts S16384x8x16
  shapeCasts_S16384x128_S16384x4x32 : S16384x128.ShapeCasts S16384x4x32
  bcast_S1024x1x32_S1024x4x32_0_1_2 : S1024x1x32.BroadcastsInDim S1024x4x32 (![0, 1, 2] : Fin 3 → Fin S1024x4x32.rank)
  reducesTo_S1024x4x32_S_d0_1_2 : S1024x4x32.ReducesTo [0, 1, 2] S_
  h_S_ : 0 < S_.numel
  slices_S1024x4x32_S1024x4x16_0_0_0 : S1024x4x32.Slices ![0, 0, 0] S1024x4x16
  slices_S1024x1x32_S1024x1x16_0_0_16 : S1024x1x32.Slices ![0, 0, 16] S1024x1x16
  bcast_S1024x1x16_S1024x4x16_0_1_2 : S1024x1x16.BroadcastsInDim S1024x4x16 (![0, 1, 2] : Fin 3 → Fin S1024x4x16.rank)
  reducesTo_S1024x4x16_S_d0_1_2 : S1024x4x16.ReducesTo [0, 1, 2] S_
  slices_S1024x4x32_S1024x4x16_0_0_16 : S1024x4x32.Slices ![0, 0, 16] S1024x4x16
  slices_S1024x1x32_S1024x1x16_0_0_0 : S1024x1x32.Slices ![0, 0, 0] S1024x1x16
  slices_S16384x128_S16384x16_0_0 : S16384x128.Slices ![0, 0] S16384x16
  bcast_S16384x16_S16384x1x16_0_2 : S16384x16.BroadcastsInDim S16384x1x16 (![0, 2] : Fin 2 → Fin S16384x1x16.rank)
  bcast_S16384x1x16_S16384x8x16_0_1_2 : S16384x1x16.BroadcastsInDim S16384x8x16 (![0, 1, 2] : Fin 3 → Fin S16384x8x16.rank)
  reducesTo_S16384x8x16_S_d0_1_2 : S16384x8x16.ReducesTo [0, 1, 2] S_
  slices_S16384x4x32_S16384x4x16_0_0_0 : S16384x4x32.Slices ![0, 0, 0] S16384x4x16
  slices_S16384x128_S16384x16_0_16 : S16384x128.Slices ![0, 16] S16384x16
  bcast_S16384x1x16_S16384x4x16_0_1_2 : S16384x1x16.BroadcastsInDim S16384x4x16 (![0, 1, 2] : Fin 3 → Fin S16384x4x16.rank)
  reducesTo_S16384x4x16_S_d0_1_2 : S16384x4x16.ReducesTo [0, 1, 2] S_
  slices_S16384x4x32_S16384x4x16_0_0_16 : S16384x4x32.Slices ![0, 0, 16] S16384x4x16

variable [Facts]

def fn_part2 {F : FTy → Type} [FloatOps F] (main_v37 : IVec S_ 1) (main_v42 : IVec S16384x4x16 1) : IVec S_ 1 :=
  let main_c_4 : IVec S_ 1 := constantI S_ 1 1#1
  let main_v43 : IVec S_ 1 := (fun x v => Host.reduce IntOp.andi x v reducesTo_S16384x4x16_S_d0_1_2 h_S_) main_v42 main_c_4
  let main_v44 : IVec S_ 1 := andi main_v37 main_v43
  main_v44

def fn_part1 {F : FTy → Type} [FloatOps F] (main_arg9 : FVec F S16384x128 .f32) (main_arg10 : FVec F S16384x128 .f32) (main_v7 : FVec F S16384x8x16 .f32) (main_v8 : FVec F S16384x4x32 .f32) (main_v17 : IVec S_ 1) (main_v21 : IVec S1024x4x16 1) : IVec S_ 1 :=
  let main_c_1 : IVec S_ 1 := constantI S_ 1 1#1
  let main_v22 : IVec S_ 1 := (fun x v => Host.reduce IntOp.andi x v reducesTo_S1024x4x16_S_d0_1_2 h_S_) main_v21 main_c_1
  let main_v23 : IVec S_ 1 := andi main_v17 main_v22
  let main_v24 : FVec F S16384x16 .f32 := (extractStridedSlice S16384x16 ![0, 0] · slices_S16384x128_S16384x16_0_0) main_arg9
  let main_v25 : FVec F S16384x1x16 .f32 := broadcastInDim S16384x1x16 ![0, 2] bcast_S16384x16_S16384x1x16_0_2 main_v24
  let main_v26 : FVec F S16384x8x16 .f32 := broadcastInDim S16384x8x16 ![0, 1, 2] bcast_S16384x1x16_S16384x8x16_0_1_2 main_v25
  let main_v27 : IVec S16384x8x16 1 := cmpf .oeq main_v7 main_v26
  let main_c_2 : IVec S_ 1 := constantI S_ 1 1#1
  let main_v28 : IVec S_ 1 := (fun x v => Host.reduce IntOp.andi x v reducesTo_S16384x8x16_S_d0_1_2 h_S_) main_v27 main_c_2
  let main_v29 : IVec S_ 1 := andi main_v23 main_v28
  let main_v30 : FVec F S16384x4x16 .f32 := (extractStridedSlice S16384x4x16 ![0, 0, 0] · slices_S16384x4x32_S16384x4x16_0_0_0) main_v8
  let main_v31 : FVec F S16384x16 .f32 := (extractStridedSlice S16384x16 ![0, 16] · slices_S16384x128_S16384x16_0_16) main_arg10
  let main_v32 : FVec F S16384x1x16 .f32 := broadcastInDim S16384x1x16 ![0, 2] bcast_S16384x16_S16384x1x16_0_2 main_v31
  let main_v33 : FVec F S16384x1x16 .f32 := Host.negf main_v32
  let main_v34 : FVec F S16384x4x16 .f32 := broadcastInDim S16384x4x16 ![0, 1, 2] bcast_S16384x1x16_S16384x4x16_0_1_2 main_v33
  let main_v35 : IVec S16384x4x16 1 := cmpf .oeq main_v30 main_v34
  let main_c_3 : IVec S_ 1 := constantI S_ 1 1#1
  let main_v36 : IVec S_ 1 := (fun x v => Host.reduce IntOp.andi x v reducesTo_S16384x4x16_S_d0_1_2 h_S_) main_v35 main_c_3
  let main_v37 : IVec S_ 1 := andi main_v29 main_v36
  let main_v38 : FVec F S16384x4x16 .f32 := (extractStridedSlice S16384x4x16 ![0, 0, 16] · slices_S16384x4x32_S16384x4x16_0_0_16) main_v8
  let main_v39 : FVec F S16384x16 .f32 := (extractStridedSlice S16384x16 ![0, 16] · slices_S16384x128_S16384x16_0_16) main_arg10
  let main_v40 : FVec F S16384x1x16 .f32 := broadcastInDim S16384x1x16 ![0, 2] bcast_S16384x16_S16384x1x16_0_2 main_v39
  let main_v41 : FVec F S16384x4x16 .f32 := broadcastInDim S16384x4x16 ![0, 1, 2] bcast_S16384x1x16_S16384x4x16_0_1_2 main_v40
  let main_v42 : IVec S16384x4x16 1 := cmpf .oeq main_v38 main_v41
  fn_part2 (F := F) main_v37 main_v42

def fn {F : FTy → Type} [FloatOps F] (main_arg0 : FVec F S16384x1024 .f32) (main_arg1 : FVec F S1x1024 .f32) (main_arg2 : FVec F S1024x3072 .bf16) (main_arg3 : FVec F S128x256 .bf16) (main_arg4 : FVec F S1x256 .f32) (main_arg5 : FVec F S1x256 .f32) (main_arg6 : FVec F S256x512 .bf16) (main_arg7 : FVec F S256x512 .bf16) (main_arg8 : FVec F S1x128 .f32) (main_arg9 : FVec F S16384x128 .f32) (main_arg10 : FVec F S16384x128 .f32) : IVec S_ 1 :=
  let main_v0 : FVec F S1024x3072 .f32 := (extf .f32 · bitsLt_bf16_f32) main_arg2
  let main_v1 : FVec F S1024x32 .f32 := (extractStridedSlice S1024x32 ![0, 2816] · slices_S1024x3072_S1024x32_0_2816) main_v0
  let main_v2 : FVec F S1024x1x32 .f32 := broadcastInDim S1024x1x32 ![0, 2] bcast_S1024x32_S1024x1x32_0_2 main_v1
  let main_v3 : FVec F S1024x128 .f32 := (extractStridedSlice S1024x128 ![0, 2816] · slices_S1024x3072_S1024x128_0_2816) main_v0
  let main_v4 : FVec F S1024x4x32 .f32 := shapeCast S1024x4x32 main_v3 shapeCasts_S1024x128_S1024x4x32
  let main_v5 : FVec F S1024x128 .f32 := (extractStridedSlice S1024x128 ![0, 2944] · slices_S1024x3072_S1024x128_0_2944) main_v0
  let main_v6 : FVec F S1024x4x32 .f32 := shapeCast S1024x4x32 main_v5 shapeCasts_S1024x128_S1024x4x32
  let main_v7 : FVec F S16384x8x16 .f32 := shapeCast S16384x8x16 main_arg9 shapeCasts_S16384x128_S16384x8x16
  let main_v8 : FVec F S16384x4x32 .f32 := shapeCast S16384x4x32 main_arg10 shapeCasts_S16384x128_S16384x4x32
  let main_v9 : FVec F S1024x4x32 .f32 := broadcastInDim S1024x4x32 ![0, 1, 2] bcast_S1024x1x32_S1024x4x32_0_1_2 main_v2
  let main_v10 : IVec S1024x4x32 1 := cmpf .oeq main_v4 main_v9
  let main_c : IVec S_ 1 := constantI S_ 1 1#1
  let main_v11 : IVec S_ 1 := (fun x v => Host.reduce IntOp.andi x v reducesTo_S1024x4x32_S_d0_1_2 h_S_) main_v10 main_c
  let main_v12 : FVec F S1024x4x16 .f32 := (extractStridedSlice S1024x4x16 ![0, 0, 0] · slices_S1024x4x32_S1024x4x16_0_0_0) main_v6
  let main_v13 : FVec F S1024x1x16 .f32 := (extractStridedSlice S1024x1x16 ![0, 0, 16] · slices_S1024x1x32_S1024x1x16_0_0_16) main_v2
  let main_v14 : FVec F S1024x4x16 .f32 := broadcastInDim S1024x4x16 ![0, 1, 2] bcast_S1024x1x16_S1024x4x16_0_1_2 main_v13
  let main_v15 : IVec S1024x4x16 1 := cmpf .oeq main_v12 main_v14
  let main_c_0 : IVec S_ 1 := constantI S_ 1 1#1
  let main_v16 : IVec S_ 1 := (fun x v => Host.reduce IntOp.andi x v reducesTo_S1024x4x16_S_d0_1_2 h_S_) main_v15 main_c_0
  let main_v17 : IVec S_ 1 := andi main_v11 main_v16
  let main_v18 : FVec F S1024x4x16 .f32 := (extractStridedSlice S1024x4x16 ![0, 0, 16] · slices_S1024x4x32_S1024x4x16_0_0_16) main_v6
  let main_v19 : FVec F S1024x1x16 .f32 := (extractStridedSlice S1024x1x16 ![0, 0, 0] · slices_S1024x1x32_S1024x1x16_0_0_0) main_v2
  let main_v20 : FVec F S1024x4x16 .f32 := broadcastInDim S1024x4x16 ![0, 1, 2] bcast_S1024x1x16_S1024x4x16_0_1_2 main_v19
  let main_v21 : IVec S1024x4x16 1 := cmpf .oeq main_v18 main_v20
  fn_part1 (F := F) main_arg9 main_arg10 main_v7 main_v8 main_v17 main_v21
-- ==== Pre_sample_buffer.lean ====
abbrev S1x1024x1024 : Shape := ⟨3, ![1, 1024, 1024]⟩
abbrev S1x1024x256 : Shape := ⟨3, ![1, 1024, 256]⟩
abbrev S1x1024x512 : Shape := ⟨3, ![1, 1024, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S2x1x1024x2816 : Shape := ⟨4, ![2, 1, 1024, 2816]⟩
abbrev S2x128x8x2816 : Shape := ⟨4, ![2, 128, 8, 2816]⟩
abbrev S2x128x1x2816 : Shape := ⟨4, ![2, 128, 1, 2816]⟩
abbrev S_ : Shape := ⟨0, ![]⟩

class Facts : Prop where
  shapeCasts_S2x1x1024x2816_S2x128x8x2816 : S2x1x1024x2816.ShapeCasts S2x128x8x2816
  slices_S2x128x8x2816_S2x128x1x2816_0_0_0_0 : S2x128x8x2816.Slices ![0, 0, 0, 0] S2x128x1x2816
  bcast_S2x128x1x2816_S2x128x8x2816_0_1_2_3 : S2x128x1x2816.BroadcastsInDim S2x128x8x2816 (![0, 1, 2, 3] : Fin 4 → Fin S2x128x8x2816.rank)
  reducesTo_S2x128x8x2816_S_d0_1_2_3 : S2x128x8x2816.ReducesTo [0, 1, 2, 3] S_
  h_S_ : 0 < S_.numel

variable [Facts]

def fn {F : FTy → Type} [FloatOps F] (main_arg0 : FVec F S1x1024x1024 .f32) (main_arg1 : FVec F S1x1024x256 .f32) (main_arg2 : FVec F S1x1024x512 .f32) (main_arg3 : FVec F S1x1024x256 .f32) (main_arg4 : FVec F S1024x1024 .bf16) (main_arg5 : FVec F S1x1024 .f32) (main_arg6 : FVec F S1024x2816 .bf16) (main_arg7 : FVec F S1024x2816 .bf16) (main_arg8 : FVec F S3x2816 .f32) (main_arg9 : FVec F S1x2816 .f32) (main_arg10 : FVec F S2816x1024 .bf16) (main_arg11 : FVec F S2x1x1024x2816 .f32) (main_arg12 : FVec F S1x1024 .f32) : IVec S_ 1 :=
  let main_v0 : FVec F S2x128x8x2816 .f32 := shapeCast S2x128x8x2816 main_arg11 shapeCasts_S2x1x1024x2816_S2x128x8x2816
  let main_v1 : FVec F S2x128x1x2816 .f32 := (extractStridedSlice S2x128x1x2816 ![0, 0, 0, 0] · slices_S2x128x8x2816_S2x128x1x2816_0_0_0_0) main_v0
  let main_v2 : FVec F S2x128x8x2816 .f32 := broadcastInDim S2x128x8x2816 ![0, 1, 2, 3] bcast_S2x128x1x2816_S2x128x8x2816_0_1_2_3 main_v1
  let main_v3 : IVec S2x128x8x2816 1 := cmpf .oeq main_v0 main_v2
  let main_c : IVec S_ 1 := constantI S_ 1 1#1
  let main_v4 : IVec S_ 1 := (fun x v => Host.reduce IntOp.andi x v reducesTo_S2x128x8x2816_S_d0_1_2_3 h_S_) main_v3 main_c
  main_v4
-- ==== Pre_sample_layout.lean ====
abbrev S1024x1024 : Shape := ⟨2, ![1024, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S1024x128 : Shape := ⟨2, ![1024, 128]⟩
abbrev S1024x32 : Shape := ⟨2, ![1024, 32]⟩
abbrev S1024x1x32 : Shape := ⟨3, ![1024, 1, 32]⟩
abbrev S1024x4x32 : Shape := ⟨3, ![1024, 4, 32]⟩
abbrev S1024x8x16 : Shape := ⟨3, ![1024, 8, 16]⟩
abbrev S_ : Shape := ⟨0, ![]⟩
abbrev S1024x4x16 : Shape := ⟨3, ![1024, 4, 16]⟩
abbrev S1024x1x16 : Shape := ⟨3, ![1024, 1, 16]⟩
abbrev S1024x16 : Shape := ⟨2, ![1024, 16]⟩

class Facts : Prop where
  bitsLt_bf16_f32 : FTy.bits .bf16 < FTy.bits .f32
  slices_S1024x3072_S1024x32_0_2816 : S1024x3072.Slices ![0, 2816] S1024x32
  bcast_S1024x32_S1024x1x32_0_2 : S1024x32.BroadcastsInDim S1024x1x32 (![0, 2] : Fin 2 → Fin S1024x1x32.rank)
  slices_S1024x3072_S1024x128_0_2816 : S1024x3072.Slices ![0, 2816] S1024x128
  shapeCasts_S1024x128_S1024x4x32 : S1024x128.ShapeCasts S1024x4x32
  slices_S1024x3072_S1024x128_0_2944 : S1024x3072.Slices ![0, 2944] S1024x128
  shapeCasts_S1024x128_S1024x8x16 : S1024x128.ShapeCasts S1024x8x16
  bcast_S1024x1x32_S1024x4x32_0_1_2 : S1024x1x32.BroadcastsInDim S1024x4x32 (![0, 1, 2] : Fin 3 → Fin S1024x4x32.rank)
  reducesTo_S1024x4x32_S_d0_1_2 : S1024x4x32.ReducesTo [0, 1, 2] S_
  h_S_ : 0 < S_.numel
  slices_S1024x4x32_S1024x4x16_0_0_0 : S1024x4x32.Slices ![0, 0, 0] S1024x4x16
  slices_S1024x1x32_S1024x1x16_0_0_16 : S1024x1x32.Slices ![0, 0, 16] S1024x1x16
  bcast_S1024x1x16_S1024x4x16_0_1_2 : S1024x1x16.BroadcastsInDim S1024x4x16 (![0, 1, 2] : Fin 3 → Fin S1024x4x16.rank)
  reducesTo_S1024x4x16_S_d0_1_2 : S1024x4x16.ReducesTo [0, 1, 2] S_
  slices_S1024x4x32_S1024x4x16_0_0_16 : S1024x4x32.Slices ![0, 0, 16] S1024x4x16
  slices_S1024x1x32_S1024x1x16_0_0_0 : S1024x1x32.Slices ![0, 0, 0] S1024x1x16
  slices_S1024x128_S1024x16_0_0 : S1024x128.Slices ![0, 0] S1024x16
  bcast_S1024x16_S1024x1x16_0_2 : S1024x16.BroadcastsInDim S1024x1x16 (![0, 2] : Fin 2 → Fin S1024x1x16.rank)
  bcast_S1024x1x16_S1024x8x16_0_1_2 : S1024x1x16.BroadcastsInDim S1024x8x16 (![0, 1, 2] : Fin 3 → Fin S1024x8x16.rank)
  reducesTo_S1024x8x16_S_d0_1_2 : S1024x8x16.ReducesTo [0, 1, 2] S_
  slices_S1024x128_S1024x16_0_16 : S1024x128.Slices ![0, 16] S1024x16

variable [Facts]

def fn_part2 {F : FTy → Type} [FloatOps F] (main_v37 : IVec S_ 1) (main_v42 : IVec S1024x4x16 1) : IVec S_ 1 :=
  let main_c_4 : IVec S_ 1 := constantI S_ 1 1#1
  let main_v43 : IVec S_ 1 := (fun x v => Host.reduce IntOp.andi x v reducesTo_S1024x4x16_S_d0_1_2 h_S_) main_v42 main_c_4
  let main_v44 : IVec S_ 1 := andi main_v37 main_v43
  main_v44

def fn_part1 {F : FTy → Type} [FloatOps F] (main_arg9 : FVec F S1024x128 .f32) (main_arg10 : FVec F S1024x128 .f32) (main_v7 : FVec F S1024x8x16 .f32) (main_v8 : FVec F S1024x4x32 .f32) (main_v17 : IVec S_ 1) (main_v21 : IVec S1024x4x16 1) : IVec S_ 1 :=
  let main_c_1 : IVec S_ 1 := constantI S_ 1 1#1
  let main_v22 : IVec S_ 1 := (fun x v => Host.reduce IntOp.andi x v reducesTo_S1024x4x16_S_d0_1_2 h_S_) main_v21 main_c_1
  let main_v23 : IVec S_ 1 := andi main_v17 main_v22
  let main_v24 : FVec F S1024x16 .f32 := (extractStridedSlice S1024x16 ![0, 0] · slices_S1024x128_S1024x16_0_0) main_arg9
  let main_v25 : FVec F S1024x1x16 .f32 := broadcastInDim S1024x1x16 ![0, 2] bcast_S1024x16_S1024x1x16_0_2 main_v24
  let main_v26 : FVec F S1024x8x16 .f32 := broadcastInDim S1024x8x16 ![0, 1, 2] bcast_S1024x1x16_S1024x8x16_0_1_2 main_v25
  let main_v27 : IVec S1024x8x16 1 := cmpf .oeq main_v7 main_v26
  let main_c_2 : IVec S_ 1 := constantI S_ 1 1#1
  let main_v28 : IVec S_ 1 := (fun x v => Host.reduce IntOp.andi x v reducesTo_S1024x8x16_S_d0_1_2 h_S_) main_v27 main_c_2
  let main_v29 : IVec S_ 1 := andi main_v23 main_v28
  let main_v30 : FVec F S1024x4x16 .f32 := (extractStridedSlice S1024x4x16 ![0, 0, 0] · slices_S1024x4x32_S1024x4x16_0_0_0) main_v8
  let main_v31 : FVec F S1024x16 .f32 := (extractStridedSlice S1024x16 ![0, 16] · slices_S1024x128_S1024x16_0_16) main_arg10
  let main_v32 : FVec F S1024x1x16 .f32 := broadcastInDim S1024x1x16 ![0, 2] bcast_S1024x16_S1024x1x16_0_2 main_v31
  let main_v33 : FVec F S1024x1x16 .f32 := Host.negf main_v32
  let main_v34 : FVec F S1024x4x16 .f32 := broadcastInDim S1024x4x16 ![0, 1, 2] bcast_S1024x1x16_S1024x4x16_0_1_2 main_v33
  let main_v35 : IVec S1024x4x16 1 := cmpf .oeq main_v30 main_v34
  let main_c_3 : IVec S_ 1 := constantI S_ 1 1#1
  let main_v36 : IVec S_ 1 := (fun x v => Host.reduce IntOp.andi x v reducesTo_S1024x4x16_S_d0_1_2 h_S_) main_v35 main_c_3
  let main_v37 : IVec S_ 1 := andi main_v29 main_v36
  let main_v38 : FVec F S1024x4x16 .f32 := (extractStridedSlice S1024x4x16 ![0, 0, 16] · slices_S1024x4x32_S1024x4x16_0_0_16) main_v8
  let main_v39 : FVec F S1024x16 .f32 := (extractStridedSlice S1024x16 ![0, 16] · slices_S1024x128_S1024x16_0_16) main_arg10
  let main_v40 : FVec F S1024x1x16 .f32 := broadcastInDim S1024x1x16 ![0, 2] bcast_S1024x16_S1024x1x16_0_2 main_v39
  let main_v41 : FVec F S1024x4x16 .f32 := broadcastInDim S1024x4x16 ![0, 1, 2] bcast_S1024x1x16_S1024x4x16_0_1_2 main_v40
  let main_v42 : IVec S1024x4x16 1 := cmpf .oeq main_v38 main_v41
  fn_part2 (F := F) main_v37 main_v42

def fn {F : FTy → Type} [FloatOps F] (main_arg0 : FVec F S1024x1024 .f32) (main_arg1 : FVec F S1x1024 .f32) (main_arg2 : FVec F S1024x3072 .bf16) (main_arg3 : FVec F S128x256 .bf16) (main_arg4 : FVec F S1x256 .f32) (main_arg5 : FVec F S1x256 .f32) (main_arg6 : FVec F S256x512 .bf16) (main_arg7 : FVec F S256x512 .bf16) (main_arg8 : FVec F S1x128 .f32) (main_arg9 : FVec F S1024x128 .f32) (main_arg10 : FVec F S1024x128 .f32) : IVec S_ 1 :=
  let main_v0 : FVec F S1024x3072 .f32 := (extf .f32 · bitsLt_bf16_f32) main_arg2
  let main_v1 : FVec F S1024x32 .f32 := (extractStridedSlice S1024x32 ![0, 2816] · slices_S1024x3072_S1024x32_0_2816) main_v0
  let main_v2 : FVec F S1024x1x32 .f32 := broadcastInDim S1024x1x32 ![0, 2] bcast_S1024x32_S1024x1x32_0_2 main_v1
  let main_v3 : FVec F S1024x128 .f32 := (extractStridedSlice S1024x128 ![0, 2816] · slices_S1024x3072_S1024x128_0_2816) main_v0
  let main_v4 : FVec F S1024x4x32 .f32 := shapeCast S1024x4x32 main_v3 shapeCasts_S1024x128_S1024x4x32
  let main_v5 : FVec F S1024x128 .f32 := (extractStridedSlice S1024x128 ![0, 2944] · slices_S1024x3072_S1024x128_0_2944) main_v0
  let main_v6 : FVec F S1024x4x32 .f32 := shapeCast S1024x4x32 main_v5 shapeCasts_S1024x128_S1024x4x32
  let main_v7 : FVec F S1024x8x16 .f32 := shapeCast S1024x8x16 main_arg9 shapeCasts_S1024x128_S1024x8x16
  let main_v8 : FVec F S1024x4x32 .f32 := shapeCast S1024x4x32 main_arg10 shapeCasts_S1024x128_S1024x4x32
  let main_v9 : FVec F S1024x4x32 .f32 := broadcastInDim S1024x4x32 ![0, 1, 2] bcast_S1024x1x32_S1024x4x32_0_1_2 main_v2
  let main_v10 : IVec S1024x4x32 1 := cmpf .oeq main_v4 main_v9
  let main_c : IVec S_ 1 := constantI S_ 1 1#1
  let main_v11 : IVec S_ 1 := (fun x v => Host.reduce IntOp.andi x v reducesTo_S1024x4x32_S_d0_1_2 h_S_) main_v10 main_c
  let main_v12 : FVec F S1024x4x16 .f32 := (extractStridedSlice S1024x4x16 ![0, 0, 0] · slices_S1024x4x32_S1024x4x16_0_0_0) main_v6
  let main_v13 : FVec F S1024x1x16 .f32 := (extractStridedSlice S1024x1x16 ![0, 0, 16] · slices_S1024x1x32_S1024x1x16_0_0_16) main_v2
  let main_v14 : FVec F S1024x4x16 .f32 := broadcastInDim S1024x4x16 ![0, 1, 2] bcast_S1024x1x16_S1024x4x16_0_1_2 main_v13
  let main_v15 : IVec S1024x4x16 1 := cmpf .oeq main_v12 main_v14
  let main_c_0 : IVec S_ 1 := constantI S_ 1 1#1
  let main_v16 : IVec S_ 1 := (fun x v => Host.reduce IntOp.andi x v reducesTo_S1024x4x16_S_d0_1_2 h_S_) main_v15 main_c_0
  let main_v17 : IVec S_ 1 := andi main_v11 main_v16
  let main_v18 : FVec F S1024x4x16 .f32 := (extractStridedSlice S1024x4x16 ![0, 0, 16] · slices_S1024x4x32_S1024x4x16_0_0_16) main_v6
  let main_v19 : FVec F S1024x1x16 .f32 := (extractStridedSlice S1024x1x16 ![0, 0, 0] · slices_S1024x1x32_S1024x1x16_0_0_0) main_v2
  let main_v20 : FVec F S1024x4x16 .f32 := broadcastInDim S1024x4x16 ![0, 1, 2] bcast_S1024x1x16_S1024x4x16_0_1_2 main_v19
  let main_v21 : IVec S1024x4x16 1 := cmpf .oeq main_v18 main_v20
  fn_part1 (F := F) main_arg9 main_arg10 main_v7 main_v8 main_v17 main_v21
-- ==== Kernel.lean ====
abbrev S136 : Shape := ⟨1, ![136]⟩
abbrev S4x2x256x8192 : Shape := ⟨4, ![4, 2, 256, 8192]⟩
abbrev S2x8192x256 : Shape := ⟨3, ![2, 8192, 256]⟩
abbrev S2x144x8192 : Shape := ⟨3, ![2, 144, 8192]⟩
abbrev S4x256x128 : Shape := ⟨3, ![4, 256, 128]⟩
abbrev S4x1x256x512 : Shape := ⟨4, ![4, 1, 256, 512]⟩
abbrev S1 : Shape := ⟨1, ![1]⟩
abbrev S1x512x256 : Shape := ⟨3, ![1, 512, 256]⟩
abbrev S1x144x512 : Shape := ⟨3, ![1, 144, 512]⟩
abbrev S4x512 : Shape := ⟨2, ![4, 512]⟩
abbrev S4x144x512 : Shape := ⟨3, ![4, 144, 512]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S1x512 : Shape := ⟨2, ![1, 512]⟩
abbrev S512 : Shape := ⟨1, ![512]⟩
abbrev S144x512 : Shape := ⟨2, ![144, 512]⟩
abbrev S128x512 : Shape := ⟨2, ![128, 512]⟩
abbrev S1x256x128 : Shape := ⟨3, ![1, 256, 128]⟩
abbrev S256x128 : Shape := ⟨2, ![256, 128]⟩

abbrev nBuf : Space → Nat
  | .hbm => 5
  | .vmem => 11
  | .smem => 2
  | _ => 0

abbrev bufTy : (tb : Table) → Fin (tcTables nBuf tb) → BufTy
  | .hbm, ⟨0, _⟩ => ⟨S4x2x256x8192, .bf16⟩
  | .hbm, ⟨1, _⟩ => ⟨S2x8192x256, .bf16⟩
  | .hbm, ⟨2, _⟩ => ⟨S2x144x8192, .bf16⟩
  | .hbm, ⟨3, _⟩ => ⟨S4x256x128, .bf16⟩
  | .hbm, ⟨4, _⟩ => ⟨S2x8192x256, .bf16⟩
  | .local _ .vmem, ⟨0, _⟩ => ⟨S4x1x256x512, .bf16⟩
  | .local _ .vmem, ⟨1, _⟩ => ⟨S4x1x256x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x144x512, .bf16⟩
  | .local _ .vmem, ⟨5, _⟩ => ⟨S1x144x512, .bf16⟩
  | .local _ .vmem, ⟨6, _⟩ => ⟨S4x256x128, .bf16⟩
  | .local _ .vmem, ⟨7, _⟩ => ⟨S1x512x256, .bf16⟩
  | .local _ .vmem, ⟨8, _⟩ => ⟨S1x512x256, .bf16⟩
  | .local _ .vmem, ⟨9, _⟩ => ⟨S4x512, .f32⟩
  | .local _ .vmem, ⟨10, _⟩ => ⟨S4x144x512, .f32⟩
  | .local _ .smem, ⟨0, _⟩ => ⟨S136, .i32⟩
  | .local _ .smem, ⟨1, _⟩ => ⟨S136, .i32⟩
  | _, _ => ⟨S4x2x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, arg0.toNat, c0_i32_0.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S4x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S136 : Shape := ⟨1, ![136]⟩
abbrev S4x2x256x8192 : Shape := ⟨4, ![4, 2, 256, 8192]⟩
abbrev S2x8192x256 : Shape := ⟨3, ![2, 8192, 256]⟩
abbrev S2x144x8192 : Shape := ⟨3, ![2, 144, 8192]⟩
abbrev S4x256x128 : Shape := ⟨3, ![4, 256, 128]⟩
abbrev S8192 : Shape := ⟨1, ![8192]⟩
abbrev S2x4x8192x8192 : Shape := ⟨4, ![2, 4, 8192, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x8192 : Shape := ⟨3, ![2, 128, 8192]⟩
abbrev S2x4x8192x128 : Shape := ⟨4, ![2, 4, 8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S4x2x256x8192, .bf16⟩
  | .hbm, ⟨3, _⟩ => ⟨S2x8192x256, .bf16⟩
  | .hbm, ⟨4, _⟩ => ⟨S2x144x8192, .bf16⟩
  | .hbm, ⟨5, _⟩ => ⟨S4x256x128, .bf16⟩
  | .hbm, ⟨6, _⟩ => ⟨S8192, .i32⟩
  | .hbm, ⟨7, _⟩ => ⟨S2x4x8192x8192, .f32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S2x4x8192x8192, .i1⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8192, .f32⟩
  | .hbm, ⟨22, _⟩ => ⟨S2x4x8192x8192, .f32⟩
  | .hbm, ⟨23, _⟩ => ⟨S_, .f32⟩
  | .hbm, ⟨24, _⟩ => ⟨S2x4x8192x8192, .f32⟩
  | .hbm, ⟨25, _⟩ => ⟨S2x4x8192x8192, .f32⟩
  | .hbm, ⟨26, _⟩ => ⟨S_, .f32⟩
  | .hbm, ⟨27, _⟩ => ⟨S2x4x8192, .f32⟩
  | .hbm, ⟨28, _⟩ => ⟨S2x4x8192x1, .f32⟩
  | .hbm, ⟨29, _⟩ => ⟨S2x4x8192x8192, .f32⟩
  | .hbm, ⟨30, _⟩ => ⟨S2x4x8192x8192, .f32⟩
  | .hbm, ⟨31, _⟩ => ⟨S2x128x8192, .bf16⟩
  | .hbm, ⟨32, _⟩ => ⟨S2x4x8192x8192, .bf16⟩
  | .hbm, ⟨33, _⟩ => ⟨S2x4x8192x128, .f32⟩
  | .hbm, ⟨34, _⟩ => ⟨S2x4x8192x128, .bf16⟩
  | .hbm, ⟨35, _⟩ => ⟨S2x8192x256, .f32⟩
  | .hbm, ⟨36, _⟩ => ⟨S2x8192x256, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S2x32x8x2816 : Shape := ⟨4, ![2, 32, 8, 2816]⟩
abbrev S1x256x1024 : Shape := ⟨3, ![1, 256, 1024]⟩
abbrev S1x256x256 : Shape := ⟨3, ![1, 256, 256]⟩
abbrev S1x256x512 : Shape := ⟨3, ![1, 256, 512]⟩
abbrev S1x1x8x2816 : Shape := ⟨4, ![1, 1, 8, 2816]⟩
abbrev S8x2816 : Shape := ⟨2, ![8, 2816]⟩
abbrev S256x1024 : Shape := ⟨2, ![256, 1024]⟩
abbrev S256x256 : Shape := ⟨2, ![256, 256]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x2816 : Shape := ⟨2, ![256, 2816]⟩

abbrev nBuf : Space → Nat
  | .hbm => 15
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .bf16⟩
  | .hbm, ⟨2, _⟩ => ⟨S2x8192x512, .bf16⟩
  | .hbm, ⟨3, _⟩ => ⟨S2x8192x256, .bf16⟩
  | .hbm, ⟨4, _⟩ => ⟨S1024x1024, .bf16⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S3x2816, .f32⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S2x8192x1024, .f32⟩
  | .hbm, ⟨13, _⟩ => ⟨S2x32x8x2816, .f32⟩
  | .hbm, ⟨14, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x1x8x2816, .f32⟩
  | .local _ .vmem, ⟨19, _⟩ => ⟨S1x1x8x2816, .f32⟩
  | .local _ .vmem, ⟨20, _⟩ => ⟨S1x256x1024, .f32⟩
  | .local _ .vmem, ⟨21, _⟩ => ⟨S1x256x1024, .f32⟩
  | .local _ .vmem, ⟨22, _⟩ => ⟨S8x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x2x2816 : Shape := ⟨3, ![2, 2, 2816]⟩
abbrev S2x8194x2816 : Shape := ⟨3, ![2, 8194, 2816]⟩
abbrev S2816 : Shape := ⟨1, ![2816]⟩
abbrev S1x1x2816 : Shape := ⟨3, ![1, 1, 2816]⟩
abbrev S2x32x256x2816 : Shape := ⟨4, ![2, 32, 256, 2816]⟩
abbrev S2x32x8x2816 : Shape := ⟨4, ![2, 32, 8, 2816]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .bf16⟩
  | .hbm, ⟨2, _⟩ => ⟨S2x8192x512, .bf16⟩
  | .hbm, ⟨3, _⟩ => ⟨S2x8192x256, .bf16⟩
  | .hbm, ⟨4, _⟩ => ⟨S1024x1024, .bf16⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S3x2816, .f32⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S2x8192x256, .f32⟩
  | .hbm, ⟨13, _⟩ => ⟨S2x8192x512, .f32⟩
  | .hbm, ⟨14, _⟩ => ⟨S2x8192x256, .f32⟩
  | .hbm, ⟨15, _⟩ => ⟨S2x8192x1024, .f32⟩
  | .hbm, ⟨16, _⟩ => ⟨S1024x1024, .f32⟩
  | .hbm, ⟨17, _⟩ => ⟨S2x8192x1024, .f32⟩
  | .hbm, ⟨18, _⟩ => ⟨S2x8192x1024, .f32⟩
  | .hbm, ⟨19, _⟩ => ⟨S1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S1024x2816, .f32⟩
  | .hbm, ⟨37, _⟩ => ⟨S2x8192x2816, .f32⟩
  | .hbm, ⟨38, _⟩ => ⟨S1024x2816, .f32⟩
  | .hbm, ⟨39, _⟩ => ⟨S2x8192x2816, .f32⟩
  | .hbm, ⟨40, _⟩ => ⟨S_, .f32⟩
  | .hbm, ⟨41, _⟩ => ⟨S2x2x2816, .f32⟩
  | .hbm, ⟨42, _⟩ => ⟨S2x8194x2816, .f32⟩
  | .hbm, ⟨43, _⟩ => ⟨S2816, .f32⟩
  | .hbm, ⟨44, _⟩ => ⟨S2x8192x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S2x8192x2816, .f32⟩
  | .hbm, ⟨49, _⟩ => ⟨S2x8192x2816, .f32⟩
  | .hbm, ⟨50, _⟩ => ⟨S1x1x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S_, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2816x1024, .f32⟩
  | .hbm, ⟨78, _⟩ => ⟨S2x8192x1024, .f32⟩
  | .hbm, ⟨79, _⟩ => ⟨S2x8192x1024, .f32⟩
  | .hbm, ⟨80, _⟩ => ⟨S2x32x256x2816, .f32⟩
  | .hbm, ⟨81, _⟩ => ⟨S2x32x8x2816, .f32⟩
  | .hbm, ⟨82, _⟩ => ⟨S1024, .f32⟩
  | .hbm, ⟨83, _⟩ => ⟨S2x8192x1024, .f32⟩
  | .hbm, ⟨84, _⟩ => ⟨S_, .f32⟩
  | .hbm, ⟨85, _⟩ => ⟨S2x8192, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S_, .f32⟩
  | .hbm, ⟨91, _⟩ => ⟨S2x8192x1, .f32⟩
  | .hbm, ⟨92, _⟩ => ⟨S2x8192x1, .f32⟩
  | .hbm, ⟨93, _⟩ => ⟨S2x8192x1, .f32⟩
  | .hbm, ⟨94, _⟩ => ⟨S2x8192x1024, .f32⟩
  | .hbm, ⟨95, _⟩ => ⟨S2x8192x1024, .f32⟩
  | .hbm, ⟨96, _⟩ => ⟨S1x1x1024, .f32⟩
  | .hbm, ⟨97, _⟩ => ⟨S2x8192x1024, .f32⟩
  | .hbm, ⟨98, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_3 : Ref sig .tc := ⟨.hbm, 84, rfl⟩
abbrev main_v60 : Ref sig .tc := ⟨.hbm, 85, rfl⟩
abbrev main_v61 : Ref sig .tc := ⟨.hbm, 86, rfl⟩
abbrev main_cst_4 : Ref sig .tc := ⟨.hbm, 87, rfl⟩
abbrev main_v62 : Ref sig .tc := ⟨.hbm, 88, rfl⟩
abbrev main_v63 : Ref sig .tc := ⟨.hbm, 89, rfl⟩
abbrev main_cst_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S16384x128 : Shape := ⟨2, ![16384, 128]⟩
abbrev S16384x256 : Shape := ⟨2, ![16384, 256]⟩
abbrev S16384x512 : Shape := ⟨2, ![16384, 512]⟩
abbrev S4x16384x256 : Shape := ⟨3, ![4, 16384, 256]⟩
abbrev S16384x160 : Shape := ⟨2, ![16384, 160]⟩
abbrev S256x1024 : Shape := ⟨2, ![256, 1024]⟩
abbrev S256x128 : Shape := ⟨2, ![256, 128]⟩
abbrev S256x256 : Shape := ⟨2, ![256, 256]⟩
abbrev S4x256x256 : Shape := ⟨3, ![4, 256, 256]⟩
abbrev S256x160 : Shape := ⟨2, ![256, 160]⟩
abbrev S256 : Shape := ⟨1, ![256]⟩
abbrev S256x1 : Shape := ⟨2, ![256, 1]⟩
abbrev S256x3072 : Shape := ⟨2, ![256, 3072]⟩
abbrev S1x256x128 : Shape := ⟨3, ![1, 256, 128]⟩
abbrev S256x32 : Shape := ⟨2, ![256, 32]⟩

abbrev nBuf : Space → Nat
  | .hbm => 24
  | .vmem => 40
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S128x256, .bf16⟩
  | .hbm, ⟨4, _⟩ => ⟨S1x256, .f32⟩
  | .hbm, ⟨5, _⟩ => ⟨S1x256, .f32⟩
  | .hbm, ⟨6, _⟩ => ⟨S256x512, .bf16⟩
  | .hbm, ⟨7, _⟩ => ⟨S256x512, .bf16⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x256, .bf16⟩
  | .hbm, ⟨12, _⟩ => ⟨S16384x256, .f32⟩
  | .hbm, ⟨13, _⟩ => ⟨S16384x256, .f32⟩
  | .hbm, ⟨14, _⟩ => ⟨S16384x256, .bf16⟩
  | .hbm, ⟨15, _⟩ => ⟨S16384x256, .bf16⟩
  | .hbm, ⟨16, _⟩ => ⟨S16384x256, .f32⟩
  | .hbm, ⟨17, _⟩ => ⟨S16384x256, .f32⟩
  | .hbm, ⟨18, _⟩ => ⟨S16384x512, .bf16⟩
  | .hbm, ⟨19, _⟩ => ⟨S16384x512, .f32⟩
  | .hbm, ⟨20, _⟩ => ⟨S16384x256, .f32⟩
  | .hbm, ⟨21, _⟩ => ⟨S4x16384x256, .bf16⟩
  | .hbm, ⟨22, _⟩ => ⟨S16384x256, .bf16⟩
  | .hbm, ⟨23, _⟩ => ⟨S16384x160, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S256x512, .bf16⟩
  | .local _ .vmem, ⟨8, _⟩ => ⟨S256x512, .bf16⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x256, .bf16⟩
  | .local _ .vmem, ⟨15, _⟩ => ⟨S256x256, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x256, .f32⟩
  | .local _ .vmem, ⟨33, _⟩ => ⟨S256x256, .f32⟩
  | .local _ .vmem, ⟨34, _⟩ => ⟨S4x256x256, .bf16⟩
  | .local _ .vmem, ⟨35, _⟩ => ⟨S4x256x256, .bf16⟩
  | .local _ .vmem, ⟨36, _⟩ => ⟨S256x256, .bf16⟩
  | .local _ .vmem, ⟨37, _⟩ => ⟨S256x256, .bf16⟩
  | .local _ .vmem, ⟨38, _⟩ => ⟨S256x160, .f32⟩
  | .local _ .vmem, ⟨39, _⟩ => ⟨S256x160, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev main_v0_11 : Ref sig .tc := ⟨.hbm, 22, rfl⟩
abbrev main_v0_12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x160 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S16384x1024 : Shape := ⟨2, ![16384, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S16384x128 : Shape := ⟨2, ![16384, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x256 : Shape := ⟨2, ![16384, 256]⟩
abbrev S16384x512 : Shape := ⟨2, ![16384, 512]⟩
abbrev S16384x32 : Shape := ⟨2, ![16384, 32]⟩
abbrev S256 : Shape := ⟨1, ![256]⟩
abbrev S128 : Shape := ⟨1, ![128]⟩
abbrev S16384x16 : Shape := ⟨2, ![16384, 16]⟩
abbrev S16384x160 : Shape := ⟨2, ![16384, 160]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S128x256, .bf16⟩
  | .hbm, ⟨4, _⟩ => ⟨S1x256, .f32⟩
  | .hbm, ⟨5, _⟩ => ⟨S1x256, .f32⟩
  | .hbm, ⟨6, _⟩ => ⟨S256x512, .bf16⟩
  | .hbm, ⟨7, _⟩ => ⟨S256x512, .bf16⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x3072, .f32⟩
  | .hbm, ⟨29, _⟩ => ⟨S16384x3072, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x512, .f32⟩
  | .hbm, ⟨36, _⟩ => ⟨S16384x512, .f32⟩
  | .hbm, ⟨37, _⟩ => ⟨S16384x128, .f32⟩
  | .hbm, ⟨38, _⟩ => ⟨S16384x128, .f32⟩
  | .hbm, ⟨39, _⟩ => ⟨S16384x32, .f32⟩
  | .hbm, ⟨40, _⟩ => ⟨S128x256, .f32⟩
  | .hbm, ⟨41, _⟩ => ⟨S16384x256, .f32⟩
  | .hbm, ⟨42, _⟩ => ⟨S256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .i1⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S_, .f32⟩
  | .hbm, ⟨63, _⟩ => ⟨S16384x256, .f32⟩
  | .hbm, ⟨64, _⟩ => ⟨S16384x256, .f32⟩
  | .hbm, ⟨65, _⟩ => ⟨S128, .f32⟩
  | .hbm, ⟨66, _⟩ => ⟨S16384x128, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x128, .f32⟩
  | .hbm, ⟨78, _⟩ => ⟨S16384x128, .f32⟩
  | .hbm, ⟨79, _⟩ => ⟨S1x128, .f32⟩
  | .hbm, ⟨80, _⟩ => ⟨S16384x128, .f32⟩
  | .hbm, ⟨81, _⟩ => ⟨S16384x128, .f32⟩
  | .hbm, ⟨82, _⟩ => ⟨S16384x16, .f32⟩
  | .hbm, ⟨83, _⟩ => ⟨S16384x16, .f32⟩
  | .hbm, ⟨84, _⟩ => ⟨S16384x16, .f32⟩
  | .hbm, ⟨85, _⟩ => ⟨S16384x16, .f32⟩
  | .hbm, ⟨86, _⟩ => ⟨S16384x16, .f32⟩
  | .hbm, ⟨87, _⟩ => ⟨S16384x16, .f32⟩
  | .hbm, ⟨88, _⟩ => ⟨S16384x16, .f32⟩
  | .hbm, ⟨89, _⟩ => ⟨S16384x16, .f32⟩
  | .hbm, ⟨90, _⟩ => ⟨S16384x16, .f32⟩
  | .hbm, ⟨91, _⟩ => ⟨S16384x16, .f32⟩
  | .hbm, ⟨92, _⟩ => ⟨S16384x32, .f32⟩
  | .hbm, ⟨93, _⟩ => ⟨S16384x160, .f32⟩
  | .hbm, ⟨94, _⟩ => ⟨S16384x256, .f32⟩
  | .hbm, ⟨95, _⟩ => ⟨S_, .f32⟩
  | .hbm, ⟨96, _⟩ => ⟨S16384x256, .f32⟩
  | .hbm, ⟨97, _⟩ => ⟨S16384x256, .f32⟩
  | .hbm, ⟨98, _⟩ => ⟨S16384x256, .bf16⟩
  | .hbm, ⟨99, _⟩ => ⟨S16384x256, .bf16⟩
  | .hbm, ⟨100, _⟩ => ⟨S16384x256, .bf16⟩
  | .hbm, ⟨101, _⟩ => ⟨S_, .f32⟩
  | .hbm, ⟨102, _⟩ => ⟨S16384x256, .f32⟩
  | .hbm, ⟨103, _⟩ => ⟨S16384x256, .f32⟩
  | .hbm, ⟨104, _⟩ => ⟨S16384x512, .bf16⟩
  | .hbm, ⟨105, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_cst_4 : Ref sig .tc := ⟨.hbm, 70, rfl⟩
abbrev main_v39 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_6 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== Kernel4.lean ====
abbrev S1024x1024 : Shape := ⟨2, ![1024, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S1024x128 : Shape := ⟨2, ![1024, 128]⟩
abbrev S1024x256 : Shape := ⟨2, ![1024, 256]⟩
abbrev S1024x512 : Shape := ⟨2, ![1024, 512]⟩
abbrev S4x1024x256 : Shape := ⟨3, ![4, 1024, 256]⟩
abbrev S1024x160 : Shape := ⟨2, ![1024, 160]⟩
abbrev S256x1024 : Shape := ⟨2, ![256, 1024]⟩
abbrev S256x128 : Shape := ⟨2, ![256, 128]⟩
abbrev S256x256 : Shape := ⟨2, ![256, 256]⟩
abbrev S4x256x256 : Shape := ⟨3, ![4, 256, 256]⟩
abbrev S256x160 : Shape := ⟨2, ![256, 160]⟩
abbrev S256 : Shape := ⟨1, ![256]⟩
abbrev S256x1 : Shape := ⟨2, ![256, 1]⟩
abbrev S256x3072 : Shape := ⟨2, ![256, 3072]⟩
abbrev S1x256x128 : Shape := ⟨3, ![1, 256, 128]⟩
abbrev S256x32 : Shape := ⟨2, ![256, 32]⟩

abbrev nBuf : Space → Nat
  | .hbm => 24
  | .vmem => 40
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x3072, .bf16⟩
  | .hbm, ⟨3, _⟩ => ⟨S128x256, .bf16⟩
  | .hbm, ⟨4, _⟩ => ⟨S1x256, .f32⟩
  | .hbm, ⟨5, _⟩ => ⟨S1x256, .f32⟩
  | .hbm, ⟨6, _⟩ => ⟨S256x512, .bf16⟩
  | .hbm, ⟨7, _⟩ => ⟨S256x512, .bf16⟩
  | .hbm, ⟨8, _⟩ => ⟨S1x128, .f32⟩
  | .hbm, ⟨9, _⟩ => ⟨S1024x128, .f32⟩
  | .hbm, ⟨10, _⟩ => ⟨S1024x128, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S1024x512, .f32⟩
  | .hbm, ⟨20, _⟩ => ⟨S1024x256, .f32⟩
  | .hbm, ⟨21, _⟩ => ⟨S4x1024x256, .f32⟩
  | .hbm, ⟨22, _⟩ => ⟨S1024x256, .f32⟩
  | .hbm, ⟨23, _⟩ => ⟨S1024x160, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S256x512, .bf16⟩
  | .local _ .vmem, ⟨8, _⟩ => ⟨S256x512, .bf16⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x256, .f32⟩
  | .local _ .vmem, ⟨33, _⟩ => ⟨S256x256, .f32⟩
  | .local _ .vmem, ⟨34, _⟩ => ⟨S4x256x256, .f32⟩
  | .local _ .vmem, ⟨35, _⟩ => ⟨S4x256x256, .f32⟩
  | .local _ .vmem, ⟨36, _⟩ => ⟨S256x256, .f32⟩
  | .local _ .vmem, ⟨37, _⟩ => ⟨S256x256, .f32⟩
  | .local _ .vmem, ⟨38, _⟩ => ⟨S256x160, .f32⟩
  | .local _ .vmem, ⟨39, _⟩ => ⟨S256x160, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev main_v0_11 : Ref sig .tc := ⟨.hbm, 22, rfl⟩
abbrev main_v0_12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x160 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference4Ideal.lean ====
abbrev S1024x1024 : Shape := ⟨2, ![1024, 1024]⟩
abbrev S1x1024 : Shape := ⟨2, ![1, 1024]⟩
abbrev S1024x3072 : Shape := ⟨2, ![1024, 3072]⟩
abbrev S128x256 : Shape := ⟨2, ![128, 256]⟩
abbrev S1x256 : Shape := ⟨2, ![1, 256]⟩
abbrev S256x512 : Shape := ⟨2, ![256, 512]⟩
abbrev S1x128 : Shape := ⟨2, ![1, 128]⟩
abbrev S1024x128 : Shape := ⟨2, ![1024, 128]⟩
abbrev S1024 : Shape := ⟨1, ![1024]⟩
abbrev S_ : Shape := ⟨0, ![]⟩
abbrev S1024x1 : Shape := ⟨2, ![1024, 1]⟩
abbrev S1024x256 : Shape := ⟨2, ![1024, 256]⟩
abbrev S1024x512 : Shape := ⟨2, ![1024, 512]⟩
abbrev S1024x32 : Shape := ⟨2, ![1024, 32]⟩
abbrev S256 : Shape := ⟨1, ![256]⟩
abbrev S128 : Shape := ⟨1, ![128]⟩
abbrev S1024x16 : Shape := ⟨2, ![1024, 16]⟩
abbrev S1024x160 : Shape := ⟨2, ![1024, 160]⟩

abbrev nBuf : Space → Nat
  | .hbm => 101
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x3072, .bf16⟩
  | .hbm, ⟨3, _⟩ => ⟨S128x256, .bf16⟩
  | .hbm, ⟨4, _⟩ => ⟨S1x256, .f32⟩
  | .hbm, ⟨5, _⟩ => ⟨S1x256, .f32⟩
  | .hbm, ⟨6, _⟩ => ⟨S256x512, .bf16⟩
  | .hbm, ⟨7, _⟩ => ⟨S256x512, .bf16⟩
  | .hbm, ⟨8, _⟩ => ⟨S1x128, .f32⟩
  | .hbm, ⟨9, _⟩ => ⟨S1024x128, .f32⟩
  | .hbm, ⟨10, _⟩ => ⟨S1024x128, .f32⟩
  | .hbm, ⟨11, _⟩ => ⟨S1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1024x1024, .f32⟩
  | .hbm, ⟨24, _⟩ => ⟨S1024x1024, .f32⟩
  | .hbm, ⟨25, _⟩ => ⟨S1x1024, .f32⟩
  | .hbm, ⟨26, _⟩ => ⟨S1024x1024, .f32⟩
  | .hbm, ⟨27, _⟩ => ⟨S1024x1024, .f32⟩
  | .hbm, ⟨28, _⟩ => ⟨S1024x3072, .f32⟩
  | .hbm, ⟨29, _⟩ => ⟨S1024x3072, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x512, .f32⟩
  | .hbm, ⟨36, _⟩ => ⟨S1024x512, .f32⟩
  | .hbm, ⟨37, _⟩ => ⟨S1024x128, .f32⟩
  | .hbm, ⟨38, _⟩ => ⟨S1024x128, .f32⟩
  | .hbm, ⟨39, _⟩ => ⟨S1024x32, .f32⟩
  | .hbm, ⟨40, _⟩ => ⟨S128x256, .f32⟩
  | .hbm, ⟨41, _⟩ => ⟨S1024x256, .f32⟩
  | .hbm, ⟨42, _⟩ => ⟨S256, .f32⟩
  | .hbm, ⟨43, _⟩ => ⟨S1x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S1024x256, .f32⟩
  | .hbm, ⟨52, _⟩ => ⟨S1024x256, .i1⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S1024x256, .f32⟩
  | .hbm, ⟨59, _⟩ => ⟨S1024x256, .f32⟩
  | .hbm, ⟨60, _⟩ => ⟨S1024x256, .f32⟩
  | .hbm, ⟨61, _⟩ => ⟨S1024x256, .f32⟩
  | .hbm, ⟨62, _⟩ => ⟨S_, .f32⟩
  | .hbm, ⟨63, _⟩ => ⟨S1024x256, .f32⟩
  | .hbm, ⟨64, _⟩ => ⟨S1024x256, .f32⟩
  | .hbm, ⟨65, _⟩ => ⟨S128, .f32⟩
  | .hbm, ⟨66, _⟩ => ⟨S1024x128, .f32⟩
  | .hbm, ⟨67, _⟩ => ⟨S_, .f32⟩
  | .hbm, ⟨68, _⟩ => ⟨S1024, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S1024x1, .f32⟩
  | .hbm, ⟨77, _⟩ => ⟨S1024x128, .f32⟩
  | .hbm, ⟨78, _⟩ => ⟨S1024x128, .f32⟩
  | .hbm, ⟨79, _⟩ => ⟨S1x128, .f32⟩
  | .hbm, ⟨80, _⟩ => ⟨S1024x128, .f32⟩
  | .hbm, ⟨81, _⟩ => ⟨S1024x128, .f32⟩
  | .hbm, ⟨82, _⟩ => ⟨S1024x16, .f32⟩
  | .hbm, ⟨83, _⟩ => ⟨S1024x16, .f32⟩
  | .hbm, ⟨84, _⟩ => ⟨S1024x16, .f32⟩
  | .hbm, ⟨85, _⟩ => ⟨S1024x16, .f32⟩
  | .hbm, ⟨86, _⟩ => ⟨S1024x16, .f32⟩
  | .hbm, ⟨87, _⟩ => ⟨S1024x16, .f32⟩
  | .hbm, ⟨88, _⟩ => ⟨S1024x16, .f32⟩
  | .hbm, ⟨89, _⟩ => ⟨S1024x16, .f32⟩
  | .hbm, ⟨90, _⟩ => ⟨S1024x16, .f32⟩
  | .hbm, ⟨91, _⟩ => ⟨S1024x16, .f32⟩
  | .hbm, ⟨92, _⟩ => ⟨S1024x32, .f32⟩
  | .hbm, ⟨93, _⟩ => ⟨S1024x160, .f32⟩
  | .hbm, ⟨94, _⟩ => ⟨S1024x256, .f32⟩
  | .hbm, ⟨95, _⟩ => ⟨S_, .f32⟩
  | .hbm, ⟨96, _⟩ => ⟨S1024x256, .f32⟩
  | .hbm, ⟨97, _⟩ => ⟨S1024x256, .f32⟩
  | .hbm, ⟨98, _⟩ => ⟨S_, .f32⟩
  | .hbm, ⟨99, _⟩ => ⟨S1024x256, .f32⟩
  | .hbm, ⟨100, _⟩ => ⟨S1024x256, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_cst_4 : Ref sig .tc := ⟨.hbm, 70, rfl⟩
abbrev main_v39 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_6 : Ref sig .tc := ⟨.hbm, 95, rfl⟩
abbrev main_v62 : Ref sig .tc := ⟨.hbm, 96, rfl⟩
abbrev main_v63 : Ref sig .tc := ⟨.hbm, 97, rfl⟩
abbrev main_cst_7 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Kernel5.lean ====
abbrev S1x1024x1024 : Shape := ⟨3, ![1, 1024, 1024]⟩
abbrev S1x1024x256 : Shape := ⟨3, ![1, 1024, 256]⟩
abbrev S1x1024x512 : Shape := ⟨3, ![1, 1024, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S2x1x1024x2816 : Shape := ⟨4, ![2, 1, 1024, 2816]⟩
abbrev S1x4x256x2816 : Shape := ⟨4, ![1, 4, 256, 2816]⟩
abbrev S1x256x1024 : Shape := ⟨3, ![1, 256, 1024]⟩
abbrev S1x256x256 : Shape := ⟨3, ![1, 256, 256]⟩
abbrev S1x256x512 : Shape := ⟨3, ![1, 256, 512]⟩
abbrev S2x1x256x2816 : Shape := ⟨4, ![2, 1, 256, 2816]⟩
abbrev S1x1x256x2816 : Shape := ⟨4, ![1, 1, 256, 2816]⟩
abbrev S256x1024 : Shape := ⟨2, ![256, 1024]⟩
abbrev S256x256 : Shape := ⟨2, ![256, 256]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 24
  | .smem => 0
  | _ => 0

abbrev bufTy : (tb : Table) → Fin (tcTables nBuf tb) → BufTy
  | .hbm, ⟨0, _⟩ => ⟨S1x1024x1024, .f32⟩
  | .hbm, ⟨1, _⟩ => ⟨S1x1024x256, .f32⟩
  | .hbm, ⟨2, _⟩ => ⟨S1x1024x512, .f32⟩
  | .hbm, ⟨3, _⟩ => ⟨S1x1024x256, .f32⟩
  | .hbm, ⟨4, _⟩ => ⟨S1024x1024, .bf16⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S3x2816, .f32⟩
  | .hbm, ⟨9, _⟩ => ⟨S1x2816, .f32⟩
  | .hbm, ⟨10, _⟩ => ⟨S2816x1024, .bf16⟩
  | .hbm, ⟨11, _⟩ => ⟨S2x1x1024x2816, .f32⟩
  | .hbm, ⟨12, _⟩ => ⟨S1x1024, .f32⟩
  | .hbm, ⟨13, _⟩ => ⟨S1x1024x1024, .f32⟩
  | .hbm, ⟨14, _⟩ => ⟨S1x4x256x2816, .f32⟩
  | .hbm, ⟨15, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S1x256x256, .f32⟩
  | .local _ .vmem, ⟨7, _⟩ => ⟨S1x256x256, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S2x1x256x2816, .f32⟩
  | .local _ .vmem, ⟨16, _⟩ => ⟨S2x1x256x2816, .f32⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x1x256x2816, .f32⟩
  | .local _ .vmem, ⟨21, _⟩ => ⟨S1x1x256x2816, .f32⟩
  | .local _ .vmem, ⟨22, _⟩ => ⟨S1x256x1024, .f32⟩
  | .local _ .vmem, ⟨23, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x1x256x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S1x1024x1024 : Shape := ⟨3, ![1, 1024, 1024]⟩
abbrev S1x1024x256 : Shape := ⟨3, ![1, 1024, 256]⟩
abbrev S1x1024x512 : Shape := ⟨3, ![1, 1024, 512]⟩
abbrev S1024x1024 : Shape := ⟨2, ![1024, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S2816x1024 : Shape := ⟨2, ![2816, 1024]⟩
abbrev S2x1x1024x2816 : Shape := ⟨4, ![2, 1, 1024, 2816]⟩
abbrev S1024 : Shape := ⟨1, ![1024]⟩
abbrev S_ : Shape := ⟨0, ![]⟩
abbrev S1x1024x1 : Shape := ⟨3, ![1, 1024, 1]⟩
abbrev S1x1x1024 : Shape := ⟨3, ![1, 1, 1024]⟩
abbrev S1x1024x2816 : Shape := ⟨3, ![1, 1024, 2816]⟩
abbrev S2x128x8x2816 : Shape := ⟨4, ![2, 128, 8, 2816]⟩
abbrev S2x128x1x2816 : Shape := ⟨4, ![2, 128, 1, 2816]⟩
abbrev S2x128x2816 : Shape := ⟨3, ![2, 128, 2816]⟩
abbrev S128x2x2816 : Shape := ⟨3, ![128, 2, 2816]⟩
abbrev S128x8x2816 : Shape := ⟨3, ![128, 8, 2816]⟩
abbrev S128x10x2816 : Shape := ⟨3, ![128, 10, 2816]⟩
abbrev S2816 : Shape := ⟨1, ![2816]⟩
abbrev S1x1x2816 : Shape := ⟨3, ![1, 1, 2816]⟩
abbrev S1x4x256x2816 : Shape := ⟨4, ![1, 4, 256, 2816]⟩

abbrev nBuf : Space → Nat
  | .hbm => 100
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x256, .f32⟩
  | .hbm, ⟨2, _⟩ => ⟨S1x1024x512, .f32⟩
  | .hbm, ⟨3, _⟩ => ⟨S1x1024x256, .f32⟩
  | .hbm, ⟨4, _⟩ => ⟨S1024x1024, .bf16⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S3x2816, .f32⟩
  | .hbm, ⟨9, _⟩ => ⟨S1x2816, .f32⟩
  | .hbm, ⟨10, _⟩ => ⟨S2816x1024, .bf16⟩
  | .hbm, ⟨11, _⟩ => ⟨S2x1x1024x2816, .f32⟩
  | .hbm, ⟨12, _⟩ => ⟨S1x1024, .f32⟩
  | .hbm, ⟨13, _⟩ => ⟨S1x1024x1024, .f32⟩
  | .hbm, ⟨14, _⟩ => ⟨S1024x1024, .f32⟩
  | .hbm, ⟨15, _⟩ => ⟨S1x1024x1024, .f32⟩
  | .hbm, ⟨16, _⟩ => ⟨S1x1024x1024, .f32⟩
  | .hbm, ⟨17, _⟩ => ⟨S1024, .f32⟩
  | .hbm, ⟨18, _⟩ => ⟨S1x1024x1024, .f32⟩
  | .hbm, ⟨19, _⟩ => ⟨S_, .f32⟩
  | .hbm, ⟨20, _⟩ => ⟨S1x1024, .f32⟩
  | .hbm, ⟨21, _⟩ => ⟨S1x1024x1, .f32⟩
  | .hbm, ⟨22, _⟩ => ⟨S_, .f32⟩
  | .hbm, ⟨23, _⟩ => ⟨S1x1024x1, .f32⟩
  | .hbm, ⟨24, _⟩ => ⟨S1x1024x1, .f32⟩
  | .hbm, ⟨25, _⟩ => ⟨S_, .f32⟩
  | .hbm, ⟨26, _⟩ => ⟨S1x1024x1, .f32⟩
  | .hbm, ⟨27, _⟩ => ⟨S1x1024x1, .f32⟩
  | .hbm, ⟨28, _⟩ => ⟨S1x1024x1, .f32⟩
  | .hbm, ⟨29, _⟩ => ⟨S1x1024x1024, .f32⟩
  | .hbm, ⟨30, _⟩ => ⟨S1x1024x1024, .f32⟩
  | .hbm, ⟨31, _⟩ => ⟨S1x1x1024, .f32⟩
  | .hbm, ⟨32, _⟩ => ⟨S1x1024x1024, .f32⟩
  | .hbm, ⟨33, _⟩ => ⟨S1x1024x1024, .f32⟩
  | .hbm, ⟨34, _⟩ => ⟨S1024x2816, .f32⟩
  | .hbm, ⟨35, _⟩ => ⟨S1x1024x2816, .f32⟩
  | .hbm, ⟨36, _⟩ => ⟨S1024x2816, .f32⟩
  | .hbm, ⟨37, _⟩ => ⟨S1x1024x2816, .f32⟩
  | .hbm, ⟨38, _⟩ => ⟨S2x128x8x2816, .f32⟩
  | .hbm, ⟨39, _⟩ => ⟨S2x128x1x2816, .f32⟩
  | .hbm, ⟨40, _⟩ => ⟨S2x128x2816, .f32⟩
  | .hbm, ⟨41, _⟩ => ⟨S128x2x2816, .f32⟩
  | .hbm, ⟨42, _⟩ => ⟨S128x8x2816, .f32⟩
  | .hbm, ⟨43, _⟩ => ⟨S128x10x2816, .f32⟩
  | .hbm, ⟨44, _⟩ => ⟨S2816, .f32⟩
  | .hbm, ⟨45, _⟩ => ⟨S128x8x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S128x8x2816, .f32⟩
  | .hbm, ⟨50, _⟩ => ⟨S128x8x2816, .f32⟩
  | .hbm, ⟨51, _⟩ => ⟨S1x1x2816, .f32⟩
  | .hbm, ⟨52, _⟩ => ⟨S128x8x2816, .f32⟩
  | .hbm, ⟨53, _⟩ => ⟨S128x8x2816, .f32⟩
  | .hbm, ⟨54, _⟩ => ⟨S128x8x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S128x8x2816, .f32⟩
  | .hbm, ⟨59, _⟩ => ⟨S128x8x2816, .f32⟩
  | .hbm, ⟨60, _⟩ => ⟨S128x8x2816, .f32⟩
  | .hbm, ⟨61, _⟩ => ⟨S128x8x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S128x8x2816, .f32⟩
  | .hbm, ⟨66, _⟩ => ⟨S128x8x2816, .f32⟩
  | .hbm, ⟨67, _⟩ => ⟨S128x8x2816, .f32⟩
  | .hbm, ⟨68, _⟩ => ⟨S128x8x2816, .f32⟩
  | .hbm, ⟨69, _⟩ => ⟨S128x8x2816, .f32⟩
  | .hbm, ⟨70, _⟩ => ⟨S_, .f32⟩
  | .hbm, ⟨71, _⟩ => ⟨S128x8x2816, .f32⟩
  | .hbm, ⟨72, _⟩ => ⟨S128x8x2816, .f32⟩
  | .hbm, ⟨73, _⟩ => ⟨S_, .f32⟩
  | .hbm, ⟨74, _⟩ => ⟨S128x8x2816, .f32⟩
  | .hbm, ⟨75, _⟩ => ⟨S128x8x2816, .f32⟩
  | .hbm, ⟨76, _⟩ => ⟨S128x8x2816, .f32⟩
  | .hbm, ⟨77, _⟩ => ⟨S1x1024x2816, .f32⟩
  | .hbm, ⟨78, _⟩ => ⟨S1x1024x2816, .f32⟩
  | .hbm, ⟨79, _⟩ => ⟨S2816x1024, .f32⟩
  | .hbm, ⟨80, _⟩ => ⟨S1x1024x1024, .f32⟩
  | .hbm, ⟨81, _⟩ => ⟨S1x1024x1024, .f32⟩
  | .hbm, ⟨82, _⟩ => ⟨S1x4x256x2816, .f32⟩
  | .hbm, ⟨83, _⟩ => ⟨S1024, .f32⟩
  | .hbm, ⟨84, _⟩ => ⟨S1x1024x1024, .f32⟩
  | .hbm, ⟨85, _⟩ => ⟨S_, .f32⟩
  | .hbm, ⟨86, _⟩ => ⟨S1x1024, .f32⟩
  | .hbm, ⟨87, _⟩ => ⟨S1x1024x1, .f32⟩
  | .hbm, ⟨88, _⟩ => ⟨S_, .f32⟩
  | .hbm, ⟨89, _⟩ => ⟨S1x1024x1, .f32⟩
  | .hbm, ⟨90, _⟩ => ⟨S1x1024x1, .f32⟩
  | .hbm, ⟨91, _⟩ => ⟨S_, .f32⟩
  | .hbm, ⟨92, _⟩ => ⟨S1x1024x1, .f32⟩
  | .hbm, ⟨93, _⟩ => ⟨S1x1024x1, .f32⟩
  | .hbm, ⟨94, _⟩ => ⟨S1x1024x1, .f32⟩
  | .hbm, ⟨95, _⟩ => ⟨S1x1024x1024, .f32⟩
  | .hbm, ⟨96, _⟩ => ⟨S1x1024x1024, .f32⟩
  | .hbm, ⟨97, _⟩ => ⟨S1x1x1024, .f32⟩
  | .hbm, ⟨98, _⟩ => ⟨S1x1024x1024, .f32⟩
  | .hbm, ⟨99, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_2 : Ref sig .tc := ⟨.hbm, 85, rfl⟩
abbrev main_v61 : Ref sig .tc := ⟨.hbm, 86, rfl⟩
abbrev main_v62 : Ref sig .tc := ⟨.hbm, 87, rfl⟩
abbrev main_cst_3 : Ref sig .tc := ⟨.hbm, 88, rfl⟩
abbrev main_v63 : Ref sig .tc := ⟨.hbm, 89, rfl⟩
abbrev main_v64 : Ref sig .tc := ⟨.hbm, 90, rfl⟩
abbrev main_cst_4 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Proof.Mla.Sched.lean ====
/-
  The schedule of the grid: which query block and which key block each point handles, and where its blocks lie.
-/
module

public import proofs.«01_k».proof.Proof.Gen.KernelIdeal.Flash
public import Idealize.ShloMosaic.Lib.Pipeline.ValueKit

@[expose] public section

set_option maxRecDepth 16384
set_option Elab.async false

noncomputable section

namespace Cert.Mla

open Idealize.ShloMosaic Idealize.ShloMosaic.TcCoe Cert.KernelIdeal Cert.KernelIdeal.Gen

/-- The batch row of point `n`. -/
def bOf (n : ℕ) : ℕ := n / 136

/-- The query blocks, pair by pair. -/
def qList : List ℕ :=
  [0, 1, 1, 2, 2, 2, 3, 3, 3, 3, 4, 4, 4, 4, 4, 5, 5, 5, 5, 5, 5, 6, 6, 6, 6, 6, 6, 6, 7, 7, 7, 7, 7, 7, 7, 7,
   8, 8, 8, 8, 8, 8, 8, 8, 8, 9, 9, 9, 9, 9, 9, 9, 9, 9, 9, 10, 10, 10, 10, 10, 10, 10, 10, 10, 10, 10, 11, 11,
   11, 11, 11, 11, 11, 11, 11, 11, 11, 11, 12, 12, 12, 12, 12, 12, 12, 12, 12, 12, 12, 12, 12, 13, 13, 13, 13,
   13, 13, 13, 13, 13, 13, 13, 13, 13, 13, 14, 14, 14, 14, 14, 14, 14, 14, 14, 14, 14, 14, 14, 14, 14, 15, 15,
   15, 15, 15, 15, 15, 15, 15, 15, 15, 15, 15, 15, 15, 15]

/-- The key blocks, pair by pair. -/
def kList : List ℕ :=
  [0, 0, 1, 0, 1, 2, 0, 1, 2, 3, 0, 1, 2, 3, 4, 0, 1, 2, 3, 4, 5, 0, 1, 2, 3, 4, 5, 6, 0, 1, 2, 3, 4, 5, 6, 7,
   0, 1, 2, 3, 4, 5, 6, 7, 8, 0, 1, 2, 3, 4, 5, 6, 7, 8, 9, 0, 1, 2, 3, 4, 5, 6, 7, 8, 9, 10, 0, 1, 2, 3, 4, 5,
   6, 7, 8, 9, 10, 11, 0, 1, 2, 3, 4, 5, 6, 7, 8, 9, 10, 11, 12, 0, 1, 2, 3, 4, 5, 6, 7, 8, 9, 10, 11, 12, 13,
   0, 1, 2, 3, 4, 5, 6, 7, 8, 9, 10, 11, 12, 13, 14, 0, 1, 2, 3, 4, 5, 6, 7, 8, 9, 10, 11, 12, 13, 14, 15]

/-- The query block of point `n`. -/
def qOf (n : ℕ) : ℕ := qList.getD (n % 136) 0

/-- The key block of point `n`. -/
def kOf (n : ℕ) : ℕ := kList.getD (n % 136) 0

theorem index_q : ∀ t : Fin (cfgA 0).N, ((cfgA 0).win (0 : Fin 5)).index t = ![0, bOf t.val, 0, qOf t.val] := by decide +kernel

theorem index_k : ∀ t : Fin (cfgA 0).N, ((cfgA 0).win (1 : Fin 5)).index t = ![bOf t.val, kOf t.val, 0] := by decide +kernel

theorem index_v : ∀ t : Fin (cfgA 0).N, ((cfgA 0).win (2 : Fin 5)).index t = ![bOf t.val, 0, kOf t.val] := by decide +kernel

theorem index_w : ∀ t : Fin (cfgA 0).N, ((cfgA 0).win (3 : Fin 5)).index t = ![0, 0, 0] := by decide +kernel

theorem index_o : ∀ t : Fin (cfgA 0).N, ((cfgA 0).win (4 : Fin 5)).index t = ![bOf t.val, qOf t.val, 0] := by decide +kernel

theorem first_iff : ∀ t : Fin (cfgA 0).N, P0_0 0 t ↔ kOf t.val = 0 := by decide +kernel

theorem diag_iff : ∀ t : Fin (cfgA 0).N, P0_1 0 t ↔ kOf t.val = qOf t.val := by decide +kernel

theorem flush_diag : ∀ t : Fin (cfgA 0).N, ((cfgA 0).win (4 : Fin 5)).flush t = true → kOf t.val = qOf t.val := by decide +kernel

/-- A point of a later key block follows the point of the block before it. -/
theorem before_step : ∀ t : Fin 272, kOf t.val ≠ 0 → t.val ≠ 0 ∧ bOf (t.val - 1) = bOf t.val ∧ qOf (t.val - 1) = qOf t.val
    ∧ kOf (t.val - 1) + 1 = kOf t.val := by decide +kernel

theorem bounds : ∀ t : Fin 272, bOf t.val < 2 ∧ qOf t.val < 16 ∧ kOf t.val ≤ qOf t.val := by decide +kernel

theorem covers_out : ((cfgA 0).win (4 : Fin 5)).Covers := by decide +kernel

end Cert.Mla

end
-- ==== Proof.Mla.Tables.lean ====
/-
  What the two preconditions say of the memory: the two prefetched tables hold the causal pairs, the row of c_t that
  the normaliser is read from holds ones, and the queries and the keys are real numbers.
-/
module

public import proofs.«01_k».proof.Defs
public import proofs.«01_k».proof.Proof.Gen.Kernel.Flash
public import proofs.«01_k».proof.Proof.Gen.KernelIdeal.Flash
public import proofs.«01_k».proof.Proof.Gen.Pre_causal_tables
public import proofs.«01_k».proof.Proof.Gen.Pre_causal_finite
public import Idealize.ShloMosaic.Lib.ReduceAll
public import Idealize.ShloMosaic.Lib.IdealHost
public import Idealize.ShloMosaic.Lib.Pointwise

@[expose] public section

noncomputable section

namespace Cert.Mla

open Idealize.ShloMosaic Idealize.ShloMosaic.TcCoe

/-- Two one-bit words are both 1 exactly when their conjunction is. -/
theorem both_of_andi {a b : BitVec 1} (h : IntOp.andi a b = 1#1) : a = 1#1 ∧ b = 1#1 := IntOp.andi_eq_one.1 h

/-- An equality comparison of words that came out 1. -/
theorem eq_of_cmpi {a b : BitVec 32} (h : IntOp.cmpi .eq a b = 1#1) : a = b := by
  by_contra hne
  simp only [IntOp.cmpi, beq_eq_false_iff_ne.2 hne] at h
  exact absurd h (by decide)

/-- The first table of the printed precondition is the table that the pipeline is built for. -/
theorem table0 : ∀ x : Cert.Kernel.S136.Idx, Cert.Pre_causal_tables.lit0 (Cert.Pre_causal_tables.S136.rowMajor x) = Cert.Kernel.Gen.pinT_0 0 x := by
  decide +kernel

theorem table1 : ∀ x : Cert.Kernel.S136.Idx, Cert.Pre_causal_tables.lit1 (Cert.Pre_causal_tables.S136.rowMajor x) = Cert.Kernel.Gen.pinT_1 0 x := by
  decide +kernel

theorem tableI0 : ∀ x : Cert.KernelIdeal.S136.Idx, Cert.Pre_causal_tables.lit0 (Cert.Pre_causal_tables.S136.rowMajor x) = Cert.KernelIdeal.Gen.pinT_0 0 x := by
  decide +kernel

theorem tableI1 : ∀ x : Cert.KernelIdeal.S136.Idx, Cert.Pre_causal_tables.lit1 (Cert.Pre_causal_tables.S136.rowMajor x) = Cert.KernelIdeal.Gen.pinT_1 0 x := by
  decide +kernel

theorem tableF0 : ∀ x : Cert.KernelIdeal.S136.Idx, Cert.Pre_causal_finite.lit0 (Cert.Pre_causal_finite.S136.rowMajor x) = Cert.KernelIdeal.Gen.pinT_0 0 x := by
  decide +kernel

theorem tableF1 : ∀ x : Cert.KernelIdeal.S136.Idx, Cert.Pre_causal_finite.lit1 (Cert.Pre_causal_finite.S136.rowMajor x) = Cert.KernelIdeal.Gen.pinT_1 0 x := by
  decide +kernel

/-- Under the tables' precondition the compiled kernel's tables are the causal pairs. -/
theorem pinned (m : (ℓ : Loc Cert.Kernel.nD Cert.Kernel.τ Cert.Kernel.sig) → Buf (Elt Bits) ℓ)
    (h : Cert.Pre_Kernel m) : Cert.Kernel.Gen.Pinned 0 m := by
  refine ⟨fun c => funext fun x => ?_, fun c => funext fun x => ?_⟩
  · have e := congrFun (h c) x
    exact (eq_of_cmpi (both_of_andi e).1).trans (table0 x)
  · have e := congrFun (h c) x
    exact (eq_of_cmpi (both_of_andi e).2).trans (table1 x)

/-- The same of the kernel over the extended reals. -/
theorem pinnedI (m : (ℓ : Loc Cert.KernelIdeal.nD Cert.KernelIdeal.τ Cert.KernelIdeal.sig) → Buf (Elt Ideal) ℓ)
    (h : Cert.Pre_KernelIdeal m) : Cert.KernelIdeal.Gen.Pinned 0 m := by
  refine ⟨fun c => funext fun x => ?_, fun c => funext fun x => ?_⟩
  · have e := congrFun (h c) x
    exact (eq_of_cmpi (both_of_andi e).1).trans (tableI0 x)
  · have e := congrFun (h c) x
    exact (eq_of_cmpi (both_of_andi e).2).trans (tableI1 x)

/-- An extended real whose absolute value is below the greatest pattern's value is a real number. -/
theorem real_of_abs_lt {x : EReal} (h : Ideal.cmp .olt (max x (-x)) (Ideal.ofBits .bf16 0x7F80#16) = 1#1) :
    x ≠ ⊥ ∧ x ≠ ⊤ := by
  have ht : Ideal.ofBits .bf16 0x7F80#16 = ⊤ := by simp [Ideal.ofBits, Ideal.ieee]
  rw [ht] at h
  constructor
  · rintro rfl; simp [Ideal.cmp] at h
  · rintro rfl; simp [Ideal.cmp] at h

/-- An equality comparison of extended reals that came out 1. -/
theorem eq_of_cmp {x y : EReal} (h : Ideal.cmp .oeq x y = 1#1) : x = y := by
  by_contra hne
  simp [Ideal.cmp, hne] at h

section Finite

open Cert.KernelIdeal

variable (m : (ℓ : Loc nD τ sig) → Buf (Elt Ideal) ℓ) (c : Dev nD)

/-- The queries, per head and batch: feature by position. -/
def qA : S4x2x256x8192.Idx → EReal := m ((c : Thread nD τ).loc main_arg2)
/-- The keys, per batch: position by feature. -/
def kA : S2x8192x256.Idx → EReal := m ((c : Thread nD τ).loc main_arg3)
/-- The values with the row of ones, per batch: row by position. -/
def vA : S2x144x8192.Idx → EReal := m ((c : Thread nD τ).loc main_arg4)
/-- The expansion of the values, per head. -/
def wA : S4x256x128.Idx → EReal := m ((c : Thread nD τ).loc main_arg5)

variable (h : Cert.Pre_KernelIdeal_causal_finite m)

include h

/-- The finiteness precondition, read. -/
theorem finite_all :
    (m ((c : Thread nD τ).loc main_arg0) = Gen.pinT_0 0 ∧ m ((c : Thread nD τ).loc main_arg1) = Gen.pinT_1 0)
    ∧ (∀ (b : Fin 2) (k : Fin 8192), vA m c (ix3 b 128 k) = 1)
    ∧ (∀ i, qA m c i ≠ ⊥ ∧ qA m c i ≠ ⊤) ∧ (∀ i, kA m c i ≠ ⊥ ∧ kA m c i ≠ ⊤) := by
  have e := congrFun (h c) (fun a => a.elim0)
  have : Subsingleton Cert.Pre_causal_finite.S_.Idx := ⟨fun y z => funext fun a => a.elim0⟩
  obtain ⟨e1, e2⟩ := both_of_andi e
  obtain ⟨e1, e3⟩ := both_of_andi e1
  obtain ⟨e1, e4⟩ := both_of_andi e1
  have e2 := Host.reduce_andi_all _ _ _ _ _ e2
  have e3 := Host.reduce_andi_all _ _ _ _ _ e3
  have e4 := Host.reduce_andi_all _ _ _ _ _ e4
  have e1 := Host.reduce_andi_all _ _ _ _ _ e1
  refine ⟨⟨funext fun x => ?_, funext fun x => ?_⟩, fun b k => ?_, fun i => ?_, fun i => ?_⟩
  · exact (eq_of_cmpi (both_of_andi (e1 x)).1).trans (tableF0 x)
  · exact (eq_of_cmpi (both_of_andi (e1 x)).2).trans (tableF1 x)
  · have := e4 (ix2 b k)
    pointwise at this
    exact eq_of_cmp this
  · exact real_of_abs_lt (e3 i)
  · exact real_of_abs_lt (e2 i)

/-- Under the finiteness precondition the tables are the causal pairs. -/
theorem pinnedF : Gen.Pinned 0 m := ⟨fun c => (finite_all m c h).1.1, fun c => (finite_all m c h).1.2⟩

end Finite

end Cert.Mla

end
-- ==== Proof.Mla.Blocks.lean ====
/-
  The blocks the body reads, as parts of the argument arrays.
-/
module

public import proofs.«01_k».proof.Proof.Mla.Sched
public import proofs.«01_k».proof.Proof.Mla.Tables

@[expose] public section

set_option maxRecDepth 16384
set_option Elab.async false

noncomputable section

namespace Cert.Mla

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The batch row of point `t`. -/
def bF (t : Fin 272) : Fin 2 := ⟨bOf t.val, (bounds t).1⟩

/-- A position of the query block of point `t`. -/
def qF (t : Fin 272) (q : Fin 512) : Fin 8192 := ⟨512 * qOf t.val + q.val, by have := (bounds t).2.1; omega⟩

/-- A position of the key block of point `t`. -/
def kF (t : Fin 272) (k : Fin 512) : Fin 8192 :=
  ⟨512 * kOf t.val + k.val, by have := (bounds t).2.1; have := (bounds t).2.2; omega⟩

/-- The block of queries. -/
theorem blk_q (t : Fin (cfgA 0).N) (h : Fin 4) (d : Fin 256) (q : Fin 512) :
    (iblk 0 m ρ c (0 : Fin 5) t (ix4 h 0 d q : S4x1x256x512.Idx) : EReal) = qA m c (ix4 h (bF t) d (qF t q)) := by
  refine congrArg (m ((c : Thread nD τ).loc main_arg2)) (funext fun a => Fin.ext ?_)
  show ((cfgA 0).win (0 : Fin 5)).index t a * S4x1x256x512.size a + 1 * ((ix4 h 0 d q : S4x1x256x512.Idx) a).val = _
  rw [index_q t]
  fin_cases a
  · show 0 * 4 + 1 * h.val = h.val; omega
  · show bOf t.val * 1 + 1 * 0 = bOf t.val; omega
  · show 0 * 256 + 1 * d.val = d.val; omega
  · show qOf t.val * 512 + 1 * q.val = 512 * qOf t.val + q.val; omega

/-- The block of keys. -/
theorem blk_k (t : Fin (cfgA 0).N) (k : Fin 512) (d : Fin 256) :
    (iblk 0 m ρ c (1 : Fin 5) t (ix3 0 k d : S1x512x256.Idx) : EReal) = kA m c (ix3 (bF t) (kF t k) d) := by
  refine congrArg (m ((c : Thread nD τ).loc main_arg3)) (funext fun a => Fin.ext ?_)
  show ((cfgA 0).win (1 : Fin 5)).index t a * S1x512x256.size a + 1 * ((ix3 0 k d : S1x512x256.Idx) a).val = _
  rw [index_k t]
  fin_cases a
  · show bOf t.val * 1 + 1 * 0 = bOf t.val; omega
  · show kOf t.val * 512 + 1 * k.val = 512 * kOf t.val + k.val; omega
  · show 0 * 256 + 1 * d.val = d.val; omega

/-- The block of values. -/
theorem blk_v (t : Fin (cfgA 0).N) (r : Fin 144) (k : Fin 512) :
    (iblk 0 m ρ c (2 : Fin 5) t (ix3 0 r k : S1x144x512.Idx) : EReal) = vA m c (ix3 (bF t) r (kF t k)) := by
  refine congrArg (m ((c : Thread nD τ).loc main_arg4)) (funext fun a => Fin.ext ?_)
  show ((cfgA 0).win (2 : Fin 5)).index t a * S1x144x512.size a + 1 * ((ix3 0 r k : S1x144x512.Idx) a).val = _
  rw [index_v t]
  fin_cases a
  · show bOf t.val * 1 + 1 * 0 = bOf t.val; omega
  · show 0 * 144 + 1 * r.val = r.val; omega
  · show kOf t.val * 512 + 1 * k.val = 512 * kOf t.val + k.val; omega

/-- The expansion weights. -/
theorem blk_w (t : Fin (cfgA 0).N) (h : Fin 4) (e : Fin 256) (r : Fin 128) :
    (iblk 0 m ρ c (3 : Fin 5) t (ix3 h e r : S4x256x128.Idx) : EReal) = wA m c (ix3 h e r) := by
  refine congrArg (m ((c : Thread nD τ).loc main_arg5)) (funext fun a => Fin.ext ?_)
  show ((cfgA 0).win (3 : Fin 5)).index t a * S4x256x128.size a + 1 * ((ix3 h e r : S4x256x128.Idx) a).val = _
  rw [index_w t]
  fin_cases a
  · show 0 * 4 + 1 * h.val = h.val; omega
  · show 0 * 256 + 1 * e.val = e.val; omega
  · show 0 * 128 + 1 * r.val = r.val; omega

/-- Where an entry of the output block lies in the result. -/
theorem emb_out (t : Fin (cfgA 0).N) (q : Fin 512) (e : Fin 256) :
    (((cfgA 0).win (4 : Fin 5)).blk t).view.emb (ix3 0 q e : S1x512x256.Idx) = (ix3 (bF t) (qF t q) e : S2x8192x256.Idx) := by
  refine funext fun a => Fin.ext ?_
  show ((cfgA 0).win (4 : Fin 5)).index t a * S1x512x256.size a + 1 * ((ix3 0 q e : S1x512x256.Idx) a).val = _
  rw [index_o t]
  fin_cases a
  · show bOf t.val * 1 + 1 * 0 = bOf t.val; omega
  · show qOf t.val * 512 + 1 * q.val = 512 * qOf t.val + q.val; omega
  · show 0 * 256 + 1 * e.val = e.val; omega

end Cert.Mla

end
-- ==== Proof.Mla.Softmax.lean ====
/-
  The running softmax in base two over the extended reals, one query: scores that are real or -∞, values that are any
  extended reals. A running maximum and a running weighted sum, rescaled block by block, are the maximum and the
  weighted sum of all the keys seen so far; divided by the running normaliser at the end they are the softmax's average.
-/
module

public import Idealize.ShloMosaic.PureOps
public import Idealize.ShloMosaic.PureOps.Ideal

@[expose] public section

noncomputable section

namespace Cert.Mla

open Idealize.ShloMosaic

/-- The power of two of a real score is a real number. -/
theorem exp2_real (x : ℝ) : Ideal.exp2 (x : EReal) = (((2 : ℝ) ^ x : ℝ) : EReal) := rfl

/-- Powers of two are never negative. -/
theorem exp2_nonneg (x : EReal) : 0 ≤ Ideal.exp2 x := by
  induction x with
  | bot => exact le_refl _
  | coe x => rw [exp2_real]; exact_mod_cast Real.rpow_nonneg (by norm_num) x
  | top => exact le_top

/-- The host's power with base two is the power of two. -/
theorem pow_two_eq (x : EReal) : Ideal.pow (2 : EReal) x = Ideal.exp2 x := by
  have h2 : (2 : EReal) = ((2 : ℝ) : EReal) := rfl
  rw [h2]
  induction x with
  | bot =>
    show (if (2 : ℝ) < 0 then (⊥ : EReal) else if (1 : ℝ) < 2 then 0 else if (2 : ℝ) = 1 then 1 else ⊤) = 0
    norm_num
  | coe x => rfl
  | top =>
    show (if (2 : ℝ) < 0 then (⊥ : EReal) else if (1 : ℝ) < 2 then ⊤ else if (2 : ℝ) = 1 then 1 else 0) = ⊤
    norm_num

/-- Rescaling: from one maximum to another. `s` is real or -∞, the maxima are real. -/
theorem exp2_rescale {s : EReal} (hs : s ≠ ⊤) (a b : ℝ) :
    Ideal.exp2 ((a : EReal) - b) * Ideal.exp2 (s - a) = Ideal.exp2 (s - b) := by
  induction s with
  | bot => simp [EReal.bot_sub]
  | coe s =>
    rw [← EReal.coe_sub, ← EReal.coe_sub, ← EReal.coe_sub, exp2_real, exp2_real, exp2_real, ← EReal.coe_mul,
      ← Real.rpow_add (by norm_num)]
    congr 2; ring
  | top => exact absurd rfl hs

/-- A nonnegative real factor goes through a sum of extended reals. -/
theorem real_mul_sum {ι : Type} (t : Finset ι) (f : ι → EReal) {a : EReal} (h0 : 0 ≤ a) (ht : a ≠ ⊤) :
    a * ∑ i ∈ t, f i = ∑ i ∈ t, a * f i := by
  classical
  induction t using Finset.induction_on with
  | empty => simp
  | insert i t hi ih => rw [Finset.sum_insert hi, Finset.sum_insert hi, EReal.left_distrib_of_nonneg_of_ne_top h0 ht, ih]

/-- The greatest of finitely many scores none of which is +∞ is not +∞. -/
theorem sup_ne_top {ι : Type} (t : Finset ι) (s : ι → EReal) (hs : ∀ i, s i ≠ ⊤) : t.sup s ≠ ⊤ := by
  have : t.sup s < ⊤ := (Finset.sup_lt_iff (by exact bot_lt_top)).2 fun i _ => lt_top_iff_ne_top.2 (hs i)
  exact this.ne

/-- One block of the running maximum, over the keys `t` seen and the keys `u` of the block. -/
theorem running_max {ι κ : Type} [DecidableEq ι] (t : Finset ι) (s : ι → EReal) (u : Finset κ) (e : κ ↪ ι) :
    max (t.sup s) (u.sup fun k => s (e k)) = (t ∪ u.map e).sup s := by
  rw [Finset.sup_union, Finset.sup_map]; rfl

/-- The weighted sum over the keys of `t`, scaled to the maximum `M`. -/
def wsum {ι : Type} (t : Finset ι) (s v : ι → EReal) (M : EReal) : EReal := ∑ i ∈ t, v i * Ideal.exp2 (s i - M)

/-- The weighted sum rescaled from the maximum of `t` to a real `b`: before any real score has been seen the factor is
    zero, and so is every weight. -/
theorem rescale_wsum {ι : Type} (t : Finset ι) (s v : ι → EReal) (hs : ∀ i, s i ≠ ⊤) (b : ℝ) :
    Ideal.exp2 (t.sup s - b) * wsum t s v (t.sup s) = wsum t s v b := by
  unfold wsum
  by_cases hb : t.sup s = ⊥
  · have hz : ∀ i ∈ t, s i = ⊥ := fun i hi => le_bot_iff.1 (hb ▸ Finset.le_sup hi)
    rw [hb, EReal.bot_sub, Ideal.exp2_bot, zero_mul]
    symm
    refine Finset.sum_eq_zero fun i hi => ?_
    rw [hz i hi, EReal.bot_sub, Ideal.exp2_bot, mul_zero]
  · obtain ⟨a, ha⟩ : ∃ a : ℝ, (a : EReal) = t.sup s := ⟨_, EReal.coe_toReal (sup_ne_top t s hs) hb⟩
    rw [← ha, real_mul_sum t _ (exp2_nonneg _) (by rw [← EReal.coe_sub, exp2_real]; exact EReal.coe_ne_top _)]
    refine Finset.sum_congr rfl fun i _ => ?_
    rw [mul_left_comm, exp2_rescale (hs i)]

/-- One block of the running weighted sum. -/
theorem running_sum {ι κ : Type} [DecidableEq ι] (t : Finset ι) (s v : ι → EReal) (hs : ∀ i, s i ≠ ⊤) (u : Finset κ)
    (e : κ ↪ ι) (hd : Disjoint t (u.map e)) (hr : (t ∪ u.map e).sup s ≠ ⊥) :
    Ideal.exp2 (t.sup s - (t ∪ u.map e).sup s) * wsum t s v (t.sup s)
        + ∑ k ∈ u, v (e k) * Ideal.exp2 (s (e k) - (t ∪ u.map e).sup s)
      = wsum (t ∪ u.map e) s v ((t ∪ u.map e).sup s) := by
  obtain ⟨b, hb⟩ : ∃ b : ℝ, (b : EReal) = (t ∪ u.map e).sup s := ⟨_, EReal.coe_toReal (sup_ne_top _ s hs) hr⟩
  rw [← hb, rescale_wsum t s v hs b]
  unfold wsum
  rw [Finset.sum_union hd, Finset.sum_map]

/-- The normaliser is a positive real: each weight is a real, and the key of the greatest score has weight one. -/
theorem norm_real {ι : Type} (t : Finset ι) (s : ι → EReal) (hs : ∀ i, s i ≠ ⊤) (b : ℝ) (hb : (b : EReal) = t.sup s) :
    ∃ L : ℝ, 0 < L ∧ ∑ i ∈ t, Ideal.exp2 (s i - b) = (L : EReal) := by
  have hw : ∀ i, ∃ w : ℝ, 0 ≤ w ∧ Ideal.exp2 (s i - b) = (w : EReal) := fun i => by
    rcases eq_or_ne (s i) ⊥ with h | h
    · exact ⟨0, le_refl _, by rw [h, EReal.bot_sub, Ideal.exp2_bot]; rfl⟩
    · refine ⟨(2 : ℝ) ^ ((s i).toReal - b), Real.rpow_nonneg (by norm_num) _, ?_⟩
      conv_lhs => rw [← EReal.coe_toReal (hs i) h, ← EReal.coe_sub, exp2_real]
  choose w hw0 hwe using hw
  have hne : t.Nonempty := by
    by_contra h
    rw [Finset.not_nonempty_iff_eq_empty.1 h, Finset.sup_empty] at hb
    exact EReal.coe_ne_bot _ hb
  obtain ⟨i, hi, hmax⟩ := Finset.exists_mem_eq_sup t hne s
  have h1 : w i = 1 := by
    have : Ideal.exp2 (s i - b) = ((1 : ℝ) : EReal) := by
      rw [← hmax, ← hb, ← EReal.coe_sub, exp2_real, sub_self, Real.rpow_zero]
    exact_mod_cast (hwe i).symm.trans this
  refine ⟨∑ i ∈ t, w i, ?_, ?_⟩
  · exact lt_of_lt_of_le (by rw [h1]; norm_num) (Finset.single_le_sum (fun j _ => hw0 j) hi)
  · simp only [hwe]
    exact (map_sum (⟨⟨((↑) : ℝ → EReal), EReal.coe_zero⟩, EReal.coe_add⟩ : ℝ →+ EReal) w t).symm

/-- The end of the run: the weighted sum divided by the sum of the weights is the average by the normalised weights. -/
theorem wsum_div {ι : Type} (t : Finset ι) (s v : ι → EReal) (hs : ∀ i, s i ≠ ⊤) (hr : t.sup s ≠ ⊥) :
    Ideal.div (wsum t s v (t.sup s)) (wsum t s (fun _ => 1) (t.sup s))
      = ∑ i ∈ t, Ideal.div (Ideal.exp2 (s i - t.sup s)) (∑ j ∈ t, Ideal.exp2 (s j - t.sup s)) * v i := by
  obtain ⟨b, hb⟩ : ∃ b : ℝ, (b : EReal) = t.sup s := ⟨_, EReal.coe_toReal (sup_ne_top _ s hs) hr⟩
  obtain ⟨L, hL, he⟩ := norm_real t s hs b hb
  have h1 : wsum t s (fun _ => 1) (t.sup s) = (L : EReal) := by
    rw [← he, ← hb]; unfold wsum; simp only [one_mul]
  rw [h1, ← hb, he]
  have hL0 : (L : EReal) ≠ 0 := by exact_mod_cast hL.ne'
  unfold Ideal.div
  simp only [if_neg hL0]
  have hi : ((L : EReal))⁻¹ = ((L⁻¹ : ℝ) : EReal) := (EReal.coe_inv L).symm
  rw [hi, mul_comm, wsum, real_mul_sum t _ (by exact_mod_cast (inv_pos.2 hL).le) (EReal.coe_ne_top _)]
  refine Finset.sum_congr rfl fun i _ => ?_
  rw [mul_comm (v i), ← mul_assoc, mul_comm ((L⁻¹ : ℝ) : EReal)]

end Cert.Mla

end
-- ==== Proof.Mla.Keys.lean ====
/-
  The keys seen so far, block by block, and one step of the running softmax over them.
-/
module

public import proofs.«01_k».proof.Proof.Mla.Softmax

@[expose] public section

noncomputable section

namespace Cert.Mla

open Idealize.ShloMosaic

/-- The keys before position `n`. -/
def seen (n : ℕ) : Finset (Fin 8192) := Finset.univ.filter fun k => k.val < n

/-- The keys of block `j`. -/
def keyE (j : ℕ) (hj : j < 16) : Fin 512 ↪ Fin 8192 :=
  ⟨fun k => ⟨512 * j + k.val, by omega⟩, fun a b h => by
    have := congrArg Fin.val h; exact Fin.ext (by dsimp only at this; omega)⟩

theorem seen_zero : seen 0 = ∅ := by
  unfold seen; exact Finset.filter_eq_empty_iff.2 fun k _ => Nat.not_lt_zero _

theorem mem_seen {n : ℕ} {k : Fin 8192} : k ∈ seen n ↔ k.val < n := by simp [seen]

theorem mem_block {j : ℕ} {hj : j < 16} {k : Fin 8192} :
    k ∈ (Finset.univ : Finset (Fin 512)).map (keyE j hj) ↔ 512 * j ≤ k.val ∧ k.val < 512 * (j + 1) := by
  rw [Finset.mem_map]
  constructor
  · rintro ⟨x, -, rfl⟩
    show 512 * j ≤ 512 * j + x.val ∧ 512 * j + x.val < 512 * (j + 1)
    omega
  · rintro ⟨h1, h2⟩
    exact ⟨⟨k.val - 512 * j, by omega⟩, Finset.mem_univ _, Fin.ext (by show 512 * j + (k.val - 512 * j) = k.val; omega)⟩

theorem seen_succ (j : ℕ) (hj : j < 16) : seen (512 * (j + 1)) = seen (512 * j) ∪ Finset.univ.map (keyE j hj) := by
  ext k
  rw [Finset.mem_union, mem_seen, mem_seen, mem_block]
  omega

theorem seen_disjoint (j : ℕ) (hj : j < 16) : Disjoint (seen (512 * j)) (Finset.univ.map (keyE j hj)) := by
  rw [Finset.disjoint_left]
  intro k h1 h2
  rw [mem_seen] at h1
  rw [mem_block] at h2
  omega

/-- One block of the running maximum. -/
theorem max_step (j : ℕ) (hj : j < 16) (s : Fin 8192 → EReal) :
    max ((seen (512 * j)).sup s) (Finset.univ.sup fun k => s (keyE j hj k)) = (seen (512 * (j + 1))).sup s := by
  rw [seen_succ j hj]; exact running_max _ s _ _

/-- One block of the running sum. -/
theorem sum_step (j : ℕ) (hj : j < 16) (s v : Fin 8192 → EReal) (hs : ∀ i, s i ≠ ⊤)
    (hr : (seen (512 * (j + 1))).sup s ≠ ⊥) :
    Ideal.exp2 ((seen (512 * j)).sup s - (seen (512 * (j + 1))).sup s) * wsum (seen (512 * j)) s v ((seen (512 * j)).sup s)
        + ∑ k : Fin 512, v (keyE j hj k) * Ideal.exp2 (s (keyE j hj k) - (seen (512 * (j + 1))).sup s)
      = wsum (seen (512 * (j + 1))) s v ((seen (512 * (j + 1))).sup s) := by
  rw [seen_succ j hj] at hr ⊢
  exact running_sum _ s v hs _ _ (seen_disjoint j hj) hr

/-- Keys whose score is minus infinity change neither the maximum nor the sum. -/
theorem sup_seen_all (n : ℕ) (s : Fin 8192 → EReal) (hb : ∀ k : Fin 8192, n ≤ k.val → s k = ⊥) :
    (seen n).sup s = Finset.univ.sup s := by
  refine le_antisymm (Finset.sup_mono (Finset.subset_univ _)) (Finset.sup_le fun k _ => ?_)
  rcases Nat.lt_or_ge k.val n with h | h
  · exact Finset.le_sup (mem_seen.2 h)
  · rw [hb k h]; exact bot_le

theorem sum_seen_all (n : ℕ) (s v : Fin 8192 → EReal) (hb : ∀ k : Fin 8192, n ≤ k.val → s k = ⊥) (M : EReal) :
    wsum (seen n) s v M = wsum Finset.univ s v M := by
  unfold wsum
  refine Finset.sum_subset (Finset.subset_univ _) fun k _ hk => ?_
  rw [mem_seen] at hk
  rw [hb k (by omega), EReal.bot_sub, Ideal.exp2_bot, mul_zero]

end Cert.Mla

end
-- ==== Proof.Mla.Body.lean ====
/-
  What the body of the kernel computes from its blocks, read at an index: a head's scores against one block of keys,
  the new running maximum, the rescaled running sum, and the output block.
-/
module

public import proofs.«01_k».proof.Proof.Gen.KernelIdeal.Skeleton
public import proofs.«01_k».proof.Proof.Mla.Softmax
public import Idealize.ShloMosaic.Lib.Pointwise

@[expose] public section

set_option maxRecDepth 16384

noncomputable section

namespace Cert.Mla

open Idealize.ShloMosaic Idealize.ShloMosaic.TcCoe Cert.KernelIdeal Cert.KernelIdeal.Gen

/-- The word of minus infinity. -/
theorem ofBits_bot : Ideal.ofBits .f32 0xFF800000#32 = (⊥ : EReal) := by simp [Ideal.ofBits, Ideal.ieee]

/-- A fold of maxima from minus infinity is the supremum. -/
theorem fold_max_eq_sup {ι : Type} (t : Finset ι) (f : ι → EReal) : t.fold max ⊥ f = t.sup f := rfl

/-- The signed comparison of two numbers below 512. -/
theorem cmpi_sle_small (k q : Fin 512) :
    IntOp.cmpi CmpIPredicate.sle (BitVec.ofNat 32 k.val) (BitVec.ofNat 32 q.val) = if k ≤ q then 1#1 else 0#1 := by
  have hk := k.isLt
  have hq := q.isLt
  have h : (BitVec.ofNat 32 k.val).sle (BitVec.ofNat 32 q.val) = decide (k.val ≤ q.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.2 Int.ofNat_le
  show BitVec.ofBool _ = _
  rw [h]
  rcases Nat.lt_or_ge q.val k.val with hkq | hkq
  · rw [decide_eq_false (by omega), if_neg (by rw [Fin.le_def]; omega)]; rfl
  · rw [decide_eq_true hkq, if_pos (Fin.le_def.2 hkq)]; rfl

variable (v16 : Vec Ideal S1x512x256 .bf16) (v21 : Vec Ideal S1x1x256x512 .bf16) (S : FVec Ideal S512x512 .f32)
  (m : Vec Ideal S1x512 .f32) (a : Vec Ideal S1x144x512 .f32) (v : Vec Ideal S1x144x512 .bf16)

/-- The scores of a block below the diagonal: keys by queries. -/
theorem score_apply (k q : Fin 512) :
    (k0_pay28 v16 v21 (ix2 k q) : EReal) = ∑ d : Fin 256, (v16 (ix3 0 k d) : EReal) * v21 (ix4 0 0 d q) := by
  unfold k0_pay28 k0_pay26
  pointwise

/-- The scores of a block on the diagonal: a key after the query counts minus infinity. -/
theorem scoreMasked_apply (k q : Fin 512) : (k0_pay11 v16 v21 (ix2 k q) : EReal)
    = if k ≤ q then ∑ d : Fin 256, (v16 (ix3 0 k d) : EReal) * v21 (ix4 0 0 d q) else ⊥ := by
  unfold k0_pay11 k0_pay10 k0_pay9
  pointwise
  rw [cmpi_sle_small, ofBits_bot]
  by_cases h : k ≤ q <;> simp [h, Scalar.select]

/-- The new running maximum. -/
theorem max_apply (q : Fin 512) : (k0_pay37 S m (ix2 0 q) : EReal)
    = max (m (ix2 0 q) : EReal) (Finset.univ.sup fun k : Fin 512 => (S (ix2 k q) : EReal)) := by
  unfold k0_pay37
  pointwise
  rw [ofBits_bot]; rfl

/-- The new running sum. -/
theorem acc_apply (r : Fin 144) (q : Fin 512) : (k0_pay38 S m a v (ix3 0 r q) : EReal)
    = Ideal.exp2 ((m (ix2 0 q) : EReal) - k0_pay37 S m (ix2 0 q)) * a (ix3 0 r q)
      + ∑ k : Fin 512, (v (ix3 0 r k) : EReal) * Ideal.exp2 ((S (ix2 k q) : EReal) - k0_pay37 S m (ix2 0 q)) := by
  unfold k0_pay38
  pointwise
  rfl

/-- The output block of the four heads: each head's running sum divided by its normaliser, expanded by the head's
    weights, and the heads added. -/
theorem out_apply (a0 a1 a2 a3 : Vec Ideal S1x144x512 .f32) (w0 w1 w2 w3 : Vec Ideal S1x256x128 .bf16) (q : Fin 512)
    (e : Fin 256) : (k0_pay8 (k0_pay43 a0 w0 a1 w1 a2 w2) a3 w3 (ix3 0 q e) : EReal)
    = (∑ r : Fin 128, (w0 (ix3 0 e r) : EReal) * Ideal.div (a0 (ix3 0 (r.castLE (by decide)) q)) (a0 (ix3 0 128 q)))
      + (∑ r : Fin 128, (w1 (ix3 0 e r) : EReal) * Ideal.div (a1 (ix3 0 (r.castLE (by decide)) q)) (a1 (ix3 0 128 q)))
      + (∑ r : Fin 128, (w2 (ix3 0 e r) : EReal) * Ideal.div (a2 (ix3 0 (r.castLE (by decide)) q)) (a2 (ix3 0 128 q)))
      + (∑ r : Fin 128, (w3 (ix3 0 e r) : EReal) * Ideal.div (a3 (ix3 0 (r.castLE (by decide)) q)) (a3 (ix3 0 128 q))) := by
  unfold k0_pay8 k0_pay43
  pointwise
  rfl

end Cert.Mla

end
-- ==== Proof.Mla.Rows.lean ====
/-
  The kernel's two scratches are written row by row, one row per head: reading a row past the writes of the other rows,
  and the contents the four writes leave.
-/
module

public import proofs.«01_k».proof.Proof.Gen.KernelIdeal.Flash.Runs
public import proofs.«01_k».proof.Proof.Mla.Body
public import Idealize.ShloMosaic.Lib.Pipeline.ValueKit.Acc
public import Idealize.ShloMosaic.Lib.VecWindow

@[expose] public section

set_option maxRecDepth 16384

noncomputable section

namespace Cert.Mla

open Idealize.ShloMosaic Idealize.ShloMosaic.TcCoe Cert.KernelIdeal Cert.KernelIdeal.Gen

/-- The maxima's row of head `h` in the scratch, at a lane. -/
theorem row2_emb (h : ℕ) (inb) (j : S1x512.Idx) (hh : h < 4) :
    (Rect.unit (s := S4x512) ![h, 0] S1x512.size inb).emb j = ix2 ⟨h, hh⟩ (j 1) := by
  funext a
  refine Fin.ext ((congrArg ((![h, 0] : Fin 2 → ℕ) a + ·) (Nat.one_mul (j a).val)).trans ?_)
  fin_cases a
  · have h0 : (j 0).val < 1 := (j 0).isLt
    show h + (j 0).val = h
    omega
  · show 0 + (j 1).val = (j 1).val
    omega

/-- The sums' rows of head `h` in the scratch, at a row and a lane. -/
theorem row3_emb (h : ℕ) (inb) (j : S1x144x512.Idx) (hh : h < 4) :
    (Rect.unit (s := S4x144x512) ![h, 0, 0] S1x144x512.size inb).emb j = ix3 ⟨h, hh⟩ (j 1) (j 2) := by
  funext a
  refine Fin.ext ((congrArg ((![h, 0, 0] : Fin 3 → ℕ) a + ·) (Nat.one_mul (j a).val)).trans ?_)
  fin_cases a
  · have h0 : (j 0).val < 1 := (j 0).isLt
    show h + (j 0).val = h
    omega
  · show 0 + (j 1).val = (j 1).val
    omega
  · show 0 + (j 2).val = (j 2).val
    omega

/-- A row of the maxima's scratch holds no index of another head. -/
theorem not_mem_row2 (h : ℕ) (inb) (h' : Fin 4) (q : Fin 512) (hne : h ≠ h'.val) :
    ix2 h' q ∉ (Rect.unit (s := S4x512) ![h, 0] S1x512.size inb).set := by
  intro hm
  have hh : h < 4 := by have := inb 0; change h + 1 ≤ 4 at this; omega
  obtain ⟨x, hx⟩ := (Rect.unit (s := S4x512) ![h, 0] S1x512.size inb).exists_idx_of_mem hm
  have e := (row2_emb h inb x hh).symm.trans hx
  exact hne (congrArg (fun z : S4x512.Idx => (z 0).val) e)

/-- Rows of the sums' scratch hold no index of another head. -/
theorem not_mem_row3 (h : ℕ) (inb) (h' : Fin 4) (r : Fin 144) (q : Fin 512) (hne : h ≠ h'.val) :
    ix3 h' r q ∉ (Rect.unit (s := S4x144x512) ![h, 0, 0] S1x144x512.size inb).set := by
  intro hm
  have hh : h < 4 := by have := inb 0; change h + 1 ≤ 4 at this; omega
  obtain ⟨x, hx⟩ := (Rect.unit (s := S4x144x512) ![h, 0, 0] S1x144x512.size inb).exists_idx_of_mem hm
  have e := (row3_emb h inb x hh).symm.trans hx
  exact hne (congrArg (fun z : S4x144x512.Idx => (z 0).val) e)

variable {Val : EltTy → Type} [∀ e, Nonempty (Val e)]

/-- What four row writes leave in the scratch of the maxima: each head's row. -/
theorem canon_rows2 (p3 p2 p1 p0 : S1x512.Idx → Val .f32) (i3 i2 i1 i0) (L : List (View.Piece Val S4x512 .f32)) (h : Fin 4)
    (q : Fin 512) :
    View.canon (⟨Rect.unit (s := S4x512) ![3, 0] S1x512.size i3, p3⟩ :: ⟨Rect.unit (s := S4x512) ![2, 0] S1x512.size i2, p2⟩ ::
      ⟨Rect.unit (s := S4x512) ![1, 0] S1x512.size i1, p1⟩ :: ⟨Rect.unit (s := S4x512) ![0, 0] S1x512.size i0, p0⟩ :: L) (ix2 h q)
      = (![p0, p1, p2, p3] : Fin 4 → S1x512.Idx → Val .f32) h (ix2 0 q) := by
  have key : ∀ (n : ℕ) (inb) (w : S1x512.Idx → Val .f32) (L : List (View.Piece Val S4x512 .f32)),
      (n ≠ h.val → View.canon (⟨Rect.unit (s := S4x512) ![n, 0] S1x512.size inb, w⟩ :: L) (ix2 h q) = View.canon L (ix2 h q))
      ∧ (n = h.val → View.canon (⟨Rect.unit (s := S4x512) ![n, 0] S1x512.size inb, w⟩ :: L) (ix2 h q) = w (ix2 0 q)) := by
    intro n inb w L
    refine ⟨fun hn => View.canon_cons_of_not_mem _ _ (not_mem_row2 n inb h q hn), fun hn => ?_⟩
    rw [show (ix2 h q : S4x512.Idx) = (Rect.unit (s := S4x512) ![n, 0] S1x512.size inb).emb (ix2 0 q) from by
      rw [row2_emb n inb _ (hn ▸ h.isLt)]; subst hn; rfl]
    exact View.canon_cons_emb _ _ _ _
  fin_cases h
  · rw [(key 3 i3 _ _).1 (by decide), (key 2 i2 _ _).1 (by decide), (key 1 i1 _ _).1 (by decide), (key 0 i0 _ _).2 rfl]; rfl
  · rw [(key 3 i3 _ _).1 (by decide), (key 2 i2 _ _).1 (by decide), (key 1 i1 _ _).2 rfl]; rfl
  · rw [(key 3 i3 _ _).1 (by decide), (key 2 i2 _ _).2 rfl]; rfl
  · rw [(key 3 i3 _ _).2 rfl]; rfl

/-- What four writes leave in the scratch of the sums: each head's rows. -/
theorem canon_rows3 (p3 p2 p1 p0 : S1x144x512.Idx → Val .f32) (i3 i2 i1 i0) (L : List (View.Piece Val S4x144x512 .f32))
    (h : Fin 4) (r : Fin 144) (q : Fin 512) :
    View.canon (⟨Rect.unit (s := S4x144x512) ![3, 0, 0] S1x144x512.size i3, p3⟩ ::
      ⟨Rect.unit (s := S4x144x512) ![2, 0, 0] S1x144x512.size i2, p2⟩ ::
      ⟨Rect.unit (s := S4x144x512) ![1, 0, 0] S1x144x512.size i1, p1⟩ ::
      ⟨Rect.unit (s := S4x144x512) ![0, 0, 0] S1x144x512.size i0, p0⟩ :: L) (ix3 h r q)
      = (![p0, p1, p2, p3] : Fin 4 → S1x144x512.Idx → Val .f32) h (ix3 0 r q) := by
  have key : ∀ (n : ℕ) (inb) (w : S1x144x512.Idx → Val .f32) (L : List (View.Piece Val S4x144x512 .f32)),
      (n ≠ h.val → View.canon (⟨Rect.unit (s := S4x144x512) ![n, 0, 0] S1x144x512.size inb, w⟩ :: L) (ix3 h r q)
        = View.canon L (ix3 h r q))
      ∧ (n = h.val → View.canon (⟨Rect.unit (s := S4x144x512) ![n, 0, 0] S1x144x512.size inb, w⟩ :: L) (ix3 h r q)
        = w (ix3 0 r q)) := by
    intro n inb w L
    refine ⟨fun hn => View.canon_cons_of_not_mem _ _ (not_mem_row3 n inb h r q hn), fun hn => ?_⟩
    rw [show (ix3 h r q : S4x144x512.Idx) = (Rect.unit (s := S4x144x512) ![n, 0, 0] S1x144x512.size inb).emb (ix3 0 r q) from by
      rw [row3_emb n inb _ (hn ▸ h.isLt)]; subst hn; rfl]
    exact View.canon_cons_emb _ _ _ _
  fin_cases h
  · rw [(key 3 i3 _ _).1 (by decide), (key 2 i2 _ _).1 (by decide), (key 1 i1 _ _).1 (by decide), (key 0 i0 _ _).2 rfl]; rfl
  · rw [(key 3 i3 _ _).1 (by decide), (key 2 i2 _ _).1 (by decide), (key 1 i1 _ _).2 rfl]; rfl
  · rw [(key 3 i3 _ _).1 (by decide), (key 2 i2 _ _).2 rfl]; rfl
  · rw [(key 3 i3 _ _).2 rfl]; rfl

variable {sig : RefSig} {κ : Kind} {sp : Space}

/-- Reading one head's maxima past a write of another head's. -/
theorem readCov_row2 (v : View sig κ sp S4x512 .f32) (n n' : ℕ) (hne : n ≠ n') (inb) (inb')
    (w : S1x512.Idx → Val .f32) (L : List (View.Piece Val S4x512 .f32)) :
    v.readCov (⟨Rect.unit (s := S4x512) ![n, 0] S1x512.size inb, w⟩ :: L)
        (Rect.unit (s := S4x512) ![n', 0] S1x512.size inb').toLoadRect
      = v.readCov L (Rect.unit (s := S4x512) ![n', 0] S1x512.size inb').toLoadRect := by
  rw [View.readCov_eq_canon', View.readCov_eq_canon']
  funext j
  have hj : (Rect.unit (s := S4x512) ![n', 0] S1x512.size inb').toLoadRect.idx j
      = (Rect.unit (s := S4x512) ![n', 0] S1x512.size inb').emb j := rfl
  have hn' : n' < 4 := by have := inb' 0; change n' + 1 ≤ 4 at this; omega
  rw [hj, row2_emb n' inb' j hn']
  exact View.canon_cons_of_not_mem _ _ (not_mem_row2 n inb _ _ hne)

/-- Reading one head's sums past a write of another head's. -/
theorem readCov_row3 (v : View sig κ sp S4x144x512 .f32) (n n' : ℕ) (hne : n ≠ n') (inb) (inb')
    (w : S1x144x512.Idx → Val .f32) (L : List (View.Piece Val S4x144x512 .f32)) :
    v.readCov (⟨Rect.unit (s := S4x144x512) ![n, 0, 0] S1x144x512.size inb, w⟩ :: L)
        (Rect.unit (s := S4x144x512) ![n', 0, 0] S1x144x512.size inb').toLoadRect
      = v.readCov L (Rect.unit (s := S4x144x512) ![n', 0, 0] S1x144x512.size inb').toLoadRect := by
  rw [View.readCov_eq_canon', View.readCov_eq_canon']
  funext j
  have hj : (Rect.unit (s := S4x144x512) ![n', 0, 0] S1x144x512.size inb').toLoadRect.idx j
      = (Rect.unit (s := S4x144x512) ![n', 0, 0] S1x144x512.size inb').emb j := rfl
  have hn' : n' < 4 := by have := inb' 0; change n' + 1 ≤ 4 at this; omega
  rw [hj, row3_emb n' inb' j hn']
  exact View.canon_cons_of_not_mem _ _ (not_mem_row3 n inb _ _ _ hne)

/-- Reading a head's maxima right after the fill with minus infinity. -/
theorem readCov_init2 (v : View sig κ sp S4x512 .f32) (n : ℕ) (inb) (inb') :
    v.readCov [(⟨Rect.unit (s := S4x512) ![0, 0] S4x512.size inb, k0_pay1 (F := Ideal)⟩ : View.Piece (Elt Ideal) S4x512 .f32)]
        (Rect.unit (s := S4x512) ![n, 0] S1x512.size inb').toLoadRect
      = fun _ => (⊥ : EReal) := by
  rw [View.readCov_eq_canon', View.canon_unit_zero (by funext a; fin_cases a <;> rfl)]
  funext j
  unfold k0_pay1
  pointwise
  exact ofBits_bot

/-- Reading a head's sums right after the fill with zeros. -/
theorem readCov_init3 (v : View sig κ sp S4x144x512 .f32) (n : ℕ) (inb) (inb') :
    v.readCov [(⟨Rect.unit (s := S4x144x512) ![0, 0, 0] S4x144x512.size inb, k0_pay2 (F := Ideal)⟩ :
        View.Piece (Elt Ideal) S4x144x512 .f32)]
        (Rect.unit (s := S4x144x512) ![n, 0, 0] S1x144x512.size inb').toLoadRect
      = fun _ => (0 : EReal) := by
  rw [View.readCov_eq_canon', View.canon_unit_zero (by funext a; fin_cases a <;> rfl)]
  funext j
  unfold k0_pay2
  pointwise

end Cert.Mla

end
-- ==== Proof.Mla.Step.lean ====
/-
  One point of the grid: what the body leaves in its two scratches and in the output block, as functions of the blocks
  it reads and of what the scratches held, one head, one query at a time.
-/
module

public import proofs.«01_k».proof.Proof.Mla.Rows

@[expose] public section

set_option maxRecDepth 16384

noncomputable section

namespace Cert.Mla

open Idealize.ShloMosaic Idealize.ShloMosaic.TcCoe Cert.KernelIdeal Cert.KernelIdeal.Gen

/-- The score of key `k` of the block for query `q` of head `h`. -/
def sU (x0 : S4x1x256x512.Idx → EReal) (x1 : S1x512x256.Idx → EReal) (h : Fin 4) (k q : Fin 512) : EReal :=
  ∑ d : Fin 256, x1 (ix3 0 k d) * x0 (ix4 h 0 d q)

/-- The score on the diagonal block: minus infinity for a key after the query. -/
def sM (x0 : S4x1x256x512.Idx → EReal) (x1 : S1x512x256.Idx → EReal) (h : Fin 4) (k q : Fin 512) : EReal :=
  if k ≤ q then sU x0 x1 h k q else ⊥

/-- The new maximum of one query from the old one and the block's scores. -/
def mNew (s : Fin 512 → Fin 512 → EReal) (m : Fin 512 → EReal) (q : Fin 512) : EReal :=
  max (m q) (Finset.univ.sup fun k => s k q)

/-- The new sum of one query and one row of values. -/
def aNew (s : Fin 512 → Fin 512 → EReal) (x2 : S1x144x512.Idx → EReal) (m : Fin 512 → EReal)
    (a : Fin 144 → Fin 512 → EReal) (r : Fin 144) (q : Fin 512) : EReal :=
  Ideal.exp2 (m q - mNew s m q) * a r q + ∑ k : Fin 512, x2 (ix3 0 r k) * Ideal.exp2 (s k q - mNew s m q)

/-- The part of one head in the output block, from its sums. -/
def oHead (x3 : S4x256x128.Idx → EReal) (h : Fin 4) (a : Fin 144 → Fin 512 → EReal) (q : Fin 512) (e : Fin 256) : EReal :=
  ∑ r : Fin 128, x3 (ix3 h e r) * Ideal.div (a (r.castLE (by decide)) q) (a 128 q)

/-- The output block from the sums of the four heads. -/
def oAll (x3 : S4x256x128.Idx → EReal) (a : Fin 4 → Fin 144 → Fin 512 → EReal) (q : Fin 512) (e : Fin 256) : EReal :=
  oHead x3 0 (a 0) q e + oHead x3 1 (a 1) q e + oHead x3 2 (a 2) q e + oHead x3 3 (a 3) q e

section Heads

variable (x0 : S4x1x256x512.Idx → EReal) (x1 : S1x512x256.Idx → EReal) (x2 : S1x144x512.Idx → EReal)
  (m : S1x512.Idx → EReal) (a : S1x144x512.Idx → EReal) (n : ℕ) (hn : n < 4)
  (inb : ∀ a, (![n, 0, 0, 0] : Fin 4 → ℕ) a + S1x1x256x512.size a ≤ S4x1x256x512.size a)

/-- One head's queries out of the block of the four. -/
abbrev qRow : S1x1x256x512.Idx → EReal :=
  fun y => x0 ((Rect.unit (s := S4x1x256x512) ![n, 0, 0, 0] S1x1x256x512.size inb).toLoadRect.idx y)

theorem qRow_apply (d : Fin 256) (q : Fin 512) : qRow x0 n inb (ix4 0 0 d q) = x0 (ix4 ⟨n, hn⟩ 0 d q) := by
  refine congrArg x0 (funext fun a => Fin.ext ?_)
  refine (congrArg ((![n, 0, 0, 0] : Fin 4 → ℕ) a + ·) (Nat.one_mul _)).trans ?_
  fin_cases a
  · show n + 0 = n; omega
  · rfl
  · show 0 + d.val = d.val; omega
  · show 0 + q.val = q.val; omega

theorem headS_U (k q : Fin 512) :
    (k0_pay28 (F := Ideal) x1 (qRow x0 n inb) (ix2 k q) : EReal) = sU x0 x1 ⟨n, hn⟩ k q := by
  rw [score_apply]
  exact Finset.sum_congr rfl fun d _ => congrArg (x1 (ix3 0 k d) * ·) (qRow_apply x0 n hn inb d q)

theorem headS_M (k q : Fin 512) :
    (k0_pay11 (F := Ideal) x1 (qRow x0 n inb) (ix2 k q) : EReal) = sM x0 x1 ⟨n, hn⟩ k q := by
  rw [scoreMasked_apply]
  unfold sM sU
  split
  · exact Finset.sum_congr rfl fun d _ => congrArg (x1 (ix3 0 k d) * ·) (qRow_apply x0 n hn inb d q)
  · rfl

variable (M : Fin 512 → EReal) (A : Fin 144 → Fin 512 → EReal) (hm : ∀ q, m (ix2 0 q) = M q)
  (ha : ∀ r q, a (ix3 0 r q) = A r q)

include hm

theorem headM_U (q : Fin 512) : (k0_pay37 (F := Ideal) (k0_pay28 (F := Ideal) x1 (qRow x0 n inb)) m (ix2 0 q) : EReal)
    = mNew (sU x0 x1 ⟨n, hn⟩) M q := by
  rw [max_apply]; unfold mNew; simp only [headS_U x0 x1 n hn inb, hm]

theorem headM_M (q : Fin 512) : (k0_pay37 (F := Ideal) (k0_pay11 (F := Ideal) x1 (qRow x0 n inb)) m (ix2 0 q) : EReal)
    = mNew (sM x0 x1 ⟨n, hn⟩) M q := by
  rw [max_apply]; unfold mNew; simp only [headS_M x0 x1 n hn inb, hm]

include ha

theorem headA_U (r : Fin 144) (q : Fin 512) :
    (k0_pay38 (F := Ideal) (k0_pay28 (F := Ideal) x1 (qRow x0 n inb)) m a x2 (ix3 0 r q) : EReal)
    = aNew (sU x0 x1 ⟨n, hn⟩) x2 M A r q := by
  rw [acc_apply]; unfold aNew; simp only [headS_U x0 x1 n hn inb, headM_U x0 x1 m n hn inb M hm, hm, ha]

theorem headA_M (r : Fin 144) (q : Fin 512) :
    (k0_pay38 (F := Ideal) (k0_pay11 (F := Ideal) x1 (qRow x0 n inb)) m a x2 (ix3 0 r q) : EReal)
    = aNew (sM x0 x1 ⟨n, hn⟩) x2 M A r q := by
  rw [acc_apply]; unfold aNew; simp only [headS_M x0 x1 n hn inb, headM_M x0 x1 m n hn inb M hm, hm, ha]

end Heads

section Paths

variable (c : Dev nD) (i : grid0.Coords) (arg4 : Memref sig .tc .vmem S4x1x256x512 .bf16) (h4 : arg4.IsWhole)
  (arg5 : Memref sig .tc .vmem S1x512x256 .bf16) (h5 : arg5.IsWhole) (arg6 : Memref sig .tc .vmem S1x144x512 .bf16)
  (h6 : arg6.IsWhole) (arg7 : Memref sig .tc .vmem S4x256x128 .bf16) (h7 : arg7.IsWhole)
  (arg8 : Memref sig .tc .vmem S1x512x256 .bf16) (h8 : arg8.IsWhole)
  (T0 T1 : S136.Idx → BitVec 32)
  (x0 : S4x1x256x512.Idx → EReal) (x1 : S1x512x256.Idx → EReal) (x2 : S1x144x512.Idx → EReal)
  (x3 : S4x256x128.Idx → EReal) (xa0 : S4x512.Idx → EReal) (xa1 : S4x144x512.Idx → EReal)

/-- A cast to the same shape, at an entry. -/
theorem castRow (v : FVec Ideal S1x512 .f32) (j : S1x512.Idx) :
    shapeCast S1x512 v shapeCasts_S1x512_S1x512 j = v j := by
  rw [eq_ix2 j]; pointwise

/-- Reading the whole block of keys. -/
theorem readKeys {κ : Kind} {sp : Space} (v : View sig κ sp S1x512x256 .bf16) (x : S1x512x256.Idx → EReal) (inb) :
    View.readAt (Elt Ideal) v (Rect.unit (s := S1x512x256) ![0, 0, 0] S1x512x256.size inb).toLoadRect (v.rep x) = x := by
  refine (View.readAt_rep (Val := Elt Ideal) _ _ _).trans (funext fun y => congrArg x (funext fun a => Fin.ext ?_))
  refine (congrArg ((![0, 0, 0] : Fin 3 → ℕ) a + ·) (Nat.one_mul _)).trans ?_
  fin_cases a <;> exact Nat.zero_add _

/-- Reading the whole block of values. -/
theorem readVals {κ : Kind} {sp : Space} (v : View sig κ sp S1x144x512 .bf16) (x : S1x144x512.Idx → EReal) (inb) :
    View.readAt (Elt Ideal) v (Rect.unit (s := S1x144x512) ![0, 0, 0] S1x144x512.size inb).toLoadRect (v.rep x) = x := by
  refine (View.readAt_rep (Val := Elt Ideal) _ _ _).trans (funext fun y => congrArg x (funext fun a => Fin.ext ?_))
  refine (congrArg ((![0, 0, 0] : Fin 3 → ℕ) a + ·) (Nat.one_mul _)).trans ?_
  fin_cases a <;> exact Nat.zero_add _

/-- Reading one head's queries. -/
theorem readQuery {κ : Kind} {sp : Space} (v : View sig κ sp S4x1x256x512 .bf16) (x : S4x1x256x512.Idx → EReal) (n : ℕ) (inb) :
    View.readAt (Elt Ideal) v (Rect.unit (s := S4x1x256x512) ![n, 0, 0, 0] S1x1x256x512.size inb).toLoadRect (v.rep x)
      = qRow x n inb :=
  View.readAt_rep (Val := Elt Ideal) _ _ _

/-- One head's weights out of the four. -/
abbrev wRow (x : S4x256x128.Idx → EReal) (n : ℕ)
    (inb : ∀ a, (![n, 0, 0] : Fin 3 → ℕ) a + S1x256x128.size a ≤ S4x256x128.size a) : S1x256x128.Idx → EReal :=
  fun y => x ((Rect.unit (s := S4x256x128) ![n, 0, 0] S1x256x128.size inb).toLoadRect.idx y)

theorem wRow_apply (x : S4x256x128.Idx → EReal) (n : ℕ) (hn : n < 4) (inb) (e : Fin 256) (r : Fin 128) :
    wRow x n inb (ix3 0 e r) = x (ix3 ⟨n, hn⟩ e r) := by
  refine congrArg x (funext fun a => Fin.ext ?_)
  refine (congrArg ((![n, 0, 0] : Fin 3 → ℕ) a + ·) (Nat.one_mul _)).trans ?_
  fin_cases a
  · show n + 0 = n; omega
  · show 0 + e.val = e.val; omega
  · show 0 + r.val = r.val; omega

/-- Reading one head's weights. -/
theorem readWeight {κ : Kind} {sp : Space} (v : View sig κ sp S4x256x128 .bf16) (x : S4x256x128.Idx → EReal) (n : ℕ) (inb) :
    View.readAt (Elt Ideal) v (Rect.unit (s := S4x256x128) ![n, 0, 0] S1x256x128.size inb).toLoadRect (v.rep x)
      = wRow x n inb :=
  View.readAt_rep (Val := Elt Ideal) _ _ _

/-- Reading one head's maxima in what the scratch held. -/
theorem readAt_row2 (n : ℕ) (hn : n < 4) (inb) (q : Fin 512) :
    (View.readAt (Elt Ideal) scM0_0.view (Rect.unit (s := S4x512) ![n, 0] S1x512.size inb).toLoadRect xa0 (ix2 0 q) : EReal)
      = xa0 (ix2 ⟨n, hn⟩ q) :=
  congrArg xa0 (row2_emb n inb (ix2 0 q) hn)

/-- Reading one head's sums in what the scratch held. -/
theorem readAt_row3 (n : ℕ) (hn : n < 4) (inb) (r : Fin 144) (q : Fin 512) :
    (View.readAt (Elt Ideal) scM0_1.view (Rect.unit (s := S4x144x512) ![n, 0, 0] S1x144x512.size inb).toLoadRect xa1 (ix3 0 r q) : EReal)
      = xa1 (ix3 ⟨n, hn⟩ r q) :=
  congrArg xa1 (row3_emb n inb (ix3 0 r q) hn)

/-- What a run of writes over nothing leaves in a whole buffer. -/
theorem writes_whole {κ : Kind} (b : Ref sig κ) (L : List (View.Piece (Elt Ideal) b.ty.shape b.ty.elt)) :
    (View.whole b).writes (Elt Ideal) (View.whole b).junk L = View.canon L :=
  (View.read_whole (Val := Elt Ideal) b _).symm.trans (View.read_writes_junk_eq_canon (Val := Elt Ideal) (View.whole b) L)

/-- The same of the scratch of maxima. -/
theorem writes_scratch0 (L : List (View.Piece (Elt Ideal) S4x512 .f32)) :
    (View.whole cc0_scratch0).writes (Elt Ideal) (View.whole cc0_scratch0).junk L = View.canon L :=
  writes_whole cc0_scratch0 L

/-- The same of the scratch of sums. -/
theorem writes_scratch1 (L : List (View.Piece (Elt Ideal) S4x144x512 .f32)) :
    (View.whole cc0_scratch1).writes (Elt Ideal) (View.whole cc0_scratch1).junk L = View.canon L :=
  writes_whole cc0_scratch1 L

/-- What four row writes leave in the scratch of maxima, row by row. -/
theorem scratch0_of (p3 p2 p1 p0 : S1x512.Idx → EReal) (i3 i2 i1 i0)
    (L : List (View.Piece (Elt Ideal) S4x512 .f32)) (h : Fin 4) (q : Fin 512) (R : Fin 4 → EReal)
    (e0 : p0 (ix2 0 q) = R 0) (e1 : p1 (ix2 0 q) = R 1) (e2 : p2 (ix2 0 q) = R 2) (e3 : p3 (ix2 0 q) = R 3) :
    ((View.whole cc0_scratch0).writes (Elt Ideal) (View.whole cc0_scratch0).junk
      ((⟨Rect.unit (s := S4x512) ![3, 0] S1x512.size i3, p3⟩ : View.Piece (Elt Ideal) S4x512 .f32) ::
      ⟨Rect.unit (s := S4x512) ![2, 0] S1x512.size i2, p2⟩ ::
      ⟨Rect.unit (s := S4x512) ![1, 0] S1x512.size i1, p1⟩ :: ⟨Rect.unit (s := S4x512) ![0, 0] S1x512.size i0, p0⟩ :: L)
      (ix2 h q) : EReal) = R h := by
  refine (congrFun (writes_scratch0 _) (ix2 h q)).trans ?_
  rw [canon_rows2]
  fin_cases h
  · exact e0
  · exact e1
  · exact e2
  · exact e3

/-- What four row writes leave in the scratch of sums, row by row. -/
theorem scratch1_of (p3 p2 p1 p0 : S1x144x512.Idx → EReal) (i3 i2 i1 i0)
    (L : List (View.Piece (Elt Ideal) S4x144x512 .f32)) (h : Fin 4) (r : Fin 144) (q : Fin 512) (R : Fin 4 → EReal)
    (e0 : p0 (ix3 0 r q) = R 0) (e1 : p1 (ix3 0 r q) = R 1) (e2 : p2 (ix3 0 r q) = R 2) (e3 : p3 (ix3 0 r q) = R 3) :
    ((View.whole cc0_scratch1).writes (Elt Ideal) (View.whole cc0_scratch1).junk
      ((⟨Rect.unit (s := S4x144x512) ![3, 0, 0] S1x144x512.size i3, p3⟩ : View.Piece (Elt Ideal) S4x144x512 .f32) ::
      ⟨Rect.unit (s := S4x144x512) ![2, 0, 0] S1x144x512.size i2, p2⟩ ::
      ⟨Rect.unit (s := S4x144x512) ![1, 0, 0] S1x144x512.size i1, p1⟩ ::
      ⟨Rect.unit (s := S4x144x512) ![0, 0, 0] S1x144x512.size i0, p0⟩ :: L)
      (ix3 h r q) : EReal) = R h := by
  refine (congrFun (writes_scratch1 _) (ix3 h r q)).trans ?_
  rw [canon_rows3]
  fin_cases h
  · exact e0
  · exact e1
  · exact e2
  · exact e3

/-- Reading one head's sums right after the four heads' writes. -/
theorem readBack3 {κ : Kind} {sp : Space} (v : View sig κ sp S4x144x512 .f32) (p3 p2 p1 p0 : S1x144x512.Idx → EReal) (i3 i2 i1 i0)
    (L : List (View.Piece (Elt Ideal) S4x144x512 .f32)) (n : ℕ) (hn : n < 4) (inb) (r : Fin 144) (q : Fin 512) :
    (v.readCov ((⟨Rect.unit (s := S4x144x512) ![3, 0, 0] S1x144x512.size i3, p3⟩ : View.Piece (Elt Ideal) S4x144x512 .f32) ::
      ⟨Rect.unit (s := S4x144x512) ![2, 0, 0] S1x144x512.size i2, p2⟩ ::
      ⟨Rect.unit (s := S4x144x512) ![1, 0, 0] S1x144x512.size i1, p1⟩ ::
      ⟨Rect.unit (s := S4x144x512) ![0, 0, 0] S1x144x512.size i0, p0⟩ :: L)
      (Rect.unit (s := S4x144x512) ![n, 0, 0] S1x144x512.size inb).toLoadRect (ix3 0 r q) : EReal)
      = (![p0, p1, p2, p3] : Fin 4 → S1x144x512.Idx → EReal) ⟨n, hn⟩ (ix3 0 r q) := by
  rw [View.readCov_eq_canon']
  have hj : (Rect.unit (s := S4x144x512) ![n, 0, 0] S1x144x512.size inb).toLoadRect.idx (ix3 0 r q)
      = ix3 ⟨n, hn⟩ r q := row3_emb n inb (ix3 0 r q) hn
  dsimp only
  rw [hj]
  exact canon_rows3 (Val := Elt Ideal) p3 p2 p1 p0 i3 i2 i1 i0 L ⟨n, hn⟩ r q

/-- The output block from the sums the four heads have just written. -/
theorem out_of {κ : Kind} {sp : Space} (v : View sig κ sp S4x144x512 .f32) (p3 p2 p1 p0 : S1x144x512.Idx → EReal) (i3 i2 i1 i0)
    (L : List (View.Piece (Elt Ideal) S4x144x512 .f32)) (x3 : S4x256x128.Idx → EReal) (b0 b1 b2 b3 w0 w1 w2 w3)
    (R : Fin 4 → Fin 144 → Fin 512 → EReal)
    (e0 : ∀ r q, p0 (ix3 0 r q) = R 0 r q) (e1 : ∀ r q, p1 (ix3 0 r q) = R 1 r q)
    (e2 : ∀ r q, p2 (ix3 0 r q) = R 2 r q) (e3 : ∀ r q, p3 (ix3 0 r q) = R 3 r q) (q : Fin 512) (e : Fin 256) :
    let Ls : List (View.Piece (Elt Ideal) S4x144x512 .f32) :=
      ⟨Rect.unit (s := S4x144x512) ![3, 0, 0] S1x144x512.size i3, p3⟩ ::
      ⟨Rect.unit (s := S4x144x512) ![2, 0, 0] S1x144x512.size i2, p2⟩ ::
      ⟨Rect.unit (s := S4x144x512) ![1, 0, 0] S1x144x512.size i1, p1⟩ ::
      ⟨Rect.unit (s := S4x144x512) ![0, 0, 0] S1x144x512.size i0, p0⟩ :: L
    (k0_pay8 (F := Ideal) (k0_pay43 (F := Ideal)
        (v.readCov Ls (Rect.unit (s := S4x144x512) ![0, 0, 0] S1x144x512.size b0).toLoadRect) (wRow x3 0 w0)
        (v.readCov Ls (Rect.unit (s := S4x144x512) ![1, 0, 0] S1x144x512.size b1).toLoadRect) (wRow x3 1 w1)
        (v.readCov Ls (Rect.unit (s := S4x144x512) ![2, 0, 0] S1x144x512.size b2).toLoadRect) (wRow x3 2 w2))
        (v.readCov Ls (Rect.unit (s := S4x144x512) ![3, 0, 0] S1x144x512.size b3).toLoadRect) (wRow x3 3 w3)
        (ix3 0 q e) : EReal) = oAll x3 R q e := by
  intro Ls
  rw [out_apply]
  unfold oAll oHead
  have k0 := fun r => (readBack3 v p3 p2 p1 p0 i3 i2 i1 i0 L 0 (0 : Fin 4).isLt b0 r q).trans (e0 r q)
  have k1 := fun r => (readBack3 v p3 p2 p1 p0 i3 i2 i1 i0 L 1 (1 : Fin 4).isLt b1 r q).trans (e1 r q)
  have k2 := fun r => (readBack3 v p3 p2 p1 p0 i3 i2 i1 i0 L 2 (2 : Fin 4).isLt b2 r q).trans (e2 r q)
  have k3 := fun r => (readBack3 v p3 p2 p1 p0 i3 i2 i1 i0 L 3 (3 : Fin 4).isLt b3 r q).trans (e3 r q)
  refine congrArg₂ (· + ·) (congrArg₂ (· + ·) (congrArg₂ (· + ·) ?_ ?_) ?_) ?_ <;>
    refine Finset.sum_congr rfl fun r _ => congrArg₂ (· * ·) ?_ (congrArg₂ Ideal.div ?_ ?_)
  · exact wRow_apply x3 0 (by decide) w0 e r
  · exact k0 _
  · exact k0 _
  · exact wRow_apply x3 1 (by decide) w1 e r
  · exact k1 _
  · exact k1 _
  · exact wRow_apply x3 2 (by decide) w2 e r
  · exact k2 _
  · exact k2 _
  · exact wRow_apply x3 3 (by decide) w3 e r
  · exact k3 _
  · exact k3 _

end Paths

end Cert.Mla

end
-- ==== Proof.Mla.StepA.lean ====
/-
  On the diagonal in the first block: what the body leaves.
-/
module

public import proofs.«01_k».proof.Proof.Mla.Step

@[expose] public section

set_option maxRecDepth 16384

noncomputable section

namespace Cert.Mla

open Idealize.ShloMosaic Idealize.ShloMosaic.TcCoe Cert.KernelIdeal Cert.KernelIdeal.Gen

variable (c : Dev nD) (i : grid0.Coords) (arg4 : Memref sig .tc .vmem S4x1x256x512 .bf16) (h4 : arg4.IsWhole)
  (arg5 : Memref sig .tc .vmem S1x512x256 .bf16) (h5 : arg5.IsWhole) (arg6 : Memref sig .tc .vmem S1x144x512 .bf16)
  (h6 : arg6.IsWhole) (arg7 : Memref sig .tc .vmem S4x256x128 .bf16) (h7 : arg7.IsWhole)
  (arg8 : Memref sig .tc .vmem S1x512x256 .bf16) (h8 : arg8.IsWhole)
  (T0 T1 : S136.Idx → BitVec 32)
  (x0 : S4x1x256x512.Idx → EReal) (x1 : S1x512x256.Idx → EReal) (x2 : S1x144x512.Idx → EReal)
  (x3 : S4x256x128.Idx → EReal) (xa0 : S4x512.Idx → EReal) (xa1 : S4x144x512.Idx → EReal)

/-- On the diagonal in the first block: the new maxima. -/
theorem max_A (h : Fin 4) (q : Fin 512) : ∀ hc0 hc1 hc2 k4,
    ((kernelRun0_A c i arg4 h4 arg5 h5 arg6 h6 arg7 h7 arg8 h8 T0 T1 x0 x1 x2 x3 hc0 hc1 hc2 k4).2.1 (ix2 h q) : EReal) = mNew (sM x0 x1 h) (fun _ => ⊥) q := by
  intro hc0 hc1 hc2 k4
  unfold kernelRun0_A
  dsimp only
  sl_unfold_words
  refine scratch0_of _ _ _ _ _ _ _ _ _ h q (fun h => mNew (sM x0 x1 h) (fun _ => ⊥) q) ?_ ?_ ?_ ?_
  · rw [readCov_init2 scM0_0.view 0, readKeys, readQuery]
    exact (castRow (k0_pay37 (F := Ideal) (k0_pay11 (F := Ideal) x1 (qRow x0 0 inb_S4x1x256x512_S1x1x256x512_0_0_0_0)) (fun _ => (⊥ : EReal))) _).trans (headM_M x0 x1 _ 0 (by decide) inb_S4x1x256x512_S1x1x256x512_0_0_0_0 _ (fun _ => rfl) q)
  · rw [readCov_row2 scM0_0.view 0 1 (by decide), readCov_init2 scM0_0.view 1, readKeys, readQuery]
    exact (castRow (k0_pay37 (F := Ideal) (k0_pay11 (F := Ideal) x1 (qRow x0 1 inb_S4x1x256x512_S1x1x256x512_1_0_0_0)) (fun _ => (⊥ : EReal))) _).trans (headM_M x0 x1 _ 1 (by decide) inb_S4x1x256x512_S1x1x256x512_1_0_0_0 _ (fun _ => rfl) q)
  · rw [readCov_row2 scM0_0.view 1 2 (by decide), readCov_row2 scM0_0.view 0 2 (by decide), readCov_init2 scM0_0.view 2, readKeys, readQuery]
    exact (castRow (k0_pay37 (F := Ideal) (k0_pay11 (F := Ideal) x1 (qRow x0 2 inb_S4x1x256x512_S1x1x256x512_2_0_0_0)) (fun _ => (⊥ : EReal))) _).trans (headM_M x0 x1 _ 2 (by decide) inb_S4x1x256x512_S1x1x256x512_2_0_0_0 _ (fun _ => rfl) q)
  · rw [readCov_row2 scM0_0.view 2 3 (by decide), readCov_row2 scM0_0.view 1 3 (by decide), readCov_row2 scM0_0.view 0 3 (by decide), readCov_init2 scM0_0.view 3, readKeys, readQuery]
    exact (castRow (k0_pay37 (F := Ideal) (k0_pay11 (F := Ideal) x1 (qRow x0 3 inb_S4x1x256x512_S1x1x256x512_3_0_0_0)) (fun _ => (⊥ : EReal))) _).trans (headM_M x0 x1 _ 3 (by decide) inb_S4x1x256x512_S1x1x256x512_3_0_0_0 _ (fun _ => rfl) q)

/-- On the diagonal in the first block: the new sums. -/
theorem acc_A (h : Fin 4) (r : Fin 144) (q : Fin 512) : ∀ hc0 hc1 hc2 k4,
    ((kernelRun0_A c i arg4 h4 arg5 h5 arg6 h6 arg7 h7 arg8 h8 T0 T1 x0 x1 x2 x3 hc0 hc1 hc2 k4).2.2.1 (ix3 h r q) : EReal) = aNew (sM x0 x1 h) x2 (fun _ => ⊥) (fun _ _ => 0) r q := by
  intro hc0 hc1 hc2 k4
  unfold kernelRun0_A
  dsimp only
  sl_unfold_words
  refine scratch1_of _ _ _ _ _ _ _ _ _ h r q (fun h => aNew (sM x0 x1 h) x2 (fun _ => ⊥) (fun _ _ => 0) r q) ?_ ?_ ?_ ?_
  · rw [readCov_init2 scM0_0.view 0, readCov_init3 scM0_1.view 0, readKeys, readQuery, readVals]
    exact headA_M x0 x1 x2 (fun _ => (⊥ : EReal)) (fun _ => (0 : EReal)) 0 (by decide) inb_S4x1x256x512_S1x1x256x512_0_0_0_0 _ _ (fun _ => rfl) (fun _ _ => rfl) r q
  · rw [readCov_row2 scM0_0.view 0 1 (by decide), readCov_init2 scM0_0.view 1, readCov_row3 scM0_1.view 0 1 (by decide), readCov_init3 scM0_1.view 1, readKeys, readQuery, readVals]
    exact headA_M x0 x1 x2 (fun _ => (⊥ : EReal)) (fun _ => (0 : EReal)) 1 (by decide) inb_S4x1x256x512_S1x1x256x512_1_0_0_0 _ _ (fun _ => rfl) (fun _ _ => rfl) r q
  · rw [readCov_row2 scM0_0.view 1 2 (by decide), readCov_row2 scM0_0.view 0 2 (by decide), readCov_init2 scM0_0.view 2, readCov_row3 scM0_1.view 1 2 (by decide), readCov_row3 scM0_1.view 0 2 (by decide), readCov_init3 scM0_1.view 2, readKeys, readQuery, readVals]
    exact headA_M x0 x1 x2 (fun _ => (⊥ : EReal)) (fun _ => (0 : EReal)) 2 (by decide) inb_S4x1x256x512_S1x1x256x512_2_0_0_0 _ _ (fun _ => rfl) (fun _ _ => rfl) r q
  · rw [readCov_row2 scM0_0.view 2 3 (by decide), readCov_row2 scM0_0.view 1 3 (by decide), readCov_row2 scM0_0.view 0 3 (by decide), readCov_init2 scM0_0.view 3, readCov_row3 scM0_1.view 2 3 (by decide), readCov_row3 scM0_1.view 1 3 (by decide), readCov_row3 scM0_1.view 0 3 (by decide), readCov_init3 scM0_1.view 3, readKeys, readQuery, readVals]
    exact headA_M x0 x1 x2 (fun _ => (⊥ : EReal)) (fun _ => (0 : EReal)) 3 (by decide) inb_S4x1x256x512_S1x1x256x512_3_0_0_0 _ _ (fun _ => rfl) (fun _ _ => rfl) r q

/-- On the diagonal in the first block: the output block. -/
theorem out_A (q : Fin 512) (e : Fin 256) : ∀ hc0 hc1 hc2 k4,
    (out0_A_4 c i arg4 h4 arg5 h5 arg6 h6 arg7 h7 arg8 h8 T0 T1 x0 x1 x2 x3 hc0 hc1 hc2 k4 (ix3 0 q e) : EReal) = oAll x3 (fun h => aNew (sM x0 x1 h) x2 (fun _ => ⊥) (fun _ _ => 0)) q e := by
  intro hc0 hc1 hc2 k4
  unfold out0_A_4
  rw [View.read_writes_junk_eq_canon]
  unfold kernelRun0_A
  dsimp only
  sl_unfold_words
  rw [View.canon_unit_zero (by funext a; fin_cases a <;> rfl)]
  rw [readWeight, readWeight, readWeight, readWeight]
  refine out_of _ _ _ _ _ _ _ _ _ _ x3 _ _ _ _ _ _ _ _ (fun h => aNew (sM x0 x1 h) x2 (fun _ => ⊥) (fun _ _ => 0)) ?_ ?_ ?_ ?_ q e
  all_goals intro r q
  · rw [readCov_init2 scM0_0.view 0, readCov_init3 scM0_1.view 0, readKeys, readQuery, readVals]
    exact headA_M x0 x1 x2 (fun _ => (⊥ : EReal)) (fun _ => (0 : EReal)) 0 (by decide) inb_S4x1x256x512_S1x1x256x512_0_0_0_0 _ _ (fun _ => rfl) (fun _ _ => rfl) r q
  · rw [readCov_row2 scM0_0.view 0 1 (by decide), readCov_init2 scM0_0.view 1, readCov_row3 scM0_1.view 0 1 (by decide), readCov_init3 scM0_1.view 1, readKeys, readQuery, readVals]
    exact headA_M x0 x1 x2 (fun _ => (⊥ : EReal)) (fun _ => (0 : EReal)) 1 (by decide) inb_S4x1x256x512_S1x1x256x512_1_0_0_0 _ _ (fun _ => rfl) (fun _ _ => rfl) r q
  · rw [readCov_row2 scM0_0.view 1 2 (by decide), readCov_row2 scM0_0.view 0 2 (by decide), readCov_init2 scM0_0.view 2, readCov_row3 scM0_1.view 1 2 (by decide), readCov_row3 scM0_1.view 0 2 (by decide), readCov_init3 scM0_1.view 2, readKeys, readQuery, readVals]
    exact headA_M x0 x1 x2 (fun _ => (⊥ : EReal)) (fun _ => (0 : EReal)) 2 (by decide) inb_S4x1x256x512_S1x1x256x512_2_0_0_0 _ _ (fun _ => rfl) (fun _ _ => rfl) r q
  · rw [readCov_row2 scM0_0.view 2 3 (by decide), readCov_row2 scM0_0.view 1 3 (by decide), readCov_row2 scM0_0.view 0 3 (by decide), readCov_init2 scM0_0.view 3, readCov_row3 scM0_1.view 2 3 (by decide), readCov_row3 scM0_1.view 1 3 (by decide), readCov_row3 scM0_1.view 0 3 (by decide), readCov_init3 scM0_1.view 3, readKeys, readQuery, readVals]
    exact headA_M x0 x1 x2 (fun _ => (⊥ : EReal)) (fun _ => (0 : EReal)) 3 (by decide) inb_S4x1x256x512_S1x1x256x512_3_0_0_0 _ _ (fun _ => rfl) (fun _ _ => rfl) r q

end Cert.Mla

end
-- ==== Proof.Mla.StepB.lean ====
/-
  Below the diagonal in the first block: what the body leaves.
-/
module

public import proofs.«01_k».proof.Proof.Mla.Step

@[expose] public section

set_option maxRecDepth 16384

noncomputable section

namespace Cert.Mla

open Idealize.ShloMosaic Idealize.ShloMosaic.TcCoe Cert.KernelIdeal Cert.KernelIdeal.Gen

variable (c : Dev nD) (i : grid0.Coords) (arg4 : Memref sig .tc .vmem S4x1x256x512 .bf16) (h4 : arg4.IsWhole)
  (arg5 : Memref sig .tc .vmem S1x512x256 .bf16) (h5 : arg5.IsWhole) (arg6 : Memref sig .tc .vmem S1x144x512 .bf16)
  (h6 : arg6.IsWhole) (arg7 : Memref sig .tc .vmem S4x256x128 .bf16) (h7 : arg7.IsWhole)
  (arg8 : Memref sig .tc .vmem S1x512x256 .bf16) (h8 : arg8.IsWhole)
  (T0 T1 : S136.Idx → BitVec 32)
  (x0 : S4x1x256x512.Idx → EReal) (x1 : S1x512x256.Idx → EReal) (x2 : S1x144x512.Idx → EReal)
  (x3 : S4x256x128.Idx → EReal) (xa0 : S4x512.Idx → EReal) (xa1 : S4x144x512.Idx → EReal)

/-- Below the diagonal in the first block: the new maxima. -/
theorem max_B (h : Fin 4) (q : Fin 512) : ∀ hc0 hc1 hc2 k4,
    ((kernelRun0_B c i arg4 h4 arg5 h5 arg6 h6 arg7 h7 arg8 h8 T0 T1 x0 x1 x2 x3 hc0 hc1 hc2 k4).1 (ix2 h q) : EReal) = mNew (sU x0 x1 h) (fun _ => ⊥) q := by
  intro hc0 hc1 hc2 k4
  unfold kernelRun0_B
  dsimp only
  sl_unfold_words
  refine scratch0_of _ _ _ _ _ _ _ _ _ h q (fun h => mNew (sU x0 x1 h) (fun _ => ⊥) q) ?_ ?_ ?_ ?_
  · rw [readCov_init2 scM0_0.view 0, readKeys, readQuery]
    exact (castRow (k0_pay37 (F := Ideal) (k0_pay28 (F := Ideal) x1 (qRow x0 0 inb_S4x1x256x512_S1x1x256x512_0_0_0_0)) (fun _ => (⊥ : EReal))) _).trans (headM_U x0 x1 _ 0 (by decide) inb_S4x1x256x512_S1x1x256x512_0_0_0_0 _ (fun _ => rfl) q)
  · rw [readCov_row2 scM0_0.view 0 1 (by decide), readCov_init2 scM0_0.view 1, readKeys, readQuery]
    exact (castRow (k0_pay37 (F := Ideal) (k0_pay28 (F := Ideal) x1 (qRow x0 1 inb_S4x1x256x512_S1x1x256x512_1_0_0_0)) (fun _ => (⊥ : EReal))) _).trans (headM_U x0 x1 _ 1 (by decide) inb_S4x1x256x512_S1x1x256x512_1_0_0_0 _ (fun _ => rfl) q)
  · rw [readCov_row2 scM0_0.view 1 2 (by decide), readCov_row2 scM0_0.view 0 2 (by decide), readCov_init2 scM0_0.view 2, readKeys, readQuery]
    exact (castRow (k0_pay37 (F := Ideal) (k0_pay28 (F := Ideal) x1 (qRow x0 2 inb_S4x1x256x512_S1x1x256x512_2_0_0_0)) (fun _ => (⊥ : EReal))) _).trans (headM_U x0 x1 _ 2 (by decide) inb_S4x1x256x512_S1x1x256x512_2_0_0_0 _ (fun _ => rfl) q)
  · rw [readCov_row2 scM0_0.view 2 3 (by decide), readCov_row2 scM0_0.view 1 3 (by decide), readCov_row2 scM0_0.view 0 3 (by decide), readCov_init2 scM0_0.view 3, readKeys, readQuery]
    exact (castRow (k0_pay37 (F := Ideal) (k0_pay28 (F := Ideal) x1 (qRow x0 3 inb_S4x1x256x512_S1x1x256x512_3_0_0_0)) (fun _ => (⊥ : EReal))) _).trans (headM_U x0 x1 _ 3 (by decide) inb_S4x1x256x512_S1x1x256x512_3_0_0_0 _ (fun _ => rfl) q)

/-- Below the diagonal in the first block: the new sums. -/
theorem acc_B (h : Fin 4) (r : Fin 144) (q : Fin 512) : ∀ hc0 hc1 hc2 k4,
    ((kernelRun0_B c i arg4 h4 arg5 h5 arg6 h6 arg7 h7 arg8 h8 T0 T1 x0 x1 x2 x3 hc0 hc1 hc2 k4).2.1 (ix3 h r q) : EReal) = aNew (sU x0 x1 h) x2 (fun _ => ⊥) (fun _ _ => 0) r q := by
  intro hc0 hc1 hc2 k4
  unfold kernelRun0_B
  dsimp only
  sl_unfold_words
  refine scratch1_of _ _ _ _ _ _ _ _ _ h r q (fun h => aNew (sU x0 x1 h) x2 (fun _ => ⊥) (fun _ _ => 0) r q) ?_ ?_ ?_ ?_
  · rw [readCov_init2 scM0_0.view 0, readCov_init3 scM0_1.view 0, readKeys, readQuery, readVals]
    exact headA_U x0 x1 x2 (fun _ => (⊥ : EReal)) (fun _ => (0 : EReal)) 0 (by decide) inb_S4x1x256x512_S1x1x256x512_0_0_0_0 _ _ (fun _ => rfl) (fun _ _ => rfl) r q
  · rw [readCov_row2 scM0_0.view 0 1 (by decide), readCov_init2 scM0_0.view 1, readCov_row3 scM0_1.view 0 1 (by decide), readCov_init3 scM0_1.view 1, readKeys, readQuery, readVals]
    exact headA_U x0 x1 x2 (fun _ => (⊥ : EReal)) (fun _ => (0 : EReal)) 1 (by decide) inb_S4x1x256x512_S1x1x256x512_1_0_0_0 _ _ (fun _ => rfl) (fun _ _ => rfl) r q
  · rw [readCov_row2 scM0_0.view 1 2 (by decide), readCov_row2 scM0_0.view 0 2 (by decide), readCov_init2 scM0_0.view 2, readCov_row3 scM0_1.view 1 2 (by decide), readCov_row3 scM0_1.view 0 2 (by decide), readCov_init3 scM0_1.view 2, readKeys, readQuery, readVals]
    exact headA_U x0 x1 x2 (fun _ => (⊥ : EReal)) (fun _ => (0 : EReal)) 2 (by decide) inb_S4x1x256x512_S1x1x256x512_2_0_0_0 _ _ (fun _ => rfl) (fun _ _ => rfl) r q
  · rw [readCov_row2 scM0_0.view 2 3 (by decide), readCov_row2 scM0_0.view 1 3 (by decide), readCov_row2 scM0_0.view 0 3 (by decide), readCov_init2 scM0_0.view 3, readCov_row3 scM0_1.view 2 3 (by decide), readCov_row3 scM0_1.view 1 3 (by decide), readCov_row3 scM0_1.view 0 3 (by decide), readCov_init3 scM0_1.view 3, readKeys, readQuery, readVals]
    exact headA_U x0 x1 x2 (fun _ => (⊥ : EReal)) (fun _ => (0 : EReal)) 3 (by decide) inb_S4x1x256x512_S1x1x256x512_3_0_0_0 _ _ (fun _ => rfl) (fun _ _ => rfl) r q

end Cert.Mla

end
-- ==== Proof.Mla.StepC.lean ====
/-
  On the diagonal in a later block: what the body leaves.
-/
module

public import proofs.«01_k».proof.Proof.Mla.Step

@[expose] public section

set_option maxRecDepth 16384

noncomputable section

namespace Cert.Mla

open Idealize.ShloMosaic Idealize.ShloMosaic.TcCoe Cert.KernelIdeal Cert.KernelIdeal.Gen

variable (c : Dev nD) (i : grid0.Coords) (arg4 : Memref sig .tc .vmem S4x1x256x512 .bf16) (h4 : arg4.IsWhole)
  (arg5 : Memref sig .tc .vmem S1x512x256 .bf16) (h5 : arg5.IsWhole) (arg6 : Memref sig .tc .vmem S1x144x512 .bf16)
  (h6 : arg6.IsWhole) (arg7 : Memref sig .tc .vmem S4x256x128 .bf16) (h7 : arg7.IsWhole)
  (arg8 : Memref sig .tc .vmem S1x512x256 .bf16) (h8 : arg8.IsWhole)
  (T0 T1 : S136.Idx → BitVec 32)
  (x0 : S4x1x256x512.Idx → EReal) (x1 : S1x512x256.Idx → EReal) (x2 : S1x144x512.Idx → EReal)
  (x3 : S4x256x128.Idx → EReal) (xa0 : S4x512.Idx → EReal) (xa1 : S4x144x512.Idx → EReal)

/-- On the diagonal in a later block: the new maxima. -/
theorem max_C (h : Fin 4) (q : Fin 512) : ∀ hc0 hc1 hc2 k4,
    ((kernelRun0_C c i arg4 h4 arg5 h5 arg6 h6 arg7 h7 arg8 h8 T0 T1 x0 x1 x2 x3 xa0 xa1 hc0 hc1 hc2 k4).2.1 (ix2 h q) : EReal) = mNew (sM x0 x1 h) (fun q => xa0 (ix2 h q)) q := by
  intro hc0 hc1 hc2 k4
  unfold kernelRun0_C
  dsimp only
  sl_unfold_words
  refine scratch0_of _ _ _ _ _ _ _ _ _ h q (fun h => mNew (sM x0 x1 h) (fun q => xa0 (ix2 h q)) q) ?_ ?_ ?_ ?_
  · rw [readKeys, readQuery]
    exact (castRow _ _).trans (headM_M x0 x1 _ 0 (by decide) inb_S4x1x256x512_S1x1x256x512_0_0_0_0 _ (readAt_row2 xa0 0 (by decide) _) q)
  · rw [readKeys, readQuery]
    exact (castRow _ _).trans (headM_M x0 x1 _ 1 (by decide) inb_S4x1x256x512_S1x1x256x512_1_0_0_0 _ (readAt_row2 xa0 1 (by decide) _) q)
  · rw [readKeys, readQuery]
    exact (castRow _ _).trans (headM_M x0 x1 _ 2 (by decide) inb_S4x1x256x512_S1x1x256x512_2_0_0_0 _ (readAt_row2 xa0 2 (by decide) _) q)
  · rw [readKeys, readQuery]
    exact (castRow _ _).trans (headM_M x0 x1 _ 3 (by decide) inb_S4x1x256x512_S1x1x256x512_3_0_0_0 _ (readAt_row2 xa0 3 (by decide) _) q)

/-- On the diagonal in a later block: the new sums. -/
theorem acc_C (h : Fin 4) (r : Fin 144) (q : Fin 512) : ∀ hc0 hc1 hc2 k4,
    ((kernelRun0_C c i arg4 h4 arg5 h5 arg6 h6 arg7 h7 arg8 h8 T0 T1 x0 x1 x2 x3 xa0 xa1 hc0 hc1 hc2 k4).2.2.1 (ix3 h r q) : EReal) = aNew (sM x0 x1 h) x2 (fun q => xa0 (ix2 h q)) (fun r q => xa1 (ix3 h r q)) r q := by
  intro hc0 hc1 hc2 k4
  unfold kernelRun0_C
  dsimp only
  sl_unfold_words
  refine scratch1_of _ _ _ _ _ _ _ _ _ h r q (fun h => aNew (sM x0 x1 h) x2 (fun q => xa0 (ix2 h q)) (fun r q => xa1 (ix3 h r q)) r q) ?_ ?_ ?_ ?_
  · rw [readKeys, readQuery, readVals]
    exact headA_M x0 x1 x2 _ _ 0 (by decide) inb_S4x1x256x512_S1x1x256x512_0_0_0_0 _ _ (readAt_row2 xa0 0 (by decide) _) (readAt_row3 xa1 0 (by decide) _) r q
  · rw [readKeys, readQuery, readVals]
    exact headA_M x0 x1 x2 _ _ 1 (by decide) inb_S4x1x256x512_S1x1x256x512_1_0_0_0 _ _ (readAt_row2 xa0 1 (by decide) _) (readAt_row3 xa1 1 (by decide) _) r q
  · rw [readKeys, readQuery, readVals]
    exact headA_M x0 x1 x2 _ _ 2 (by decide) inb_S4x1x256x512_S1x1x256x512_2_0_0_0 _ _ (readAt_row2 xa0 2 (by decide) _) (readAt_row3 xa1 2 (by decide) _) r q
  · rw [readKeys, readQuery, readVals]
    exact headA_M x0 x1 x2 _ _ 3 (by decide) inb_S4x1x256x512_S1x1x256x512_3_0_0_0 _ _ (readAt_row2 xa0 3 (by decide) _) (readAt_row3 xa1 3 (by decide) _) r q

/-- On the diagonal in a later block: the output block. -/
theorem out_C (q : Fin 512) (e : Fin 256) : ∀ hc0 hc1 hc2 k4,
    (out0_C_4 c i arg4 h4 arg5 h5 arg6 h6 arg7 h7 arg8 h8 T0 T1 x0 x1 x2 x3 xa0 xa1 hc0 hc1 hc2 k4 (ix3 0 q e) : EReal) = oAll x3 (fun h => aNew (sM x0 x1 h) x2 (fun q => xa0 (ix2 h q)) (fun r q => xa1 (ix3 h r q))) q e := by
  intro hc0 hc1 hc2 k4
  unfold out0_C_4
  rw [View.read_writes_junk_eq_canon]
  unfold kernelRun0_C
  dsimp only
  sl_unfold_words
  rw [View.canon_unit_zero (by funext a; fin_cases a <;> rfl)]
  rw [readWeight, readWeight, readWeight, readWeight]
  refine out_of _ _ _ _ _ _ _ _ _ _ x3 _ _ _ _ _ _ _ _ (fun h => aNew (sM x0 x1 h) x2 (fun q => xa0 (ix2 h q)) (fun r q => xa1 (ix3 h r q))) ?_ ?_ ?_ ?_ q e
  all_goals intro r q
  · rw [readKeys, readQuery, readVals]
    exact headA_M x0 x1 x2 _ _ 0 (by decide) inb_S4x1x256x512_S1x1x256x512_0_0_0_0 _ _ (readAt_row2 xa0 0 (by decide) _) (readAt_row3 xa1 0 (by decide) _) r q
  · rw [readKeys, readQuery, readVals]
    exact headA_M x0 x1 x2 _ _ 1 (by decide) inb_S4x1x256x512_S1x1x256x512_1_0_0_0 _ _ (readAt_row2 xa0 1 (by decide) _) (readAt_row3 xa1 1 (by decide) _) r q
  · rw [readKeys, readQuery, readVals]
    exact headA_M x0 x1 x2 _ _ 2 (by decide) inb_S4x1x256x512_S1x1x256x512_2_0_0_0 _ _ (readAt_row2 xa0 2 (by decide) _) (readAt_row3 xa1 2 (by decide) _) r q
  · rw [readKeys, readQuery, readVals]
    exact headA_M x0 x1 x2 _ _ 3 (by decide) inb_S4x1x256x512_S1x1x256x512_3_0_0_0 _ _ (readAt_row2 xa0 3 (by decide) _) (readAt_row3 xa1 3 (by decide) _) r q

end Cert.Mla

end
-- ==== Proof.Mla.StepD.lean ====
/-
  Below the diagonal in a later block: what the body leaves.
-/
module

public import proofs.«01_k».proof.Proof.Mla.Step

@[expose] public section

set_option maxRecDepth 16384

noncomputable section

namespace Cert.Mla

open Idealize.ShloMosaic Idealize.ShloMosaic.TcCoe Cert.KernelIdeal Cert.KernelIdeal.Gen

variable (c : Dev nD) (i : grid0.Coords) (arg4 : Memref sig .tc .vmem S4x1x256x512 .bf16) (h4 : arg4.IsWhole)
  (arg5 : Memref sig .tc .vmem S1x512x256 .bf16) (h5 : arg5.IsWhole) (arg6 : Memref sig .tc .vmem S1x144x512 .bf16)
  (h6 : arg6.IsWhole) (arg7 : Memref sig .tc .vmem S4x256x128 .bf16) (h7 : arg7.IsWhole)
  (arg8 : Memref sig .tc .vmem S1x512x256 .bf16) (h8 : arg8.IsWhole)
  (T0 T1 : S136.Idx → BitVec 32)
  (x0 : S4x1x256x512.Idx → EReal) (x1 : S1x512x256.Idx → EReal) (x2 : S1x144x512.Idx → EReal)
  (x3 : S4x256x128.Idx → EReal) (xa0 : S4x512.Idx → EReal) (xa1 : S4x144x512.Idx → EReal)

/-- Below the diagonal in a later block: the new maxima. -/
theorem max_D (h : Fin 4) (q : Fin 512) : ∀ hc0 hc1 hc2 k4,
    ((kernelRun0_D c i arg4 h4 arg5 h5 arg6 h6 arg7 h7 arg8 h8 T0 T1 x0 x1 x2 x3 xa0 xa1 hc0 hc1 hc2 k4).1 (ix2 h q) : EReal) = mNew (sU x0 x1 h) (fun q => xa0 (ix2 h q)) q := by
  intro hc0 hc1 hc2 k4
  unfold kernelRun0_D
  dsimp only
  sl_unfold_words
  refine scratch0_of _ _ _ _ _ _ _ _ _ h q (fun h => mNew (sU x0 x1 h) (fun q => xa0 (ix2 h q)) q) ?_ ?_ ?_ ?_
  · rw [readKeys, readQuery]
    exact (castRow _ _).trans (headM_U x0 x1 _ 0 (by decide) inb_S4x1x256x512_S1x1x256x512_0_0_0_0 _ (readAt_row2 xa0 0 (by decide) _) q)
  · rw [readKeys, readQuery]
    exact (castRow _ _).trans (headM_U x0 x1 _ 1 (by decide) inb_S4x1x256x512_S1x1x256x512_1_0_0_0 _ (readAt_row2 xa0 1 (by decide) _) q)
  · rw [readKeys, readQuery]
    exact (castRow _ _).trans (headM_U x0 x1 _ 2 (by decide) inb_S4x1x256x512_S1x1x256x512_2_0_0_0 _ (readAt_row2 xa0 2 (by decide) _) q)
  · rw [readKeys, readQuery]
    exact (castRow _ _).trans (headM_U x0 x1 _ 3 (by decide) inb_S4x1x256x512_S1x1x256x512_3_0_0_0 _ (readAt_row2 xa0 3 (by decide) _) q)

/-- Below the diagonal in a later block: the new sums. -/
theorem acc_D (h : Fin 4) (r : Fin 144) (q : Fin 512) : ∀ hc0 hc1 hc2 k4,
    ((kernelRun0_D c i arg4 h4 arg5 h5 arg6 h6 arg7 h7 arg8 h8 T0 T1 x0 x1 x2 x3 xa0 xa1 hc0 hc1 hc2 k4).2.1 (ix3 h r q) : EReal) = aNew (sU x0 x1 h) x2 (fun q => xa0 (ix2 h q)) (fun r q => xa1 (ix3 h r q)) r q := by
  intro hc0 hc1 hc2 k4
  unfold kernelRun0_D
  dsimp only
  sl_unfold_words
  refine scratch1_of _ _ _ _ _ _ _ _ _ h r q (fun h => aNew (sU x0 x1 h) x2 (fun q => xa0 (ix2 h q)) (fun r q => xa1 (ix3 h r q)) r q) ?_ ?_ ?_ ?_
  · rw [readKeys, readQuery, readVals]
    exact headA_U x0 x1 x2 _ _ 0 (by decide) inb_S4x1x256x512_S1x1x256x512_0_0_0_0 _ _ (readAt_row2 xa0 0 (by decide) _) (readAt_row3 xa1 0 (by decide) _) r q
  · rw [readKeys, readQuery, readVals]
    exact headA_U x0 x1 x2 _ _ 1 (by decide) inb_S4x1x256x512_S1x1x256x512_1_0_0_0 _ _ (readAt_row2 xa0 1 (by decide) _) (readAt_row3 xa1 1 (by decide) _) r q
  · rw [readKeys, readQuery, readVals]
    exact headA_U x0 x1 x2 _ _ 2 (by decide) inb_S4x1x256x512_S1x1x256x512_2_0_0_0 _ _ (readAt_row2 xa0 2 (by decide) _) (readAt_row3 xa1 2 (by decide) _) r q
  · rw [readKeys, readQuery, readVals]
    exact headA_U x0 x1 x2 _ _ 3 (by decide) inb_S4x1x256x512_S1x1x256x512_3_0_0_0 _ _ (readAt_row2 xa0 3 (by decide) _) (readAt_row3 xa1 3 (by decide) _) r q

end Cert.Mla

end
-- ==== Proof.Mla.Inv.lean ====
/-
  What the two scratches and the output block hold after each point of the grid: the maximum and the weighted sums over
  the keys seen so far, of the causal scores of the point's queries.
-/
module

public import proofs.«01_k».proof.Proof.Mla.Blocks
public import proofs.«01_k».proof.Proof.Mla.Keys
public import proofs.«01_k».proof.Proof.Mla.StepA
public import proofs.«01_k».proof.Proof.Mla.StepB
public import proofs.«01_k».proof.Proof.Mla.StepC
public import proofs.«01_k».proof.Proof.Mla.StepD

@[expose] public section

set_option maxRecDepth 16384
set_option Elab.async false

noncomputable section

namespace Cert.Mla

open Idealize.ShloMosaic Idealize.ShloMosaic.TcCoe Cert.KernelIdeal Cert.KernelIdeal.Gen

section Step

variable (j : ℕ) (hj : j < 16) (s : Fin 512 → Fin 512 → EReal) (M : Fin 512 → EReal) (q : Fin 512) (S : Fin 8192 → EReal)
  (hs : ∀ k, s k q = S (keyE j hj k)) (hM : M q = (seen (512 * j)).sup S)

include hs hM

/-- One block's new maximum is the maximum over one block more. -/
theorem mNew_step : mNew s M q = (seen (512 * (j + 1))).sup S := by
  unfold mNew; rw [hM]; simp only [hs]; exact max_step j hj S

/-- One block's new sum is the weighted sum over one block more. -/
theorem aNew_step (x2 : S1x144x512.Idx → EReal) (A : Fin 144 → Fin 512 → EReal) (r : Fin 144) (V : Fin 8192 → EReal)
    (hv : ∀ k, x2 (ix3 0 r k) = V (keyE j hj k)) (hA : A r q = wsum (seen (512 * j)) S V ((seen (512 * j)).sup S))
    (ht : ∀ i, S i ≠ ⊤) (hb : (seen (512 * (j + 1))).sup S ≠ ⊥) :
    aNew s x2 M A r q = wsum (seen (512 * (j + 1))) S V ((seen (512 * (j + 1))).sup S) := by
  unfold aNew
  rw [mNew_step j hj s M q S hs hM, hM, hA]
  simp only [hs, hv]
  exact sum_step j hj S V ht hb

end Step

variable (m : (ℓ : Loc nD τ sig) → Buf (Elt Ideal) ℓ) (ρ : Dev nD → PrngReg) (c : Dev nD)

/-- The product of a key and a query. -/
def dotKQ (b : Fin 2) (h : Fin 4) (q k : Fin 8192) : EReal := ∑ d : Fin 256, kA m c (ix3 b k d) * qA m c (ix4 h b d q)

/-- The causal score of a key for a query: minus infinity for a later key. -/
def score (b : Fin 2) (h : Fin 4) (q k : Fin 8192) : EReal := if k ≤ q then dotKQ m c b h q k else ⊥

/-- The values of row `r`. -/
def vRow (b : Fin 2) (r : Fin 144) (k : Fin 8192) : EReal := vA m c (ix3 b r k)

/-- A finite sum of products of real numbers is a real number. -/
theorem dot_real {ι : Type} (t : Finset ι) (f g : ι → EReal) (hf : ∀ i, f i ≠ ⊥ ∧ f i ≠ ⊤) (hg : ∀ i, g i ≠ ⊥ ∧ g i ≠ ⊤) :
    ∃ x : ℝ, ∑ i ∈ t, f i * g i = (x : EReal) := by
  refine ⟨∑ i ∈ t, (f i).toReal * (g i).toReal, ?_⟩
  rw [show ((∑ i ∈ t, (f i).toReal * (g i).toReal : ℝ) : EReal) = ∑ i ∈ t, (((f i).toReal * (g i).toReal : ℝ) : EReal) from
    map_sum (⟨⟨((↑) : ℝ → EReal), EReal.coe_zero⟩, EReal.coe_add⟩ : ℝ →+ EReal) _ t]
  refine Finset.sum_congr rfl fun i _ => ?_
  rw [EReal.coe_mul, EReal.coe_toReal (hf i).2 (hf i).1, EReal.coe_toReal (hg i).2 (hg i).1]

variable (hq : ∀ i, qA m c i ≠ ⊥ ∧ qA m c i ≠ ⊤) (hk : ∀ i, kA m c i ≠ ⊥ ∧ kA m c i ≠ ⊤)

include hq hk

theorem dotKQ_real (b : Fin 2) (h : Fin 4) (q k : Fin 8192) : ∃ x : ℝ, dotKQ m c b h q k = (x : EReal) :=
  dot_real _ _ _ (fun _ => hk _) fun _ => hq _

theorem score_ne_top (b : Fin 2) (h : Fin 4) (q k : Fin 8192) : score m c b h q k ≠ ⊤ := by
  unfold score
  split
  · obtain ⟨x, hx⟩ := dotKQ_real m c hq hk b h q k
    rw [hx]; exact EReal.coe_ne_top x
  · exact bot_ne_top

/-- As soon as one block has been seen the maximum is a real number: the first key is never later than the query. -/
theorem sup_ne_bot (b : Fin 2) (h : Fin 4) (q : Fin 8192) (n : ℕ) (hn : 0 < n) : (seen n).sup (score m c b h q) ≠ ⊥ := by
  intro hb
  have h0 : score m c b h q 0 ≤ ⊥ := hb ▸ Finset.le_sup (mem_seen.2 hn)
  obtain ⟨x, hx⟩ := dotKQ_real m c hq hk b h q 0
  unfold score at h0
  rw [if_pos (Fin.zero_le q), hx] at h0
  exact absurd (le_bot_iff.1 h0) (EReal.coe_ne_bot x)

omit hq hk

/-- The maximum over the keys seen up to and with block `j`. -/
abbrev supTo (b : Fin 2) (h : Fin 4) (q : Fin 8192) (n : ℕ) : EReal := (seen n).sup (score m c b h q)

/-- The weighted sum over the keys seen up to and with block `j`. -/
abbrev sumTo (b : Fin 2) (h : Fin 4) (r : Fin 144) (q : Fin 8192) (n : ℕ) : EReal :=
  wsum (seen n) (score m c b h q) (vRow m c b r) (supTo m c b h q n)

/-- The scores of a block below the diagonal. -/
theorem block_U (t : Fin (cfgA 0).N) (h : Fin 4) (k q : Fin 512) (hj : kOf t.val < 16) (hne : kOf t.val ≠ qOf t.val) :
    sU (iblk 0 m ρ c (0 : Fin 5) t) (iblk 0 m ρ c (1 : Fin 5) t) h k q = score m c (bF t) h (qF t q) (keyE (kOf t.val) hj k) := by
  have hle := (bounds t).2.2
  unfold score
  rw [if_pos (show keyE (kOf t.val) hj k ≤ qF t q by
    show 512 * kOf t.val + k.val ≤ 512 * qOf t.val + q.val; omega)]
  unfold sU dotKQ
  exact Finset.sum_congr rfl fun d _ => congrArg₂ (· * ·) (blk_k m ρ c t k d) (blk_q m ρ c t h d q)

/-- The scores of a block on the diagonal. -/
theorem block_M (t : Fin (cfgA 0).N) (h : Fin 4) (k q : Fin 512) (hj : kOf t.val < 16) (he : kOf t.val = qOf t.val) :
    sM (iblk 0 m ρ c (0 : Fin 5) t) (iblk 0 m ρ c (1 : Fin 5) t) h k q = score m c (bF t) h (qF t q) (keyE (kOf t.val) hj k) := by
  have hiff : (keyE (kOf t.val) hj k ≤ qF t q) ↔ k ≤ q := by
    show 512 * kOf t.val + k.val ≤ 512 * qOf t.val + q.val ↔ k.val ≤ q.val
    omega
  unfold sM score
  simp only [hiff]
  split
  · unfold sU dotKQ
    exact Finset.sum_congr rfl fun d _ => congrArg₂ (· * ·) (blk_k m ρ c t k d) (blk_q m ρ c t h d q)
  · rfl

/-- What a point's output block and scratches hold once point `t` is done. -/
def HoldsT (t : Fin (cfgA 0).N) (o : S1x512x256.Idx → EReal) (a : S4x512.Idx → EReal) (b : S4x144x512.Idx → EReal) : Prop :=
  (∀ h q, a (ix2 h q) = supTo m c (bF t) h (qF t q) (512 * (kOf t.val + 1)))
  ∧ (∀ h r q, b (ix3 h r q) = sumTo m c (bF t) h r (qF t q) (512 * (kOf t.val + 1)))
  ∧ (kOf t.val = qOf t.val → ∀ q e, o (ix3 0 q e)
      = oAll (iblk 0 m ρ c (3 : Fin 5) t) (fun h r q => sumTo m c (bF t) h r (qF t q) (512 * (kOf t.val + 1))) q e)

/-- What holds after point `t`. -/
def Holds (t : Fin (cfgA 0).N) : Prop :=
  HoldsT m ρ c t (traj0 0 m ρ c t.val t.isLt).1 (traj0 0 m ρ c t.val t.isLt).2.1 (traj0 0 m ρ c t.val t.isLt).2.2

/-- What a point needs of the scratches it starts from. -/
def BeforeT (t : Fin (cfgA 0).N) (a : S4x512.Idx → EReal) (b : S4x144x512.Idx → EReal) : Prop :=
  (∀ h q, a (ix2 h q) = supTo m c (bF t) h (qF t q) (512 * kOf t.val))
  ∧ (∀ h r q, b (ix3 h r q) = sumTo m c (bF t) h r (qF t q) (512 * kOf t.val))

/-- What the point before left for point `t`, when they are blocks of the same row. -/
def Before (t : Fin (cfgA 0).N) : Prop :=
  kOf t.val ≠ 0 → BeforeT m c t (prev0 0 m ρ c t).2.1 (prev0 0 m ρ c t).2.2

theorem sup_none (b : Fin 2) (h : Fin 4) (q : Fin 8192) (n : ℕ) (hn : n = 0) :
    (⊥ : EReal) = supTo m c b h q (512 * n) := by
  subst hn; unfold supTo; rw [Nat.mul_zero, seen_zero, Finset.sup_empty]

theorem sum_none (b : Fin 2) (h : Fin 4) (r : Fin 144) (q : Fin 8192) (n : ℕ) (hn : n = 0) :
    (0 : EReal) = sumTo m c b h r q (512 * n) := by
  subst hn; unfold sumTo wsum; rw [Nat.mul_zero, seen_zero, Finset.sum_empty]

include hq hk

/-- The new sum of a point, from the sum it starts from. -/
theorem next_sum (t : Fin (cfgA 0).N) (s : Fin 4 → Fin 512 → Fin 512 → EReal) (hj : kOf t.val < 16)
    (hs : ∀ h k q, s h k q = score m c (bF t) h (qF t q) (keyE (kOf t.val) hj k))
    (M : Fin 4 → Fin 512 → EReal) (A : Fin 4 → Fin 144 → Fin 512 → EReal)
    (hM : ∀ h q, M h q = supTo m c (bF t) h (qF t q) (512 * kOf t.val))
    (hA : ∀ h r q, A h r q = sumTo m c (bF t) h r (qF t q) (512 * kOf t.val)) (h : Fin 4) (r : Fin 144) (q : Fin 512) :
    aNew (s h) (iblk 0 m ρ c (2 : Fin 5) t) (M h) (A h) r q
      = sumTo m c (bF t) h r (qF t q) (512 * (kOf t.val + 1)) :=
  aNew_step (kOf t.val) hj (s h) (M h) q (score m c (bF t) h (qF t q)) (fun k => hs h k q) (hM h q) _ (A h) r
    (vRow m c (bF t) r) (fun k => blk_v m ρ c t r k) (hA h r q) (score_ne_top m c hq hk (bF t) h (qF t q))
    (sup_ne_bot m c hq hk (bF t) h (qF t q) (512 * (kOf t.val + 1)) (by omega))

omit hq hk in
/-- The new maximum of a point, from the maximum it starts from. -/
theorem next_max (t : Fin (cfgA 0).N) (s : Fin 4 → Fin 512 → Fin 512 → EReal) (hj : kOf t.val < 16)
    (hs : ∀ h k q, s h k q = score m c (bF t) h (qF t q) (keyE (kOf t.val) hj k))
    (M : Fin 4 → Fin 512 → EReal)
    (hM : ∀ h q, M h q = supTo m c (bF t) h (qF t q) (512 * kOf t.val)) (h : Fin 4) (q : Fin 512) :
    mNew (s h) (M h) q = supTo m c (bF t) h (qF t q) (512 * (kOf t.val + 1)) :=
  mNew_step (kOf t.val) hj (s h) (M h) q (score m c (bF t) h (qF t q)) (fun k => hs h k q) (hM h q)

omit hq hk in
theorem kOf_lt (t : Fin (cfgA 0).N) : kOf t.val < 16 := lt_of_le_of_lt (bounds t).2.2 (bounds t).2.1

theorem holds_A (t : Fin (cfgA 0).N) (q0 : P0_0 0 t) (q1 : P0_1 0 t) :
    HoldsT m ρ c t (out0_A_4 c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1 (hypsR0_A 0 t q0 q1).2.2.1 (hypsR0_A 0 t q0 q1).2.2.2.1)
      (kernelRun0_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1 (hypsR0_A 0 t q0 q1).2.2.1 (hypsR0_A 0 t q0 q1).2.2.2.1).2.1
      (kernelRun0_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1 (hypsR0_A 0 t q0 q1).2.2.1 (hypsR0_A 0 t q0 q1).2.2.2.1).2.2.1 := by
  have hs := fun h k q => block_M m ρ c t h k q (kOf_lt t) ((diag_iff t).1 q1)
  have hm := fun h q => sup_none m c (bF t) h (qF t q) (kOf t.val) ((first_iff t).1 q0)
  have ha := fun h r q => sum_none m c (bF t) h r (qF t q) (kOf t.val) ((first_iff t).1 q0)
  have hM := next_max m c t (fun h => sM (iblk 0 m ρ c (0 : Fin 5) t) (iblk 0 m ρ c (1 : Fin 5) t) h) (kOf_lt t) hs (fun _ _ => ⊥) hm
  have hA := next_sum m ρ c hq hk t (fun h => sM (iblk 0 m ρ c (0 : Fin 5) t) (iblk 0 m ρ c (1 : Fin 5) t) h) (kOf_lt t) hs (fun _ _ => ⊥) (fun _ _ _ => 0) hm ha
  refine ⟨fun h q => (max_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) h q (hypsR0_A 0 t q0 q1).1 (hypsR0_A 0 t q0 q1).2.1 (hypsR0_A 0 t q0 q1).2.2.1 (hypsR0_A 0 t q0 q1).2.2.2.1).trans (hM h q), fun h r q => (acc_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) h r q (hypsR0_A 0 t q0 q1).1 (hypsR0_A 0 t q0 q1).2.1 (hypsR0_A 0 t q0 q1).2.2.1 (hypsR0_A 0 t q0 q1).2.2.2.1).trans (hA h r q), fun he q e => ?_⟩
  refine (out_A c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) q e (hypsR0_A 0 t q0 q1).1 (hypsR0_A 0 t q0 q1).2.1 (hypsR0_A 0 t q0 q1).2.2.1 (hypsR0_A 0 t q0 q1).2.2.2.1).trans ?_
  exact congrArg (fun a => oAll (iblk 0 m ρ c (3 : Fin 5) t) a q e) (funext fun h => funext fun r => funext fun q => hA h r q)

theorem holds_B (t : Fin (cfgA 0).N) (q0 : P0_0 0 t) (q1 : ¬P0_1 0 t) (o : S1x512x256.Idx → EReal) :
    HoldsT m ρ c t o
      (kernelRun0_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_B 0 t q0 q1).1 (hypsR0_B 0 t q0 q1).2.1 (hypsR0_B 0 t q0 q1).2.2.1 (hypsR0_B 0 t q0 q1).2.2.2.1).1
      (kernelRun0_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_B 0 t q0 q1).1 (hypsR0_B 0 t q0 q1).2.1 (hypsR0_B 0 t q0 q1).2.2.1 (hypsR0_B 0 t q0 q1).2.2.2.1).2.1 := by
  have hne : kOf t.val ≠ qOf t.val := fun e => q1 ((diag_iff t).2 e)
  have hs := fun h k q => block_U m ρ c t h k q (kOf_lt t) hne
  have hm := fun h q => sup_none m c (bF t) h (qF t q) (kOf t.val) ((first_iff t).1 q0)
  have ha := fun h r q => sum_none m c (bF t) h r (qF t q) (kOf t.val) ((first_iff t).1 q0)
  have hM := next_max m c t (fun h => sU (iblk 0 m ρ c (0 : Fin 5) t) (iblk 0 m ρ c (1 : Fin 5) t) h) (kOf_lt t) hs (fun _ _ => ⊥) hm
  have hA := next_sum m ρ c hq hk t (fun h => sU (iblk 0 m ρ c (0 : Fin 5) t) (iblk 0 m ρ c (1 : Fin 5) t) h) (kOf_lt t) hs (fun _ _ => ⊥) (fun _ _ _ => 0) hm ha
  refine ⟨fun h q => (max_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) h q (hypsR0_B 0 t q0 q1).1 (hypsR0_B 0 t q0 q1).2.1 (hypsR0_B 0 t q0 q1).2.2.1 (hypsR0_B 0 t q0 q1).2.2.2.1).trans (hM h q), fun h r q => (acc_B c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) h r q (hypsR0_B 0 t q0 q1).1 (hypsR0_B 0 t q0 q1).2.1 (hypsR0_B 0 t q0 q1).2.2.1 (hypsR0_B 0 t q0 q1).2.2.2.1).trans (hA h r q), fun he q e => ?_⟩
  exact absurd he hne

theorem holds_C (t : Fin (cfgA 0).N) (q0 : ¬P0_0 0 t) (q1 : P0_1 0 t) (xa0 : S4x512.Idx → EReal) (xa1 : S4x144x512.Idx → EReal) (hb : BeforeT m c t xa0 xa1) :
    HoldsT m ρ c t (out0_C_4 c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 (hypsR0_C 0 t q0 q1).1 (hypsR0_C 0 t q0 q1).2.1 (hypsR0_C 0 t q0 q1).2.2.1 (hypsR0_C 0 t q0 q1).2.2.2.1)
      (kernelRun0_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 (hypsR0_C 0 t q0 q1).1 (hypsR0_C 0 t q0 q1).2.1 (hypsR0_C 0 t q0 q1).2.2.1 (hypsR0_C 0 t q0 q1).2.2.2.1).2.1
      (kernelRun0_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 (hypsR0_C 0 t q0 q1).1 (hypsR0_C 0 t q0 q1).2.1 (hypsR0_C 0 t q0 q1).2.2.1 (hypsR0_C 0 t q0 q1).2.2.2.1).2.2.1 := by
  have hs := fun h k q => block_M m ρ c t h k q (kOf_lt t) ((diag_iff t).1 q1)
  obtain ⟨hm, ha⟩ := hb
  have hM := next_max m c t (fun h => sM (iblk 0 m ρ c (0 : Fin 5) t) (iblk 0 m ρ c (1 : Fin 5) t) h) (kOf_lt t) hs (fun h q => xa0 (ix2 h q)) hm
  have hA := next_sum m ρ c hq hk t (fun h => sM (iblk 0 m ρ c (0 : Fin 5) t) (iblk 0 m ρ c (1 : Fin 5) t) h) (kOf_lt t) hs (fun h q => xa0 (ix2 h q)) (fun h r q => xa1 (ix3 h r q)) hm ha
  refine ⟨fun h q => (max_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 h q (hypsR0_C 0 t q0 q1).1 (hypsR0_C 0 t q0 q1).2.1 (hypsR0_C 0 t q0 q1).2.2.1 (hypsR0_C 0 t q0 q1).2.2.2.1).trans (hM h q), fun h r q => (acc_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 h r q (hypsR0_C 0 t q0 q1).1 (hypsR0_C 0 t q0 q1).2.1 (hypsR0_C 0 t q0 q1).2.2.1 (hypsR0_C 0 t q0 q1).2.2.2.1).trans (hA h r q), fun he q e => ?_⟩
  refine (out_C c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 q e (hypsR0_C 0 t q0 q1).1 (hypsR0_C 0 t q0 q1).2.1 (hypsR0_C 0 t q0 q1).2.2.1 (hypsR0_C 0 t q0 q1).2.2.2.1).trans ?_
  exact congrArg (fun a => oAll (iblk 0 m ρ c (3 : Fin 5) t) a q e) (funext fun h => funext fun r => funext fun q => hA h r q)

theorem holds_D (t : Fin (cfgA 0).N) (q0 : ¬P0_0 0 t) (q1 : ¬P0_1 0 t) (o : S1x512x256.Idx → EReal) (xa0 : S4x512.Idx → EReal) (xa1 : S4x144x512.Idx → EReal) (hb : BeforeT m c t xa0 xa1) :
    HoldsT m ρ c t o
      (kernelRun0_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 (hypsR0_D 0 t q0 q1).1 (hypsR0_D 0 t q0 q1).2.1 (hypsR0_D 0 t q0 q1).2.2.1 (hypsR0_D 0 t q0 q1).2.2.2.1).1
      (kernelRun0_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 (hypsR0_D 0 t q0 q1).1 (hypsR0_D 0 t q0 q1).2.1 (hypsR0_D 0 t q0 q1).2.2.1 (hypsR0_D 0 t q0 q1).2.2.2.1).2.1 := by
  have hne : kOf t.val ≠ qOf t.val := fun e => q1 ((diag_iff t).2 e)
  have hs := fun h k q => block_U m ρ c t h k q (kOf_lt t) hne
  obtain ⟨hm, ha⟩ := hb
  have hM := next_max m c t (fun h => sU (iblk 0 m ρ c (0 : Fin 5) t) (iblk 0 m ρ c (1 : Fin 5) t) h) (kOf_lt t) hs (fun h q => xa0 (ix2 h q)) hm
  have hA := next_sum m ρ c hq hk t (fun h => sU (iblk 0 m ρ c (0 : Fin 5) t) (iblk 0 m ρ c (1 : Fin 5) t) h) (kOf_lt t) hs (fun h q => xa0 (ix2 h q)) (fun h r q => xa1 (ix3 h r q)) hm ha
  refine ⟨fun h q => (max_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 h q (hypsR0_D 0 t q0 q1).1 (hypsR0_D 0 t q0 q1).2.1 (hypsR0_D 0 t q0 q1).2.2.1 (hypsR0_D 0 t q0 q1).2.2.2.1).trans (hM h q), fun h r q => (acc_D c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) xa0 xa1 h r q (hypsR0_D 0 t q0 q1).1 (hypsR0_D 0 t q0 q1).2.1 (hypsR0_D 0 t q0 q1).2.2.1 (hypsR0_D 0 t q0 q1).2.2.2.1).trans (hA h r q), fun he q e => ?_⟩
  exact absurd he hne

omit hq hk in
theorem holds_of_step (t : Fin (cfgA 0).N) (o : S1x512x256.Idx → Elt Ideal .bf16)
    (a : Buf (Elt Ideal) ((c : Thread nD τ).loc cc0_scratch0)) (b : Buf (Elt Ideal) ((c : Thread nD τ).loc cc0_scratch1))
    (e : step0 0 m ρ c t (prev0 0 m ρ c t) = (o, a, b)) (h : HoldsT m ρ c t o a b) : Holds m ρ c t := by
  have e' : traj0 0 m ρ c t.val t.isLt = (o, a, b) := (traj0_eq 0 m ρ c t).trans e
  unfold Holds
  rw [e']
  exact h

theorem holds_step (t : Fin (cfgA 0).N) (hb : Before m ρ c t) : Holds m ρ c t := by
  by_cases q0 : P0_0 0 t
  · by_cases q1 : P0_1 0 t
    · exact holds_of_step m ρ c t _ _ _ (step0_A 0 m ρ c t (prev0 0 m ρ c t) q0 q1) (holds_A m ρ c hq hk t q0 q1)
    · exact holds_of_step m ρ c t _ _ _ (step0_B 0 m ρ c t (prev0 0 m ρ c t) q0 q1) (holds_B m ρ c hq hk t q0 q1 _)
  · have hb := hb fun e => q0 ((first_iff t).2 e)
    by_cases q1 : P0_1 0 t
    · exact holds_of_step m ρ c t _ _ _ (step0_C 0 m ρ c t (prev0 0 m ρ c t) q0 q1)
        (holds_C m ρ c hq hk t q0 q1 (prev0 0 m ρ c t).2.1 (prev0 0 m ρ c t).2.2 hb)
    · exact holds_of_step m ρ c t _ _ _ (step0_D 0 m ρ c t (prev0 0 m ρ c t) q0 q1)
        (holds_D m ρ c hq hk t q0 q1 _ (prev0 0 m ρ c t).2.1 (prev0 0 m ρ c t).2.2 hb)

omit hq hk

theorem congr_supTo {b b' : Fin 2} {q q' : Fin 8192} {n n' : ℕ} (hb : b = b') (hq : q = q') (hn : n = n') (h : Fin 4) :
    supTo m c b h q n = supTo m c b' h q' n' := by
  subst hb hq hn; rfl

theorem congr_sumTo {b b' : Fin 2} {q q' : Fin 8192} {n n' : ℕ} (hb : b = b') (hq : q = q') (hn : n = n') (h : Fin 4)
    (r : Fin 144) : sumTo m c b h r q n = sumTo m c b' h r q' n' := by
  subst hb hq hn; rfl

/-- The point before is the block before of the same row, so what holds after it is what point `t` starts from. -/
theorem before_of_holds (t : Fin (cfgA 0).N) (ih : ∀ s : Fin (cfgA 0).N, s.val < t.val → Holds m ρ c s) : Before m ρ c t := by
  intro h0
  obtain ⟨hne, hb, hqq, hkk⟩ := before_step t h0
  have hp := ih ⟨t.val - 1, lt_of_le_of_lt (Nat.sub_le _ _) t.isLt⟩ (by show t.val - 1 < t.val; omega)
  have ebF : bF ⟨t.val - 1, lt_of_le_of_lt (Nat.sub_le _ _) t.isLt⟩ = bF t := Fin.ext hb
  have eqF : ∀ q, qF ⟨t.val - 1, lt_of_le_of_lt (Nat.sub_le _ _) t.isLt⟩ q = qF t q := fun q => Fin.ext (by
    show 512 * qOf (t.val - 1) + q.val = 512 * qOf t.val + q.val
    rw [hqq])
  have epr : prev0 0 m ρ c t = traj0 0 m ρ c (t.val - 1) (lt_of_le_of_lt (Nat.sub_le _ _) t.isLt) := by
    unfold prev0; rw [dif_neg hne]
  rw [epr]
  refine ⟨fun h q => (hp.1 h q).trans ?_, fun h r q => (hp.2.1 h r q).trans ?_⟩
  · exact congr_supTo m c ebF (eqF q) (congrArg (512 * ·) hkk) h
  · exact congr_sumTo m c ebF (eqF q) (congrArg (512 * ·) hkk) h r

include hq hk

theorem holds_all (t : Fin (cfgA 0).N) : Holds m ρ c t := by
  obtain ⟨n, hn⟩ := t
  induction n using Nat.strong_induction_on with
  | _ n ih => exact holds_step m ρ c hq hk _ (before_of_holds m ρ c _ fun s hs => ih s.val hs s.isLt)

end Cert.Mla

end
-- ==== Proof.Mla.Out.lean ====
/-
  The result of the kernel: the causal attention of every query over all the keys, projected through the heads' value
  matrices.
-/
module

public import proofs.«01_k».proof.Proof.Mla.Inv

@[expose] public section

set_option maxRecDepth 16384
set_option Elab.async false

noncomputable section

namespace Cert.Mla

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The greatest score of a query. -/
def topScore (b : Fin 2) (h : Fin 4) (q : Fin 8192) : EReal := Finset.univ.sup (score m c b h q)

/-- The weight of a key before it is normalised. -/
def weight (b : Fin 2) (h : Fin 4) (q k : Fin 8192) : EReal := Ideal.exp2 (score m c b h q k - topScore m c b h q)

/-- The attention of one head: the average of the values by the normalised weights. -/
def latent (b : Fin 2) (h : Fin 4) (q : Fin 8192) (r : Fin 128) : EReal :=
  ∑ k : Fin 8192, Ideal.div (weight m c b h q k) (∑ j : Fin 8192, weight m c b h q j) * vA m c (ix3 b (r.castLE (by decide)) k)

/-- The result at a query and a column: all heads, projected. -/
def outAt (b : Fin 2) (q : Fin 8192) (e : Fin 256) : EReal :=
  ∑ h : Fin 4, ∑ r : Fin 128, latent m c b h q r * wA m c (ix3 h e r)

/-- The result array. -/
def outArr (i : S2x8192x256.Idx) : EReal := outAt m c (i 0) (i 1) (i 2)

variable (hones : ∀ (b : Fin 2) (k : Fin 8192), vA m c (ix3 b 128 k) = 1)
  (hq : ∀ i, qA m c i ≠ ⊥ ∧ qA m c i ≠ ⊤) (hk : ∀ i, kA m c i ≠ ⊥ ∧ kA m c i ≠ ⊤)

/-- A key later than the query has the score minus infinity. -/
theorem score_later (b : Fin 2) (h : Fin 4) (q k : Fin 8192) (hl : q.val < k.val) : score m c b h q k = ⊥ := by
  unfold score
  rw [if_neg (by rw [Fin.le_def]; omega)]

theorem supTo_all (b : Fin 2) (h : Fin 4) (q : Fin 8192) (n : ℕ) (hn : q.val < n) :
    supTo m c b h q n = topScore m c b h q :=
  sup_seen_all n _ fun k hk => score_later m c b h q k (by omega)

theorem sumTo_all (b : Fin 2) (h : Fin 4) (r : Fin 144) (q : Fin 8192) (n : ℕ) (hn : q.val < n) :
    sumTo m c b h r q n = wsum Finset.univ (score m c b h q) (vRow m c b r) (Finset.univ.sup (score m c b h q)) := by
  show wsum (seen n) (score m c b h q) (vRow m c b r) (supTo m c b h q n) = _
  rw [supTo_all m c b h q n hn]
  exact sum_seen_all n _ _ (fun k hk => score_later m c b h q k (by omega)) _

include hones hq hk

/-- The quotient of the sums of a row and of the ones row, past the diagonal block. -/
theorem quotient (b : Fin 2) (h : Fin 4) (r : Fin 128) (q : Fin 8192) (n : ℕ) (hn : q.val < n) :
    Ideal.div (sumTo m c b h (r.castLE (by decide)) q n) (sumTo m c b h 128 q n) = latent m c b h q r := by
  rw [sumTo_all m c b h _ q n hn, sumTo_all m c b h _ q n hn]
  have h1 : vRow m c b 128 = fun _ => (1 : EReal) := funext fun k => hones b k
  have hb : Finset.univ.sup (score m c b h q) ≠ ⊥ := by
    have := sup_ne_bot m c hq hk b h q n (by omega)
    rwa [show (seen n).sup (score m c b h q) = Finset.univ.sup (score m c b h q) from supTo_all m c b h q n hn] at this
  rw [h1, wsum_div _ _ _ (score_ne_top m c hq hk b h q) hb]
  rfl

/-- The output block at the end of a row of blocks. -/
theorem out_block (t : Fin (cfgA 0).N) (hd : kOf t.val = qOf t.val) (q : Fin 512) (e : Fin 256) :
    oAll (iblk 0 m ρ c (3 : Fin 5) t) (fun h r q => sumTo m c (bF t) h r (qF t q) (512 * (kOf t.val + 1))) q e
      = outAt m c (bF t) (qF t q) e := by
  have hn : (qF t q).val < 512 * (kOf t.val + 1) := by
    show 512 * qOf t.val + q.val < 512 * (kOf t.val + 1)
    have := q.isLt
    omega
  have one : ∀ h : Fin 4, oHead (iblk 0 m ρ c (3 : Fin 5) t) h
      (fun r q => sumTo m c (bF t) h r (qF t q) (512 * (kOf t.val + 1))) q e
        = ∑ r : Fin 128, latent m c (bF t) h (qF t q) r * wA m c (ix3 h e r) := fun h => by
    unfold oHead
    refine Finset.sum_congr rfl fun r _ => ?_
    rw [mul_comm]
    exact congrArg₂ (· * ·) (quotient m c hones hq hk (bF t) h r (qF t q) _ hn) (blk_w m ρ c t h e r)
  unfold oAll outAt
  rw [Fin.sum_univ_four]
  exact congrArg₂ (· + ·) (congrArg₂ (· + ·) (congrArg₂ (· + ·) (one 0) (one 1)) (one 2)) (one 3)

/-- The output array at the end of the run. -/
theorem arr_out : (dats 0 m ρ 0 c).arrAt (4 : Fin 5) (cfgA 0).N = outArr m c := by
  refine Pipeline.Dat.arrAt_eq_of_covers (dats 0 m ρ 0 c) (4 : Fin 5) (outArr m c) covers_out (fun t hf y => ?_)
  have hd := flush_diag t hf
  obtain ⟨z, q, e, rfl⟩ : ∃ (z : Fin 1) (q : Fin 512) (e : Fin 256), y = (ix3 z q e : S1x512x256.Idx) := ⟨_, _, _, eq_ix3 y⟩
  obtain rfl : z = 0 := Subsingleton.elim _ _
  refine Eq.trans ?_ (congrArg (outArr m c) (emb_out t q e)).symm
  refine Eq.trans ?_ (out_block m ρ c hones hq hk t hd q e)
  exact (holds_all m ρ c hq hk t).2.2 hd q e

end Cert.Mla

end
-- ==== Proof.Mla.Ref.lean ====
/-
  The reference read at an index: scores, causal mask, softmax over all the keys in powers of two, values, projection.
-/
module

public import proofs.«01_k».proof.Proof.Gen.ReferenceIdeal.Read
public import proofs.«01_k».proof.Proof.Mla.Softmax
public import Idealize.ShloMosaic.Lib.Pointwise

@[expose] public section

set_option maxRecDepth 16384

noncomputable section

namespace Cert.Mla.Ref

open Idealize.ShloMosaic Idealize.ShloMosaic.TcCoe Cert.ReferenceIdeal Cert.ReferenceIdeal.Gen Cert.ReferenceIdeal.Read

/-- The word of minus infinity. -/
theorem ofBits_bot : Ideal.ofBits .f32 0xFF800000#32 = (⊥ : EReal) := by simp [Ideal.ofBits, Ideal.ieee]

/-- The word of two. -/
theorem ofBits_two : Ideal.ofBits .f32 0x40000000#32 = (2 : EReal) := by
  have h : Ideal.ofBits .f32 0x40000000#32 = ((2 : ℝ) : EReal) := by simp [Ideal.ofBits, Ideal.ieee]; rw [← EReal.coe_mul]; norm_num
  exact h

/-- The signed comparison of two positions. -/
theorem cmpi_sge_pos (q k : Fin 8192) :
    IntOp.cmpi CmpIPredicate.sge (BitVec.ofNat 32 q.val) (BitVec.ofNat 32 k.val) = if k ≤ q then 1#1 else 0#1 := by
  have hk := k.isLt
  have hq := q.isLt
  have h : (BitVec.ofNat 32 k.val).sle (BitVec.ofNat 32 q.val) = decide (k.val ≤ q.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.2 Int.ofNat_le
  show BitVec.ofBool _ = _
  rw [h]
  rcases Nat.lt_or_ge q.val k.val with hkq | hkq
  · rw [decide_eq_false (by omega), if_neg (by rw [Fin.le_def]; omega)]; rfl
  · rw [decide_eq_true hkq, if_pos (Fin.le_def.2 hkq)]; rfl

variable (x2 : S4x2x256x8192.Idx → EReal) (x3 : S2x8192x256.Idx → EReal) (x4 : S2x144x8192.Idx → EReal)
  (x5 : S4x256x128.Idx → EReal)

/-- The masked score. -/
def scoreR (b : Fin 2) (h : Fin 4) (q k : Fin 8192) : EReal :=
  if k ≤ q then ∑ d : Fin 256, x3 (ix3 b k d) * x2 (ix4 h b d q) else ⊥

/-- A key's weight before the softmax is normalised. -/
def weightR (b : Fin 2) (h : Fin 4) (q k : Fin 8192) : EReal :=
  Ideal.exp2 (scoreR x2 x3 b h q k - Finset.univ.sup (scoreR x2 x3 b h q))

/-- The attention of one head. -/
def latentR (b : Fin 2) (h : Fin 4) (q : Fin 8192) (r : Fin 128) : EReal :=
  ∑ k : Fin 8192, Ideal.div (weightR x2 x3 b h q k) (∑ j : Fin 8192, weightR x2 x3 b h q j) * x4 (ix3 b (r.castLE (by decide)) k)

theorem v1_at (b : Fin 2) (h : Fin 4) (q k : Fin 8192) :
    (val_main_v1 (F := Ideal) x2 x3 (ix4 b h q k) : EReal) = ∑ d : Fin 256, x3 (ix3 b k d) * x2 (ix4 h b d q) := by
  rw [val_main_v1_apply]
  refine Finset.sum_congr rfl fun d _ => ?_
  rw [mul_comm]
  refine congrArg₂ (· * ·) (congrArg x3 (funext fun a => ?_)) (congrArg x2 (funext fun a => ?_)) <;> fin_cases a <;> rfl

theorem mask_at (b : Fin 2) (h : Fin 4) (q k : Fin 8192) :
    val_main_call0_v1 (F := Ideal) (ix4 b h q k) = if k ≤ q then 1#1 else 0#1 := by
  rw [val_main_call0_v1_apply, val_main_v6_apply, val_main_v4_apply, val_main_v5_apply, val_main_v2_apply, val_main_v3_apply,
    val_main_v0_apply, val_main_v0_apply]
  exact cmpi_sge_pos q k

theorem v7_at (b : Fin 2) (h : Fin 4) (q k : Fin 8192) :
    (val_main_v7 (F := Ideal) x2 x3 (ix4 b h q k) : EReal) = scoreR x2 x3 b h q k := by
  rw [val_main_v7_apply, mask_at, v1_at, val_main_call0_v2_apply]
  have hb : (val_main_call0_v0 (F := Ideal) (idx_main_call0_v2 (ix4 b h q k)) : EReal) = ⊥ := ofBits_bot
  rw [hb]
  unfold scoreR
  by_cases hk : k ≤ q <;> simp [hk, Scalar.select]

theorem v8_at (b : Fin 2) (h : Fin 4) (q : Fin 8192) :
    (val_main_v8 (F := Ideal) x2 x3 (ix3 b h q) : EReal) = Finset.univ.sup (scoreR x2 x3 b h q) := by
  unfold val_main_v8
  have e : ∀ k, (val_main_v7 (F := Ideal) x2 x3 (ix4 b h q k) : EReal) = scoreR x2 x3 b h q k := v7_at x2 x3 b h q
  generalize val_main_v7 (F := Ideal) x2 x3 = y at e ⊢
  pointwise
  have hb : (val_main_cst_0 (F := Ideal) (Shape.Idx.first h_S_) : EReal) = ⊥ := ofBits_bot
  rw [hb]
  exact Finset.sup_congr rfl fun k _ => e k

theorem v13_at (b : Fin 2) (h : Fin 4) (q k : Fin 8192) :
    (val_main_v13 (F := Ideal) x2 x3 (ix4 b h q k) : EReal) = weightR x2 x3 b h q k := by
  rw [val_main_v13_apply, val_main_v11_apply, val_main_v10_apply, val_main_v9_apply, val_main_v12_apply, v7_at]
  have h8 : (val_main_v8 (F := Ideal) x2 x3 (idx_main_v9 (idx_main_v10 (ix4 b h q k))) : EReal)
      = Finset.univ.sup (scoreR x2 x3 b h q) := by
    refine Eq.trans (congrArg _ (funext fun a => ?_)) (v8_at x2 x3 b h q)
    fin_cases a <;> rfl
  have h2 : (val_main_cst_1 (F := Ideal) (idx_main_v12 (ix4 b h q k)) : EReal) = 2 := ofBits_two
  rw [h8, h2]
  exact pow_two_eq _

theorem v14_at (b : Fin 2) (h : Fin 4) (q : Fin 8192) :
    (val_main_v14 (F := Ideal) x2 x3 (ix3 b h q) : EReal) = ∑ k : Fin 8192, weightR x2 x3 b h q k := by
  rw [val_main_v14_apply]
  have h0 : (val_main_cst_2 (F := Ideal) (Shape.Idx.first h_S_) : EReal) = 0 := by
    show Ideal.ofBits .f32 0x00000000#32 = (0 : EReal)
    simp [Ideal.ofBits, Ideal.ieee]
  rw [h0, zero_add]
  refine Finset.sum_congr rfl fun k _ => Eq.trans (congrArg _ (funext fun a => ?_)) (v13_at x2 x3 b h q k)
  fin_cases a <;> rfl

theorem v17_at (b : Fin 2) (h : Fin 4) (q k : Fin 8192) :
    (val_main_v17 (F := Ideal) x2 x3 (ix4 b h q k) : EReal)
      = Ideal.div (weightR x2 x3 b h q k) (∑ j : Fin 8192, weightR x2 x3 b h q j) := by
  rw [val_main_v17_apply, val_main_v16_apply, val_main_v15_apply, v13_at]
  have h14 : (val_main_v14 (F := Ideal) x2 x3 (idx_main_v15 (idx_main_v16 (ix4 b h q k))) : EReal)
      = ∑ j : Fin 8192, weightR x2 x3 b h q j := by
    refine Eq.trans (congrArg _ (funext fun a => ?_)) (v14_at x2 x3 b h q)
    fin_cases a <;> rfl
  rw [h14]
  rfl

theorem v18_at (b : Fin 2) (r : Fin 128) (k : Fin 8192) :
    (val_main_v18 (F := Ideal) x4 (ix3 b r k) : EReal) = x4 (ix3 b (r.castLE (by decide)) k) := by
  rw [val_main_v18_apply]
  refine congrArg x4 (funext fun a => ?_)
  fin_cases a <;> rfl

theorem v20_at (b : Fin 2) (h : Fin 4) (q : Fin 8192) (r : Fin 128) :
    (val_main_v20 (F := Ideal) x2 x3 x4 (ix4 b h q r) : EReal) = latentR x2 x3 x4 b h q r := by
  rw [val_main_v20_apply]
  refine Finset.sum_congr rfl fun k _ => congrArg₂ (· * ·) ?_ ?_
  · refine Eq.trans (congrArg (val_main_v17 (F := Ideal) x2 x3) (funext fun a => ?_)) (v17_at x2 x3 b h q k)
    fin_cases a <;> rfl
  · refine Eq.trans (congrArg _ (funext fun a => ?_)) (v18_at x4 b r k)
    fin_cases a <;> rfl

/-- The result of the reference at an index. -/
theorem v23_at (b : Fin 2) (q : Fin 8192) (e : Fin 256) :
    (val_main_v23 (F := Ideal) x2 x3 x4 x5 (ix3 b q e) : EReal)
      = ∑ h : Fin 4, ∑ r : Fin 128, latentR x2 x3 x4 b h q r * x5 (ix3 h e r) := by
  have e' : ∀ h r, (val_main_v21 (F := Ideal) x2 x3 x4 (ix4 b h q r) : EReal) = latentR x2 x3 x4 b h q r :=
    fun h r => v20_at x2 x3 x4 b h q r
  unfold val_main_v23 val_main_v22
  generalize val_main_v21 (F := Ideal) x2 x3 x4 = y at e' ⊢
  pointwise
  exact Finset.sum_congr rfl fun h _ => Finset.sum_congr rfl fun r _ => by rw [e' h r]

end Cert.Mla.Ref

end
-- ==== Proof.Mla.Claims.lean ====
/-
  The claims about the attention call: its frames, and that its result is the reference's.
-/
module

public import proofs.«01_k».proof.Defs
public import proofs.«01_k».proof.Proof.Gen.Kernel.Flash
public import proofs.«01_k».proof.Proof.Gen.ReferenceIdeal.Run
public import proofs.«01_k».proof.Proof.Mla.Out
public import proofs.«01_k».proof.Proof.Mla.Ref
public import Idealize.ShloMosaic.Adequacy

@[expose] public section

set_option maxRecDepth 16384

noncomputable section

namespace Cert.Mla

open Idealize.ShloMosaic Idealize.ShloMosaic.TcCoe Idealize.SL.Sem

/-- The compiled kernel ends, its arguments unchanged and its counters at zero. -/
theorem frame_kernel : Cert.quiescent_Kernel := fun m ρ h => Cert.Kernel.Gen.frame 0 m ρ (pinned m h)

/-- The same of its idealization. -/
theorem frame_ideal : Cert.quiescent_KernelIdeal := fun m ρ h => Cert.KernelIdeal.Gen.frame 0 m ρ (pinnedI m h)

theorem frame_ideal_finite : Cert.quiescent_KernelIdeal_pre_causal_finite := fun m ρ h =>
  Cert.KernelIdeal.Gen.frame 0 m ρ (pinnedF m h)

/-- The same of the reference, which declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_finite : Cert.quiescent_ReferenceIdeal_pre_causal_finite := fun m ρ _ => frame_ref m ρ trivial

/-- The reference's result array, of the kernel's arguments, is the kernel's. -/
theorem ref_out (m : (ℓ : Loc Cert.KernelIdeal.nD Cert.KernelIdeal.τ Cert.KernelIdeal.sig) → Buf (Elt Ideal) ℓ)
    (c : Dev Cert.KernelIdeal.nD) :
    Cert.ReferenceIdeal.Read.val_main_v23 (F := Ideal) (qA m c) (kA m c) (vA m c) (wA m c) = outArr m c := by
  funext i
  obtain ⟨b, q, e, rfl⟩ : ∃ (b : Fin 2) (q : Fin 8192) (e : Fin 256), i = (ix3 b q e : Cert.KernelIdeal.S2x8192x256.Idx) :=
    ⟨_, _, _, eq_ix3 i⟩
  exact Ref.v23_at (qA m c) (kA m c) (vA m c) (wA m c) b q e

/-- The kernel's result is the reference's, over the extended reals. -/
theorem value : Cert.algebraic_KernelIdeal_ReferenceIdeal_pre_causal_finite := by
  intro m ρ m' ρ' hpre hagree
  refine ⟨fun c => outArr m c, ?_, ?_⟩
  · refine (θ_run Cert.KernelIdeal.defs _ _).mono (fun r h c => ?_)
      (θ_run_and (Cert.KernelIdeal.Gen.unchanged 0 m ρ (pinnedF m hpre)) (Cert.KernelIdeal.Gen.run_main 0 m ρ (pinnedF m hpre)))
    obtain ⟨-, h1, hq, hk⟩ := finite_all m c hpre
    exact ⟨((h.2 c).1 (4 : Fin 5)).trans (arr_out m ρ c h1 hq hk), h.1 c⟩
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v23_eq _ _ _ _).trans ?_)
    obtain ⟨-, -, e2, e3, e4, e5⟩ := hagree c
    rw [e2, e3, e4, e5]
    exact ref_out m c

end Cert.Mla

end
-- ==== Proof.Ffn.Spec.lean ====
/-
  The end of a layer, row by row: what both programs of the second call compute from its arguments.
-/
module

public import Idealize.ShloMosaic.Lib.Pointwise

@[expose] public section

noncomputable section

namespace Cert.Ffn

open Idealize.ShloMosaic

/-- The residual row's entry: the row's own, and the three heads' parts of the output projection. -/
def resid (x : EReal) (oa : Fin 256 → EReal) (og : Fin 512 → EReal) (oc : Fin 256 → EReal) (wa : Fin 256 → EReal)
    (wg : Fin 512 → EReal) (wc : Fin 256 → EReal) : EReal :=
  x + (((∑ k, oa k * wa k) + ∑ k, og k * wg k) + ∑ k, oc k * wc k)

/-- A row divided by the root of the mean of its squares, times the weight. -/
def normed (v w : Fin 1024 → EReal) (e : Fin 1024) : EReal :=
  v e * Ideal.rsqrt (Ideal.div (∑ k, v k * v k) (Ideal.ofBits .f32 0x44800000#32) + Ideal.ofBits .f32 0x358637BD#32) * w e

/-- The convolution of three gate entries, its sigmoid gate, and the product with the up projection's entry. -/
def gated (cb c0 c1 c2 g2 g1 g0 u : EReal) : EReal :=
  (cb + g2 * c0 + g1 * c1 + g0 * c2) * Ideal.logistic (cb + g2 * c0 + g1 * c1 + g0 * c2) * u

/-- The call's arguments, as functions of their coordinates. -/
structure Args where
  x : Fin 2 → Fin 8192 → Fin 1024 → EReal
  oa : Fin 2 → Fin 8192 → Fin 256 → EReal
  og : Fin 2 → Fin 8192 → Fin 512 → EReal
  oc : Fin 2 → Fin 8192 → Fin 256 → EReal
  wo : Fin 1024 → Fin 1024 → EReal
  fn : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  fw : Fin 1024 → EReal

variable (A : Args)

/-- The residual row. -/
def row (b : Fin 2) (t : Fin 8192) (e : Fin 1024) : EReal :=
  resid (A.x b t e) (A.oa b t) (A.og b t) (A.oc b t) (fun k => A.wo ⟨k.val, by omega⟩ e)
    (fun k => A.wo ⟨256 + k.val, by omega⟩ e) (fun k => A.wo ⟨768 + k.val, by omega⟩ e)

/-- The gate projection of the normalised row. -/
def gate (b : Fin 2) (t : Fin 8192) (f : Fin 2816) : EReal := ∑ k, normed (row A b t) A.fn k * A.wg k f

/-- The up projection of the normalised row. -/
def up (b : Fin 2) (t : Fin 8192) (f : Fin 2816) : EReal := ∑ k, normed (row A b t) A.fn k * A.wu k f

/-- The gate projection `j` positions back, zero before the first position. -/
def back (j : ℕ) (b : Fin 2) (t : Fin 8192) (f : Fin 2816) : EReal :=
  if t.val < j then 0 else gate A b ⟨t.val - j, by omega⟩ f

/-- The row that leaves the layer. -/
def out (b : Fin 2) (t : Fin 8192) (e : Fin 1024) : EReal :=
  row A b t e + ∑ f, gated (A.cb f) (A.cw 0 f) (A.cw 1 f) (A.cw 2 f) (back A 2 b t f) (back A 1 b t f) (gate A b t f)
    (up A b t f) * A.wd f e

/-- The same normalised. -/
def outNormed (b : Fin 2) (t : Fin 8192) (e : Fin 1024) : EReal := normed (out A b t) A.fw e

/-- A sum over the heads' columns, by the three heads. -/
theorem sum_heads (f : Fin 1024 → EReal) : ∑ k, f k = ((∑ k : Fin 256, f ⟨k.val, by omega⟩)
    + ∑ k : Fin 512, f ⟨256 + k.val, by omega⟩) + ∑ k : Fin 256, f ⟨768 + k.val, by omega⟩ := by
  have h := Fin.sum_univ_add (a := 256 + 512) (b := 256) f
  have h' := Fin.sum_univ_add (a := 256) (b := 512) fun i => f (Fin.castAdd 256 i)
  exact h.trans (congrArg (· + _) h')

end Cert.Ffn

end
-- ==== Proof.Ffn.Body.lean ====
/-
  What the body of the second call computes from its blocks, read at an index: the residual row after the output
  projection, its normalisation, the gate and the up projection, the gate rows one and two positions back, and the
  rows of the result.
-/
module

public import proofs.«01_k».proof.Proof.Gen.Kernel2Ideal.Skeleton
public import proofs.«01_k».proof.Proof.Ffn.Spec

@[expose] public section

set_option maxRecDepth 16384

noncomputable section

namespace Cert.Ffn

open Idealize.ShloMosaic Idealize.ShloMosaic.TcCoe Cert.Kernel2Ideal Cert.Kernel2Ideal.Gen

/-- A choice by whether the row's number is `n`. -/
theorem select_row (r : Fin 256) (n : ℕ) (hn : n < 256) (a b : EReal) :
    Scalar.select (IntOp.cmpi CmpIPredicate.eq (BitVec.ofNat 32 r.val) (BitVec.ofNat 32 n)) a b = if r.val = n then a else b := by
  have hr := r.isLt
  have h : (BitVec.ofNat 32 r.val == BitVec.ofNat 32 n) = decide (r.val = n) := by
    rw [Bool.eq_iff_iff, beq_iff_eq, decide_eq_true_iff]
    refine ⟨fun e => ?_, fun e => by rw [e]⟩
    have := congrArg BitVec.toNat e
    rw [BitVec.toNat_ofNat, BitVec.toNat_ofNat, Nat.mod_eq_of_lt (by omega), Nat.mod_eq_of_lt (by omega)] at this
    exact this
  show Scalar.select (BitVec.ofBool _) a b = _
  rw [h]
  by_cases e : r.val = n <;> simp [e, Scalar.select]

section
variable (v0 : Vec Ideal S1x256x1024 .f32) (v2 : Vec Ideal S1x256x256 .bf16) (v4 : Vec Ideal S256x1024 .bf16)
  (v6 : Vec Ideal S1x256x512 .bf16) (v8 : Vec Ideal S512x1024 .bf16) (v11 : Vec Ideal S1x256x256 .bf16)
  (v13 : Vec Ideal S256x1024 .bf16) (v27 : Vec Ideal S1x1024 .f32)

theorem resid_apply (r : Fin 256) (e : Fin 1024) : (k0_pay2 v0 v2 v4 v6 v8 v11 v13 (ix2 r e) : EReal)
    = resid (v0 (ix3 0 r e)) (fun k => v2 (ix3 0 r k)) (fun k => v6 (ix3 0 r k)) (fun k => v11 (ix3 0 r k))
        (fun k => v4 (ix2 k e)) (fun k => v8 (ix2 k e)) (fun k => v13 (ix2 k e)) := by
  unfold k0_pay2 resid
  pointwise

theorem normed_apply (r : Fin 256) (e : Fin 1024) : (k0_pay3 v0 v2 v4 v6 v8 v11 v13 v27 (ix2 r e) : EReal)
    = normed (fun k => k0_pay2 v0 v2 v4 v6 v8 v11 v13 (ix2 r k)) (fun k => v27 (ix2 0 k)) e := by
  unfold k0_pay3 normed
  generalize k0_pay2 v0 v2 v4 v6 v8 v11 v13 = p
  pointwise
end

section
variable (v30 : FVec Ideal S256x1024 .bf16) (v31 v33 : Vec Ideal S1024x2816 .bf16) (v41 v42 : Vec Ideal S1x2816 .f32)

theorem gate_apply (r : Fin 256) (f : Fin 2816) : (k0_pay4 v30 v31 (ix2 r f) : EReal)
    = ∑ k : Fin 1024, (v30 (ix2 r k) : EReal) * v31 (ix2 k f) := by
  unfold k0_pay4
  pointwise

theorem up_apply (r : Fin 256) (f : Fin 2816) : (k0_pay5 v30 v33 (ix2 r f) : EReal)
    = ∑ k : Fin 1024, (v30 (ix2 r k) : EReal) * v33 (ix2 k f) := by
  unfold k0_pay5
  pointwise

theorem tail_apply (r : Fin 8) (f : Fin 2816) : (k0_pay10 v30 v31 (ix2 r f) : EReal)
    = k0_pay4 v30 v31 (ix2 ⟨248 + r.val, by omega⟩ f) := by
  unfold k0_pay10 k0_pay9
  generalize k0_pay4 v30 v31 = p
  pointwise

theorem tailOut_apply (r : Fin 8) (f : Fin 2816) : (k0_pay11 v30 v31 (ix4 0 0 r f) : EReal)
    = k0_pay4 v30 v31 (ix2 ⟨248 + r.val, by omega⟩ f) := by
  unfold k0_pay11 k0_pay9
  generalize k0_pay4 v30 v31 = p
  pointwise

theorem back1_apply (r : Fin 256) (f : Fin 2816) : (k0_pay7 v30 v31 v42 (ix2 r f) : EReal)
    = if r.val = 0 then v42 (ix2 0 f) else k0_pay4 v30 v31 (ix2 ⟨(r.val + 255) % 256, Nat.mod_lt _ (by decide)⟩ f) := by
  unfold k0_pay7
  generalize k0_pay4 v30 v31 = p
  pointwise
  rw [select_row r 0 (by decide)]
  rfl

theorem back2_apply (r : Fin 256) (f : Fin 2816) : (k0_pay8 v30 v31 v41 v42 (ix2 r f) : EReal)
    = if r.val = 0 then v41 (ix2 0 f) else if r.val = 1 then v42 (ix2 0 f)
      else k0_pay4 v30 v31 (ix2 ⟨(r.val + 254) % 256, Nat.mod_lt _ (by decide)⟩ f) := by
  unfold k0_pay8
  generalize k0_pay4 v30 v31 = p
  pointwise
  rw [select_row r 0 (by decide), select_row r 1 (by decide)]
  rfl
end

section
variable (v16 : FVec Ideal S256x1024 .f32) (v32 v34 v47 v57 : FVec Ideal S256x2816 .f32) (v65 v66 v71 v75 : Vec Ideal S1x2816 .f32)
  (v83 : Vec Ideal S2816x1024 .bf16) (v99 : Vec Ideal S1x1024 .f32)

theorem out_apply (r : Fin 256) (e : Fin 1024) : (k0_pay12 v16 v32 v34 v47 v57 v65 v66 v71 v75 v83 (ix2 r e) : EReal)
    = (v16 (ix2 r e) : EReal) + ∑ f : Fin 2816, gated (v65 (ix2 0 f)) (v66 (ix2 0 f)) (v71 (ix2 0 f)) (v75 (ix2 0 f))
        (v57 (ix2 r f)) (v47 (ix2 r f)) (v32 (ix2 r f)) (v34 (ix2 r f)) * v83 (ix2 f e) := by
  unfold k0_pay12 gated
  pointwise

theorem outBlock_apply (r : Fin 256) (e : Fin 1024) :
    (k0_pay13 v16 v32 v34 v47 v57 v65 v66 v71 v75 v83 (ix3 0 r e) : EReal)
    = k0_pay12 v16 v32 v34 v47 v57 v65 v66 v71 v75 v83 (ix2 r e) := by
  unfold k0_pay13
  generalize k0_pay12 v16 v32 v34 v47 v57 v65 v66 v71 v75 v83 = p
  pointwise

theorem final_apply (r : Fin 256) (e : Fin 1024) :
    (k0_pay1 (k0_pay14 v16 v32 v34 v47 v57 v65 v66 v71 v75 v83 v99) (ix3 0 r e) : EReal)
    = normed (fun k => k0_pay12 v16 v32 v34 v47 v57 v65 v66 v71 v75 v83 (ix2 r k)) (fun k => v99 (ix2 0 k)) e := by
  unfold k0_pay1 k0_pay14 normed
  generalize k0_pay12 v16 v32 v34 v47 v57 v65 v66 v71 v75 v83 = p
  pointwise
end

end Cert.Ffn

end
-- ==== Proof.Ffn.Run.lean ====
/-
  What the body leaves at a point: the two results' rows, the tail rows, and the carried rows, as the named parts of its
  blocks.
-/
module

public import proofs.«01_k».proof.Proof.Gen.Kernel2Ideal.Frame
public import proofs.«01_k».proof.Proof.Ffn.Body
public import Idealize.ShloMosaic.Lib.Pipeline.ValueKit.Acc
public import Idealize.ShloMosaic.Lib.VecWindow

@[expose] public section

set_option maxRecDepth 16384

noncomputable section

namespace Cert.Ffn

open Idealize.ShloMosaic Idealize.ShloMosaic.TcCoe Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (x0 : Vec Ideal S1x256x1024 .f32) (x1 : Vec Ideal S1x256x256 .bf16) (x2 : Vec Ideal S1x256x512 .bf16)
  (x3 : Vec Ideal S1x256x256 .bf16) (x4 : Vec Ideal S1024x1024 .bf16) (x5 : Vec Ideal S1x1024 .f32)
  (x6 x7 : Vec Ideal S1024x2816 .bf16) (x8 : Vec Ideal S3x2816 .f32) (x9 : Vec Ideal S1x2816 .f32)
  (x10 : Vec Ideal S2816x1024 .bf16) (x11 : Vec Ideal S1x1024 .f32) (xs : Vec Ideal S8x2816 .f32)
  (l6 l7 : Vec Ideal S1x2816 .f32)

/-- The output projection's rows for the first, the second and the third head. -/
def woA : Vec Ideal S256x1024 .bf16 := View.ld x4 (Rect.unit (s := S1024x1024) ![0, 0] S256x1024.size inb_S1024x1024_S256x1024_0_0)
def woG : Vec Ideal S512x1024 .bf16 := View.ld x4 (Rect.unit (s := S1024x1024) ![256, 0] S512x1024.size inb_S1024x1024_S512x1024_256_0)
def woC : Vec Ideal S256x1024 .bf16 := View.ld x4 (Rect.unit (s := S1024x1024) ![768, 0] S256x1024.size inb_S1024x1024_S256x1024_768_0)

/-- The convolution's three rows of weights. -/
def cw0 : Vec Ideal S1x2816 .f32 := View.ld x8 (Rect.unit (s := S3x2816) ![0, 0] ![1, 2816] inb_S3x2816_S1x2816_0_0)
def cw1 : Vec Ideal S1x2816 .f32 := View.ld x8 (Rect.unit (s := S3x2816) ![1, 0] ![1, 2816] inb_S3x2816_S1x2816_1_0)
def cw2 : Vec Ideal S1x2816 .f32 := View.ld x8 (Rect.unit (s := S3x2816) ![2, 0] ![1, 2816] inb_S3x2816_S1x2816_2_0)

/-- The last two of the carried rows. -/
def last6 : Vec Ideal S1x2816 .f32 := View.ld xs (Rect.unit (s := S8x2816) ![6, 0] S1x2816.size inb_S8x2816_S1x2816_6_0)
def last7 : Vec Ideal S1x2816 .f32 := View.ld xs (Rect.unit (s := S8x2816) ![7, 0] S1x2816.size inb_S8x2816_S1x2816_7_0)

/-- The block's residual rows, and the same normalised. -/
def bRow : FVec Ideal S256x1024 .f32 := k0_pay2 x0 x1 (woA x4) x2 (woG x4) x3 (woC x4)
def bNorm : FVec Ideal S256x1024 .bf16 := k0_pay3 x0 x1 (woA x4) x2 (woG x4) x3 (woC x4) x5

/-- What is carried to the next block, and the same as a block of the second result. -/
def bCarry : Vec Ideal S8x2816 .f32 := k0_pay10 (bNorm x0 x1 x2 x3 x4 x5) x6
def bTail : Vec Ideal S1x1x8x2816 .f32 := k0_pay11 (bNorm x0 x1 x2 x3 x4 x5) x6

/-- The block of the first result, over the two gate rows before it. -/
def bOut : Vec Ideal S1x256x1024 .f32 :=
  k0_pay13 (bRow x0 x1 x2 x3 x4) (k0_pay4 (bNorm x0 x1 x2 x3 x4 x5) x6) (k0_pay5 (bNorm x0 x1 x2 x3 x4 x5) x7)
    (k0_pay7 (bNorm x0 x1 x2 x3 x4 x5) x6 l7) (k0_pay8 (bNorm x0 x1 x2 x3 x4 x5) x6 l6 l7) x9 (cw0 x8) (cw1 x8) (cw2 x8) x10

/-- The block of the third result, over the two gate rows before it. -/
def bFinal : Vec Ideal S1x256x1024 .f32 :=
  k0_pay1 (k0_pay14 (bRow x0 x1 x2 x3 x4) (k0_pay4 (bNorm x0 x1 x2 x3 x4 x5) x6) (k0_pay5 (bNorm x0 x1 x2 x3 x4 x5) x7)
    (k0_pay7 (bNorm x0 x1 x2 x3 x4 x5) x6 l7) (k0_pay8 (bNorm x0 x1 x2 x3 x4 x5) x6 l6 l7) x9 (cw0 x8) (cw1 x8) (cw2 x8) x10 x11)

theorem zeros6 : (k0_pay6 (F := Ideal) : S8x2816.Idx → EReal) = fun _ => 0 := by
  funext j
  unfold k0_pay6
  pointwise

/-- A carried row read right after the fill with zeros. -/
theorem readCov_zeros {κ : Kind} {sp : Space} {sig : RefSig} (v : View sig κ sp S8x2816 .f32) (n : ℕ) (inb) (inb') :
    v.readCov [(⟨Rect.unit (s := S8x2816) ![0, 0] S8x2816.size inb, k0_pay6 (F := Ideal)⟩ : View.Piece (Elt Ideal) S8x2816 .f32)]
        (Rect.unit (s := S8x2816) ![n, 0] S1x2816.size inb').toLoadRect
      = fun _ => (0 : EReal) := by
  rw [View.readCov_eq_canon', View.canon_unit_zero hz2, zeros6]

theorem ld_bias : View.ld x9 (Rect.unit (s := S1x2816) ![0, 0] ![1, 2816] inb_S1x2816_S1x2816_0_0) = x9 :=
  View.ld_unit_zero (S := S1x2816) hz2 _ _
theorem ld_down : View.ld x10 (Rect.unit (s := S2816x1024) ![0, 0] ![2816, 1024] inb_S2816x1024_S2816x1024_0_0) = x10 :=
  View.ld_unit_zero (S := S2816x1024) hz2 _ _
theorem ld_weight : View.ld x11 (Rect.unit (s := S1x1024) ![0, 0] ![1, 1024] inb_S1x1024_S1x1024_0_0) = x11 :=
  View.ld_unit_zero (S := S1x1024) hz2 _ _
end

variable (c : Dev nD) (i : grid0.Coords)
  (arg2 : Memref sig .tc .vmem S1x256x1024 .f32) (h2 : arg2.IsWhole)  (arg3 : Memref sig .tc .vmem S1x256x256 .bf16) (h3 : arg3.IsWhole)
  (arg4 : Memref sig .tc .vmem S1x256x512 .bf16) (h4 : arg4.IsWhole)  (arg5 : Memref sig .tc .vmem S1x256x256 .bf16) (h5 : arg5.IsWhole)
  (arg6 : Memref sig .tc .vmem S1024x1024 .bf16) (h6 : arg6.IsWhole)  (arg7 : Memref sig .tc .vmem S1x1024 .f32) (h7 : arg7.IsWhole)
  (arg8 : Memref sig .tc .vmem S1024x2816 .bf16) (h8 : arg8.IsWhole)  (arg9 : Memref sig .tc .vmem S1024x2816 .bf16) (h9 : arg9.IsWhole)
  (arg10 : Memref sig .tc .vmem S3x2816 .f32) (h10 : arg10.IsWhole)  (arg11 : Memref sig .tc .vmem S1x2816 .f32) (h11 : arg11.IsWhole)
  (arg12 : Memref sig .tc .vmem S2816x1024 .bf16) (h12 : arg12.IsWhole)  (arg13 : Memref sig .tc .vmem S1x1024 .f32) (h13 : arg13.IsWhole)
  (arg14 : Memref sig .tc .vmem S1x256x1024 .f32) (h14 : arg14.IsWhole)  (arg15 : Memref sig .tc .vmem S1x1x8x2816 .f32) (h15 : arg15.IsWhole)
  (arg16 : Memref sig .tc .vmem S1x256x1024 .f32) (h16 : arg16.IsWhole)  (arg17 : Memref sig .tc .vmem S8x2816 .f32) (h17 : arg17.IsWhole)
  (x0 : Vec Ideal S1x256x1024 .f32) (x1 : Vec Ideal S1x256x256 .bf16) (x2 : Vec Ideal S1x256x512 .bf16) (x3 : Vec Ideal S1x256x256 .bf16)
  (x4 : Vec Ideal S1024x1024 .bf16) (x5 : Vec Ideal S1x1024 .f32) (x6 : Vec Ideal S1024x2816 .bf16)
  (x7 : Vec Ideal S1024x2816 .bf16) (x8 : Vec Ideal S3x2816 .f32) (x9 : Vec Ideal S1x2816 .f32)
  (x10 : Vec Ideal S2816x1024 .bf16) (x11 : Vec Ideal S1x1024 .f32) (xs : Vec Ideal S8x2816 .f32)

/-- In the first block of a sequence: the carried rows. -/
theorem carry_A (hc0) : sout0_A_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11
    = bCarry x0 x1 x2 x3 x4 x5 x6 := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11)]
  unfold kernelRun0_A
  dsimp only
  sl_unfold_words
  rw [View.canon_cons_unit_zero (S := S8x2816) hz2]
  simp only [View.readAt_eq_ld, h2.read_unread, h3.read_unread, h4.read_unread, h5.read_unread, h6.read_unread, h7.read_unread,
    h8.read_unread, h9.read_unread, h10.read_unread, h11.read_unread, h12.read_unread, h13.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In the first block of a sequence: the first result. -/
theorem out_A (hc0) : out0_A_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11
    = bOut x0 x1 x2 x3 x4 x5 x6 x7 x8 x9 x10 (fun _ => (0 : EReal)) (fun _ => (0 : EReal)) := by
  unfold out0_A_12
  rw [View.read_writes_eq_canon _ _ _ (cover0_A_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11)]
  unfold kernelRun0_A
  dsimp only
  sl_unfold_words
  rw [View.canon_unit_zero (S := S1x256x1024) hz3]
  rw [readCov_zeros arg17.view 7, readCov_zeros arg17.view 6]
  simp only [View.readAt_eq_ld, h2.read_unread, h3.read_unread, h4.read_unread, h5.read_unread, h6.read_unread, h7.read_unread,
    h8.read_unread, h9.read_unread, h10.read_unread, h11.read_unread, h12.read_unread, h13.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In the first block of a sequence: the second result. -/
theorem tail_A (hc0) : out0_A_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11
    = bTail x0 x1 x2 x3 x4 x5 x6 := by
  unfold out0_A_13
  rw [View.read_writes_eq_canon _ _ _ (cover0_A_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11)]
  unfold kernelRun0_A
  dsimp only
  sl_unfold_words
  rw [View.canon_unit_zero (S := S1x1x8x2816) hz4]
  simp only [View.readAt_eq_ld, h2.read_unread, h3.read_unread, h4.read_unread, h5.read_unread, h6.read_unread, h7.read_unread,
    h8.read_unread, h9.read_unread, h10.read_unread, h11.read_unread, h12.read_unread, h13.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In the first block of a sequence: the third result. -/
theorem final_A (hc0) : out0_A_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11
    = bFinal x0 x1 x2 x3 x4 x5 x6 x7 x8 x9 x10 x11 (fun _ => (0 : EReal)) (fun _ => (0 : EReal)) := by
  unfold out0_A_14
  rw [View.read_writes_eq_canon _ _ _ (cover0_A_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11)]
  unfold kernelRun0_A
  dsimp only
  sl_unfold_words
  rw [View.canon_unit_zero (S := S1x256x1024) hz3]
  rw [readCov_zeros arg17.view 7, readCov_zeros arg17.view 6]
  simp only [View.readAt_eq_ld, h2.read_unread, h3.read_unread, h4.read_unread, h5.read_unread, h6.read_unread, h7.read_unread,
    h8.read_unread, h9.read_unread, h10.read_unread, h11.read_unread, h12.read_unread, h13.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In a later block: the carried rows. -/
theorem carry_B (hc0) : sout0_B_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs
    = bCarry x0 x1 x2 x3 x4 x5 x6 := by
  unfold sout0_B_0
  rw [View.read_writes_eq_canon _ _ _ (scover0_B_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs)]
  unfold kernelRun0_B
  dsimp only
  sl_unfold_words
  rw [View.canon_cons_unit_zero (S := S8x2816) hz2]
  simp only [View.readAt_eq_ld, h2.read_unread, h3.read_unread, h4.read_unread, h5.read_unread, h6.read_unread, h7.read_unread,
    h8.read_unread, h9.read_unread, h10.read_unread, h11.read_unread, h12.read_unread, h13.read_unread, h17.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In a later block: the first result. -/
theorem out_B (hc0) : out0_B_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs
    = bOut x0 x1 x2 x3 x4 x5 x6 x7 x8 x9 x10 (last6 xs) (last7 xs) := by
  unfold out0_B_12
  rw [View.read_writes_eq_canon _ _ _ (cover0_B_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs)]
  unfold kernelRun0_B
  dsimp only
  sl_unfold_words
  rw [View.canon_unit_zero (S := S1x256x1024) hz3]
  simp only [View.readAt_eq_ld, h2.read_unread, h3.read_unread, h4.read_unread, h5.read_unread, h6.read_unread, h7.read_unread,
    h8.read_unread, h9.read_unread, h10.read_unread, h11.read_unread, h12.read_unread, h13.read_unread, h17.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In a later block: the second result. -/
theorem tail_B (hc0) : out0_B_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs
    = bTail x0 x1 x2 x3 x4 x5 x6 := by
  unfold out0_B_13
  rw [View.read_writes_eq_canon _ _ _ (cover0_B_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs)]
  unfold kernelRun0_B
  dsimp only
  sl_unfold_words
  rw [View.canon_unit_zero (S := S1x1x8x2816) hz4]
  simp only [View.readAt_eq_ld, h2.read_unread, h3.read_unread, h4.read_unread, h5.read_unread, h6.read_unread, h7.read_unread,
    h8.read_unread, h9.read_unread, h10.read_unread, h11.read_unread, h12.read_unread, h13.read_unread, h17.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In a later block: the third result. -/
theorem final_B (hc0) : out0_B_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs
    = bFinal x0 x1 x2 x3 x4 x5 x6 x7 x8 x9 x10 x11 (last6 xs) (last7 xs) := by
  unfold out0_B_14
  rw [View.read_writes_eq_canon _ _ _ (cover0_B_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs)]
  unfold kernelRun0_B
  dsimp only
  sl_unfold_words
  rw [View.canon_unit_zero (S := S1x256x1024) hz3]
  simp only [View.readAt_eq_ld, h2.read_unread, h3.read_unread, h4.read_unread, h5.read_unread, h6.read_unread, h7.read_unread,
    h8.read_unread, h9.read_unread, h10.read_unread, h11.read_unread, h12.read_unread, h13.read_unread, h17.read_unread, ld_bias, ld_down, ld_weight,
    View.ld_unit_zero (S := S1x256x1024) hz3, View.ld_unit_zero (S := S1x256x256) hz3, View.ld_unit_zero (S := S1x256x512) hz3,
    View.ld_unit_zero (S := S1x1024) hz2, View.ld_unit_zero (S := S1024x2816) hz2]
  rfl

/-- In the first block of a sequence: all four. -/
theorem leaves_A (hc0) (T : Vec Ideal S1x256x1024 .f32 × Vec Ideal S1x1x8x2816 .f32 × Vec Ideal S1x256x1024 .f32 × Vec Ideal S8x2816 .f32)
    (hT : T = (out0_A_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11, out0_A_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11, out0_A_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11, sout0_A_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11)) :
    T.1 = bOut x0 x1 x2 x3 x4 x5 x6 x7 x8 x9 x10 (fun _ => (0 : EReal)) (fun _ => (0 : EReal)) ∧ T.2.1 = bTail x0 x1 x2 x3 x4 x5 x6 ∧ T.2.2.1 = bFinal x0 x1 x2 x3 x4 x5 x6 x7 x8 x9 x10 x11 (fun _ => (0 : EReal)) (fun _ => (0 : EReal))
      ∧ T.2.2.2 = bCarry x0 x1 x2 x3 x4 x5 x6 := by
  have e1 := out_A c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 hc0
  have e2 := tail_A c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 hc0
  have e3 := final_A c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 hc0
  have e4 := carry_A c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 hc0
  subst hT
  dsimp only
  exact ⟨e1, e2, e3, e4⟩

/-- In a later block: all four. -/
theorem leaves_B (hc0) (T : Vec Ideal S1x256x1024 .f32 × Vec Ideal S1x1x8x2816 .f32 × Vec Ideal S1x256x1024 .f32 × Vec Ideal S8x2816 .f32)
    (hT : T = (out0_B_12 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs, out0_B_13 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs, out0_B_14 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs, sout0_B_0 c i arg2 h2 arg3 h3 arg4 h4 arg5 h5 arg6 h6 arg7 h7 arg8 h8 arg9 h9 arg10 h10 arg11 h11 arg12 h12 arg13 h13 arg14 h14 arg15 h15 arg16 h16 arg17 h17 hc0 x0 x1 x2 x3 x4 x5 x6 x7 x8 x9 x10 x11 xs)) :
    T.1 = bOut x0 x1 x2 x3 x4 x5 x6 x7 x8 x9 x10 (last6 xs) (last7 xs) ∧ T.2.1 = bTail x0 x1 x2 x3 x4 x5 x6 ∧ T.2.2.1 = bFinal x0 x1 x2 x3 x4 x5 x6 x7 x8 x9 x10 x11 (last6 xs) (last7 xs)
      ∧ T.2.2.2 = bCarry x0 x1 x2 x3 x4 x5 x6 := by
  have e1 := out_B c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 xs hc0
  have e2 := tail_B c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 xs hc0
  have e3 := final_B c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 xs hc0
  have e4 := carry_B c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 x9 x10 x11 xs hc0
  subst hT
  dsimp only
  exact ⟨e1, e2, e3, e4⟩

end Cert.Ffn

end
-- ==== Proof.Ffn.Point.lean ====
/-
  One point of the grid: when its blocks are the arguments' rows of one tile of 256, and the two gate rows before the tile
  are given, the blocks it leaves are the named rows of the layer.
-/
module

public import proofs.«01_k».proof.Proof.Ffn.Run

@[expose] public section

set_option maxRecDepth 16384

noncomputable section

namespace Cert.Ffn

open Idealize.ShloMosaic Idealize.ShloMosaic.TcCoe Cert.Kernel2Ideal Cert.Kernel2Ideal.Gen

/-- Position `r` of tile `q`. -/
def pos (q : Fin 32) (r : Fin 256) : Fin 8192 := ⟨256 * q.val + r.val, by omega⟩

/-- One of the last eight rows of a tile. -/
def late (r : Fin 8) : Fin 256 := ⟨248 + r.val, by omega⟩

variable (A : Args) (b : Fin 2) (q : Fin 32)
  (x0 : Vec Ideal S1x256x1024 .f32) (x1 : Vec Ideal S1x256x256 .bf16) (x2 : Vec Ideal S1x256x512 .bf16)
  (x3 : Vec Ideal S1x256x256 .bf16) (x4 : Vec Ideal S1024x1024 .bf16) (x5 : Vec Ideal S1x1024 .f32)
  (x6 x7 : Vec Ideal S1024x2816 .bf16) (x8 : Vec Ideal S3x2816 .f32) (x9 : Vec Ideal S1x2816 .f32)
  (x10 : Vec Ideal S2816x1024 .bf16) (x11 : Vec Ideal S1x1024 .f32) (xs : Vec Ideal S8x2816 .f32)
  (l6 l7 : Vec Ideal S1x2816 .f32)

theorem woA_at (k : Fin 256) (e : Fin 1024) : (woA x4 (ix2 k e) : EReal) = x4 (ix2 ⟨k.val, by omega⟩ e) := by
  refine congrArg x4 (funext fun a => Fin.ext ?_)
  refine (congrArg ((![0, 0] : Fin 2 → ℕ) a + ·) (Nat.one_mul _)).trans ?_
  fin_cases a <;> exact Nat.zero_add _

theorem woG_at (k : Fin 512) (e : Fin 1024) : (woG x4 (ix2 k e) : EReal) = x4 (ix2 ⟨256 + k.val, by omega⟩ e) := by
  refine congrArg x4 (funext fun a => Fin.ext ?_)
  refine (congrArg ((![256, 0] : Fin 2 → ℕ) a + ·) (Nat.one_mul _)).trans ?_
  fin_cases a
  · rfl
  · exact Nat.zero_add _

theorem woC_at (k : Fin 256) (e : Fin 1024) : (woC x4 (ix2 k e) : EReal) = x4 (ix2 ⟨768 + k.val, by omega⟩ e) := by
  refine congrArg x4 (funext fun a => Fin.ext ?_)
  refine (congrArg ((![768, 0] : Fin 2 → ℕ) a + ·) (Nat.one_mul _)).trans ?_
  fin_cases a
  · rfl
  · exact Nat.zero_add _

theorem cw0_at (f : Fin 2816) : (cw0 x8 (ix2 (0 : Fin 1) f) : EReal) = x8 (ix2 0 f) := by
  refine congrArg x8 (funext fun a => Fin.ext ?_)
  refine (congrArg ((![0, 0] : Fin 2 → ℕ) a + ·) (Nat.one_mul _)).trans ?_
  fin_cases a
  · rfl
  · exact Nat.zero_add _

theorem cw1_at (f : Fin 2816) : (cw1 x8 (ix2 (0 : Fin 1) f) : EReal) = x8 (ix2 1 f) := by
  refine congrArg x8 (funext fun a => Fin.ext ?_)
  refine (congrArg ((![1, 0] : Fin 2 → ℕ) a + ·) (Nat.one_mul _)).trans ?_
  fin_cases a
  · rfl
  · exact Nat.zero_add _

theorem cw2_at (f : Fin 2816) : (cw2 x8 (ix2 (0 : Fin 1) f) : EReal) = x8 (ix2 2 f) := by
  refine congrArg x8 (funext fun a => Fin.ext ?_)
  refine (congrArg ((![2, 0] : Fin 2 → ℕ) a + ·) (Nat.one_mul _)).trans ?_
  fin_cases a
  · rfl
  · exact Nat.zero_add _

theorem last6_at (f : Fin 2816) : (last6 xs (ix2 0 f) : EReal) = xs (ix2 6 f) := by
  refine congrArg xs (funext fun a => Fin.ext ?_)
  refine (congrArg ((![6, 0] : Fin 2 → ℕ) a + ·) (Nat.one_mul _)).trans ?_
  fin_cases a
  · rfl
  · exact Nat.zero_add _

theorem last7_at (f : Fin 2816) : (last7 xs (ix2 0 f) : EReal) = xs (ix2 7 f) := by
  refine congrArg xs (funext fun a => Fin.ext ?_)
  refine (congrArg ((![7, 0] : Fin 2 → ℕ) a + ·) (Nat.one_mul _)).trans ?_
  fin_cases a
  · rfl
  · exact Nat.zero_add _

/-- The blocks are the arguments' rows of tile `q` of sequence `b`. -/
structure IsBlock : Prop where
  e0 : ∀ r e, (x0 (ix3 0 r e) : EReal) = A.x b (pos q r) e
  e1 : ∀ r e, (x1 (ix3 0 r e) : EReal) = A.oa b (pos q r) e
  e2 : ∀ r e, (x2 (ix3 0 r e) : EReal) = A.og b (pos q r) e
  e3 : ∀ r e, (x3 (ix3 0 r e) : EReal) = A.oc b (pos q r) e
  e4 : ∀ k e, (x4 (ix2 k e) : EReal) = A.wo k e
  e5 : ∀ e, (x5 (ix2 0 e) : EReal) = A.fn e
  e6 : ∀ k e, (x6 (ix2 k e) : EReal) = A.wg k e
  e7 : ∀ k e, (x7 (ix2 k e) : EReal) = A.wu k e
  e8 : ∀ k e, (x8 (ix2 k e) : EReal) = A.cw k e
  e9 : ∀ e, (x9 (ix2 0 e) : EReal) = A.cb e
  e10 : ∀ k e, (x10 (ix2 k e) : EReal) = A.wd k e
  e11 : ∀ e, (x11 (ix2 0 e) : EReal) = A.fw e

variable (h : IsBlock A b q x0 x1 x2 x3 x4 x5 x6 x7 x8 x9 x10 x11)
include h

theorem bRow_at (r : Fin 256) (e : Fin 1024) : (bRow x0 x1 x2 x3 x4 (ix2 r e) : EReal) = row A b (pos q r) e := by
  unfold bRow row
  rw [resid_apply]
  simp only [woA_at, woG_at, woC_at, h.e0, h.e1, h.e2, h.e3, h.e4]

theorem bNorm_at (r : Fin 256) (e : Fin 1024) : (bNorm x0 x1 x2 x3 x4 x5 (ix2 r e) : EReal) = normed (row A b (pos q r)) A.fn e := by
  unfold bNorm
  rw [normed_apply]
  exact congrArg₂ (fun v w => normed v w e) (funext fun k => bRow_at A b q x0 x1 x2 x3 x4 x5 x6 x7 x8 x9 x10 x11 h r k) (funext h.e5)

theorem bGate_at (r : Fin 256) (f : Fin 2816) : (k0_pay4 (bNorm x0 x1 x2 x3 x4 x5) x6 (ix2 r f) : EReal) = gate A b (pos q r) f := by
  rw [gate_apply]
  exact Finset.sum_congr rfl fun k _ =>
    congrArg₂ (· * ·) (bNorm_at A b q x0 x1 x2 x3 x4 x5 x6 x7 x8 x9 x10 x11 h r k) (h.e6 k f)

theorem bUp_at (r : Fin 256) (f : Fin 2816) : (k0_pay5 (bNorm x0 x1 x2 x3 x4 x5) x7 (ix2 r f) : EReal) = up A b (pos q r) f := by
  rw [up_apply]
  exact Finset.sum_congr rfl fun k _ =>
    congrArg₂ (· * ·) (bNorm_at A b q x0 x1 x2 x3 x4 x5 x6 x7 x8 x9 x10 x11 h r k) (h.e7 k f)

/-- The carried rows are the tile's last eight gate rows. -/
theorem bCarry_at (r : Fin 8) (f : Fin 2816) : (bCarry x0 x1 x2 x3 x4 x5 x6 (ix2 r f) : EReal) = gate A b (pos q (late r)) f := by
  unfold bCarry
  rw [tail_apply]
  exact bGate_at A b q x0 x1 x2 x3 x4 x5 x6 x7 x8 x9 x10 x11 h (late r) f

/-- The second result's block is the tile's last eight gate rows. -/
theorem bTail_at (r : Fin 8) (f : Fin 2816) : (bTail x0 x1 x2 x3 x4 x5 x6 (ix4 0 0 r f) : EReal) = gate A b (pos q (late r)) f := by
  unfold bTail
  rw [tailOut_apply]
  exact bGate_at A b q x0 x1 x2 x3 x4 x5 x6 x7 x8 x9 x10 x11 h (late r) f

variable (k6 : ∀ f, (l6 (ix2 0 f) : EReal) = back A 2 b (pos q 0) f) (k7 : ∀ f, (l7 (ix2 0 f) : EReal) = back A 1 b (pos q 0) f)
include k7

theorem bBack1_at (r : Fin 256) (f : Fin 2816) :
    (k0_pay7 (bNorm x0 x1 x2 x3 x4 x5) x6 l7 (ix2 r f) : EReal) = back A 1 b (pos q r) f := by
  rw [back1_apply]
  by_cases hr : r.val = 0
  · rw [if_pos hr, k7]
    exact congrArg (fun r => back A 1 b (pos q r) f) (Fin.ext hr.symm)
  · have hlt := r.isLt
    rw [if_neg hr, bGate_at A b q x0 x1 x2 x3 x4 x5 x6 x7 x8 x9 x10 x11 h]
    unfold back
    rw [if_neg (by unfold pos; dsimp only; omega)]
    exact congrArg (fun t => gate A b t f) (Fin.ext (by unfold pos; dsimp only; omega))

include k6

theorem bBack2_at (r : Fin 256) (f : Fin 2816) :
    (k0_pay8 (bNorm x0 x1 x2 x3 x4 x5) x6 l6 l7 (ix2 r f) : EReal) = back A 2 b (pos q r) f := by
  rw [back2_apply]
  by_cases hr : r.val = 0
  · rw [if_pos hr, k6]
    exact congrArg (fun r => back A 2 b (pos q r) f) (Fin.ext hr.symm)
  rw [if_neg hr]
  have hlt := r.isLt
  by_cases hr1 : r.val = 1
  · rw [if_pos hr1, k7]
    unfold back
    by_cases hq : q.val = 0
    · rw [if_pos (by unfold pos; dsimp only; omega), if_pos (by unfold pos; dsimp only; omega)]
    · rw [if_neg (by unfold pos; dsimp only; omega), if_neg (by unfold pos; dsimp only; omega)]
      exact congrArg (fun t => gate A b t f) (Fin.ext (by unfold pos; dsimp only; omega))
  · rw [if_neg hr1, bGate_at A b q x0 x1 x2 x3 x4 x5 x6 x7 x8 x9 x10 x11 h]
    unfold back
    rw [if_neg (by unfold pos; dsimp only; omega)]
    exact congrArg (fun t => gate A b t f) (Fin.ext (by unfold pos; dsimp only; omega))

theorem bSum_at (r : Fin 256) (e : Fin 1024) :
    (k0_pay12 (bRow x0 x1 x2 x3 x4) (k0_pay4 (bNorm x0 x1 x2 x3 x4 x5) x6) (k0_pay5 (bNorm x0 x1 x2 x3 x4 x5) x7)
      (k0_pay7 (bNorm x0 x1 x2 x3 x4 x5) x6 l7) (k0_pay8 (bNorm x0 x1 x2 x3 x4 x5) x6 l6 l7) x9 (cw0 x8) (cw1 x8) (cw2 x8) x10
      (ix2 r e) : EReal) = out A b (pos q r) e := by
  rw [out_apply]
  unfold out
  rw [bRow_at A b q x0 x1 x2 x3 x4 x5 x6 x7 x8 x9 x10 x11 h]
  refine congrArg (row A b (pos q r) e + ·) (Finset.sum_congr rfl fun f _ => ?_)
  rw [cw0_at, cw1_at, cw2_at, h.e8, h.e8, h.e8, h.e9, h.e10, bGate_at A b q x0 x1 x2 x3 x4 x5 x6 x7 x8 x9 x10 x11 h,
    bUp_at A b q x0 x1 x2 x3 x4 x5 x6 x7 x8 x9 x10 x11 h, bBack1_at A b q x0 x1 x2 x3 x4 x5 x6 x7 x8 x9 x10 x11 l7 h k7,
    bBack2_at A b q x0 x1 x2 x3 x4 x5 x6 x7 x8 x9 x10 x11 l6 l7 h k6 k7]

/-- The first result's block. -/
theorem bOut_at (r : Fin 256) (e : Fin 1024) :
    (bOut x0 x1 x2 x3 x4 x5 x6 x7 x8 x9 x10 l6 l7 (ix3 0 r e) : EReal) = out A b (pos q r) e := by
  unfold bOut
  rw [outBlock_apply]
  exact bSum_at A b q x0 x1 x2 x3 x4 x5 x6 x7 x8 x9 x10 x11 l6 l7 h k6 k7 r e

/-- The third result's block. -/
theorem bFinal_at (r : Fin 256) (e : Fin 1024) :
    (bFinal x0 x1 x2 x3 x4 x5 x6 x7 x8 x9 x10 x11 l6 l7 (ix3 0 r e) : EReal) = outNormed A b (pos q r) e := by
  unfold bFinal
  rw [final_apply]
  exact congrArg₂ (fun v w => normed v w e)
    (funext fun k => bSum_at A b q x0 x1 x2 x3 x4 x5 x6 x7 x8 x9 x10 x11 l6 l7 h k6 k7 r k) (funext h.e11)

end Cert.Ffn

end
-- ==== Proof.Ffn.Grid.lean ====
/-
  The whole grid: the blocks the body reads are the arguments' rows of the point's tile, so what it leaves at every point
  are the named rows of the layer, and the three result arrays hold them.
-/
module

public import proofs.«01_k».proof.Proof.Gen.Kernel2Ideal.Value
public import proofs.«01_k».proof.Proof.Ffn.Point

@[expose] public section

set_option maxRecDepth 16384
set_option Elab.async false

noncomputable section

namespace Cert.Ffn

open Idealize.ShloMosaic Idealize.ShloMosaic.TcCoe Cert.Kernel2Ideal Cert.Kernel2Ideal.Gen

theorem index_0 : ∀ t : Fin cfg0.N, (cfg0.win (0 : Fin 15)).index t = ![t.val / 32, t.val % 32, 0] := by decide +kernel

theorem index_1 : ∀ t : Fin cfg0.N, (cfg0.win (1 : Fin 15)).index t = ![t.val / 32, t.val % 32, 0] := by decide +kernel

theorem index_2 : ∀ t : Fin cfg0.N, (cfg0.win (2 : Fin 15)).index t = ![t.val / 32, t.val % 32, 0] := by decide +kernel

theorem index_3 : ∀ t : Fin cfg0.N, (cfg0.win (3 : Fin 15)).index t = ![t.val / 32, t.val % 32, 0] := by decide +kernel

theorem index_4 : ∀ t : Fin cfg0.N, (cfg0.win (4 : Fin 15)).index t = ![0, 0] := by decide +kernel

theorem index_5 : ∀ t : Fin cfg0.N, (cfg0.win (5 : Fin 15)).index t = ![0, 0] := by decide +kernel

theorem index_6 : ∀ t : Fin cfg0.N, (cfg0.win (6 : Fin 15)).index t = ![0, 0] := by decide +kernel

theorem index_7 : ∀ t : Fin cfg0.N, (cfg0.win (7 : Fin 15)).index t = ![0, 0] := by decide +kernel

theorem index_8 : ∀ t : Fin cfg0.N, (cfg0.win (8 : Fin 15)).index t = ![0, 0] := by decide +kernel

theorem index_9 : ∀ t : Fin cfg0.N, (cfg0.win (9 : Fin 15)).index t = ![0, 0] := by decide +kernel

theorem index_10 : ∀ t : Fin cfg0.N, (cfg0.win (10 : Fin 15)).index t = ![0, 0] := by decide +kernel

theorem index_11 : ∀ t : Fin cfg0.N, (cfg0.win (11 : Fin 15)).index t = ![0, 0] := by decide +kernel

variable (m : (ℓ : Loc nD τ sig) → Buf (Elt Ideal) ℓ) (c : Dev nD)

/-- The kernel's arguments by coordinates. -/
def argsK : Args where
  x b t e := (m ((c : Thread nD τ).loc main_arg0) : S2x8192x1024.Idx → EReal) (ix3 b t e)
  oa b t e := (m ((c : Thread nD τ).loc main_arg1) : S2x8192x256.Idx → EReal) (ix3 b t e)
  og b t e := (m ((c : Thread nD τ).loc main_arg2) : S2x8192x512.Idx → EReal) (ix3 b t e)
  oc b t e := (m ((c : Thread nD τ).loc main_arg3) : S2x8192x256.Idx → EReal) (ix3 b t e)
  wo k e := (m ((c : Thread nD τ).loc main_arg4) : S1024x1024.Idx → EReal) (ix2 k e)
  fn e := (m ((c : Thread nD τ).loc main_arg5) : S1x1024.Idx → EReal) (ix2 0 e)
  wg k f := (m ((c : Thread nD τ).loc main_arg6) : S1024x2816.Idx → EReal) (ix2 k f)
  wu k f := (m ((c : Thread nD τ).loc main_arg7) : S1024x2816.Idx → EReal) (ix2 k f)
  cw j f := (m ((c : Thread nD τ).loc main_arg8) : S3x2816.Idx → EReal) (ix2 j f)
  cb f := (m ((c : Thread nD τ).loc main_arg9) : S1x2816.Idx → EReal) (ix2 0 f)
  wd f e := (m ((c : Thread nD τ).loc main_arg10) : S2816x1024.Idx → EReal) (ix2 f e)
  fw e := (m ((c : Thread nD τ).loc main_arg11) : S1x1024.Idx → EReal) (ix2 0 e)

theorem lt64 (t : Fin cfg0.N) : t.val < 64 := lt_of_lt_of_eq t.isLt N_0

/-- The sequence and the tile of a point. -/
def seqOf (t : Fin cfg0.N) : Fin 2 := ⟨t.val / 32, by have := lt64 t; omega⟩
def tileOf (t : Fin cfg0.N) : Fin 32 := ⟨t.val % 32, by omega⟩

theorem blk_0 (t : Fin cfg0.N) (r : Fin 256) (e : Fin 1024) :
    (iblk m c (0 : Fin 15) t (ix3 0 r e : S1x256x1024.Idx) : EReal) = (argsK m c).x (seqOf t) (pos (tileOf t) r) e := by
  refine congrArg (m ((c : Thread nD τ).loc main_arg0)) (funext fun a => Fin.ext ?_)
  show (cfg0.win (0 : Fin 15)).index t a * S1x256x1024.size a + 1 * ((ix3 0 r e : S1x256x1024.Idx) a).val = _
  rw [index_0 t]
  fin_cases a
  · show t.val / 32 * 1 + 1 * 0 = t.val / 32; omega
  · show t.val % 32 * 256 + 1 * r.val = 256 * (t.val % 32) + r.val; omega
  · show 0 * 1024 + 1 * e.val = e.val; omega

theorem blk_1 (t : Fin cfg0.N) (r : Fin 256) (e : Fin 256) :
    (iblk m c (1 : Fin 15) t (ix3 0 r e : S1x256x256.Idx) : EReal) = (argsK m c).oa (seqOf t) (pos (tileOf t) r) e := by
  refine congrArg (m ((c : Thread nD τ).loc main_arg1)) (funext fun a => Fin.ext ?_)
  show (cfg0.win (1 : Fin 15)).index t a * S1x256x256.size a + 1 * ((ix3 0 r e : S1x256x256.Idx) a).val = _
  rw [index_1 t]
  fin_cases a
  · show t.val / 32 * 1 + 1 * 0 = t.val / 32; omega
  · show t.val % 32 * 256 + 1 * r.val = 256 * (t.val % 32) + r.val; omega
  · show 0 * 256 + 1 * e.val = e.val; omega

theorem blk_2 (t : Fin cfg0.N) (r : Fin 256) (e : Fin 512) :
    (iblk m c (2 : Fin 15) t (ix3 0 r e : S1x256x512.Idx) : EReal) = (argsK m c).og (seqOf t) (pos (tileOf t) r) e := by
  refine congrArg (m ((c : Thread nD τ).loc main_arg2)) (funext fun a => Fin.ext ?_)
  show (cfg0.win (2 : Fin 15)).index t a * S1x256x512.size a + 1 * ((ix3 0 r e : S1x256x512.Idx) a).val = _
  rw [index_2 t]
  fin_cases a
  · show t.val / 32 * 1 + 1 * 0 = t.val / 32; omega
  · show t.val % 32 * 256 + 1 * r.val = 256 * (t.val % 32) + r.val; omega
  · show 0 * 512 + 1 * e.val = e.val; omega

theorem blk_3 (t : Fin cfg0.N) (r : Fin 256) (e : Fin 256) :
    (iblk m c (3 : Fin 15) t (ix3 0 r e : S1x256x256.Idx) : EReal) = (argsK m c).oc (seqOf t) (pos (tileOf t) r) e := by
  refine congrArg (m ((c : Thread nD τ).loc main_arg3)) (funext fun a => Fin.ext ?_)
  show (cfg0.win (3 : Fin 15)).index t a * S1x256x256.size a + 1 * ((ix3 0 r e : S1x256x256.Idx) a).val = _
  rw [index_3 t]
  fin_cases a
  · show t.val / 32 * 1 + 1 * 0 = t.val / 32; omega
  · show t.val % 32 * 256 + 1 * r.val = 256 * (t.val % 32) + r.val; omega
  · show 0 * 256 + 1 * e.val = e.val; omega

theorem blk_4 (t : Fin cfg0.N) (k : Fin 1024) (e : Fin 1024) :
    (iblk m c (4 : Fin 15) t (ix2 k e : S1024x1024.Idx) : EReal) = (argsK m c).wo k e := by
  refine congrArg (m ((c : Thread nD τ).loc main_arg4)) (funext fun a => Fin.ext ?_)
  show (cfg0.win (4 : Fin 15)).index t a * S1024x1024.size a + 1 * ((ix2 k e : S1024x1024.Idx) a).val = _
  rw [index_4 t]
  fin_cases a
  · show 0 * 1024 + 1 * k.val = k.val; omega
  · show 0 * 1024 + 1 * e.val = e.val; omega

theorem blk_5 (t : Fin cfg0.N) (e : Fin 1024) :
    (iblk m c (5 : Fin 15) t (ix2 0 e : S1x1024.Idx) : EReal) = (argsK m c).fn e := by
  refine congrArg (m ((c : Thread nD τ).loc main_arg5)) (funext fun a => Fin.ext ?_)
  show (cfg0.win (5 : Fin 15)).index t a * S1x1024.size a + 1 * ((ix2 0 e : S1x1024.Idx) a).val = _
  rw [index_5 t]
  fin_cases a
  · show 0 * 1 + 1 * 0 = 0; omega
  · show 0 * 1024 + 1 * e.val = e.val; omega

theorem blk_6 (t : Fin cfg0.N) (k : Fin 1024) (e : Fin 2816) :
    (iblk m c (6 : Fin 15) t (ix2 k e : S1024x2816.Idx) : EReal) = (argsK m c).wg k e := by
  refine congrArg (m ((c : Thread nD τ).loc main_arg6)) (funext fun a => Fin.ext ?_)
  show (cfg0.win (6 : Fin 15)).index t a * S1024x2816.size a + 1 * ((ix2 k e : S1024x2816.Idx) a).val = _
  rw [index_6 t]
  fin_cases a
  · show 0 * 1024 + 1 * k.val = k.val; omega
  · show 0 * 2816 + 1 * e.val = e.val; omega

theorem blk_7 (t : Fin cfg0.N) (k : Fin 1024) (e : Fin 2816) :
    (iblk m c (7 : Fin 15) t (ix2 k e : S1024x2816.Idx) : EReal) = (argsK m c).wu k e := by
  refine congrArg (m ((c : Thread nD τ).loc main_arg7)) (funext fun a => Fin.ext ?_)
  show (cfg0.win (7 : Fin 15)).index t a * S1024x2816.size a + 1 * ((ix2 k e : S1024x2816.Idx) a).val = _
  rw [index_7 t]
  fin_cases a
  · show 0 * 1024 + 1 * k.val = k.val; omega
  · show 0 * 2816 + 1 * e.val = e.val; omega

theorem blk_8 (t : Fin cfg0.N) (k : Fin 3) (e : Fin 2816) :
    (iblk m c (8 : Fin 15) t (ix2 k e : S3x2816.Idx) : EReal) = (argsK m c).cw k e := by
  refine congrArg (m ((c : Thread nD τ).loc main_arg8)) (funext fun a => Fin.ext ?_)
  show (cfg0.win (8 : Fin 15)).index t a * S3x2816.size a + 1 * ((ix2 k e : S3x2816.Idx) a).val = _
  rw [index_8 t]
  fin_cases a
  · show 0 * 3 + 1 * k.val = k.val; omega
  · show 0 * 2816 + 1 * e.val = e.val; omega

theorem blk_9 (t : Fin cfg0.N) (e : Fin 2816) :
    (iblk m c (9 : Fin 15) t (ix2 0 e : S1x2816.Idx) : EReal) = (argsK m c).cb e := by
  refine congrArg (m ((c : Thread nD τ).loc main_arg9)) (funext fun a => Fin.ext ?_)
  show (cfg0.win (9 : Fin 15)).index t a * S1x2816.size a + 1 * ((ix2 0 e : S1x2816.Idx) a).val = _
  rw [index_9 t]
  fin_cases a
  · show 0 * 1 + 1 * 0 = 0; omega
  · show 0 * 2816 + 1 * e.val = e.val; omega

theorem blk_10 (t : Fin cfg0.N) (k : Fin 2816) (e : Fin 1024) :
    (iblk m c (10 : Fin 15) t (ix2 k e : S2816x1024.Idx) : EReal) = (argsK m c).wd k e := by
  refine congrArg (m ((c : Thread nD τ).loc main_arg10)) (funext fun a => Fin.ext ?_)
  show (cfg0.win (10 : Fin 15)).index t a * S2816x1024.size a + 1 * ((ix2 k e : S2816x1024.Idx) a).val = _
  rw [index_10 t]
  fin_cases a
  · show 0 * 2816 + 1 * k.val = k.val; omega
  · show 0 * 1024 + 1 * e.val = e.val; omega

theorem blk_11 (t : Fin cfg0.N) (e : Fin 1024) :
    (iblk m c (11 : Fin 15) t (ix2 0 e : S1x1024.Idx) : EReal) = (argsK m c).fw e := by
  refine congrArg (m ((c : Thread nD τ).loc main_arg11)) (funext fun a => Fin.ext ?_)
  show (cfg0.win (11 : Fin 15)).index t a * S1x1024.size a + 1 * ((ix2 0 e : S1x1024.Idx) a).val = _
  rw [index_11 t]
  fin_cases a
  · show 0 * 1 + 1 * 0 = 0; omega
  · show 0 * 1024 + 1 * e.val = e.val; omega

/-- The blocks of a point are the arguments' rows of its tile. -/
theorem isBlock (t : Fin cfg0.N) : IsBlock (argsK m c) (seqOf t) (tileOf t) (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (iblk m c (10 : Fin 15) t) (iblk m c (11 : Fin 15) t) where
  e0 := blk_0 m c t
  e1 := blk_1 m c t
  e2 := blk_2 m c t
  e3 := blk_3 m c t
  e4 := blk_4 m c t
  e5 := blk_5 m c t
  e6 := blk_6 m c t
  e7 := blk_7 m c t
  e8 := blk_8 m c t
  e9 := blk_9 m c t
  e10 := blk_10 m c t
  e11 := blk_11 m c t

/-- What a point leaves, in the first tile of a sequence and in a later one. -/
theorem leaves_first (t : Fin cfg0.N) (h0 : t.val % 32 = 0) :
    (outsAt0 m c t.val t.isLt).1 = bOut (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (iblk m c (10 : Fin 15) t) (fun _ => (0 : EReal)) (fun _ => (0 : EReal))
      ∧ (outsAt0 m c t.val t.isLt).2.1 = bTail (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t)
      ∧ (outsAt0 m c t.val t.isLt).2.2.1 = bFinal (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (iblk m c (10 : Fin 15) t) (iblk m c (11 : Fin 15) t) (fun _ => (0 : EReal)) (fun _ => (0 : EReal))
      ∧ (outsAt0 m c t.val t.isLt).2.2.2 = bCarry (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) :=
  leaves_A _ _ _ _ _ _ _ _ _ _ _ _ _ _ _ _ _ _ _ _ _ _ _ _ _ _ _ _ _ _ _ _ _ _ _ _ _ _ _ _ _ _ _ _ _ _ _ _ (outsAt0_A m c t h0)

theorem leaves_later (t : Fin cfg0.N) (h0 : ¬t.val % 32 = 0) :
    (outsAt0 m c t.val t.isLt).1 = bOut (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (iblk m c (10 : Fin 15) t) (last6 (outsAt0 m c (t.val - 1) (Nat.lt_of_le_of_lt (Nat.sub_le _ _) t.isLt)).2.2.2) (last7 (outsAt0 m c (t.val - 1) (Nat.lt_of_le_of_lt (Nat.sub_le _ _) t.isLt)).2.2.2)
      ∧ (outsAt0 m c t.val t.isLt).2.1 = bTail (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t)
      ∧ (outsAt0 m c t.val t.isLt).2.2.1 = bFinal (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (iblk m c (10 : Fin 15) t) (iblk m c (11 : Fin 15) t) (last6 (outsAt0 m c (t.val - 1) (Nat.lt_of_le_of_lt (Nat.sub_le _ _) t.isLt)).2.2.2) (last7 (outsAt0 m c (t.val - 1) (Nat.lt_of_le_of_lt (Nat.sub_le _ _) t.isLt)).2.2.2)
      ∧ (outsAt0 m c t.val t.isLt).2.2.2 = bCarry (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) :=
  leaves_B _ _ _ _ _ _ _ _ _ _ _ _ _ _ _ _ _ _ _ _ _ _ _ _ _ _ _ _ _ _ _ _ _ _ _ _ _ _ _ _ _ _ _ _ _ _ _ _ _ (outsAt0_B m c t h0)

/-- After a point the carried rows are its tile's last eight gate rows. -/
theorem carry_at (t : Fin cfg0.N) (r : Fin 8) (f : Fin 2816) :
    ((outsAt0 m c t.val t.isLt).2.2.2 (ix2 r f) : EReal) = gate (argsK m c) (seqOf t) (pos (tileOf t) (late r)) f := by
  refine Eq.trans ?_ (bCarry_at (argsK m c) (seqOf t) (tileOf t) _ _ _ _ _ _ _ _ _ _ _ _ (isBlock m c t) r f)
  by_cases h0 : t.val % 32 = 0
  · exact congrFun (leaves_first m c t h0).2.2.2 _
  · exact congrFun (leaves_later m c t h0).2.2.2 _

/-- After a point the second result's block is its tile's last eight gate rows. -/
theorem tail_at (t : Fin cfg0.N) (r : Fin 8) (f : Fin 2816) :
    ((outsAt0 m c t.val t.isLt).2.1 (ix4 0 0 r f) : EReal) = gate (argsK m c) (seqOf t) (pos (tileOf t) (late r)) f := by
  refine Eq.trans ?_ (bTail_at (argsK m c) (seqOf t) (tileOf t) _ _ _ _ _ _ _ _ _ _ _ _ (isBlock m c t) r f)
  by_cases h0 : t.val % 32 = 0
  · exact congrFun (leaves_first m c t h0).2.1 _
  · exact congrFun (leaves_later m c t h0).2.1 _

/-- Before the first position of a sequence there is no gate row. -/
theorem back_first (A : Args) (b : Fin 2) (q : Fin 32) (j : ℕ) (hj : 0 < j) (hq : q.val = 0) (f : Fin 2816) :
    0 = back A j b (pos q 0) f := by
  unfold back
  rw [if_pos (show (pos q 0).val < j from (show 256 * q.val + 0 < j by omega))]

/-- The point before one of a later tile. -/
def prior (t : Fin cfg0.N) : Fin cfg0.N := ⟨t.val - 1, Nat.lt_of_le_of_lt (Nat.sub_le _ _) t.isLt⟩

/-- The carried rows of the point before are the gate rows before the tile. -/
theorem back_later (t : Fin cfg0.N) (h0 : ¬t.val % 32 = 0) (j : ℕ) (r : Fin 8) (hr : r.val + j = 8)
    (f : Fin 2816) :
    ((outsAt0 m c (t.val - 1) (Nat.lt_of_le_of_lt (Nat.sub_le _ _) t.isLt)).2.2.2 (ix2 r f) : EReal)
      = back (argsK m c) j (seqOf t) (pos (tileOf t) 0) f := by
  refine (carry_at m c (prior t) r f).trans ?_
  have h64 := lt64 t
  unfold back
  rw [if_neg (show ¬(pos (tileOf t) 0).val < j from (show ¬256 * (t.val % 32) + 0 < j by omega))]
  refine congrArg₂ (fun b p => gate (argsK m c) b p f) (Fin.ext ?_) (Fin.ext ?_)
  · show (t.val - 1) / 32 = t.val / 32
    omega
  · show 256 * ((t.val - 1) % 32) + (248 + r.val) = 256 * (t.val % 32) + 0 - j
    omega

/-- After a point the first result's block is its tile's rows. -/
theorem out_at (t : Fin cfg0.N) (r : Fin 256) (e : Fin 1024) :
    ((outsAt0 m c t.val t.isLt).1 (ix3 0 r e) : EReal) = out (argsK m c) (seqOf t) (pos (tileOf t) r) e := by
  by_cases h0 : t.val % 32 = 0
  · refine (congrFun (leaves_first m c t h0).1 _).trans ?_
    exact bOut_at (argsK m c) (seqOf t) (tileOf t) _ _ _ _ _ _ _ _ _ _ _ _ _ _
      (isBlock m c t) (fun f => back_first _ _ _ 2 (by decide) h0 f) (fun f => back_first _ _ _ 1 (by decide) h0 f) r e
  · refine (congrFun (leaves_later m c t h0).1 _).trans ?_
    exact bOut_at (argsK m c) (seqOf t) (tileOf t) _ _ _ _ _ _ _ _ _ _ _ _ _ _
      (isBlock m c t) (fun f => (last6_at _ f).trans (back_later m c t h0 2 6 rfl f))
      (fun f => (last7_at _ f).trans (back_later m c t h0 1 7 rfl f)) r e

/-- After a point the third result's block is its tile's rows normalised. -/
theorem final_at (t : Fin cfg0.N) (r : Fin 256) (e : Fin 1024) :
    ((outsAt0 m c t.val t.isLt).2.2.1 (ix3 0 r e) : EReal) = outNormed (argsK m c) (seqOf t) (pos (tileOf t) r) e := by
  by_cases h0 : t.val % 32 = 0
  · refine (congrFun (leaves_first m c t h0).2.2.1 _).trans ?_
    exact bFinal_at (argsK m c) (seqOf t) (tileOf t) _ _ _ _ _ _ _ _ _ _ _ _ _ _
      (isBlock m c t) (fun f => back_first _ _ _ 2 (by decide) h0 f) (fun f => back_first _ _ _ 1 (by decide) h0 f) r e
  · refine (congrFun (leaves_later m c t h0).2.2.1 _).trans ?_
    exact bFinal_at (argsK m c) (seqOf t) (tileOf t) _ _ _ _ _ _ _ _ _ _ _ _ _ _
      (isBlock m c t) (fun f => (last6_at _ f).trans (back_later m c t h0 2 6 rfl f))
      (fun f => (last7_at _ f).trans (back_later m c t h0 1 7 rfl f)) r e

end Cert.Ffn

end
-- ==== Proof.Ffn.Arrays.lean ====
/-
  The three result arrays at the end of the second call.
-/
module

public import proofs.«01_k».proof.Proof.Ffn.Grid

@[expose] public section

set_option maxRecDepth 16384

noncomputable section

namespace Cert.Ffn

open Idealize.ShloMosaic Idealize.ShloMosaic.TcCoe Cert.Kernel2Ideal Cert.Kernel2Ideal.Gen Cert.Kernel2Ideal.Value

variable (m : (ℓ : Loc nD τ sig) → Buf (Elt Ideal) ℓ) (c : Dev nD)

/-- The point of a tile of a sequence. -/
def ptOf (b : Fin 2) (q : Fin 32) : Fin cfg0.N := ⟨32 * b.val + q.val, lt_of_lt_of_eq (show 32 * b.val + q.val < 64 by omega) N_0.symm⟩

theorem seq_ptOf (b : Fin 2) (q : Fin 32) : seqOf (ptOf b q) = b := Fin.ext (show (32 * b.val + q.val) / 32 = b.val by omega)

theorem tile_ptOf (b : Fin 2) (q : Fin 32) : tileOf (ptOf b q) = q := Fin.ext (show (32 * b.val + q.val) % 32 = q.val by omega)

/-- The tile of a position, and the position's place in it. -/
def tileAt (t : Fin 8192) : Fin 32 := ⟨t.val / 256, by omega⟩
def rowAt (t : Fin 8192) : Fin 256 := ⟨t.val % 256, by omega⟩

theorem pos_at (t : Fin 8192) : pos (tileAt t) (rowAt t) = t := Fin.ext (show 256 * (t.val / 256) + t.val % 256 = t.val by omega)

theorem outsAt_congr (n n' : ℕ) (h : n < cfg0.N) (h' : n' < cfg0.N) (e : n = n') : outsAt0 m c n h = outsAt0 m c n' h' := by
  subst e
  rfl

/-- The first result. -/
theorem arr_out (b : Fin 2) (t : Fin 8192) (e : Fin 1024) :
    (G12 m c (ix3 b t e : S2x8192x1024.Idx) : EReal) = out (argsK m c) b t e := by
  have hp : pt12Of (ix3 b t e) = (ptOf b (tileAt t)).val := by
    show 32 * (b.val / 1 - 0) + 1 * (t.val / 256 - 0) + 1 * (e.val / 1024 - 0) = 32 * b.val + t.val / 256
    omega
  have hl : loc12Of (ix3 b t e) = (ix3 0 (rowAt t) e : S1x256x1024.Idx) := by
    funext a
    fin_cases a
    · exact Fin.ext (show b.val % 1 = 0 by omega)
    · rfl
    · exact Fin.ext (show e.val % 1024 = e.val by omega)
  have hlt : pt12Of (ix3 b t e) < cfg0.N := hp ▸ (ptOf b (tileAt t)).isLt
  have key := out_at m c (ptOf b (tileAt t)) (rowAt t) e
  rw [seq_ptOf, tile_ptOf, pos_at] at key
  unfold G12
  rw [dif_pos hlt, hl, ← outsAt0_sweep m c _ hlt, outsAt_congr m c _ _ hlt (ptOf b (tileAt t)).isLt hp]
  exact key

/-- The third result. -/
theorem arr_final (b : Fin 2) (t : Fin 8192) (e : Fin 1024) :
    (G14 m c (ix3 b t e : S2x8192x1024.Idx) : EReal) = outNormed (argsK m c) b t e := by
  have hp : pt14Of (ix3 b t e) = (ptOf b (tileAt t)).val := by
    show 32 * (b.val / 1 - 0) + 1 * (t.val / 256 - 0) + 1 * (e.val / 1024 - 0) = 32 * b.val + t.val / 256
    omega
  have hl : loc14Of (ix3 b t e) = (ix3 0 (rowAt t) e : S1x256x1024.Idx) := by
    funext a
    fin_cases a
    · exact Fin.ext (show b.val % 1 = 0 by omega)
    · rfl
    · exact Fin.ext (show e.val % 1024 = e.val by omega)
  have hlt : pt14Of (ix3 b t e) < cfg0.N := hp ▸ (ptOf b (tileAt t)).isLt
  have key := final_at m c (ptOf b (tileAt t)) (rowAt t) e
  rw [seq_ptOf, tile_ptOf, pos_at] at key
  unfold G14
  rw [dif_pos hlt, hl, ← outsAt0_sweep m c _ hlt, outsAt_congr m c _ _ hlt (ptOf b (tileAt t)).isLt hp]
  exact key

/-- The second result. -/
theorem arr_tail (b : Fin 2) (q : Fin 32) (r : Fin 8) (f : Fin 2816) :
    (G13 m c (ix4 b q r f : S2x32x8x2816.Idx) : EReal) = gate (argsK m c) b (pos q (late r)) f := by
  have hp : pt13Of (ix4 b q r f) = (ptOf b q).val := by
    show 32 * (b.val / 1 - 0) + 1 * (q.val / 1 - 0) + 1 * (r.val / 8 - 0) + 1 * (f.val / 2816 - 0) = 32 * b.val + q.val
    omega
  have hl : loc13Of (ix4 b q r f) = (ix4 0 0 r f : S1x1x8x2816.Idx) := by
    funext a
    fin_cases a
    · exact Fin.ext (show b.val % 1 = 0 by omega)
    · exact Fin.ext (show q.val % 1 = 0 by omega)
    · exact Fin.ext (show r.val % 8 = r.val by omega)
    · exact Fin.ext (show f.val % 2816 = f.val by omega)
  have hlt : pt13Of (ix4 b q r f) < cfg0.N := hp ▸ (ptOf b q).isLt
  have key := tail_at m c (ptOf b q) r f
  rw [seq_ptOf, tile_ptOf] at key
  unfold G13
  rw [dif_pos hlt, hl, ← outsAt0_sweep m c _ hlt, outsAt_congr m c _ _ hlt (ptOf b q).isLt hp]
  exact key

end Cert.Ffn

end
-- ==== Proof.Ffn.Ref.lean ====
/-
  The reference of the second call read at an index: the residual row, its normalisation, the two projections, the
  convolution over the row and the two before it, and the rows of the results.
-/
module

public import proofs.«01_k».proof.Proof.Gen.Reference2Ideal.Read
public import proofs.«01_k».proof.Proof.Ffn.Spec

@[expose] public section

set_option maxRecDepth 16384

noncomputable section

namespace Cert.Ffn.Ref

open Idealize.ShloMosaic Idealize.ShloMosaic.TcCoe Cert.Reference2Ideal Cert.Reference2Ideal.Gen Cert.Reference2Ideal.Read

variable (x0 : S2x8192x1024.Idx → EReal) (x1 : S2x8192x256.Idx → EReal) (x2 : S2x8192x512.Idx → EReal)
  (x3 : S2x8192x256.Idx → EReal) (x4 : S1024x1024.Idx → EReal) (x5 : S1x1024.Idx → EReal)
  (x6 x7 : S1024x2816.Idx → EReal) (x8 : S3x2816.Idx → EReal) (x9 : S1x2816.Idx → EReal)
  (x10 : S2816x1024.Idx → EReal) (x11 : S1x1024.Idx → EReal)

/-- The arguments by coordinates. -/
def args : Args where
  x b t e := x0 (ix3 b t e)
  oa b t e := x1 (ix3 b t e)
  og b t e := x2 (ix3 b t e)
  oc b t e := x3 (ix3 b t e)
  wo k e := x4 (ix2 k e)
  fn e := x5 (ix2 0 e)
  wg k f := x6 (ix2 k f)
  wu k f := x7 (ix2 k f)
  cw j f := x8 (ix2 j f)
  cb f := x9 (ix2 0 f)
  wd f e := x10 (ix2 f e)
  fw e := x11 (ix2 0 e)

/-- The heads' outputs side by side. -/
theorem cat_at (b : Fin 2) (t : Fin 8192) (k : Fin 1024) : (val_main_v3 (F := Ideal) x1 x2 x3 (ix3 b t k) : EReal)
    = if h : k.val < 256 then x1 (ix3 b t ⟨k.val, h⟩) else if h' : k.val - 256 < 512 then x2 (ix3 b t ⟨k.val - 256, h'⟩)
      else x3 (ix3 b t ⟨k.val - 256 - 512, by omega⟩) := by
  unfold val_main_v3 val_main_v0 val_main_v1 val_main_v2
  pointwise

theorem cat_a (b : Fin 2) (t : Fin 8192) (k : Fin 256) :
    (val_main_v3 (F := Ideal) x1 x2 x3 (ix3 b t ⟨k.val, by omega⟩) : EReal) = x1 (ix3 b t k) := by
  rw [cat_at, dif_pos k.isLt]

theorem cat_g (b : Fin 2) (t : Fin 8192) (k : Fin 512) :
    (val_main_v3 (F := Ideal) x1 x2 x3 (ix3 b t ⟨256 + k.val, by omega⟩) : EReal) = x2 (ix3 b t k) := by
  rw [cat_at, dif_neg (by dsimp only; omega), dif_pos (by dsimp only; omega)]
  exact congrArg (fun j => x2 (ix3 b t j)) (Fin.ext (by dsimp only; omega))

theorem cat_c (b : Fin 2) (t : Fin 8192) (k : Fin 256) :
    (val_main_v3 (F := Ideal) x1 x2 x3 (ix3 b t ⟨768 + k.val, by omega⟩) : EReal) = x3 (ix3 b t k) := by
  rw [cat_at, dif_neg (by dsimp only; omega), dif_neg (by dsimp only; omega)]
  exact congrArg (fun j => x3 (ix3 b t j)) (Fin.ext (by dsimp only; omega))

/-- The residual row. -/
theorem row_at (b : Fin 2) (t : Fin 8192) (e : Fin 1024) :
    (val_main_v6 (F := Ideal) x0 x1 x2 x3 x4 (ix3 b t e) : EReal) = row (args x0 x1 x2 x3 x4 x5 x6 x7 x8 x9 x10 x11) b t e := by
  unfold val_main_v6 val_main_v5 val_main_v4
  have ha := cat_a x1 x2 x3 b t
  have hg := cat_g x1 x2 x3 b t
  have hc := cat_c x1 x2 x3 b t
  generalize val_main_v3 (F := Ideal) x1 x2 x3 = p at ha hg hc ⊢
  pointwise
  rw [sum_heads]
  simp only [ha, hg, hc]
  rfl

/-- The row normalised. -/
theorem normed_at (b : Fin 2) (t : Fin 8192) (e : Fin 1024) :
    (val_main_v20 (F := Ideal) x0 x1 x2 x3 x4 x5 (ix3 b t e) : EReal) = normed (row (args x0 x1 x2 x3 x4 x5 x6 x7 x8 x9 x10 x11) b t) (args x0 x1 x2 x3 x4 x5 x6 x7 x8 x9 x10 x11).fn e := by
  have hr := row_at x0 x1 x2 x3 x4 x5 x6 x7 x8 x9 x10 x11 b t
  unfold val_main_v20 val_main_v19 val_main_v18 val_main_v17 val_main_v16 val_main_v15 val_main_v14 val_main_v13 val_main_v12
    val_main_v11 val_main_v10 val_main_v9 val_main_v8 val_main_v7 val_main_cst val_main_cst_0 val_main_cst_1
  generalize val_main_v6 (F := Ideal) x0 x1 x2 x3 x4 = p at hr ⊢
  pointwise
  simp only [hr]
  rfl

/-- The gate projection. -/
theorem gate_at (b : Fin 2) (t : Fin 8192) (f : Fin 2816) :
    (val_main_v22 (F := Ideal) x0 x1 x2 x3 x4 x5 x6 (ix3 b t f) : EReal) = gate (args x0 x1 x2 x3 x4 x5 x6 x7 x8 x9 x10 x11) b t f := by
  have hr := normed_at x0 x1 x2 x3 x4 x5 x6 x7 x8 x9 x10 x11 b t
  unfold val_main_v22 val_main_v21
  generalize val_main_v20 (F := Ideal) x0 x1 x2 x3 x4 x5 = p at hr ⊢
  pointwise
  simp only [hr]
  rfl

/-- The up projection. -/
theorem up_at (b : Fin 2) (t : Fin 8192) (f : Fin 2816) :
    (val_main_v24 (F := Ideal) x0 x1 x2 x3 x4 x5 x7 (ix3 b t f) : EReal) = up (args x0 x1 x2 x3 x4 x5 x6 x7 x8 x9 x10 x11) b t f := by
  have hr := normed_at x0 x1 x2 x3 x4 x5 x6 x7 x8 x9 x10 x11 b t
  unfold val_main_v24 val_main_v23
  generalize val_main_v20 (F := Ideal) x0 x1 x2 x3 x4 x5 = p at hr ⊢
  pointwise
  simp only [hr]
  rfl

/-- The gate projection behind two rows of zeros. -/
theorem padded_at (b : Fin 2) (t : Fin 8194) (f : Fin 2816) :
    (val_main_v26 (F := Ideal) x0 x1 x2 x3 x4 x5 x6 (ix3 b t f) : EReal)
      = if h : t.val < 2 then 0 else gate (args x0 x1 x2 x3 x4 x5 x6 x7 x8 x9 x10 x11) b ⟨t.val - 2, by omega⟩ f := by
  have hr := gate_at x0 x1 x2 x3 x4 x5 x6 x7 x8 x9 x10 x11 b
  unfold val_main_v26 val_main_v25 val_main_cst_2
  generalize val_main_v22 (F := Ideal) x0 x1 x2 x3 x4 x5 x6 = p at hr ⊢
  pointwise
  simp only [hr]

/-- The row two positions back. -/
theorem back2_at (b : Fin 2) (t : Fin 8192) (f : Fin 2816) :
    (val_main_v28 (F := Ideal) x0 x1 x2 x3 x4 x5 x6 (ix3 b t f) : EReal) = back (args x0 x1 x2 x3 x4 x5 x6 x7 x8 x9 x10 x11) 2 b t f := by
  have hr := padded_at x0 x1 x2 x3 x4 x5 x6 x7 x8 x9 x10 x11 b
  unfold val_main_v28
  generalize val_main_v26 (F := Ideal) x0 x1 x2 x3 x4 x5 x6 = p at hr ⊢
  pointwise
  rw [hr]
  unfold back
  by_cases h : t.val < 2
  · rw [dif_pos h, if_pos h]
  · rw [dif_neg h, if_neg h]

/-- The row one position back. -/
theorem back1_at (b : Fin 2) (t : Fin 8192) (f : Fin 2816) :
    (val_main_v37 (F := Ideal) x0 x1 x2 x3 x4 x5 x6 (ix3 b t f) : EReal) = back (args x0 x1 x2 x3 x4 x5 x6 x7 x8 x9 x10 x11) 1 b t f := by
  have hr := padded_at x0 x1 x2 x3 x4 x5 x6 x7 x8 x9 x10 x11 b
  unfold val_main_v37
  generalize val_main_v26 (F := Ideal) x0 x1 x2 x3 x4 x5 x6 = p at hr ⊢
  pointwise
  rw [hr]
  unfold back
  by_cases h : t.val < 1
  · rw [dif_pos (by dsimp only; omega), if_pos h]
  · rw [dif_neg (by dsimp only; omega), if_neg h]
    exact congrArg (fun j => gate (args x0 x1 x2 x3 x4 x5 x6 x7 x8 x9 x10 x11) b j f) (Fin.ext (by dsimp only; omega))

/-- The row itself. -/
theorem back0_at (b : Fin 2) (t : Fin 8192) (f : Fin 2816) :
    (val_main_v44 (F := Ideal) x0 x1 x2 x3 x4 x5 x6 (ix3 b t f) : EReal) = gate (args x0 x1 x2 x3 x4 x5 x6 x7 x8 x9 x10 x11) b t f := by
  have hr := padded_at x0 x1 x2 x3 x4 x5 x6 x7 x8 x9 x10 x11 b
  unfold val_main_v44
  generalize val_main_v26 (F := Ideal) x0 x1 x2 x3 x4 x5 x6 = p at hr ⊢
  pointwise
  rw [hr, dif_neg (by dsimp only; omega)]
  exact congrArg (fun j => gate (args x0 x1 x2 x3 x4 x5 x6 x7 x8 x9 x10 x11) b j f) (Fin.ext (by dsimp only; omega))

/-- The convolution. -/
theorem conv_at (b : Fin 2) (t : Fin 8192) (f : Fin 2816) :
    (val_main_v50 (F := Ideal) x0 x1 x2 x3 x4 x5 x6 x8 x9 (ix3 b t f) : EReal)
      = x9 (ix2 0 f) + back (args x0 x1 x2 x3 x4 x5 x6 x7 x8 x9 x10 x11) 2 b t f * x8 (ix2 0 f) + back (args x0 x1 x2 x3 x4 x5 x6 x7 x8 x9 x10 x11) 1 b t f * x8 (ix2 1 f) + gate (args x0 x1 x2 x3 x4 x5 x6 x7 x8 x9 x10 x11) b t f * x8 (ix2 2 f) := by
  have h2 := back2_at x0 x1 x2 x3 x4 x5 x6 x7 x8 x9 x10 x11 b t f
  have h1 := back1_at x0 x1 x2 x3 x4 x5 x6 x7 x8 x9 x10 x11 b t f
  have h0 := back0_at x0 x1 x2 x3 x4 x5 x6 x7 x8 x9 x10 x11 b t f
  unfold val_main_v50 val_main_v49 val_main_v48 val_main_v47 val_main_v46 val_main_v45 val_main_v43 val_main_v42 val_main_v41
    val_main_v40 val_main_v39 val_main_v38 val_main_v36 val_main_v35 val_main_v34 val_main_v33 val_main_v32 val_main_v31
    val_main_v30 val_main_v29 val_main_v27
  generalize val_main_v28 (F := Ideal) x0 x1 x2 x3 x4 x5 x6 = p2 at h2 ⊢
  generalize val_main_v37 (F := Ideal) x0 x1 x2 x3 x4 x5 x6 = p1 at h1 ⊢
  generalize val_main_v44 (F := Ideal) x0 x1 x2 x3 x4 x5 x6 = p0 at h0 ⊢
  pointwise
  rw [h2, h1, h0]

/-- The gated product. -/
theorem gated_at (b : Fin 2) (t : Fin 8192) (f : Fin 2816) :
    (val_main_v52 (F := Ideal) x0 x1 x2 x3 x4 x5 x6 x7 x8 x9 (ix3 b t f) : EReal)
      = gated (x9 (ix2 0 f)) (x8 (ix2 0 f)) (x8 (ix2 1 f)) (x8 (ix2 2 f)) (back (args x0 x1 x2 x3 x4 x5 x6 x7 x8 x9 x10 x11) 2 b t f) (back (args x0 x1 x2 x3 x4 x5 x6 x7 x8 x9 x10 x11) 1 b t f) (gate (args x0 x1 x2 x3 x4 x5 x6 x7 x8 x9 x10 x11) b t f)
          (up (args x0 x1 x2 x3 x4 x5 x6 x7 x8 x9 x10 x11) b t f) := by
  have hc := conv_at x0 x1 x2 x3 x4 x5 x6 x7 x8 x9 x10 x11 b t f
  have hu := up_at x0 x1 x2 x3 x4 x5 x6 x7 x8 x9 x10 x11 b t f
  unfold val_main_v52 val_main_v51 val_main_call0_v5 val_main_call0_v4 val_main_call0_v3 val_main_call0_v2 val_main_call0_v1
    val_main_call0_v0 val_main_call0_cst val_main_call0_cst_0 gated Ideal.logistic
  generalize val_main_v50 (F := Ideal) x0 x1 x2 x3 x4 x5 x6 x8 x9 = p at hc ⊢
  generalize val_main_v24 (F := Ideal) x0 x1 x2 x3 x4 x5 x7 = q at hu ⊢
  pointwise
  rw [hc, hu]

/-- The row that leaves the layer. -/
theorem out_at (b : Fin 2) (t : Fin 8192) (e : Fin 1024) :
    (val_main_v55 (F := Ideal) x0 x1 x2 x3 x4 x5 x6 x7 x8 x9 x10 (ix3 b t e) : EReal) = out (args x0 x1 x2 x3 x4 x5 x6 x7 x8 x9 x10 x11) b t e := by
  have hr := row_at x0 x1 x2 x3 x4 x5 x6 x7 x8 x9 x10 x11 b t e
  have hg := gated_at x0 x1 x2 x3 x4 x5 x6 x7 x8 x9 x10 x11 b t
  unfold val_main_v55 val_main_v54 val_main_v53
  generalize val_main_v6 (F := Ideal) x0 x1 x2 x3 x4 = p at hr ⊢
  generalize val_main_v52 (F := Ideal) x0 x1 x2 x3 x4 x5 x6 x7 x8 x9 = q at hg ⊢
  pointwise
  rw [hr]
  simp only [hg]
  rfl

/-- The last eight gate rows of each tile of 256. -/
theorem tail_at (b : Fin 2) (q : Fin 32) (r : Fin 8) (f : Fin 2816) :
    (val_main_v57 (F := Ideal) x0 x1 x2 x3 x4 x5 x6 (ix4 b q r f) : EReal)
      = gate (args x0 x1 x2 x3 x4 x5 x6 x7 x8 x9 x10 x11) b ⟨256 * q.val + (248 + r.val), by omega⟩ f := by
  have hg := gate_at x0 x1 x2 x3 x4 x5 x6 x7 x8 x9 x10 x11 b
  unfold val_main_v57 val_main_v56
  generalize val_main_v22 (F := Ideal) x0 x1 x2 x3 x4 x5 x6 = p at hg ⊢
  pointwise
  rw [hg]
  exact congrArg (fun j => gate (args x0 x1 x2 x3 x4 x5 x6 x7 x8 x9 x10 x11) b j f) (Fin.ext (by dsimp only; omega))

/-- The row that leaves the layer, normalised. -/
theorem outNormed_at (b : Fin 2) (t : Fin 8192) (e : Fin 1024) :
    (val_main_v71 (F := Ideal) x0 x1 x2 x3 x4 x5 x6 x7 x8 x9 x10 x11 (ix3 b t e) : EReal) = outNormed (args x0 x1 x2 x3 x4 x5 x6 x7 x8 x9 x10 x11) b t e := by
  have hr := out_at x0 x1 x2 x3 x4 x5 x6 x7 x8 x9 x10 x11 b t
  unfold val_main_v71 val_main_v70 val_main_v69 val_main_v68 val_main_v67 val_main_v66 val_main_v65 val_main_v64 val_main_v63
    val_main_v62 val_main_v61 val_main_v60 val_main_v59 val_main_v58 val_main_cst_3 val_main_cst_4 val_main_cst_5
  generalize val_main_v55 (F := Ideal) x0 x1 x2 x3 x4 x5 x6 x7 x8 x9 x10 = p at hr ⊢
  pointwise
  simp only [hr]
  rfl

end Cert.Ffn.Ref

end
-- ==== Proof.Ffn.Claims.lean ====
/-
  The claims about the second call: its frames, and that its three results are the reference's.
-/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn.Arrays
public import proofs.«01_k».proof.Proof.Ffn.Ref
public import Idealize.ShloMosaic.Adequacy

@[expose] public section

set_option maxRecDepth 16384

noncomputable section

namespace Cert.Ffn

open Idealize.ShloMosaic Idealize.ShloMosaic.TcCoe Idealize.SL.Sem

/-- The compiled kernel ends, its arguments unchanged and its counters at zero. -/
theorem frame_kernel : Cert.quiescent_Kernel2 := fun m ρ _ => Cert.Kernel2.Gen.frame m ρ

/-- The same of its idealization. -/
theorem frame_ideal : Cert.quiescent_Kernel2Ideal := fun m ρ _ => Cert.Kernel2Ideal.Gen.frame m ρ

/-- The same of the reference, which declares no semaphore. -/
theorem frame_ref : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ)
  (c : Dev Cert.Kernel2Ideal.nD)

/-- The arguments of the call. -/
def a0 := m ((c.tc : Thread Cert.Kernel2Ideal.nD Cert.Kernel2Ideal.τ).loc Cert.Kernel2Ideal.main_arg0)
def a1 := m ((c.tc : Thread Cert.Kernel2Ideal.nD Cert.Kernel2Ideal.τ).loc Cert.Kernel2Ideal.main_arg1)
def a2 := m ((c.tc : Thread Cert.Kernel2Ideal.nD Cert.Kernel2Ideal.τ).loc Cert.Kernel2Ideal.main_arg2)
def a3 := m ((c.tc : Thread Cert.Kernel2Ideal.nD Cert.Kernel2Ideal.τ).loc Cert.Kernel2Ideal.main_arg3)
def a4 := m ((c.tc : Thread Cert.Kernel2Ideal.nD Cert.Kernel2Ideal.τ).loc Cert.Kernel2Ideal.main_arg4)
def a5 := m ((c.tc : Thread Cert.Kernel2Ideal.nD Cert.Kernel2Ideal.τ).loc Cert.Kernel2Ideal.main_arg5)
def a6 := m ((c.tc : Thread Cert.Kernel2Ideal.nD Cert.Kernel2Ideal.τ).loc Cert.Kernel2Ideal.main_arg6)
def a7 := m ((c.tc : Thread Cert.Kernel2Ideal.nD Cert.Kernel2Ideal.τ).loc Cert.Kernel2Ideal.main_arg7)
def a8 := m ((c.tc : Thread Cert.Kernel2Ideal.nD Cert.Kernel2Ideal.τ).loc Cert.Kernel2Ideal.main_arg8)
def a9 := m ((c.tc : Thread Cert.Kernel2Ideal.nD Cert.Kernel2Ideal.τ).loc Cert.Kernel2Ideal.main_arg9)
def a10 := m ((c.tc : Thread Cert.Kernel2Ideal.nD Cert.Kernel2Ideal.τ).loc Cert.Kernel2Ideal.main_arg10)
def a11 := m ((c.tc : Thread Cert.Kernel2Ideal.nD Cert.Kernel2Ideal.τ).loc Cert.Kernel2Ideal.main_arg11)

/-- The reference's first result, of the kernel's arguments, is the kernel's. -/
theorem ref_out :
    Cert.Reference2Ideal.Read.val_main_v55 (F := Ideal) (a0 m c) (a1 m c) (a2 m c) (a3 m c) (a4 m c) (a5 m c) (a6 m c)
      (a7 m c) (a8 m c) (a9 m c) (a10 m c) = Cert.Kernel2Ideal.Value.G12 m c := by
  funext i
  obtain ⟨b, t, e, rfl⟩ : ∃ (b : Fin 2) (t : Fin 8192) (e : Fin 1024), i = (ix3 b t e : Cert.Kernel2Ideal.S2x8192x1024.Idx) :=
    ⟨_, _, _, eq_ix3 i⟩
  exact (Ref.out_at (a0 m c) (a1 m c) (a2 m c) (a3 m c) (a4 m c) (a5 m c) (a6 m c) (a7 m c) (a8 m c) (a9 m c) (a10 m c)
    (a11 m c) b t e).trans (arr_out m c b t e).symm

/-- The second. -/
theorem ref_tail :
    Cert.Reference2Ideal.Read.val_main_v57 (F := Ideal) (a0 m c) (a1 m c) (a2 m c) (a3 m c) (a4 m c) (a5 m c) (a6 m c)
      = Cert.Kernel2Ideal.Value.G13 m c := by
  funext i
  obtain ⟨b, q, r, f, rfl⟩ : ∃ (b : Fin 2) (q : Fin 32) (r : Fin 8) (f : Fin 2816),
      i = (ix4 b q r f : Cert.Kernel2Ideal.S2x32x8x2816.Idx) := ⟨_, _, _, _, eq_ix4 i⟩
  refine (Ref.tail_at (a0 m c) (a1 m c) (a2 m c) (a3 m c) (a4 m c) (a5 m c) (a6 m c) (a7 m c) (a8 m c) (a9 m c) (a10 m c)
    (a11 m c) b q r f).trans (Eq.trans ?_ (arr_tail m c b q r f).symm)
  exact congrArg (fun j => gate (argsK m c) b j f) (Fin.ext rfl)

/-- The third. -/
theorem ref_final :
    Cert.Reference2Ideal.Read.val_main_v71 (F := Ideal) (a0 m c) (a1 m c) (a2 m c) (a3 m c) (a4 m c) (a5 m c) (a6 m c)
      (a7 m c) (a8 m c) (a9 m c) (a10 m c) (a11 m c) = Cert.Kernel2Ideal.Value.G14 m c := by
  funext i
  obtain ⟨b, t, e, rfl⟩ : ∃ (b : Fin 2) (t : Fin 8192) (e : Fin 1024), i = (ix3 b t e : Cert.Kernel2Ideal.S2x8192x1024.Idx) :=
    ⟨_, _, _, eq_ix3 i⟩
  exact (Ref.outNormed_at (a0 m c) (a1 m c) (a2 m c) (a3 m c) (a4 m c) (a5 m c) (a6 m c) (a7 m c) (a8 m c) (a9 m c)
    (a10 m c) (a11 m c) b t e).trans (arr_final m c b t e).symm

/-- The kernel's results are the reference's, over the extended reals. -/
theorem value : Cert.algebraic_Kernel2Ideal_Reference2Ideal := by
  intro m ρ m' ρ' _ hagree
  refine ⟨fun c => Cert.Kernel2Ideal.Value.G12 m c, fun c => Cert.Kernel2Ideal.Value.G13 m c,
    fun c => Cert.Kernel2Ideal.Value.G14 m c, Cert.Kernel2Ideal.Value.run m ρ, ?_⟩
  refine (θ_run Cert.Reference2Ideal.defs _ _).mono (fun r h c => ⟨?_, ?_, ?_, (h c).2.2.2⟩)
    (Cert.Reference2Ideal.Value.run (F := Ideal) m' ρ')
  · refine (h c).1.trans ((Cert.Reference2Ideal.Read.val_main_v55_eq m' c).trans ?_)
    obtain ⟨e0, e1, e2, e3, e4, e5, e6, e7, e8, e9, e10, e11⟩ := hagree c
    rw [e0, e1, e2, e3, e4, e5, e6, e7, e8, e9, e10]
    exact ref_out m c
  · refine (h c).2.1.trans ((Cert.Reference2Ideal.Read.val_main_v57_eq _ _ _ _ _ _ _).trans ?_)
    obtain ⟨e0, e1, e2, e3, e4, e5, e6, e7, e8, e9, e10, e11⟩ := hagree c
    rw [e0, e1, e2, e3, e4, e5, e6]
    exact ref_tail m c
  · refine (h c).2.2.1.trans ((Cert.Reference2Ideal.Read.val_main_v71_eq m' c).trans ?_)
    obtain ⟨e0, e1, e2, e3, e4, e5, e6, e7, e8, e9, e10, e11⟩ := hagree c
    rw [e0, e1, e2, e3, e4, e5, e6, e7, e8, e9, e10, e11]
    exact ref_final m c

end Cert.Ffn

end
-- ==== Proof.Proj.Spec.lean ====
/-
  The projections before the mixers, row by row: what both programs of the third and of the fourth call compute
  from their arguments.
-/
module

public import Idealize.ShloMosaic.Lib.Pointwise

@[expose] public section

noncomputable section

namespace Cert.Proj

open Idealize.ShloMosaic

/-- A row divided by the root of the mean of its squares (`n` the number of them), times the weight. -/
def normed {w : ℕ} (n : EReal) (v g : Fin w → EReal) (e : Fin w) : EReal :=
  v e * Ideal.rsqrt (Ideal.div (∑ k, v k * v k) n + Ideal.ofBits .f32 0x358637BD#32) * g e

/-- The logarithm of the sigmoid of `y`, divided by 16, as the kernel computes it. -/
def decay (y : EReal) : EReal :=
  (min y 0 - Ideal.log1p (Ideal.exp (0 - max y (-y)))) * Ideal.ofBits .f32 0x3D800000#32

/-- The call's arguments that the claimed results depend on, as functions of their coordinates; the rows are `n`. -/
structure Args (n : ℕ) where
  x : Fin n → Fin 1024 → EReal
  g : Fin 1024 → EReal
  w : Fin 1024 → Fin 3072 → EReal
  w2 : Fin 128 → Fin 256 → EReal
  b2 : Fin 256 → EReal
  gc : Fin 128 → EReal
  cos : Fin n → Fin 128 → EReal
  sin : Fin n → Fin 128 → EReal

variable {n : ℕ} (A : Args n)

/-- The product of the normalised row with the weights. -/
def z (t : Fin n) (j : Fin 3072) : EReal :=
  ∑ k, normed (Ideal.ofBits .f32 0x44800000#32) (A.x t) A.g k * A.w k j

/-- The first mixer's queries, keys and values. -/
def qa (t : Fin n) (j : Fin 256) : EReal := z A t ⟨j.val, by omega⟩ * Ideal.ofBits .f32 0x3E8293EE#32
def ka (t : Fin n) (j : Fin 256) : EReal := z A t ⟨256 + j.val, by omega⟩
def va (t : Fin n) (j : Fin 256) : EReal := z A t ⟨512 + j.val, by omega⟩

/-- The second mixer's queries, keys, values and gates. -/
def qg (t : Fin n) (j : Fin 256) : EReal := z A t ⟨768 + j.val, by omega⟩ * Ideal.ofBits .f32 0x3E000000#32
def kg (t : Fin n) (j : Fin 256) : EReal := z A t ⟨1024 + j.val, by omega⟩
def vg (t : Fin n) (j : Fin 512) : EReal := z A t ⟨1280 + j.val, by omega⟩
def gg (t : Fin n) (j : Fin 512) : EReal := z A t ⟨1792 + j.val, by omega⟩

/-- The second mixer's log-decays. -/
def la (t : Fin n) (j : Fin 256) : EReal := decay ((∑ k : Fin 128, z A t ⟨2304 + k.val, by omega⟩ * A.w2 k j) + A.b2 j)

/-- The third mixer's latent keys. -/
def lat (t : Fin n) (j : Fin 128) : EReal :=
  normed (Ideal.ofBits .f32 0x43000000#32) (fun k : Fin 128 => z A t ⟨2688 + k.val, by omega⟩) A.gc j

/-- Its rotary keys, over 128 columns. -/
def rot (t : Fin n) (l : Fin 128) : EReal :=
  z A t ⟨2816 + l.val, by omega⟩ * A.cos t l + z A t ⟨2944 + l.val, by omega⟩ * A.sin t l

/-- The latent keys before the rotary ones: all of those, and the first 32 of them. -/
def keys (t : Fin n) (j : Fin 256) : EReal := if h : j.val < 128 then lat A t ⟨j.val, h⟩ else rot A t ⟨j.val - 128, by omega⟩
def rows (t : Fin n) (j : Fin 160) : EReal := if h : j.val < 128 then lat A t ⟨j.val, h⟩ else rot A t ⟨j.val - 128, by omega⟩

/-- The layout that the host code gives the rotary columns and the tables. -/
structure Layout : Prop where
  wa (k : Fin 1024) (q : Fin 4) (l : Fin 32) : A.w k ⟨2816 + (q.val * 32 + l.val), by omega⟩ = A.w k ⟨2816 + l.val, by omega⟩
  wb (k : Fin 1024) (q : Fin 4) (l : Fin 16) : A.w k ⟨2944 + (q.val * 32 + l.val), by omega⟩ = A.w k ⟨2816 + (16 + l.val), by omega⟩
  wc (k : Fin 1024) (q : Fin 4) (l : Fin 16) : A.w k ⟨2944 + (q.val * 32 + (16 + l.val)), by omega⟩ = A.w k ⟨2816 + l.val, by omega⟩
  cos (t : Fin n) (q : Fin 8) (l : Fin 16) : A.cos t ⟨q.val * 16 + l.val, by omega⟩ = A.cos t ⟨l.val, by omega⟩
  sina (t : Fin n) (q : Fin 4) (l : Fin 16) : A.sin t ⟨q.val * 32 + l.val, by omega⟩ = - A.sin t ⟨16 + l.val, by omega⟩
  sinb (t : Fin n) (q : Fin 4) (l : Fin 16) : A.sin t ⟨q.val * 32 + (16 + l.val), by omega⟩ = A.sin t ⟨16 + l.val, by omega⟩

/-- The rotated pair's halves, from the first 32 columns and the first table halves. -/
def ropeA (t : Fin n) (l : Fin 16) : EReal :=
  z A t ⟨2816 + l.val, by omega⟩ * A.cos t ⟨l.val, by omega⟩ - z A t ⟨2816 + (16 + l.val), by omega⟩ * A.sin t ⟨16 + l.val, by omega⟩
def ropeB (t : Fin n) (l : Fin 16) : EReal :=
  z A t ⟨2816 + l.val, by omega⟩ * A.sin t ⟨16 + l.val, by omega⟩ + z A t ⟨2816 + (16 + l.val), by omega⟩ * A.cos t ⟨l.val, by omega⟩

variable {A}

theorem z_congr (t : Fin n) {j j' : Fin 3072} (h : ∀ k, A.w k j = A.w k j') : z A t j = z A t j' := by
  unfold z
  simp only [h]

theorem rot_lo (H : Layout A) (t : Fin n) (q : Fin 4) (l : Fin 16) : rot A t ⟨q.val * 32 + l.val, by omega⟩ = ropeA A t l := by
  have e1 := z_congr t fun k => H.wa k q ⟨l.val, by omega⟩
  have e2 := z_congr t fun k => H.wb k q l
  have e3 := H.cos t ⟨2 * q.val, by omega⟩ l
  have e4 := H.sina t q l
  have e5 : (⟨2 * q.val * 16 + l.val, by omega⟩ : Fin 128) = ⟨q.val * 32 + l.val, by omega⟩ := Fin.ext (by dsimp only; omega)
  dsimp only at e1 e3
  rw [e5] at e3
  unfold rot ropeA
  dsimp only
  rw [e1, e2, e3, e4, mul_neg, sub_eq_add_neg]

theorem rot_hi (H : Layout A) (t : Fin n) (q : Fin 4) (l : Fin 16) :
    rot A t ⟨q.val * 32 + (16 + l.val), by omega⟩ = ropeB A t l := by
  have e1 := z_congr t fun k => H.wa k q ⟨16 + l.val, by omega⟩
  have e2 := z_congr t fun k => H.wc k q l
  have e3 := H.cos t ⟨2 * q.val + 1, by omega⟩ l
  have e4 := H.sinb t q l
  have e5 : (⟨(2 * q.val + 1) * 16 + l.val, by omega⟩ : Fin 128) = ⟨q.val * 32 + (16 + l.val), by omega⟩ := Fin.ext (by dsimp only; omega)
  dsimp only at e1 e3
  rw [e5] at e3
  unfold rot ropeB
  dsimp only
  rw [e1, e2, e3, e4, add_comm]

/-- The rotary keys by the place in the head's 32. -/
theorem rot_eq (H : Layout A) (t : Fin n) (l : Fin 128) : rot A t l
    = if h : l.val % 32 < 16 then ropeA A t ⟨l.val % 32, h⟩ else ropeB A t ⟨l.val % 32 - 16, by omega⟩ := by
  by_cases h : l.val % 32 < 16
  · rw [dif_pos h, ← rot_lo H t ⟨l.val / 32, by omega⟩ ⟨l.val % 32, h⟩]
    exact congrArg (rot A t) (Fin.ext (by dsimp only; omega))
  · rw [dif_neg h, ← rot_hi H t ⟨l.val / 32, by omega⟩ ⟨l.val % 32 - 16, by omega⟩]
    exact congrArg (rot A t) (Fin.ext (by dsimp only; omega))

/-- The logarithm that the log-decay subtracts is a real number. -/
theorem log1p_real (y : EReal) : ∃ r : ℝ, Ideal.log1p (Ideal.exp (0 - max y (-y))) = (r : EReal) := by
  have key : ∀ x : EReal, x ≠ ⊤ → ∃ r : ℝ, Ideal.log1p (Ideal.exp x) = (r : EReal) := by
    intro x hx
    have hlog : ∀ s : ℝ, 0 ≤ s → Ideal.log (((1 + s : ℝ)) : EReal) = (Real.log (1 + s) : EReal) := fun s hs => by
      show (if (1 + s : ℝ) ≤ 0 then ⊥ else (Real.log (1 + s) : EReal)) = _
      rw [if_neg (by linarith)]
    induction x using EReal.rec with
    | bot =>
      refine ⟨Real.log (1 + 0), ?_⟩
      have := hlog 0 le_rfl
      unfold Ideal.log1p
      rw [← this]
      show Ideal.log (1 + 0) = _
      norm_num
    | coe r =>
      refine ⟨Real.log (1 + Real.exp r), ?_⟩
      rw [← hlog _ (Real.exp_pos r).le]
      unfold Ideal.log1p
      show Ideal.log (1 + (Real.exp r : EReal)) = _
      rw [EReal.coe_add]; rfl
    | top => exact absurd rfl hx
  refine key _ ?_
  rw [zero_sub, Ne, EReal.neg_eq_top_iff]
  intro h
  have h1 : y ≤ ⊥ := h ▸ le_max_left _ _
  have h2 : -y ≤ ⊥ := h ▸ le_max_right _ _
  rw [le_bot_iff] at h1 h2
  rw [h1] at h2
  exact absurd h2 (by simp)

theorem sixteenth (x : EReal) : Ideal.div x (Ideal.ofBits .f32 0x41800000#32) = x * Ideal.ofBits .f32 0x3D800000#32 := by
  have h : Ideal.ofBits .f32 0x41800000#32 = ((16 : ℝ) : EReal) := by
    simp [Ideal.ofBits, Ideal.ieee]; rw [← EReal.coe_mul]; norm_num
  have h' : Ideal.ofBits .f32 0x3D800000#32 = ((16⁻¹ : ℝ) : EReal) := by
    simp [Ideal.ofBits, Ideal.ieee]; rw [← EReal.coe_mul]; norm_num
  rw [h, h']
  unfold Ideal.div
  rw [if_neg (fun h0 => by rw [← EReal.coe_zero, EReal.coe_eq_coe_iff] at h0; norm_num at h0), EReal.coe_inv]

/-- The log-decay as the reference computes it: minus the softplus of `-y`, divided by 16. -/
theorem decay_eq (y : EReal) :
    Ideal.div (-(max (-y) 0 + Ideal.log1p (Ideal.exp (-(max (-y) (-(-y)))))))
      (Ideal.ofBits .f32 0x41800000#32) = decay y := by
  rw [sixteenth]
  unfold decay
  have e : -(max (-y) (-(-y))) = 0 - max y (-y) := by rw [neg_neg, zero_sub, max_comm]
  obtain ⟨r, hr⟩ := log1p_real y
  rw [e, hr]
  congr 1
  rw [EReal.neg_add (Or.inr (EReal.coe_ne_top r)) (Or.inr (EReal.coe_ne_bot r))]
  congr 1
  have := EReal.neg_strictAnti.antitone.map_max (a := -y) (b := 0)
  rw [this, neg_neg, neg_zero]

end Cert.Proj

end
-- ==== Proof.Proj.Body.lean ====
/-
  What the body of the third call computes from its blocks, read at an index.
-/
module

public import proofs.«01_k».proof.Proof.Gen.Kernel3Ideal.Skeleton
public import proofs.«01_k».proof.Proof.Proj.Spec

@[expose] public section

set_option maxRecDepth 16384

noncomputable section

namespace Cert.Proj

open Idealize.ShloMosaic Idealize.ShloMosaic.TcCoe Cert.Kernel3Ideal Cert.Kernel3Ideal.Gen

section
variable (x0 : Vec Ideal S256x1024 .f32) (x1 : Vec Ideal S1x1024 .f32) (x2 : Vec Ideal S1024x3072 .bf16)

theorem prod_apply (r : Fin 256) (j : Fin 3072) : (k0_pay2 x0 x1 x2 (ix2 r j) : EReal)
    = ∑ k, normed (Ideal.ofBits .f32 0x44800000#32) (fun k => x0 (ix2 r k)) (fun k => x1 (ix2 0 k)) k * x2 (ix2 k j) := by
  unfold k0_pay2 normed
  pointwise

theorem qa_apply (r j : Fin 256) : (k0_pay3 x0 x1 x2 (ix2 r j) : EReal)
    = k0_pay2 x0 x1 x2 (ix2 r ⟨j.val, by omega⟩) * Ideal.ofBits .f32 0x3E8293EE#32 := by
  unfold k0_pay3
  generalize k0_pay2 x0 x1 x2 = p
  pointwise

theorem ka_apply (r j : Fin 256) : (k0_pay4 x0 x1 x2 (ix2 r j) : EReal) = k0_pay2 x0 x1 x2 (ix2 r ⟨256 + j.val, by omega⟩) := by
  unfold k0_pay4
  generalize k0_pay2 x0 x1 x2 = p
  pointwise

theorem va_apply (r j : Fin 256) : (k0_pay5 x0 x1 x2 (ix2 r j) : EReal) = k0_pay2 x0 x1 x2 (ix2 r ⟨512 + j.val, by omega⟩) := by
  unfold k0_pay5
  generalize k0_pay2 x0 x1 x2 = p
  pointwise

theorem kab_apply (r j : Fin 256) : (k0_pay6 x0 x1 x2 (ix2 r j) : EReal) = k0_pay2 x0 x1 x2 (ix2 r ⟨256 + j.val, by omega⟩) := by
  unfold k0_pay6 k0_pay4
  generalize k0_pay2 x0 x1 x2 = p
  pointwise

theorem vab_apply (r j : Fin 256) : (k0_pay7 x0 x1 x2 (ix2 r j) : EReal) = k0_pay2 x0 x1 x2 (ix2 r ⟨512 + j.val, by omega⟩) := by
  unfold k0_pay7 k0_pay5
  generalize k0_pay2 x0 x1 x2 = p
  pointwise

theorem qg_apply (r j : Fin 256) : (k0_pay10 (k0_pay8 x0 x1 x2) k0_pay9 (ix2 r j) : EReal)
    = k0_pay2 x0 x1 x2 (ix2 r ⟨768 + j.val, by omega⟩) * Ideal.ofBits .f32 0x3E000000#32 := by
  unfold k0_pay10 k0_pay8 k0_pay9
  generalize k0_pay2 x0 x1 x2 = p
  pointwise
end

section
variable (p : FVec Ideal S256x3072 .f32)

theorem kg_apply (r j : Fin 256) : (k0_pay11 p (ix2 r j) : EReal) = p (ix2 r ⟨1024 + j.val, by omega⟩) := by
  unfold k0_pay11
  pointwise

theorem vg_apply (r : Fin 256) (j : Fin 512) : (k0_pay12 p (ix2 r j) : EReal) = p (ix2 r ⟨1280 + j.val, by omega⟩) := by
  unfold k0_pay12
  pointwise

theorem gg_apply (r : Fin 256) (j : Fin 512) : (k0_pay13 p (ix2 r j) : EReal) = p (ix2 r ⟨1792 + j.val, by omega⟩) := by
  unfold k0_pay13
  pointwise

theorem la_apply (x3 : Vec Ideal S128x256 .bf16) (x4 : Vec Ideal S1x256 .f32) (r j : Fin 256) : (k0_pay14 p x3 x4 (ix2 r j) : EReal)
    = decay ((∑ k : Fin 128, (p (ix2 r ⟨2304 + k.val, by omega⟩) : EReal) * x3 (ix2 k j)) + x4 (ix2 0 j)) := by
  unfold k0_pay14 decay
  pointwise
  rfl

theorem lat_apply (x8 : Vec Ideal S1x128 .f32) (r : Fin 256) (j : Fin 128) : (k0_pay39 p x8 (ix2 r j) : EReal)
    = normed (Ideal.ofBits .f32 0x43000000#32) (fun k : Fin 128 => p (ix2 r ⟨2688 + k.val, by omega⟩)) (fun k => x8 (ix2 0 k)) j := by
  unfold k0_pay39 normed
  pointwise

theorem latb_apply (x8 : Vec Ideal S1x128 .f32) (r : Fin 256) (j : Fin 128) : (k0_pay41 p x8 (ix2 r j) : EReal)
    = k0_pay39 p x8 (ix2 r j) := by
  unfold k0_pay41
  generalize k0_pay39 p x8 = q
  pointwise

variable (x9 x10 : Vec Ideal S256x128 .f32)

theorem rot_apply (r : Fin 256) (l : Fin 128) : (k0_pay40 p x9 x10 (ix2 r l) : EReal)
    = p (ix2 r ⟨2816 + l.val, by omega⟩) * x9 (ix2 r l) + p (ix2 r ⟨2944 + l.val, by omega⟩) * x10 (ix2 r l) := by
  unfold k0_pay40
  pointwise

theorem rotb_apply (r : Fin 256) (l : Fin 128) : (k0_pay42 p x9 x10 (ix2 r l) : EReal) = k0_pay40 p x9 x10 (ix2 r l) := by
  unfold k0_pay42
  generalize k0_pay40 p x9 x10 = q
  pointwise

theorem rot32_apply (r : Fin 256) (l : Fin 32) : (k0_pay1 (k0_pay40 p x9 x10) (ix2 r l) : EReal)
    = k0_pay40 p x9 x10 (ix2 r ⟨l.val, by omega⟩) := by
  unfold k0_pay1
  generalize k0_pay40 p x9 x10 = q
  pointwise
end

end Cert.Proj

end
-- ==== Proof.Proj.Pieces.lean ====
/-
  A block that two stores fill, read at an index.
-/
module

public import Idealize.ShloMosaic.Lib.Pointwise
public import Idealize.ShloMosaic.Lib.Pipeline.ValueKit.Acc
public import Idealize.ShloMosaic.Lib.VecWindow

@[expose] public section

set_option maxRecDepth 16384

noncomputable section

namespace Cert.Proj

open Idealize.ShloMosaic Idealize.ShloMosaic.TcCoe

theorem hz2 : (![0, 0] : Fin 2 → Nat) = fun _ => 0 := funext fun a => by fin_cases a <;> rfl

/-- A block that two stores fill: the first 128 columns, and the `w` after them. -/
theorem two_pieces {e : EltTy} (w : ℕ)
    (inb : ∀ a, (![0, 128] : Fin 2 → Nat) a + (⟨2, ![256, w]⟩ : Shape).size a ≤ (⟨2, ![256, 128 + w]⟩ : Shape).size a)
    (inb' : ∀ a, (![0, 0] : Fin 2 → Nat) a + (⟨2, ![256, 128]⟩ : Shape).size a ≤ (⟨2, ![256, 128 + w]⟩ : Shape).size a)
    (B : (⟨2, ![256, w]⟩ : Shape).Idx → Elt Ideal e) (A : (⟨2, ![256, 128]⟩ : Shape).Idx → Elt Ideal e) (r : Fin 256) (j : Fin (128 + w)) :
    View.canon [(⟨Rect.unit (s := (⟨2, ![256, 128 + w]⟩ : Shape)) ![0, 128] (⟨2, ![256, w]⟩ : Shape).size inb, B⟩ :
        View.Piece (Elt Ideal) (⟨2, ![256, 128 + w]⟩ : Shape) e),
      ⟨Rect.unit (s := (⟨2, ![256, 128 + w]⟩ : Shape)) ![0, 0] (⟨2, ![256, 128]⟩ : Shape).size inb', A⟩] (ix2 r j)
      = if h : j.val < 128 then A (ix2 r ⟨j.val, h⟩) else B (ix2 r ⟨j.val - 128, by omega⟩) := by
  by_cases h : j.val < 128
  · rw [dif_pos h, View.canon_cons_of_not_mem]
    · have he : (Rect.unit (s := (⟨2, ![256, 128 + w]⟩ : Shape)) ![0, 0] (⟨2, ![256, 128]⟩ : Shape).size inb').emb
          (ix2 r (⟨j.val, h⟩ : Fin 128)) = ix2 r j := by
        funext a
        apply Fin.ext
        fin_cases a
        · show 0 + 1 * r.val = r.val; omega
        · show 0 + 1 * j.val = j.val; omega
      rw [← he, View.canon_cons_emb]
    · intro hm
      obtain ⟨x, _, he⟩ := (LoadRect.mem_set _).mp hm (1 : Fin 2)
      have he' : j.val = 128 + 1 * x := he
      omega
  · rw [dif_neg h]
    have he : (Rect.unit (s := (⟨2, ![256, 128 + w]⟩ : Shape)) ![0, 128] (⟨2, ![256, w]⟩ : Shape).size inb).emb
        (ix2 r (⟨j.val - 128, by omega⟩ : Fin w)) = ix2 r j := by
      funext a
      apply Fin.ext
      fin_cases a
      · show 0 + 1 * r.val = r.val; omega
      · show 128 + 1 * (j.val - 128) = j.val; omega
    rw [← he, View.canon_cons_emb]

end Cert.Proj

end
-- ==== Proof.Proj.Run.lean ====
/-
  What the body of the third call leaves at a point: every result's block, as the named parts of its input blocks.
-/
module

public import proofs.«01_k».proof.Proof.Gen.Kernel3Ideal.Frame
public import proofs.«01_k».proof.Proof.Proj.Body
public import Idealize.ShloMosaic.Lib.Pipeline.ValueKit.Acc
public import proofs.«01_k».proof.Proof.Proj.Pieces

@[expose] public section

set_option maxRecDepth 16384

noncomputable section

namespace Cert.Proj

open Idealize.ShloMosaic Idealize.ShloMosaic.TcCoe Cert.Kernel3Ideal Cert.Kernel3Ideal.Gen

section
variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1024x3072 .bf16) (h3 : a3.IsWhole)
  (a4 : Memref sig .tc .vmem S128x256 .bf16) (h4 : a4.IsWhole)
  (a5 : Memref sig .tc .vmem S1x256 .f32) (h5 : a5.IsWhole)
  (a6 : Memref sig .tc .vmem S1x256 .f32) (h6 : a6.IsWhole)
  (a7 : Memref sig .tc .vmem S256x512 .bf16) (h7 : a7.IsWhole)
  (a8 : Memref sig .tc .vmem S256x512 .bf16) (h8 : a8.IsWhole)
  (a9 : Memref sig .tc .vmem S1x128 .f32) (h9 : a9.IsWhole)
  (a10 : Memref sig .tc .vmem S256x128 .f32) (h10 : a10.IsWhole)
  (a11 : Memref sig .tc .vmem S256x128 .f32) (h11 : a11.IsWhole)
  (a12 : Memref sig .tc .vmem S256x256 .bf16) (h12 : a12.IsWhole)
  (a13 : Memref sig .tc .vmem S256x256 .f32) (h13 : a13.IsWhole)
  (a14 : Memref sig .tc .vmem S256x256 .f32) (h14 : a14.IsWhole)
  (a15 : Memref sig .tc .vmem S256x256 .bf16) (h15 : a15.IsWhole)
  (a16 : Memref sig .tc .vmem S256x256 .bf16) (h16 : a16.IsWhole)
  (a17 : Memref sig .tc .vmem S256x256 .f32) (h17 : a17.IsWhole)
  (a18 : Memref sig .tc .vmem S256x256 .f32) (h18 : a18.IsWhole)
  (a19 : Memref sig .tc .vmem S256x512 .bf16) (h19 : a19.IsWhole)
  (a20 : Memref sig .tc .vmem S256x512 .f32) (h20 : a20.IsWhole)
  (a21 : Memref sig .tc .vmem S256x256 .f32) (h21 : a21.IsWhole)
  (a22 : Memref sig .tc .vmem S4x256x256 .bf16) (h22 : a22.IsWhole)
  (a23 : Memref sig .tc .vmem S256x256 .bf16) (h23 : a23.IsWhole)
  (a24 : Memref sig .tc .vmem S256x160 .f32) (h24 : a24.IsWhole)
  (x0 : Vec Ideal S256x1024 .f32) (x1 : Vec Ideal S1x1024 .f32) (x2 : Vec Ideal S1024x3072 .bf16) (x3 : Vec Ideal S128x256 .bf16)
  (x4 x5 : Vec Ideal S1x256 .f32) (x6 x7 : Vec Ideal S256x512 .bf16) (x8 : Vec Ideal S1x128 .f32)
  (x9 x10 : Vec Ideal S256x128 .f32)

theorem qa_left : out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay3 x0 x1 x2 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem ka_left : out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay4 x0 x1 x2 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem va_left : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay5 x0 x1 x2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem kab_left : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay6 x0 x1 x2 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem vab_left : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay7 x0 x1 x2 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem qg_left : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay10 (k0_pay8 x0 x1 x2) k0_pay9 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem kg_left : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay11 (k0_pay2 x0 x1 x2) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem vg_left : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay12 (k0_pay2 x0 x1 x2) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x512) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem gg_left : out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay13 (k0_pay2 x0 x1 x2) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x512) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem la_left : out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay14 (k0_pay2 x0 x1 x2) x3 x4 := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem keys_left (r : Fin 256) (j : Fin (128 + 128)) : out0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10 (ix2 r j)
    = if h : j.val < 128 then k0_pay41 (k0_pay2 x0 x1 x2) x8 (ix2 r ⟨j.val, h⟩) else k0_pay42 (k0_pay2 x0 x1 x2) x9 x10 (ix2 r ⟨j.val - 128, by omega⟩) := by
  unfold out0_A_22
  rw [View.read_writes_eq_canon _ _ _ (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]
  exact two_pieces 128 _ _ _ _ r j

theorem rows_left (r : Fin 256) (j : Fin (128 + 32)) : out0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10 (ix2 r j)
    = if h : j.val < 128 then k0_pay39 (k0_pay2 x0 x1 x2) x8 (ix2 r ⟨j.val, h⟩) else k0_pay1 (k0_pay40 (k0_pay2 x0 x1 x2) x9 x10) (ix2 r ⟨j.val - 128, by omega⟩) := by
  unfold out0_A_23
  rw [View.read_writes_eq_canon _ _ _ (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]
  exact two_pieces 32 _ _ _ _ r j
end

end Cert.Proj

end
-- ==== Proof.Proj.Pre.lean ====
/-
  What the precondition of the third call says of the memory: the rotary columns of the weights and the two tables are
  laid out as the host code lays them out.
-/
module

public import proofs.«01_k».proof.Defs
public import proofs.«01_k».proof.Proof.Gen.Kernel3Ideal.Value
public import proofs.«01_k».proof.Proof.Gen.Pre_rotary_layout
public import proofs.«01_k».proof.Proof.Proj.Spec
public import Idealize.ShloMosaic.Lib.ReduceAll
public import Idealize.ShloMosaic.Lib.IdealHost

@[expose] public section

set_option maxRecDepth 16384

noncomputable section

namespace Cert.Proj

open Idealize.ShloMosaic Idealize.ShloMosaic.TcCoe Cert.Kernel3Ideal

/-- A decided equation whose word came out 1. -/
theorem of_word {x y : EReal} (h : BitVec.ofBool (decide (x = y)) = 1#1) : x = y := by
  by_contra hne
  simp [hne] at h

variable (m : (ℓ : Loc nD τ sig) → Buf (Elt Ideal) ℓ) (c : Dev nD)

/-- The kernel's arguments by coordinates. -/
def argsK : Args 16384 where
  x t k := (m ((c : Thread nD τ).loc main_arg0) : S16384x1024.Idx → EReal) (ix2 t k)
  g k := (m ((c : Thread nD τ).loc main_arg1) : S1x1024.Idx → EReal) (ix2 0 k)
  w k j := (m ((c : Thread nD τ).loc main_arg2) : S1024x3072.Idx → EReal) (ix2 k j)
  w2 k j := (m ((c : Thread nD τ).loc main_arg3) : S128x256.Idx → EReal) (ix2 k j)
  b2 j := (m ((c : Thread nD τ).loc main_arg4) : S1x256.Idx → EReal) (ix2 0 j)
  gc j := (m ((c : Thread nD τ).loc main_arg8) : S1x128.Idx → EReal) (ix2 0 j)
  cos t l := (m ((c : Thread nD τ).loc main_arg9) : S16384x128.Idx → EReal) (ix2 t l)
  sin t l := (m ((c : Thread nD τ).loc main_arg10) : S16384x128.Idx → EReal) (ix2 t l)

/-- The precondition, read. -/
theorem layout (h : Cert.Pre_Kernel3Ideal_rotary_layout m) : Layout (argsK m c) := by
  have e := congrFun (h c) (fun a => a.elim0)
  have : Subsingleton Cert.Pre_rotary_layout.S_.Idx := ⟨fun y z => funext fun a => a.elim0⟩
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have e1 := Host.reduce_andi_all _ _ _ _ _ e1
  have e2 := Host.reduce_andi_all _ _ _ _ _ e2
  have e3 := Host.reduce_andi_all _ _ _ _ _ e3
  have e4 := Host.reduce_andi_all _ _ _ _ _ e4
  have e5 := Host.reduce_andi_all _ _ _ _ _ e5
  have e6 := Host.reduce_andi_all _ _ _ _ _ e6
  unfold argsK
  generalize m ((c : Thread nD τ).loc main_arg2) = w at e1 e2 e3 ⊢
  generalize m ((c : Thread nD τ).loc main_arg9) = cs at e4 ⊢
  generalize m ((c : Thread nD τ).loc main_arg10) = sn at e5 e6 ⊢
  refine ⟨fun k q l => ?_, fun k q l => ?_, fun k q l => ?_, fun t q l => ?_, fun t q l => ?_, fun t q l => ?_⟩
  · have := e1 (ix3 k q l)
    pointwise at this
    exact of_word this
  · have := e2 (ix3 k q l)
    pointwise at this
    exact of_word this
  · have := e3 (ix3 k q l)
    pointwise at this
    exact of_word this
  · have := e4 (ix3 t q l)
    pointwise at this
    exact of_word this
  · have := e5 (ix3 t q l)
    pointwise at this
    exact of_word this
  · have := e6 (ix3 t q l)
    pointwise at this
    exact of_word this

end Cert.Proj

end
-- ==== Proof.Proj.Arrays.lean ====
/-
  The whole grid of the third call: the blocks the body reads are the arguments' rows of the point's tile, so every result
  array holds the named rows.
-/
module

public import proofs.«01_k».proof.Proof.Gen.Kernel3Ideal.Value
public import proofs.«01_k».proof.Proof.Proj.Run
public import proofs.«01_k».proof.Proof.Proj.Pre

@[expose] public section

set_option maxRecDepth 16384
set_option Elab.async false

noncomputable section

namespace Cert.Proj

open Idealize.ShloMosaic Idealize.ShloMosaic.TcCoe Cert.Kernel3Ideal Cert.Kernel3Ideal.Gen Cert.Kernel3Ideal.Value

variable (m : (ℓ : Loc nD τ sig) → Buf (Elt Ideal) ℓ) (c : Dev nD)

theorem lt64 (t : Fin cfg0.N) : t.val < 64 := lt_of_lt_of_eq t.isLt N_0

/-- A row of a point's tile. -/
def pos (t : Fin cfg0.N) (r : Fin 256) : Fin 16384 := ⟨256 * t.val + r.val, by have := lt64 t; omega⟩

/-- The point of a row, and the row's place in the tile. -/
def ptAt (t : Fin 16384) : Fin cfg0.N := ⟨t.val / 256, lt_of_lt_of_eq (show t.val / 256 < 64 by omega) N_0.symm⟩
def rowAt (t : Fin 16384) : Fin 256 := ⟨t.val % 256, by omega⟩

theorem pos_at (t : Fin 16384) : pos (ptAt t) (rowAt t) = t := Fin.ext (show 256 * (t.val / 256) + t.val % 256 = t.val by omega)

theorem index_0 : ∀ t : Fin cfg0.N, (cfg0.win (0 : Fin 24)).index t = ![t.val, 0] := by decide +kernel

theorem index_1 : ∀ t : Fin cfg0.N, (cfg0.win (1 : Fin 24)).index t = ![0, 0] := by decide +kernel

theorem index_2 : ∀ t : Fin cfg0.N, (cfg0.win (2 : Fin 24)).index t = ![0, 0] := by decide +kernel

theorem index_3 : ∀ t : Fin cfg0.N, (cfg0.win (3 : Fin 24)).index t = ![0, 0] := by decide +kernel

theorem index_4 : ∀ t : Fin cfg0.N, (cfg0.win (4 : Fin 24)).index t = ![0, 0] := by decide +kernel

theorem index_8 : ∀ t : Fin cfg0.N, (cfg0.win (8 : Fin 24)).index t = ![0, 0] := by decide +kernel

theorem index_9 : ∀ t : Fin cfg0.N, (cfg0.win (9 : Fin 24)).index t = ![t.val, 0] := by decide +kernel

theorem index_10 : ∀ t : Fin cfg0.N, (cfg0.win (10 : Fin 24)).index t = ![t.val, 0] := by decide +kernel

theorem index_11 : ∀ t : Fin cfg0.N, (cfg0.win (11 : Fin 24)).index t = ![t.val, 0] := by decide +kernel

theorem flush_11 : ∀ t : Fin cfg0.N, (cfg0.win (11 : Fin 24)).flush t = true := by decide +kernel

theorem index_12 : ∀ t : Fin cfg0.N, (cfg0.win (12 : Fin 24)).index t = ![t.val, 0] := by decide +kernel

theorem flush_12 : ∀ t : Fin cfg0.N, (cfg0.win (12 : Fin 24)).flush t = true := by decide +kernel

theorem index_13 : ∀ t : Fin cfg0.N, (cfg0.win (13 : Fin 24)).index t = ![t.val, 0] := by decide +kernel

theorem flush_13 : ∀ t : Fin cfg0.N, (cfg0.win (13 : Fin 24)).flush t = true := by decide +kernel

theorem index_14 : ∀ t : Fin cfg0.N, (cfg0.win (14 : Fin 24)).index t = ![t.val, 0] := by decide +kernel

theorem flush_14 : ∀ t : Fin cfg0.N, (cfg0.win (14 : Fin 24)).flush t = true := by decide +kernel

theorem index_15 : ∀ t : Fin cfg0.N, (cfg0.win (15 : Fin 24)).index t = ![t.val, 0] := by decide +kernel

theorem flush_15 : ∀ t : Fin cfg0.N, (cfg0.win (15 : Fin 24)).flush t = true := by decide +kernel

theorem index_16 : ∀ t : Fin cfg0.N, (cfg0.win (16 : Fin 24)).index t = ![t.val, 0] := by decide +kernel

theorem flush_16 : ∀ t : Fin cfg0.N, (cfg0.win (16 : Fin 24)).flush t = true := by decide +kernel

theorem index_17 : ∀ t : Fin cfg0.N, (cfg0.win (17 : Fin 24)).index t = ![t.val, 0] := by decide +kernel

theorem flush_17 : ∀ t : Fin cfg0.N, (cfg0.win (17 : Fin 24)).flush t = true := by decide +kernel

theorem index_18 : ∀ t : Fin cfg0.N, (cfg0.win (18 : Fin 24)).index t = ![t.val, 0] := by decide +kernel

theorem flush_18 : ∀ t : Fin cfg0.N, (cfg0.win (18 : Fin 24)).flush t = true := by decide +kernel

theorem index_19 : ∀ t : Fin cfg0.N, (cfg0.win (19 : Fin 24)).index t = ![t.val, 0] := by decide +kernel

theorem flush_19 : ∀ t : Fin cfg0.N, (cfg0.win (19 : Fin 24)).flush t = true := by decide +kernel

theorem index_20 : ∀ t : Fin cfg0.N, (cfg0.win (20 : Fin 24)).index t = ![t.val, 0] := by decide +kernel

theorem flush_20 : ∀ t : Fin cfg0.N, (cfg0.win (20 : Fin 24)).flush t = true := by decide +kernel

theorem index_22 : ∀ t : Fin cfg0.N, (cfg0.win (22 : Fin 24)).index t = ![t.val, 0] := by decide +kernel

theorem flush_22 : ∀ t : Fin cfg0.N, (cfg0.win (22 : Fin 24)).flush t = true := by decide +kernel

theorem index_23 : ∀ t : Fin cfg0.N, (cfg0.win (23 : Fin 24)).index t = ![t.val, 0] := by decide +kernel

theorem flush_23 : ∀ t : Fin cfg0.N, (cfg0.win (23 : Fin 24)).flush t = true := by decide +kernel

theorem blk_0 (t : Fin cfg0.N) (r : Fin 256) (e : Fin 1024) :
    (iblk m c (0 : Fin 24) t (ix2 r e : S256x1024.Idx) : EReal) = (argsK m c).x (pos t r) e := by
  refine congrArg (m ((c : Thread nD τ).loc main_arg0)) (funext fun a => Fin.ext ?_)
  show (cfg0.win (0 : Fin 24)).index t a * S256x1024.size a + 1 * ((ix2 r e : S256x1024.Idx) a).val = _
  rw [index_0 t]
  fin_cases a
  · show t.val * 256 + 1 * r.val = 256 * t.val + r.val; omega
  · show 0 * 1024 + 1 * e.val = e.val; omega

theorem blk_1 (t : Fin cfg0.N) (e : Fin 1024) : (iblk m c (1 : Fin 24) t (ix2 0 e : S1x1024.Idx) : EReal) = (argsK m c).g e := by
  refine congrArg (m ((c : Thread nD τ).loc main_arg1)) (funext fun a => Fin.ext ?_)
  show (cfg0.win (1 : Fin 24)).index t a * S1x1024.size a + 1 * ((ix2 0 e : S1x1024.Idx) a).val = _
  rw [index_1 t]
  fin_cases a
  · show 0 * 1 + 1 * 0 = 0; omega
  · show 0 * 1024 + 1 * e.val = e.val; omega

theorem blk_2 (t : Fin cfg0.N) (r : Fin 1024) (e : Fin 3072) :
    (iblk m c (2 : Fin 24) t (ix2 r e : S1024x3072.Idx) : EReal) = (argsK m c).w r e := by
  refine congrArg (m ((c : Thread nD τ).loc main_arg2)) (funext fun a => Fin.ext ?_)
  show (cfg0.win (2 : Fin 24)).index t a * S1024x3072.size a + 1 * ((ix2 r e : S1024x3072.Idx) a).val = _
  rw [index_2 t]
  fin_cases a
  · show 0 * 1024 + 1 * r.val = r.val; omega
  · show 0 * 3072 + 1 * e.val = e.val; omega

theorem blk_3 (t : Fin cfg0.N) (r : Fin 128) (e : Fin 256) :
    (iblk m c (3 : Fin 24) t (ix2 r e : S128x256.Idx) : EReal) = (argsK m c).w2 r e := by
  refine congrArg (m ((c : Thread nD τ).loc main_arg3)) (funext fun a => Fin.ext ?_)
  show (cfg0.win (3 : Fin 24)).index t a * S128x256.size a + 1 * ((ix2 r e : S128x256.Idx) a).val = _
  rw [index_3 t]
  fin_cases a
  · show 0 * 128 + 1 * r.val = r.val; omega
  · show 0 * 256 + 1 * e.val = e.val; omega

theorem blk_4 (t : Fin cfg0.N) (e : Fin 256) : (iblk m c (4 : Fin 24) t (ix2 0 e : S1x256.Idx) : EReal) = (argsK m c).b2 e := by
  refine congrArg (m ((c : Thread nD τ).loc main_arg4)) (funext fun a => Fin.ext ?_)
  show (cfg0.win (4 : Fin 24)).index t a * S1x256.size a + 1 * ((ix2 0 e : S1x256.Idx) a).val = _
  rw [index_4 t]
  fin_cases a
  · show 0 * 1 + 1 * 0 = 0; omega
  · show 0 * 256 + 1 * e.val = e.val; omega

theorem blk_8 (t : Fin cfg0.N) (e : Fin 128) : (iblk m c (8 : Fin 24) t (ix2 0 e : S1x128.Idx) : EReal) = (argsK m c).gc e := by
  refine congrArg (m ((c : Thread nD τ).loc main_arg8)) (funext fun a => Fin.ext ?_)
  show (cfg0.win (8 : Fin 24)).index t a * S1x128.size a + 1 * ((ix2 0 e : S1x128.Idx) a).val = _
  rw [index_8 t]
  fin_cases a
  · show 0 * 1 + 1 * 0 = 0; omega
  · show 0 * 128 + 1 * e.val = e.val; omega

theorem blk_9 (t : Fin cfg0.N) (r : Fin 256) (e : Fin 128) :
    (iblk m c (9 : Fin 24) t (ix2 r e : S256x128.Idx) : EReal) = (argsK m c).cos (pos t r) e := by
  refine congrArg (m ((c : Thread nD τ).loc main_arg9)) (funext fun a => Fin.ext ?_)
  show (cfg0.win (9 : Fin 24)).index t a * S256x128.size a + 1 * ((ix2 r e : S256x128.Idx) a).val = _
  rw [index_9 t]
  fin_cases a
  · show t.val * 256 + 1 * r.val = 256 * t.val + r.val; omega
  · show 0 * 128 + 1 * e.val = e.val; omega

theorem blk_10 (t : Fin cfg0.N) (r : Fin 256) (e : Fin 128) :
    (iblk m c (10 : Fin 24) t (ix2 r e : S256x128.Idx) : EReal) = (argsK m c).sin (pos t r) e := by
  refine congrArg (m ((c : Thread nD τ).loc main_arg10)) (funext fun a => Fin.ext ?_)
  show (cfg0.win (10 : Fin 24)).index t a * S256x128.size a + 1 * ((ix2 r e : S256x128.Idx) a).val = _
  rw [index_10 t]
  fin_cases a
  · show t.val * 256 + 1 * r.val = 256 * t.val + r.val; omega
  · show 0 * 128 + 1 * e.val = e.val; omega

/-- The product's rows of a point's tile. -/
theorem prod_at (t : Fin cfg0.N) (r : Fin 256) (j : Fin 3072) :
    (k0_pay2 (iblk m c (0 : Fin 24) t) (iblk m c (1 : Fin 24) t) (iblk m c (2 : Fin 24) t) (ix2 r j) : EReal)
      = z (argsK m c) (pos t r) j := by
  have h0 := blk_0 m c t r
  have h1 := blk_1 m c t
  have h2 := fun k => blk_2 m c t k j
  rw [prod_apply]
  simp only [h0, h1, h2]
  rfl

/-- The first array the call writes, and its rows. -/
def R11 : Vec Ideal S16384x256 .bf16 := (dats m 0 c).arrAt 11 cfg0.N

theorem tile_11 (t : Fin cfg0.N) (r : Fin 256) (j : Fin 256) :
    (R11 m c (ix2 (pos t r) j) : EReal) = qa (argsK m c) (pos t r) j := by
  refine Eq.trans ?_ ((congrFun (blocks11 m c t (flush_11 t)) (ix2 r j : S256x256.Idx)).trans
    ((congrFun (flushed11_A m c t) (ix2 r j : S256x256.Idx)).trans ?_))
  · refine congrArg (R11 m c) (funext fun a => Fin.ext ?_)
    show _ = (cfg0.win (11 : Fin 24)).index t a * S256x256.size a + 1 * ((ix2 r j : S256x256.Idx) a).val
    rw [index_11 t]
    fin_cases a
    · show 256 * t.val + r.val = t.val * 256 + 1 * r.val; omega
    · show j.val = 0 * 256 + 1 * j.val; omega
  refine (congrFun (qa_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [qa_apply, prod_at]
  rfl

theorem arr_11 (t : Fin 16384) (j : Fin 256) : (R11 m c (ix2 t j) : EReal) = qa (argsK m c) t j := by
  have h := tile_11 m c (ptAt t) (rowAt t) j
  rwa [pos_at] at h

/-- The second array the call writes, and its rows. -/
def R12 : Vec Ideal S16384x256 .f32 := (dats m 0 c).arrAt 12 cfg0.N

theorem tile_12 (t : Fin cfg0.N) (r : Fin 256) (j : Fin 256) :
    (R12 m c (ix2 (pos t r) j) : EReal) = ka (argsK m c) (pos t r) j := by
  refine Eq.trans ?_ ((congrFun (blocks12 m c t (flush_12 t)) (ix2 r j : S256x256.Idx)).trans
    ((congrFun (flushed12_A m c t) (ix2 r j : S256x256.Idx)).trans ?_))
  · refine congrArg (R12 m c) (funext fun a => Fin.ext ?_)
    show _ = (cfg0.win (12 : Fin 24)).index t a * S256x256.size a + 1 * ((ix2 r j : S256x256.Idx) a).val
    rw [index_12 t]
    fin_cases a
    · show 256 * t.val + r.val = t.val * 256 + 1 * r.val; omega
    · show j.val = 0 * 256 + 1 * j.val; omega
  refine (congrFun (ka_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [ka_apply, prod_at]
  rfl

theorem arr_12 (t : Fin 16384) (j : Fin 256) : (R12 m c (ix2 t j) : EReal) = ka (argsK m c) t j := by
  have h := tile_12 m c (ptAt t) (rowAt t) j
  rwa [pos_at] at h

/-- The third array the call writes, and its rows. -/
def R13 : Vec Ideal S16384x256 .f32 := (dats m 0 c).arrAt 13 cfg0.N

theorem tile_13 (t : Fin cfg0.N) (r : Fin 256) (j : Fin 256) :
    (R13 m c (ix2 (pos t r) j) : EReal) = va (argsK m c) (pos t r) j := by
  refine Eq.trans ?_ ((congrFun (blocks13 m c t (flush_13 t)) (ix2 r j : S256x256.Idx)).trans
    ((congrFun (flushed13_A m c t) (ix2 r j : S256x256.Idx)).trans ?_))
  · refine congrArg (R13 m c) (funext fun a => Fin.ext ?_)
    show _ = (cfg0.win (13 : Fin 24)).index t a * S256x256.size a + 1 * ((ix2 r j : S256x256.Idx) a).val
    rw [index_13 t]
    fin_cases a
    · show 256 * t.val + r.val = t.val * 256 + 1 * r.val; omega
    · show j.val = 0 * 256 + 1 * j.val; omega
  refine (congrFun (va_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [va_apply, prod_at]
  rfl

theorem arr_13 (t : Fin 16384) (j : Fin 256) : (R13 m c (ix2 t j) : EReal) = va (argsK m c) t j := by
  have h := tile_13 m c (ptAt t) (rowAt t) j
  rwa [pos_at] at h

/-- The fourth array the call writes, and its rows. -/
def R14 : Vec Ideal S16384x256 .bf16 := (dats m 0 c).arrAt 14 cfg0.N

theorem tile_14 (t : Fin cfg0.N) (r : Fin 256) (j : Fin 256) :
    (R14 m c (ix2 (pos t r) j) : EReal) = ka (argsK m c) (pos t r) j := by
  refine Eq.trans ?_ ((congrFun (blocks14 m c t (flush_14 t)) (ix2 r j : S256x256.Idx)).trans
    ((congrFun (flushed14_A m c t) (ix2 r j : S256x256.Idx)).trans ?_))
  · refine congrArg (R14 m c) (funext fun a => Fin.ext ?_)
    show _ = (cfg0.win (14 : Fin 24)).index t a * S256x256.size a + 1 * ((ix2 r j : S256x256.Idx) a).val
    rw [index_14 t]
    fin_cases a
    · show 256 * t.val + r.val = t.val * 256 + 1 * r.val; omega
    · show j.val = 0 * 256 + 1 * j.val; omega
  refine (congrFun (kab_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [kab_apply, prod_at]
  rfl

theorem arr_14 (t : Fin 16384) (j : Fin 256) : (R14 m c (ix2 t j) : EReal) = ka (argsK m c) t j := by
  have h := tile_14 m c (ptAt t) (rowAt t) j
  rwa [pos_at] at h

/-- The fifth array the call writes, and its rows. -/
def R15 : Vec Ideal S16384x256 .bf16 := (dats m 0 c).arrAt 15 cfg0.N

theorem tile_15 (t : Fin cfg0.N) (r : Fin 256) (j : Fin 256) :
    (R15 m c (ix2 (pos t r) j) : EReal) = va (argsK m c) (pos t r) j := by
  refine Eq.trans ?_ ((congrFun (blocks15 m c t (flush_15 t)) (ix2 r j : S256x256.Idx)).trans
    ((congrFun (flushed15_A m c t) (ix2 r j : S256x256.Idx)).trans ?_))
  · refine congrArg (R15 m c) (funext fun a => Fin.ext ?_)
    show _ = (cfg0.win (15 : Fin 24)).index t a * S256x256.size a + 1 * ((ix2 r j : S256x256.Idx) a).val
    rw [index_15 t]
    fin_cases a
    · show 256 * t.val + r.val = t.val * 256 + 1 * r.val; omega
    · show j.val = 0 * 256 + 1 * j.val; omega
  refine (congrFun (vab_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [vab_apply, prod_at]
  rfl

theorem arr_15 (t : Fin 16384) (j : Fin 256) : (R15 m c (ix2 t j) : EReal) = va (argsK m c) t j := by
  have h := tile_15 m c (ptAt t) (rowAt t) j
  rwa [pos_at] at h

/-- The sixth array the call writes, and its rows. -/
def R16 : Vec Ideal S16384x256 .f32 := (dats m 0 c).arrAt 16 cfg0.N

theorem tile_16 (t : Fin cfg0.N) (r : Fin 256) (j : Fin 256) :
    (R16 m c (ix2 (pos t r) j) : EReal) = qg (argsK m c) (pos t r) j := by
  refine Eq.trans ?_ ((congrFun (blocks16 m c t (flush_16 t)) (ix2 r j : S256x256.Idx)).trans
    ((congrFun (flushed16_A m c t) (ix2 r j : S256x256.Idx)).trans ?_))
  · refine congrArg (R16 m c) (funext fun a => Fin.ext ?_)
    show _ = (cfg0.win (16 : Fin 24)).index t a * S256x256.size a + 1 * ((ix2 r j : S256x256.Idx) a).val
    rw [index_16 t]
    fin_cases a
    · show 256 * t.val + r.val = t.val * 256 + 1 * r.val; omega
    · show j.val = 0 * 256 + 1 * j.val; omega
  refine (congrFun (qg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [qg_apply, prod_at]
  rfl

theorem arr_16 (t : Fin 16384) (j : Fin 256) : (R16 m c (ix2 t j) : EReal) = qg (argsK m c) t j := by
  have h := tile_16 m c (ptAt t) (rowAt t) j
  rwa [pos_at] at h

/-- The seventh array the call writes, and its rows. -/
def R17 : Vec Ideal S16384x256 .f32 := (dats m 0 c).arrAt 17 cfg0.N

theorem tile_17 (t : Fin cfg0.N) (r : Fin 256) (j : Fin 256) :
    (R17 m c (ix2 (pos t r) j) : EReal) = kg (argsK m c) (pos t r) j := by
  refine Eq.trans ?_ ((congrFun (blocks17 m c t (flush_17 t)) (ix2 r j : S256x256.Idx)).trans
    ((congrFun (flushed17_A m c t) (ix2 r j : S256x256.Idx)).trans ?_))
  · refine congrArg (R17 m c) (funext fun a => Fin.ext ?_)
    show _ = (cfg0.win (17 : Fin 24)).index t a * S256x256.size a + 1 * ((ix2 r j : S256x256.Idx) a).val
    rw [index_17 t]
    fin_cases a
    · show 256 * t.val + r.val = t.val * 256 + 1 * r.val; omega
    · show j.val = 0 * 256 + 1 * j.val; omega
  refine (congrFun (kg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [kg_apply, prod_at]
  rfl

theorem arr_17 (t : Fin 16384) (j : Fin 256) : (R17 m c (ix2 t j) : EReal) = kg (argsK m c) t j := by
  have h := tile_17 m c (ptAt t) (rowAt t) j
  rwa [pos_at] at h

/-- The eighth array the call writes, and its rows. -/
def R18 : Vec Ideal S16384x512 .bf16 := (dats m 0 c).arrAt 18 cfg0.N

theorem tile_18 (t : Fin cfg0.N) (r : Fin 256) (j : Fin 512) :
    (R18 m c (ix2 (pos t r) j) : EReal) = vg (argsK m c) (pos t r) j := by
  refine Eq.trans ?_ ((congrFun (blocks18 m c t (flush_18 t)) (ix2 r j : S256x512.Idx)).trans
    ((congrFun (flushed18_A m c t) (ix2 r j : S256x512.Idx)).trans ?_))
  · refine congrArg (R18 m c) (funext fun a => Fin.ext ?_)
    show _ = (cfg0.win (18 : Fin 24)).index t a * S256x512.size a + 1 * ((ix2 r j : S256x512.Idx) a).val
    rw [index_18 t]
    fin_cases a
    · show 256 * t.val + r.val = t.val * 256 + 1 * r.val; omega
    · show j.val = 0 * 512 + 1 * j.val; omega
  refine (congrFun (vg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [vg_apply, prod_at]
  rfl

theorem arr_18 (t : Fin 16384) (j : Fin 512) : (R18 m c (ix2 t j) : EReal) = vg (argsK m c) t j := by
  have h := tile_18 m c (ptAt t) (rowAt t) j
  rwa [pos_at] at h

/-- The ninth array the call writes, and its rows. -/
def R19 : Vec Ideal S16384x512 .f32 := (dats m 0 c).arrAt 19 cfg0.N

theorem tile_19 (t : Fin cfg0.N) (r : Fin 256) (j : Fin 512) :
    (R19 m c (ix2 (pos t r) j) : EReal) = gg (argsK m c) (pos t r) j := by
  refine Eq.trans ?_ ((congrFun (blocks19 m c t (flush_19 t)) (ix2 r j : S256x512.Idx)).trans
    ((congrFun (flushed19_A m c t) (ix2 r j : S256x512.Idx)).trans ?_))
  · refine congrArg (R19 m c) (funext fun a => Fin.ext ?_)
    show _ = (cfg0.win (19 : Fin 24)).index t a * S256x512.size a + 1 * ((ix2 r j : S256x512.Idx) a).val
    rw [index_19 t]
    fin_cases a
    · show 256 * t.val + r.val = t.val * 256 + 1 * r.val; omega
    · show j.val = 0 * 512 + 1 * j.val; omega
  refine (congrFun (gg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [gg_apply, prod_at]
  rfl

theorem arr_19 (t : Fin 16384) (j : Fin 512) : (R19 m c (ix2 t j) : EReal) = gg (argsK m c) t j := by
  have h := tile_19 m c (ptAt t) (rowAt t) j
  rwa [pos_at] at h

/-- The tenth array the call writes, and its rows. -/
def R20 : Vec Ideal S16384x256 .f32 := (dats m 0 c).arrAt 20 cfg0.N

theorem tile_20 (t : Fin cfg0.N) (r : Fin 256) (j : Fin 256) :
    (R20 m c (ix2 (pos t r) j) : EReal) = la (argsK m c) (pos t r) j := by
  refine Eq.trans ?_ ((congrFun (blocks20 m c t (flush_20 t)) (ix2 r j : S256x256.Idx)).trans
    ((congrFun (flushed20_A m c t) (ix2 r j : S256x256.Idx)).trans ?_))
  · refine congrArg (R20 m c) (funext fun a => Fin.ext ?_)
    show _ = (cfg0.win (20 : Fin 24)).index t a * S256x256.size a + 1 * ((ix2 r j : S256x256.Idx) a).val
    rw [index_20 t]
    fin_cases a
    · show 256 * t.val + r.val = t.val * 256 + 1 * r.val; omega
    · show j.val = 0 * 256 + 1 * j.val; omega
  refine (congrFun (la_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  have h3 := fun k => blk_3 m c t k j
  have h4 := blk_4 m c t j
  rw [la_apply]
  simp only [prod_at, h3, h4]
  rfl

theorem arr_20 (t : Fin 16384) (j : Fin 256) : (R20 m c (ix2 t j) : EReal) = la (argsK m c) t j := by
  have h := tile_20 m c (ptAt t) (rowAt t) j
  rwa [pos_at] at h

theorem lat_at (t : Fin cfg0.N) (r : Fin 256) (j : Fin 128) :
    (k0_pay39 (k0_pay2 (iblk m c (0 : Fin 24) t) (iblk m c (1 : Fin 24) t) (iblk m c (2 : Fin 24) t)) (iblk m c (8 : Fin 24) t) (ix2 r j) : EReal) = lat (argsK m c) (pos t r) j := by
  have h8 := blk_8 m c t
  rw [lat_apply]
  simp only [prod_at, h8]
  rfl

theorem rot_at (t : Fin cfg0.N) (r : Fin 256) (l : Fin 128) :
    (k0_pay40 (k0_pay2 (iblk m c (0 : Fin 24) t) (iblk m c (1 : Fin 24) t) (iblk m c (2 : Fin 24) t)) (iblk m c (9 : Fin 24) t) (iblk m c (10 : Fin 24) t) (ix2 r l) : EReal) = rot (argsK m c) (pos t r) l := by
  rw [rot_apply, prod_at, prod_at, blk_9 m c t r l, blk_10 m c t r l]
  rfl

/-- The twelfth array the call writes, and its rows. -/
def R22 : Vec Ideal S16384x256 .bf16 := (dats m 0 c).arrAt 22 cfg0.N

theorem tile_22 (t : Fin cfg0.N) (r : Fin 256) (j : Fin 256) :
    (R22 m c (ix2 (pos t r) j) : EReal) = keys (argsK m c) (pos t r) j := by
  refine Eq.trans ?_ ((congrFun (blocks22 m c t (flush_22 t)) (ix2 r j : S256x256.Idx)).trans
    ((congrFun (flushed22_A m c t) (ix2 r j : S256x256.Idx)).trans ?_))
  · refine congrArg (R22 m c) (funext fun a => Fin.ext ?_)
    show _ = (cfg0.win (22 : Fin 24)).index t a * S256x256.size a + 1 * ((ix2 r j : S256x256.Idx) a).val
    rw [index_22 t]
    fin_cases a
    · show 256 * t.val + r.val = t.val * 256 + 1 * r.val; omega
    · show j.val = 0 * 256 + 1 * j.val; omega
  refine (keys_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t) r j).trans ?_
  unfold keys
  by_cases h : j.val < 128
  · rw [dif_pos h, dif_pos h]
    rw [latb_apply, lat_at]
  · rw [dif_neg h, dif_neg h]
    rw [rotb_apply, rot_at]

theorem arr_22 (t : Fin 16384) (j : Fin 256) : (R22 m c (ix2 t j) : EReal) = keys (argsK m c) t j := by
  have h := tile_22 m c (ptAt t) (rowAt t) j
  rwa [pos_at] at h

/-- The thirteenth array the call writes, and its rows. -/
def R23 : Vec Ideal S16384x160 .f32 := (dats m 0 c).arrAt 23 cfg0.N

theorem tile_23 (t : Fin cfg0.N) (r : Fin 256) (j : Fin 160) :
    (R23 m c (ix2 (pos t r) j) : EReal) = rows (argsK m c) (pos t r) j := by
  refine Eq.trans ?_ ((congrFun (blocks23 m c t (flush_23 t)) (ix2 r j : S256x160.Idx)).trans
    ((congrFun (flushed23_A m c t) (ix2 r j : S256x160.Idx)).trans ?_))
  · refine congrArg (R23 m c) (funext fun a => Fin.ext ?_)
    show _ = (cfg0.win (23 : Fin 24)).index t a * S256x160.size a + 1 * ((ix2 r j : S256x160.Idx) a).val
    rw [index_23 t]
    fin_cases a
    · show 256 * t.val + r.val = t.val * 256 + 1 * r.val; omega
    · show j.val = 0 * 160 + 1 * j.val; omega
  refine (rows_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t) r j).trans ?_
  unfold rows
  by_cases h : j.val < 128
  · rw [dif_pos h, dif_pos h]
    rw [lat_at]
  · rw [dif_neg h, dif_neg h]
    rw [rot32_apply, rot_at]

theorem arr_23 (t : Fin 16384) (j : Fin 160) : (R23 m c (ix2 t j) : EReal) = rows (argsK m c) t j := by
  have h := tile_23 m c (ptAt t) (rowAt t) j
  rwa [pos_at] at h

end Cert.Proj

end
-- ==== Proof.Proj.Ref.lean ====
/-
  The reference of the third call read at an index: the product of the normalised rows with the weights, its parts, the
  log-decays, the latent and the rotary keys.
-/
module

public import proofs.«01_k».proof.Proof.Gen.Reference3Ideal.Read
public import proofs.«01_k».proof.Proof.Proj.Spec

@[expose] public section

set_option maxRecDepth 16384

noncomputable section

namespace Cert.Proj.Ref

open Idealize.ShloMosaic Idealize.ShloMosaic.TcCoe Cert.Reference3Ideal Cert.Reference3Ideal.Gen Cert.Reference3Ideal.Read

variable (x0 : S16384x1024.Idx → EReal) (x1 : S1x1024.Idx → EReal) (x2 : S1024x3072.Idx → EReal) (x3 : S128x256.Idx → EReal)
  (x4 : S1x256.Idx → EReal) (x8 : S1x128.Idx → EReal) (x9 x10 : S16384x128.Idx → EReal)

/-- The arguments by coordinates. -/
def args : Args 16384 where
  x t k := x0 (ix2 t k)
  g k := x1 (ix2 0 k)
  w k j := x2 (ix2 k j)
  w2 k j := x3 (ix2 k j)
  b2 j := x4 (ix2 0 j)
  gc j := x8 (ix2 0 j)
  cos t l := x9 (ix2 t l)
  sin t l := x10 (ix2 t l)

/-- The product. -/
theorem z_at (t : Fin 16384) (j : Fin 3072) :
    (val_main_v15 (F := Ideal) x0 x1 x2 (ix2 t j) : EReal) = z (args x0 x1 x2 x3 x4 x8 x9 x10) t j := by
  unfold val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0 val_main_cst_1
  pointwise
  rfl

theorem qa_at (t : Fin 16384) (j : Fin 256) :
    (val_main_v64 (F := Ideal) x0 x1 x2 (ix2 t j) : EReal) = qa (args x0 x1 x2 x3 x4 x8 x9 x10) t j := by
  have h := z_at x0 x1 x2 x3 x4 x8 x9 x10 t
  unfold val_main_v64 val_main_v63 val_main_v62 val_main_cst_6 val_main_v16
  generalize val_main_v15 (F := Ideal) x0 x1 x2 = p at h ⊢
  pointwise
  rw [h]
  rfl

theorem ka_at (t : Fin 16384) (j : Fin 256) :
    (val_main_v17 (F := Ideal) x0 x1 x2 (ix2 t j) : EReal) = ka (args x0 x1 x2 x3 x4 x8 x9 x10) t j := by
  have h := z_at x0 x1 x2 x3 x4 x8 x9 x10 t
  unfold val_main_v17
  generalize val_main_v15 (F := Ideal) x0 x1 x2 = p at h ⊢
  pointwise
  rw [h]
  rfl

theorem va_at (t : Fin 16384) (j : Fin 256) :
    (val_main_v18 (F := Ideal) x0 x1 x2 (ix2 t j) : EReal) = va (args x0 x1 x2 x3 x4 x8 x9 x10) t j := by
  have h := z_at x0 x1 x2 x3 x4 x8 x9 x10 t
  unfold val_main_v18
  generalize val_main_v15 (F := Ideal) x0 x1 x2 = p at h ⊢
  pointwise
  rw [h]
  rfl

theorem kab_at (t : Fin 16384) (j : Fin 256) :
    (val_main_v65 (F := Ideal) x0 x1 x2 (ix2 t j) : EReal) = ka (args x0 x1 x2 x3 x4 x8 x9 x10) t j := by
  rw [← ka_at]
  unfold val_main_v65
  pointwise

theorem vab_at (t : Fin 16384) (j : Fin 256) :
    (val_main_v66 (F := Ideal) x0 x1 x2 (ix2 t j) : EReal) = va (args x0 x1 x2 x3 x4 x8 x9 x10) t j := by
  rw [← va_at]
  unfold val_main_v66
  pointwise

theorem qg_at (t : Fin 16384) (j : Fin 256) :
    (val_main_v68 (F := Ideal) x0 x1 x2 (ix2 t j) : EReal) = qg (args x0 x1 x2 x3 x4 x8 x9 x10) t j := by
  have h := z_at x0 x1 x2 x3 x4 x8 x9 x10 t
  unfold val_main_v68 val_main_v67 val_main_cst_7 val_main_v19
  generalize val_main_v15 (F := Ideal) x0 x1 x2 = p at h ⊢
  pointwise
  rw [h]
  rfl

theorem kg_at (t : Fin 16384) (j : Fin 256) :
    (val_main_v20 (F := Ideal) x0 x1 x2 (ix2 t j) : EReal) = kg (args x0 x1 x2 x3 x4 x8 x9 x10) t j := by
  have h := z_at x0 x1 x2 x3 x4 x8 x9 x10 t
  unfold val_main_v20
  generalize val_main_v15 (F := Ideal) x0 x1 x2 = p at h ⊢
  pointwise
  rw [h]
  rfl

theorem vg_at (t : Fin 16384) (j : Fin 512) :
    (val_main_v69 (F := Ideal) x0 x1 x2 (ix2 t j) : EReal) = vg (args x0 x1 x2 x3 x4 x8 x9 x10) t j := by
  have h := z_at x0 x1 x2 x3 x4 x8 x9 x10 t
  unfold val_main_v69 val_main_v21
  generalize val_main_v15 (F := Ideal) x0 x1 x2 = p at h ⊢
  pointwise
  rw [h]
  rfl

theorem gg_at (t : Fin 16384) (j : Fin 512) :
    (val_main_v22 (F := Ideal) x0 x1 x2 (ix2 t j) : EReal) = gg (args x0 x1 x2 x3 x4 x8 x9 x10) t j := by
  have h := z_at x0 x1 x2 x3 x4 x8 x9 x10 t
  unfold val_main_v22
  generalize val_main_v15 (F := Ideal) x0 x1 x2 = p at h ⊢
  pointwise
  rw [h]
  rfl

/-- What the log-decay is taken of. -/
theorem pre_at (t : Fin 16384) (j : Fin 256) :
    (val_main_v31 (F := Ideal) x0 x1 x2 x3 x4 (ix2 t j) : EReal)
      = (∑ k : Fin 128, z (args x0 x1 x2 x3 x4 x8 x9 x10) t ⟨2304 + k.val, by omega⟩ * x3 (ix2 k j)) + x4 (ix2 0 j) := by
  have h := z_at x0 x1 x2 x3 x4 x8 x9 x10 t
  unfold val_main_v31 val_main_v30 val_main_v29 val_main_v28 val_main_v27 val_main_v26 val_main_v23
  generalize val_main_v15 (F := Ideal) x0 x1 x2 = p at h ⊢
  pointwise
  simp only [h]

theorem la_at (t : Fin 16384) (j : Fin 256) :
    (val_main_v34 (F := Ideal) x0 x1 x2 x3 x4 (ix2 t j) : EReal) = la (args x0 x1 x2 x3 x4 x8 x9 x10) t j := by
  have h := pre_at x0 x1 x2 x3 x4 x8 x9 x10 t j
  unfold val_main_v34 val_main_v33 val_main_cst_2 val_main_v32 val_main_call0_v1 val_main_call0_call0_v11 val_main_call0_call0_v10
    val_main_call0_call0_v9 val_main_call0_call0_v8 val_main_call0_call0_v7 val_main_call0_call0_v6 val_main_call0_call0_v5
    val_main_call0_call0_v4 val_main_call0_call0_v3 val_main_call0_call0_v2 val_main_call0_call0_v1 val_main_call0_call0_v0
    val_main_call0_call0_cst val_main_call0_v0
  generalize val_main_v31 (F := Ideal) x0 x1 x2 x3 x4 = p at h ⊢
  pointwise
  rw [h, if_neg (fun hne => hne rfl)]
  unfold la
  exact decay_eq _

/-- The latent keys. -/
theorem lat_at (t : Fin 16384) (j : Fin 128) :
    (val_main_v48 (F := Ideal) x0 x1 x2 x8 (ix2 t j) : EReal) = lat (args x0 x1 x2 x3 x4 x8 x9 x10) t j := by
  have h := z_at x0 x1 x2 x3 x4 x8 x9 x10 t
  unfold val_main_v48 val_main_v47 val_main_v46 val_main_v45 val_main_v44 val_main_v43 val_main_v42 val_main_v41 val_main_v40
    val_main_v39 val_main_v38 val_main_v37 val_main_v36 val_main_v35 val_main_cst_3 val_main_cst_4 val_main_cst_5 val_main_v24
  generalize val_main_v15 (F := Ideal) x0 x1 x2 = p at h ⊢
  pointwise
  simp only [h]
  rfl

/-- The two halves of the rotary keys. -/
theorem ropeA_at (t : Fin 16384) (l : Fin 16) :
    (val_main_v55 (F := Ideal) x0 x1 x2 x9 x10 (ix2 t l) : EReal) = ropeA (args x0 x1 x2 x3 x4 x8 x9 x10) t l := by
  have h := z_at x0 x1 x2 x3 x4 x8 x9 x10 t
  unfold val_main_v55 val_main_v54 val_main_v53 val_main_v52 val_main_v51 val_main_v50 val_main_v49 val_main_v25
  generalize val_main_v15 (F := Ideal) x0 x1 x2 = p at h ⊢
  pointwise
  simp only [h]
  rfl

theorem ropeB_at (t : Fin 16384) (l : Fin 16) :
    (val_main_v58 (F := Ideal) x0 x1 x2 x9 x10 (ix2 t l) : EReal) = ropeB (args x0 x1 x2 x3 x4 x8 x9 x10) t l := by
  have h := z_at x0 x1 x2 x3 x4 x8 x9 x10 t
  unfold val_main_v58 val_main_v57 val_main_v56 val_main_v52 val_main_v51 val_main_v50 val_main_v49 val_main_v25
  generalize val_main_v15 (F := Ideal) x0 x1 x2 = p at h ⊢
  pointwise
  simp only [h]
  rfl

variable (H : Layout (args x0 x1 x2 x3 x4 x8 x9 x10))

include H

/-- Where the tables and the columns are laid out as the host code does, the reference's rotary keys are the kernel's. -/
theorem rope_at (t : Fin 16384) (l : Fin 32) (l' : Fin 128) (hl : l'.val % 32 = l.val) :
    (val_main_v59 (F := Ideal) x0 x1 x2 x9 x10 (ix2 t l) : EReal) = rot (args x0 x1 x2 x3 x4 x8 x9 x10) t l' := by
  have ha := ropeA_at x0 x1 x2 x3 x4 x8 x9 x10 t
  have hb := ropeB_at x0 x1 x2 x3 x4 x8 x9 x10 t
  rw [rot_eq H]
  unfold val_main_v59
  generalize val_main_v55 (F := Ideal) x0 x1 x2 x9 x10 = p at ha ⊢
  generalize val_main_v58 (F := Ideal) x0 x1 x2 x9 x10 = q at hb ⊢
  pointwise
  simp only [ha, hb, hl]

theorem rows_at (t : Fin 16384) (j : Fin 160) :
    (val_main_v60 (F := Ideal) x0 x1 x2 x8 x9 x10 (ix2 t j) : EReal) = rows (args x0 x1 x2 x3 x4 x8 x9 x10) t j := by
  have ha := lat_at x0 x1 x2 x3 x4 x8 x9 x10 t
  have hb := rope_at x0 x1 x2 x3 x4 x8 x9 x10 H t
  unfold val_main_v60 rows
  generalize val_main_v48 (F := Ideal) x0 x1 x2 x8 = p at ha ⊢
  generalize val_main_v59 (F := Ideal) x0 x1 x2 x9 x10 = q at hb ⊢
  pointwise
  by_cases h : j.val < 128
  · rw [dif_pos h, dif_pos h, ha]
  · rw [dif_neg h, dif_neg h]
    exact hb _ _ (by dsimp only; omega)

theorem keys_at (t : Fin 16384) (j : Fin 256) :
    (val_main_v70 (F := Ideal) x0 x1 x2 x8 x9 x10 (ix2 t j) : EReal) = keys (args x0 x1 x2 x3 x4 x8 x9 x10) t j := by
  have ha := lat_at x0 x1 x2 x3 x4 x8 x9 x10 t
  have hb := rope_at x0 x1 x2 x3 x4 x8 x9 x10 H t
  unfold val_main_v70 val_main_v61 keys
  generalize val_main_v48 (F := Ideal) x0 x1 x2 x8 = p at ha ⊢
  generalize val_main_v59 (F := Ideal) x0 x1 x2 x9 x10 = q at hb ⊢
  pointwise
  by_cases h : j.val < 128
  · rw [dif_pos h, dif_pos h, ha]
  · rw [dif_neg h, dif_neg h]
    split_ifs <;> exact hb _ _ (by dsimp only; omega)

end Cert.Proj.Ref

end
-- ==== Proof.Proj.Claims.lean ====
/-
  The claims about the third call: its frames, and that its twelve claimed results are the reference's.
-/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Proj.Arrays
public import proofs.«01_k».proof.Proof.Proj.Ref
public import Idealize.ShloMosaic.Adequacy

@[expose] public section

set_option maxRecDepth 16384

noncomputable section

namespace Cert.Proj

open Idealize.ShloMosaic Idealize.ShloMosaic.TcCoe Idealize.SL.Sem

/-- The compiled kernel ends, its arguments unchanged and its counters at zero. -/
theorem frame_kernel : Cert.quiescent_Kernel3 := fun m ρ _ => Cert.Kernel3.Gen.frame m ρ

/-- The same of its idealization, and again under the layout's precondition. -/
theorem frame_ideal : Cert.quiescent_Kernel3Ideal := fun m ρ _ => Cert.Kernel3Ideal.Gen.frame m ρ

theorem frame_ideal_layout : Cert.quiescent_Kernel3Ideal_pre_rotary_layout := fun m ρ _ => Cert.Kernel3Ideal.Gen.frame m ρ

/-- The same of the reference, which declares no semaphore. -/
theorem frame_ref : Cert.quiescent_Reference3Ideal := fun m ρ _ =>
  (θ_run Cert.Reference3Ideal.defs _ _).mono
    (fun r h => ⟨fun c => (h c).2.2.2.2.2.2.2.2.2.2.2.2, sem_eq_zero_of_no_sems (by decide) r.2⟩)
    (Cert.Reference3Ideal.Value.run (F := Ideal) m ρ)

theorem frame_ref_layout : Cert.quiescent_Reference3Ideal_pre_rotary_layout := fun m ρ _ => frame_ref m ρ trivial

variable (m : (ℓ : Loc Cert.Kernel3Ideal.nD Cert.Kernel3Ideal.τ Cert.Kernel3Ideal.sig) → Buf (Elt Ideal) ℓ)
  (c : Dev Cert.Kernel3Ideal.nD)

/-- The arguments of the call that the claimed results depend on. -/
def a0 := m ((c.tc : Thread Cert.Kernel3Ideal.nD Cert.Kernel3Ideal.τ).loc Cert.Kernel3Ideal.main_arg0)
def a1 := m ((c.tc : Thread Cert.Kernel3Ideal.nD Cert.Kernel3Ideal.τ).loc Cert.Kernel3Ideal.main_arg1)
def a2 := m ((c.tc : Thread Cert.Kernel3Ideal.nD Cert.Kernel3Ideal.τ).loc Cert.Kernel3Ideal.main_arg2)
def a3 := m ((c.tc : Thread Cert.Kernel3Ideal.nD Cert.Kernel3Ideal.τ).loc Cert.Kernel3Ideal.main_arg3)
def a4 := m ((c.tc : Thread Cert.Kernel3Ideal.nD Cert.Kernel3Ideal.τ).loc Cert.Kernel3Ideal.main_arg4)
def a8 := m ((c.tc : Thread Cert.Kernel3Ideal.nD Cert.Kernel3Ideal.τ).loc Cert.Kernel3Ideal.main_arg8)
def a9 := m ((c.tc : Thread Cert.Kernel3Ideal.nD Cert.Kernel3Ideal.τ).loc Cert.Kernel3Ideal.main_arg9)
def a10 := m ((c.tc : Thread Cert.Kernel3Ideal.nD Cert.Kernel3Ideal.τ).loc Cert.Kernel3Ideal.main_arg10)

/-! Each claimed result of the reference, of the kernel's arguments, is the kernel's. -/

theorem ref_qa :
    Cert.Reference3Ideal.Read.val_main_v64 (F := Ideal) (a0 m c) (a1 m c) (a2 m c) = R11 m c := by
  funext i
  obtain ⟨t, j, rfl⟩ : ∃ (t : Fin 16384) (j : Fin 256), i = (ix2 t j : Cert.Kernel3Ideal.S16384x256.Idx) := ⟨_, _, eq_ix2 i⟩
  exact (Ref.qa_at (a0 m c) (a1 m c) (a2 m c) (a3 m c) (a4 m c) (a8 m c) (a9 m c) (a10 m c) t j).trans
    (arr_11 m c t j).symm

theorem ref_ka :
    Cert.Reference3Ideal.Read.val_main_v17 (F := Ideal) (a0 m c) (a1 m c) (a2 m c) = R12 m c := by
  funext i
  obtain ⟨t, j, rfl⟩ : ∃ (t : Fin 16384) (j : Fin 256), i = (ix2 t j : Cert.Kernel3Ideal.S16384x256.Idx) := ⟨_, _, eq_ix2 i⟩
  exact (Ref.ka_at (a0 m c) (a1 m c) (a2 m c) (a3 m c) (a4 m c) (a8 m c) (a9 m c) (a10 m c) t j).trans
    (arr_12 m c t j).symm

theorem ref_va :
    Cert.Reference3Ideal.Read.val_main_v18 (F := Ideal) (a0 m c) (a1 m c) (a2 m c) = R13 m c := by
  funext i
  obtain ⟨t, j, rfl⟩ : ∃ (t : Fin 16384) (j : Fin 256), i = (ix2 t j : Cert.Kernel3Ideal.S16384x256.Idx) := ⟨_, _, eq_ix2 i⟩
  exact (Ref.va_at (a0 m c) (a1 m c) (a2 m c) (a3 m c) (a4 m c) (a8 m c) (a9 m c) (a10 m c) t j).trans
    (arr_13 m c t j).symm

theorem ref_kab :
    Cert.Reference3Ideal.Read.val_main_v65 (F := Ideal) (a0 m c) (a1 m c) (a2 m c) = R14 m c := by
  funext i
  obtain ⟨t, j, rfl⟩ : ∃ (t : Fin 16384) (j : Fin 256), i = (ix2 t j : Cert.Kernel3Ideal.S16384x256.Idx) := ⟨_, _, eq_ix2 i⟩
  exact (Ref.kab_at (a0 m c) (a1 m c) (a2 m c) (a3 m c) (a4 m c) (a8 m c) (a9 m c) (a10 m c) t j).trans
    (arr_14 m c t j).symm

theorem ref_vab :
    Cert.Reference3Ideal.Read.val_main_v66 (F := Ideal) (a0 m c) (a1 m c) (a2 m c) = R15 m c := by
  funext i
  obtain ⟨t, j, rfl⟩ : ∃ (t : Fin 16384) (j : Fin 256), i = (ix2 t j : Cert.Kernel3Ideal.S16384x256.Idx) := ⟨_, _, eq_ix2 i⟩
  exact (Ref.vab_at (a0 m c) (a1 m c) (a2 m c) (a3 m c) (a4 m c) (a8 m c) (a9 m c) (a10 m c) t j).trans
    (arr_15 m c t j).symm

theorem ref_qg :
    Cert.Reference3Ideal.Read.val_main_v68 (F := Ideal) (a0 m c) (a1 m c) (a2 m c) = R16 m c := by
  funext i
  obtain ⟨t, j, rfl⟩ : ∃ (t : Fin 16384) (j : Fin 256), i = (ix2 t j : Cert.Kernel3Ideal.S16384x256.Idx) := ⟨_, _, eq_ix2 i⟩
  exact (Ref.qg_at (a0 m c) (a1 m c) (a2 m c) (a3 m c) (a4 m c) (a8 m c) (a9 m c) (a10 m c) t j).trans
    (arr_16 m c t j).symm

theorem ref_kg :
    Cert.Reference3Ideal.Read.val_main_v20 (F := Ideal) (a0 m c) (a1 m c) (a2 m c) = R17 m c := by
  funext i
  obtain ⟨t, j, rfl⟩ : ∃ (t : Fin 16384) (j : Fin 256), i = (ix2 t j : Cert.Kernel3Ideal.S16384x256.Idx) := ⟨_, _, eq_ix2 i⟩
  exact (Ref.kg_at (a0 m c) (a1 m c) (a2 m c) (a3 m c) (a4 m c) (a8 m c) (a9 m c) (a10 m c) t j).trans
    (arr_17 m c t j).symm

theorem ref_vg :
    Cert.Reference3Ideal.Read.val_main_v69 (F := Ideal) (a0 m c) (a1 m c) (a2 m c) = R18 m c := by
  funext i
  obtain ⟨t, j, rfl⟩ : ∃ (t : Fin 16384) (j : Fin 512), i = (ix2 t j : Cert.Kernel3Ideal.S16384x512.Idx) := ⟨_, _, eq_ix2 i⟩
  exact (Ref.vg_at (a0 m c) (a1 m c) (a2 m c) (a3 m c) (a4 m c) (a8 m c) (a9 m c) (a10 m c) t j).trans
    (arr_18 m c t j).symm

theorem ref_gg :
    Cert.Reference3Ideal.Read.val_main_v22 (F := Ideal) (a0 m c) (a1 m c) (a2 m c) = R19 m c := by
  funext i
  obtain ⟨t, j, rfl⟩ : ∃ (t : Fin 16384) (j : Fin 512), i = (ix2 t j : Cert.Kernel3Ideal.S16384x512.Idx) := ⟨_, _, eq_ix2 i⟩
  exact (Ref.gg_at (a0 m c) (a1 m c) (a2 m c) (a3 m c) (a4 m c) (a8 m c) (a9 m c) (a10 m c) t j).trans
    (arr_19 m c t j).symm

theorem ref_la :
    Cert.Reference3Ideal.Read.val_main_v34 (F := Ideal) (a0 m c) (a1 m c) (a2 m c) (a3 m c) (a4 m c) = R20 m c := by
  funext i
  obtain ⟨t, j, rfl⟩ : ∃ (t : Fin 16384) (j : Fin 256), i = (ix2 t j : Cert.Kernel3Ideal.S16384x256.Idx) := ⟨_, _, eq_ix2 i⟩
  exact (Ref.la_at (a0 m c) (a1 m c) (a2 m c) (a3 m c) (a4 m c) (a8 m c) (a9 m c) (a10 m c) t j).trans
    (arr_20 m c t j).symm

theorem ref_keys (H : Layout (argsK m c)) :
    Cert.Reference3Ideal.Read.val_main_v70 (F := Ideal) (a0 m c) (a1 m c) (a2 m c) (a8 m c) (a9 m c) (a10 m c) = R22 m c := by
  funext i
  obtain ⟨t, j, rfl⟩ : ∃ (t : Fin 16384) (j : Fin 256), i = (ix2 t j : Cert.Kernel3Ideal.S16384x256.Idx) := ⟨_, _, eq_ix2 i⟩
  exact (Ref.keys_at (a0 m c) (a1 m c) (a2 m c) (a3 m c) (a4 m c) (a8 m c) (a9 m c) (a10 m c) H t j).trans
    (arr_22 m c t j).symm

theorem ref_rows (H : Layout (argsK m c)) :
    Cert.Reference3Ideal.Read.val_main_v60 (F := Ideal) (a0 m c) (a1 m c) (a2 m c) (a8 m c) (a9 m c) (a10 m c) = R23 m c := by
  funext i
  obtain ⟨t, j, rfl⟩ : ∃ (t : Fin 16384) (j : Fin 160), i = (ix2 t j : Cert.Kernel3Ideal.S16384x160.Idx) := ⟨_, _, eq_ix2 i⟩
  exact (Ref.rows_at (a0 m c) (a1 m c) (a2 m c) (a3 m c) (a4 m c) (a8 m c) (a9 m c) (a10 m c) H t j).trans
    (arr_23 m c t j).symm

/-- The kernel's claimed results are the reference's, over the extended reals. -/
theorem value : Cert.algebraic_Kernel3Ideal_Reference3Ideal_pre_rotary_layout := by
  intro m ρ m' ρ' hpre hagree
  refine ⟨fun c => R11 m c, fun c => R12 m c, fun c => R13 m c, fun c => R14 m c, fun c => R15 m c, fun c => R16 m c, fun c => R17 m c, fun c => R18 m c, fun c => R19 m c, fun c => R20 m c, fun c => R22 m c, fun c => R23 m c, ?_, ?_⟩
  · refine (θ_run Cert.Kernel3Ideal.defs _ _).mono (fun r h c => ?_) (Cert.Kernel3Ideal.Value.run_blocks m ρ)
    obtain ⟨h0, h1, h2, h3, h4, h5, h6, h7, h8, h9, _, h11, h12, hargs⟩ := h c
    exact ⟨h0, h1, h2, h3, h4, h5, h6, h7, h8, h9, h11, h12, hargs⟩
  refine (θ_run Cert.Reference3Ideal.defs _ _).mono (fun r h c => ?_) (Cert.Reference3Ideal.Value.run (F := Ideal) m' ρ')
  have H := layout m c hpre
  obtain ⟨h0, h1, h2, h3, h4, h5, h6, h7, h8, h9, h10, h11, hargs⟩ := h c
  obtain ⟨e0, e1, e2, e3, e4, e5, e6, e7, e8, e9, e10⟩ := hagree c
  refine ⟨h0.trans ?_, h1.trans ?_, h2.trans ?_, h3.trans ?_, h4.trans ?_, h5.trans ?_, h6.trans ?_, h7.trans ?_, h8.trans ?_,
    h9.trans ?_, h10.trans ?_, h11.trans ?_, hargs⟩
  · refine (Cert.Reference3Ideal.Read.val_main_v64_eq _ _ _).trans ?_
    rw [e0, e1, e2]
    exact ref_qa m c
  · refine (Cert.Reference3Ideal.Read.val_main_v17_eq _ _ _).trans ?_
    rw [e0, e1, e2]
    exact ref_ka m c
  · refine (Cert.Reference3Ideal.Read.val_main_v18_eq _ _ _).trans ?_
    rw [e0, e1, e2]
    exact ref_va m c
  · refine (Cert.Reference3Ideal.Read.val_main_v65_eq _ _ _).trans ?_
    rw [e0, e1, e2]
    exact ref_kab m c
  · refine (Cert.Reference3Ideal.Read.val_main_v66_eq _ _ _).trans ?_
    rw [e0, e1, e2]
    exact ref_vab m c
  · refine (Cert.Reference3Ideal.Read.val_main_v68_eq _ _ _).trans ?_
    rw [e0, e1, e2]
    exact ref_qg m c
  · refine (Cert.Reference3Ideal.Read.val_main_v20_eq _ _ _).trans ?_
    rw [e0, e1, e2]
    exact ref_kg m c
  · refine (Cert.Reference3Ideal.Read.val_main_v69_eq _ _ _).trans ?_
    rw [e0, e1, e2]
    exact ref_vg m c
  · refine (Cert.Reference3Ideal.Read.val_main_v22_eq _ _ _).trans ?_
    rw [e0, e1, e2]
    exact ref_gg m c
  · refine (Cert.Reference3Ideal.Read.val_main_v34_eq m' c).trans ?_
    rw [e0, e1, e2, e3, e4]
    exact ref_la m c
  · refine (Cert.Reference3Ideal.Read.val_main_v70_eq m' c).trans ?_
    rw [e0, e1, e2, e8, e9, e10]
    exact ref_keys m c H
  · refine (Cert.Reference3Ideal.Read.val_main_v60_eq m' c).trans ?_
    rw [e0, e1, e2, e8, e9, e10]
    exact ref_rows m c H

end Cert.Proj

end
-- ==== Proof.ProjSample.Body.lean ====
/-
  What the body of the fourth call computes from its blocks, read at an index.
-/
module

public import proofs.«01_k».proof.Proof.Gen.Kernel4Ideal.Skeleton
public import proofs.«01_k».proof.Proof.Proj.Spec

@[expose] public section

set_option maxRecDepth 16384

noncomputable section

namespace Cert.ProjSample

open Idealize.ShloMosaic Idealize.ShloMosaic.TcCoe Cert.Kernel4Ideal Cert.Kernel4Ideal.Gen Cert.Proj

section
variable (x0 : Vec Ideal S256x1024 .f32) (x1 : Vec Ideal S1x1024 .f32) (x2 : Vec Ideal S1024x3072 .bf16)

theorem prod_apply (r : Fin 256) (j : Fin 3072) : (k0_pay5 x0 x1 x2 (ix2 r j) : EReal)
    = ∑ k, normed (Ideal.ofBits .f32 0x44800000#32) (fun k => x0 (ix2 r k)) (fun k => x1 (ix2 0 k)) k * x2 (ix2 k j) := by
  unfold k0_pay5 normed
  pointwise

theorem qa_apply (r j : Fin 256) : (k0_pay6 x0 x1 x2 (ix2 r j) : EReal)
    = k0_pay5 x0 x1 x2 (ix2 r ⟨j.val, by omega⟩) * Ideal.ofBits .f32 0x3E8293EE#32 := by
  unfold k0_pay6
  generalize k0_pay5 x0 x1 x2 = p
  pointwise

theorem ka_apply (r j : Fin 256) : (k0_pay7 x0 x1 x2 (ix2 r j) : EReal) = k0_pay5 x0 x1 x2 (ix2 r ⟨256 + j.val, by omega⟩) := by
  unfold k0_pay7
  generalize k0_pay5 x0 x1 x2 = p
  pointwise

theorem va_apply (r j : Fin 256) : (k0_pay8 x0 x1 x2 (ix2 r j) : EReal) = k0_pay5 x0 x1 x2 (ix2 r ⟨512 + j.val, by omega⟩) := by
  unfold k0_pay8
  generalize k0_pay5 x0 x1 x2 = p
  pointwise

theorem qg_apply (r j : Fin 256) : (k0_pay9 x0 x1 x2 (ix2 r j) : EReal)
    = k0_pay5 x0 x1 x2 (ix2 r ⟨768 + j.val, by omega⟩) * Ideal.ofBits .f32 0x3E000000#32 := by
  unfold k0_pay9
  generalize k0_pay5 x0 x1 x2 = p
  pointwise
end

section
variable (p : FVec Ideal S256x3072 .f32)

theorem kg_apply (r j : Fin 256) : (k0_pay10 p (ix2 r j) : EReal) = p (ix2 r ⟨1024 + j.val, by omega⟩) := by
  unfold k0_pay10
  pointwise

theorem vg_apply (r : Fin 256) (j : Fin 512) : (k0_pay11 p (ix2 r j) : EReal) = p (ix2 r ⟨1280 + j.val, by omega⟩) := by
  unfold k0_pay11
  pointwise

theorem gg_apply (r : Fin 256) (j : Fin 512) : (k0_pay12 p (ix2 r j) : EReal) = p (ix2 r ⟨1792 + j.val, by omega⟩) := by
  unfold k0_pay12
  pointwise

theorem la_apply (x3 : Vec Ideal S128x256 .bf16) (x4 : Vec Ideal S1x256 .f32) (r j : Fin 256) : (k0_pay13 p x3 x4 (ix2 r j) : EReal)
    = decay ((∑ k : Fin 128, (p (ix2 r ⟨2304 + k.val, by omega⟩) : EReal) * x3 (ix2 k j)) + x4 (ix2 0 j)) := by
  unfold k0_pay13 decay
  pointwise
  rfl

theorem lat_apply (x8 : Vec Ideal S1x128 .f32) (r : Fin 256) (j : Fin 128) : (k0_pay2 p x8 (ix2 r j) : EReal)
    = normed (Ideal.ofBits .f32 0x43000000#32) (fun k : Fin 128 => p (ix2 r ⟨2688 + k.val, by omega⟩)) (fun k => x8 (ix2 0 k)) j := by
  unfold k0_pay2 normed
  pointwise

variable (x9 x10 : Vec Ideal S256x128 .f32)

theorem rot_apply (r : Fin 256) (l : Fin 128) : (k0_pay3 p x9 x10 (ix2 r l) : EReal)
    = p (ix2 r ⟨2816 + l.val, by omega⟩) * x9 (ix2 r l) + p (ix2 r ⟨2944 + l.val, by omega⟩) * x10 (ix2 r l) := by
  unfold k0_pay3
  pointwise

theorem rot32_apply (r : Fin 256) (l : Fin 32) : (k0_pay4 p x9 x10 (ix2 r l) : EReal)
    = k0_pay3 p x9 x10 (ix2 r ⟨l.val, by omega⟩) := by
  unfold k0_pay4
  generalize k0_pay3 p x9 x10 = q
  pointwise
end

end Cert.ProjSample

end
-- ==== Proof.ProjSample.Run.lean ====
/-
  What the body of the fourth call leaves at a point: every result's block, as the named parts of its input blocks.
-/
module

public import proofs.«01_k».proof.Proof.Gen.Kernel4Ideal.Frame
public import proofs.«01_k».proof.Proof.ProjSample.Body
public import Idealize.ShloMosaic.Lib.Pipeline.ValueKit.Acc
public import proofs.«01_k».proof.Proof.Proj.Pieces

@[expose] public section

set_option maxRecDepth 16384

noncomputable section

namespace Cert.ProjSample

open Idealize.ShloMosaic Idealize.ShloMosaic.TcCoe Cert.Kernel4Ideal Cert.Kernel4Ideal.Gen Cert.Proj

section
variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1024x3072 .bf16) (h3 : a3.IsWhole)
  (a4 : Memref sig .tc .vmem S128x256 .bf16) (h4 : a4.IsWhole)
  (a5 : Memref sig .tc .vmem S1x256 .f32) (h5 : a5.IsWhole)
  (a6 : Memref sig .tc .vmem S1x256 .f32) (h6 : a6.IsWhole)
  (a7 : Memref sig .tc .vmem S256x512 .bf16) (h7 : a7.IsWhole)
  (a8 : Memref sig .tc .vmem S256x512 .bf16) (h8 : a8.IsWhole)
  (a9 : Memref sig .tc .vmem S1x128 .f32) (h9 : a9.IsWhole)
  (a10 : Memref sig .tc .vmem S256x128 .f32) (h10 : a10.IsWhole)
  (a11 : Memref sig .tc .vmem S256x128 .f32) (h11 : a11.IsWhole)
  (a12 : Memref sig .tc .vmem S256x256 .f32) (h12 : a12.IsWhole)
  (a13 : Memref sig .tc .vmem S256x256 .f32) (h13 : a13.IsWhole)
  (a14 : Memref sig .tc .vmem S256x256 .f32) (h14 : a14.IsWhole)
  (a15 : Memref sig .tc .vmem S256x256 .f32) (h15 : a15.IsWhole)
  (a16 : Memref sig .tc .vmem S256x256 .f32) (h16 : a16.IsWhole)
  (a17 : Memref sig .tc .vmem S256x256 .f32) (h17 : a17.IsWhole)
  (a18 : Memref sig .tc .vmem S256x256 .f32) (h18 : a18.IsWhole)
  (a19 : Memref sig .tc .vmem S256x512 .f32) (h19 : a19.IsWhole)
  (a20 : Memref sig .tc .vmem S256x512 .f32) (h20 : a20.IsWhole)
  (a21 : Memref sig .tc .vmem S256x256 .f32) (h21 : a21.IsWhole)
  (a22 : Memref sig .tc .vmem S4x256x256 .f32) (h22 : a22.IsWhole)
  (a23 : Memref sig .tc .vmem S256x256 .f32) (h23 : a23.IsWhole)
  (a24 : Memref sig .tc .vmem S256x160 .f32) (h24 : a24.IsWhole)
  (x0 : Vec Ideal S256x1024 .f32) (x1 : Vec Ideal S1x1024 .f32) (x2 : Vec Ideal S1024x3072 .bf16) (x3 : Vec Ideal S128x256 .bf16)
  (x4 x5 : Vec Ideal S1x256 .f32) (x6 x7 : Vec Ideal S256x512 .bf16) (x8 : Vec Ideal S1x128 .f32)
  (x9 x10 : Vec Ideal S256x128 .f32)

theorem qa_left : out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay6 x0 x1 x2 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem ka_left : out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay7 x0 x1 x2 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem va_left : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay8 x0 x1 x2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem kab_left : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay7 x0 x1 x2 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem vab_left : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay8 x0 x1 x2 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem qg_left : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay9 x0 x1 x2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem kg_left : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay10 (k0_pay5 x0 x1 x2) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem vg_left : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay11 (k0_pay5 x0 x1 x2) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x512) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem gg_left : out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay12 (k0_pay5 x0 x1 x2) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x512) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem la_left : out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10
    = k0_pay13 (k0_pay5 x0 x1 x2) x3 x4 := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  rw [View.canon_unit_zero (S := S256x256) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]

theorem keys_left (r : Fin 256) (j : Fin (128 + 128)) : out0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10 (ix2 r j)
    = if h : j.val < 128 then k0_pay2 (k0_pay5 x0 x1 x2) x8 (ix2 r ⟨j.val, h⟩) else k0_pay3 (k0_pay5 x0 x1 x2) x9 x10 (ix2 r ⟨j.val - 128, by omega⟩) := by
  unfold out0_A_22
  rw [View.read_writes_eq_canon _ _ _ (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]
  exact two_pieces 128 _ _ _ _ r j

theorem rows_left (r : Fin 256) (j : Fin (128 + 32)) : out0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10 (ix2 r j)
    = if h : j.val < 128 then k0_pay2 (k0_pay5 x0 x1 x2) x8 (ix2 r ⟨j.val, h⟩) else k0_pay4 (k0_pay5 x0 x1 x2) x9 x10 (ix2 r ⟨j.val - 128, by omega⟩) := by
  unfold out0_A_23
  rw [View.read_writes_eq_canon _ _ _ (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S256x1024) hz2, View.ld_unit_zero (S := S1x1024) hz2, View.ld_unit_zero (S := S1024x3072) hz2,
    View.ld_unit_zero (S := S128x256) hz2, View.ld_unit_zero (S := S1x256) hz2, View.ld_unit_zero (S := S1x128) hz2,
    View.ld_unit_zero (S := S256x128) hz2]
  exact two_pieces 32 _ _ _ _ r j
end

end Cert.ProjSample

end
-- ==== Proof.ProjSample.Pre.lean ====
/-
  What the precondition of the fourth call says of the memory: the rotary columns of the weights and the two tables are
  laid out as the host code lays them out.
-/
module

public import proofs.«01_k».proof.Defs
public import proofs.«01_k».proof.Proof.Gen.Kernel4Ideal.Value
public import proofs.«01_k».proof.Proof.Gen.Pre_sample_layout
public import proofs.«01_k».proof.Proof.Proj.Spec
public import Idealize.ShloMosaic.Lib.ReduceAll
public import Idealize.ShloMosaic.Lib.IdealHost

@[expose] public section

set_option maxRecDepth 16384

noncomputable section

namespace Cert.ProjSample

open Idealize.ShloMosaic Idealize.ShloMosaic.TcCoe Cert.Kernel4Ideal Cert.Proj

/-- A decided equation whose word came out 1. -/
theorem of_word {x y : EReal} (h : BitVec.ofBool (decide (x = y)) = 1#1) : x = y := by
  by_contra hne
  simp [hne] at h

variable (m : (ℓ : Loc nD τ sig) → Buf (Elt Ideal) ℓ) (c : Dev nD)

/-- The kernel's arguments by coordinates. -/
def argsK : Args 1024 where
  x t k := (m ((c : Thread nD τ).loc main_arg0) : S1024x1024.Idx → EReal) (ix2 t k)
  g k := (m ((c : Thread nD τ).loc main_arg1) : S1x1024.Idx → EReal) (ix2 0 k)
  w k j := (m ((c : Thread nD τ).loc main_arg2) : S1024x3072.Idx → EReal) (ix2 k j)
  w2 k j := (m ((c : Thread nD τ).loc main_arg3) : S128x256.Idx → EReal) (ix2 k j)
  b2 j := (m ((c : Thread nD τ).loc main_arg4) : S1x256.Idx → EReal) (ix2 0 j)
  gc j := (m ((c : Thread nD τ).loc main_arg8) : S1x128.Idx → EReal) (ix2 0 j)
  cos t l := (m ((c : Thread nD τ).loc main_arg9) : S1024x128.Idx → EReal) (ix2 t l)
  sin t l := (m ((c : Thread nD τ).loc main_arg10) : S1024x128.Idx → EReal) (ix2 t l)

/-- The precondition, read. -/
theorem layout (h : Cert.Pre_Kernel4Ideal_sample_layout m) : Layout (argsK m c) := by
  have e := congrFun (h c) (fun a => a.elim0)
  have : Subsingleton Cert.Pre_sample_layout.S_.Idx := ⟨fun y z => funext fun a => a.elim0⟩
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have e1 := Host.reduce_andi_all _ _ _ _ _ e1
  have e2 := Host.reduce_andi_all _ _ _ _ _ e2
  have e3 := Host.reduce_andi_all _ _ _ _ _ e3
  have e4 := Host.reduce_andi_all _ _ _ _ _ e4
  have e5 := Host.reduce_andi_all _ _ _ _ _ e5
  have e6 := Host.reduce_andi_all _ _ _ _ _ e6
  unfold argsK
  generalize m ((c : Thread nD τ).loc main_arg2) = w at e1 e2 e3 ⊢
  generalize m ((c : Thread nD τ).loc main_arg9) = cs at e4 ⊢
  generalize m ((c : Thread nD τ).loc main_arg10) = sn at e5 e6 ⊢
  refine ⟨fun k q l => ?_, fun k q l => ?_, fun k q l => ?_, fun t q l => ?_, fun t q l => ?_, fun t q l => ?_⟩
  · have := e1 (ix3 k q l)
    pointwise at this
    exact of_word this
  · have := e2 (ix3 k q l)
    pointwise at this
    exact of_word this
  · have := e3 (ix3 k q l)
    pointwise at this
    exact of_word this
  · have := e4 (ix3 t q l)
    pointwise at this
    exact of_word this
  · have := e5 (ix3 t q l)
    pointwise at this
    exact of_word this
  · have := e6 (ix3 t q l)
    pointwise at this
    exact of_word this

end Cert.ProjSample

end
-- ==== Proof.ProjSample.Arrays.lean ====
/-
  The whole grid of the fourth call: the blocks the body reads are the arguments' rows of the point's tile, so every result
  array holds the named rows.
-/
module

public import proofs.«01_k».proof.Proof.Gen.Kernel4Ideal.Value
public import proofs.«01_k».proof.Proof.ProjSample.Run
public import proofs.«01_k».proof.Proof.ProjSample.Pre

@[expose] public section

set_option maxRecDepth 16384
set_option Elab.async false

noncomputable section

namespace Cert.ProjSample

open Idealize.ShloMosaic Idealize.ShloMosaic.TcCoe Cert.Kernel4Ideal Cert.Kernel4Ideal.Gen Cert.Kernel4Ideal.Value Cert.Proj

variable (m : (ℓ : Loc nD τ sig) → Buf (Elt Ideal) ℓ) (c : Dev nD)

theorem lt4 (t : Fin cfg0.N) : t.val < 4 := lt_of_lt_of_eq t.isLt N_0

/-- A row of a point's tile. -/
def pos (t : Fin cfg0.N) (r : Fin 256) : Fin 1024 := ⟨256 * t.val + r.val, by have := lt4 t; omega⟩

/-- The point of a row, and the row's place in the tile. -/
def ptAt (t : Fin 1024) : Fin cfg0.N := ⟨t.val / 256, lt_of_lt_of_eq (show t.val / 256 < 4 by omega) N_0.symm⟩
def rowAt (t : Fin 1024) : Fin 256 := ⟨t.val % 256, by omega⟩

theorem pos_at (t : Fin 1024) : pos (ptAt t) (rowAt t) = t := Fin.ext (show 256 * (t.val / 256) + t.val % 256 = t.val by omega)

theorem index_0 : ∀ t : Fin cfg0.N, (cfg0.win (0 : Fin 24)).index t = ![t.val, 0] := by decide +kernel

theorem index_1 : ∀ t : Fin cfg0.N, (cfg0.win (1 : Fin 24)).index t = ![0, 0] := by decide +kernel

theorem index_2 : ∀ t : Fin cfg0.N, (cfg0.win (2 : Fin 24)).index t = ![0, 0] := by decide +kernel

theorem index_3 : ∀ t : Fin cfg0.N, (cfg0.win (3 : Fin 24)).index t = ![0, 0] := by decide +kernel

theorem index_4 : ∀ t : Fin cfg0.N, (cfg0.win (4 : Fin 24)).index t = ![0, 0] := by decide +kernel

theorem index_8 : ∀ t : Fin cfg0.N, (cfg0.win (8 : Fin 24)).index t = ![0, 0] := by decide +kernel

theorem index_9 : ∀ t : Fin cfg0.N, (cfg0.win (9 : Fin 24)).index t = ![t.val, 0] := by decide +kernel

theorem index_10 : ∀ t : Fin cfg0.N, (cfg0.win (10 : Fin 24)).index t = ![t.val, 0] := by decide +kernel

theorem index_11 : ∀ t : Fin cfg0.N, (cfg0.win (11 : Fin 24)).index t = ![t.val, 0] := by decide +kernel

theorem flush_11 : ∀ t : Fin cfg0.N, (cfg0.win (11 : Fin 24)).flush t = true := by decide +kernel

theorem index_12 : ∀ t : Fin cfg0.N, (cfg0.win (12 : Fin 24)).index t = ![t.val, 0] := by decide +kernel

theorem flush_12 : ∀ t : Fin cfg0.N, (cfg0.win (12 : Fin 24)).flush t = true := by decide +kernel

theorem index_13 : ∀ t : Fin cfg0.N, (cfg0.win (13 : Fin 24)).index t = ![t.val, 0] := by decide +kernel

theorem flush_13 : ∀ t : Fin cfg0.N, (cfg0.win (13 : Fin 24)).flush t = true := by decide +kernel

theorem index_14 : ∀ t : Fin cfg0.N, (cfg0.win (14 : Fin 24)).index t = ![t.val, 0] := by decide +kernel

theorem flush_14 : ∀ t : Fin cfg0.N, (cfg0.win (14 : Fin 24)).flush t = true := by decide +kernel

theorem index_15 : ∀ t : Fin cfg0.N, (cfg0.win (15 : Fin 24)).index t = ![t.val, 0] := by decide +kernel

theorem flush_15 : ∀ t : Fin cfg0.N, (cfg0.win (15 : Fin 24)).flush t = true := by decide +kernel

theorem index_16 : ∀ t : Fin cfg0.N, (cfg0.win (16 : Fin 24)).index t = ![t.val, 0] := by decide +kernel

theorem flush_16 : ∀ t : Fin cfg0.N, (cfg0.win (16 : Fin 24)).flush t = true := by decide +kernel

theorem index_17 : ∀ t : Fin cfg0.N, (cfg0.win (17 : Fin 24)).index t = ![t.val, 0] := by decide +kernel

theorem flush_17 : ∀ t : Fin cfg0.N, (cfg0.win (17 : Fin 24)).flush t = true := by decide +kernel

theorem index_18 : ∀ t : Fin cfg0.N, (cfg0.win (18 : Fin 24)).index t = ![t.val, 0] := by decide +kernel

theorem flush_18 : ∀ t : Fin cfg0.N, (cfg0.win (18 : Fin 24)).flush t = true := by decide +kernel

theorem index_19 : ∀ t : Fin cfg0.N, (cfg0.win (19 : Fin 24)).index t = ![t.val, 0] := by decide +kernel

theorem flush_19 : ∀ t : Fin cfg0.N, (cfg0.win (19 : Fin 24)).flush t = true := by decide +kernel

theorem index_20 : ∀ t : Fin cfg0.N, (cfg0.win (20 : Fin 24)).index t = ![t.val, 0] := by decide +kernel

theorem flush_20 : ∀ t : Fin cfg0.N, (cfg0.win (20 : Fin 24)).flush t = true := by decide +kernel

theorem index_22 : ∀ t : Fin cfg0.N, (cfg0.win (22 : Fin 24)).index t = ![t.val, 0] := by decide +kernel

theorem flush_22 : ∀ t : Fin cfg0.N, (cfg0.win (22 : Fin 24)).flush t = true := by decide +kernel

theorem index_23 : ∀ t : Fin cfg0.N, (cfg0.win (23 : Fin 24)).index t = ![t.val, 0] := by decide +kernel

theorem flush_23 : ∀ t : Fin cfg0.N, (cfg0.win (23 : Fin 24)).flush t = true := by decide +kernel

theorem blk_0 (t : Fin cfg0.N) (r : Fin 256) (e : Fin 1024) :
    (iblk m c (0 : Fin 24) t (ix2 r e : S256x1024.Idx) : EReal) = (argsK m c).x (pos t r) e := by
  refine congrArg (m ((c : Thread nD τ).loc main_arg0)) (funext fun a => Fin.ext ?_)
  show (cfg0.win (0 : Fin 24)).index t a * S256x1024.size a + 1 * ((ix2 r e : S256x1024.Idx) a).val = _
  rw [index_0 t]
  fin_cases a
  · show t.val * 256 + 1 * r.val = 256 * t.val + r.val; omega
  · show 0 * 1024 + 1 * e.val = e.val; omega

theorem blk_1 (t : Fin cfg0.N) (e : Fin 1024) : (iblk m c (1 : Fin 24) t (ix2 0 e : S1x1024.Idx) : EReal) = (argsK m c).g e := by
  refine congrArg (m ((c : Thread nD τ).loc main_arg1)) (funext fun a => Fin.ext ?_)
  show (cfg0.win (1 : Fin 24)).index t a * S1x1024.size a + 1 * ((ix2 0 e : S1x1024.Idx) a).val = _
  rw [index_1 t]
  fin_cases a
  · show 0 * 1 + 1 * 0 = 0; omega
  · show 0 * 1024 + 1 * e.val = e.val; omega

theorem blk_2 (t : Fin cfg0.N) (r : Fin 1024) (e : Fin 3072) :
    (iblk m c (2 : Fin 24) t (ix2 r e : S1024x3072.Idx) : EReal) = (argsK m c).w r e := by
  refine congrArg (m ((c : Thread nD τ).loc main_arg2)) (funext fun a => Fin.ext ?_)
  show (cfg0.win (2 : Fin 24)).index t a * S1024x3072.size a + 1 * ((ix2 r e : S1024x3072.Idx) a).val = _
  rw [index_2 t]
  fin_cases a
  · show 0 * 1024 + 1 * r.val = r.val; omega
  · show 0 * 3072 + 1 * e.val = e.val; omega

theorem blk_3 (t : Fin cfg0.N) (r : Fin 128) (e : Fin 256) :
    (iblk m c (3 : Fin 24) t (ix2 r e : S128x256.Idx) : EReal) = (argsK m c).w2 r e := by
  refine congrArg (m ((c : Thread nD τ).loc main_arg3)) (funext fun a => Fin.ext ?_)
  show (cfg0.win (3 : Fin 24)).index t a * S128x256.size a + 1 * ((ix2 r e : S128x256.Idx) a).val = _
  rw [index_3 t]
  fin_cases a
  · show 0 * 128 + 1 * r.val = r.val; omega
  · show 0 * 256 + 1 * e.val = e.val; omega

theorem blk_4 (t : Fin cfg0.N) (e : Fin 256) : (iblk m c (4 : Fin 24) t (ix2 0 e : S1x256.Idx) : EReal) = (argsK m c).b2 e := by
  refine congrArg (m ((c : Thread nD τ).loc main_arg4)) (funext fun a => Fin.ext ?_)
  show (cfg0.win (4 : Fin 24)).index t a * S1x256.size a + 1 * ((ix2 0 e : S1x256.Idx) a).val = _
  rw [index_4 t]
  fin_cases a
  · show 0 * 1 + 1 * 0 = 0; omega
  · show 0 * 256 + 1 * e.val = e.val; omega

theorem blk_8 (t : Fin cfg0.N) (e : Fin 128) : (iblk m c (8 : Fin 24) t (ix2 0 e : S1x128.Idx) : EReal) = (argsK m c).gc e := by
  refine congrArg (m ((c : Thread nD τ).loc main_arg8)) (funext fun a => Fin.ext ?_)
  show (cfg0.win (8 : Fin 24)).index t a * S1x128.size a + 1 * ((ix2 0 e : S1x128.Idx) a).val = _
  rw [index_8 t]
  fin_cases a
  · show 0 * 1 + 1 * 0 = 0; omega
  · show 0 * 128 + 1 * e.val = e.val; omega

theorem blk_9 (t : Fin cfg0.N) (r : Fin 256) (e : Fin 128) :
    (iblk m c (9 : Fin 24) t (ix2 r e : S256x128.Idx) : EReal) = (argsK m c).cos (pos t r) e := by
  refine congrArg (m ((c : Thread nD τ).loc main_arg9)) (funext fun a => Fin.ext ?_)
  show (cfg0.win (9 : Fin 24)).index t a * S256x128.size a + 1 * ((ix2 r e : S256x128.Idx) a).val = _
  rw [index_9 t]
  fin_cases a
  · show t.val * 256 + 1 * r.val = 256 * t.val + r.val; omega
  · show 0 * 128 + 1 * e.val = e.val; omega

theorem blk_10 (t : Fin cfg0.N) (r : Fin 256) (e : Fin 128) :
    (iblk m c (10 : Fin 24) t (ix2 r e : S256x128.Idx) : EReal) = (argsK m c).sin (pos t r) e := by
  refine congrArg (m ((c : Thread nD τ).loc main_arg10)) (funext fun a => Fin.ext ?_)
  show (cfg0.win (10 : Fin 24)).index t a * S256x128.size a + 1 * ((ix2 r e : S256x128.Idx) a).val = _
  rw [index_10 t]
  fin_cases a
  · show t.val * 256 + 1 * r.val = 256 * t.val + r.val; omega
  · show 0 * 128 + 1 * e.val = e.val; omega

/-- The product's rows of a point's tile. -/
theorem prod_at (t : Fin cfg0.N) (r : Fin 256) (j : Fin 3072) :
    (k0_pay5 (iblk m c (0 : Fin 24) t) (iblk m c (1 : Fin 24) t) (iblk m c (2 : Fin 24) t) (ix2 r j) : EReal)
      = z (argsK m c) (pos t r) j := by
  have h0 := blk_0 m c t r
  have h1 := blk_1 m c t
  have h2 := fun k => blk_2 m c t k j
  rw [prod_apply]
  simp only [h0, h1, h2]
  rfl

/-- The first array the call writes, and its rows. -/
def R11 : Vec Ideal S1024x256 .f32 := (dats m 0 c).arrAt 11 cfg0.N

theorem tile_11 (t : Fin cfg0.N) (r : Fin 256) (j : Fin 256) :
    (R11 m c (ix2 (pos t r) j) : EReal) = qa (argsK m c) (pos t r) j := by
  refine Eq.trans ?_ ((congrFun (blocks11 m c t (flush_11 t)) (ix2 r j : S256x256.Idx)).trans
    ((congrFun (flushed11_A m c t) (ix2 r j : S256x256.Idx)).trans ?_))
  · refine congrArg (R11 m c) (funext fun a => Fin.ext ?_)
    show _ = (cfg0.win (11 : Fin 24)).index t a * S256x256.size a + 1 * ((ix2 r j : S256x256.Idx) a).val
    rw [index_11 t]
    fin_cases a
    · show 256 * t.val + r.val = t.val * 256 + 1 * r.val; omega
    · show j.val = 0 * 256 + 1 * j.val; omega
  refine (congrFun (qa_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [qa_apply, prod_at]
  rfl

theorem arr_11 (t : Fin 1024) (j : Fin 256) : (R11 m c (ix2 t j) : EReal) = qa (argsK m c) t j := by
  have h := tile_11 m c (ptAt t) (rowAt t) j
  rwa [pos_at] at h

/-- The second array the call writes, and its rows. -/
def R12 : Vec Ideal S1024x256 .f32 := (dats m 0 c).arrAt 12 cfg0.N

theorem tile_12 (t : Fin cfg0.N) (r : Fin 256) (j : Fin 256) :
    (R12 m c (ix2 (pos t r) j) : EReal) = ka (argsK m c) (pos t r) j := by
  refine Eq.trans ?_ ((congrFun (blocks12 m c t (flush_12 t)) (ix2 r j : S256x256.Idx)).trans
    ((congrFun (flushed12_A m c t) (ix2 r j : S256x256.Idx)).trans ?_))
  · refine congrArg (R12 m c) (funext fun a => Fin.ext ?_)
    show _ = (cfg0.win (12 : Fin 24)).index t a * S256x256.size a + 1 * ((ix2 r j : S256x256.Idx) a).val
    rw [index_12 t]
    fin_cases a
    · show 256 * t.val + r.val = t.val * 256 + 1 * r.val; omega
    · show j.val = 0 * 256 + 1 * j.val; omega
  refine (congrFun (ka_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [ka_apply, prod_at]
  rfl

theorem arr_12 (t : Fin 1024) (j : Fin 256) : (R12 m c (ix2 t j) : EReal) = ka (argsK m c) t j := by
  have h := tile_12 m c (ptAt t) (rowAt t) j
  rwa [pos_at] at h

/-- The third array the call writes, and its rows. -/
def R13 : Vec Ideal S1024x256 .f32 := (dats m 0 c).arrAt 13 cfg0.N

theorem tile_13 (t : Fin cfg0.N) (r : Fin 256) (j : Fin 256) :
    (R13 m c (ix2 (pos t r) j) : EReal) = va (argsK m c) (pos t r) j := by
  refine Eq.trans ?_ ((congrFun (blocks13 m c t (flush_13 t)) (ix2 r j : S256x256.Idx)).trans
    ((congrFun (flushed13_A m c t) (ix2 r j : S256x256.Idx)).trans ?_))
  · refine congrArg (R13 m c) (funext fun a => Fin.ext ?_)
    show _ = (cfg0.win (13 : Fin 24)).index t a * S256x256.size a + 1 * ((ix2 r j : S256x256.Idx) a).val
    rw [index_13 t]
    fin_cases a
    · show 256 * t.val + r.val = t.val * 256 + 1 * r.val; omega
    · show j.val = 0 * 256 + 1 * j.val; omega
  refine (congrFun (va_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [va_apply, prod_at]
  rfl

theorem arr_13 (t : Fin 1024) (j : Fin 256) : (R13 m c (ix2 t j) : EReal) = va (argsK m c) t j := by
  have h := tile_13 m c (ptAt t) (rowAt t) j
  rwa [pos_at] at h

/-- The fourth array the call writes, and its rows. -/
def R14 : Vec Ideal S1024x256 .f32 := (dats m 0 c).arrAt 14 cfg0.N

theorem tile_14 (t : Fin cfg0.N) (r : Fin 256) (j : Fin 256) :
    (R14 m c (ix2 (pos t r) j) : EReal) = ka (argsK m c) (pos t r) j := by
  refine Eq.trans ?_ ((congrFun (blocks14 m c t (flush_14 t)) (ix2 r j : S256x256.Idx)).trans
    ((congrFun (flushed14_A m c t) (ix2 r j : S256x256.Idx)).trans ?_))
  · refine congrArg (R14 m c) (funext fun a => Fin.ext ?_)
    show _ = (cfg0.win (14 : Fin 24)).index t a * S256x256.size a + 1 * ((ix2 r j : S256x256.Idx) a).val
    rw [index_14 t]
    fin_cases a
    · show 256 * t.val + r.val = t.val * 256 + 1 * r.val; omega
    · show j.val = 0 * 256 + 1 * j.val; omega
  refine (congrFun (kab_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [ka_apply, prod_at]
  rfl

theorem arr_14 (t : Fin 1024) (j : Fin 256) : (R14 m c (ix2 t j) : EReal) = ka (argsK m c) t j := by
  have h := tile_14 m c (ptAt t) (rowAt t) j
  rwa [pos_at] at h

/-- The fifth array the call writes, and its rows. -/
def R15 : Vec Ideal S1024x256 .f32 := (dats m 0 c).arrAt 15 cfg0.N

theorem tile_15 (t : Fin cfg0.N) (r : Fin 256) (j : Fin 256) :
    (R15 m c (ix2 (pos t r) j) : EReal) = va (argsK m c) (pos t r) j := by
  refine Eq.trans ?_ ((congrFun (blocks15 m c t (flush_15 t)) (ix2 r j : S256x256.Idx)).trans
    ((congrFun (flushed15_A m c t) (ix2 r j : S256x256.Idx)).trans ?_))
  · refine congrArg (R15 m c) (funext fun a => Fin.ext ?_)
    show _ = (cfg0.win (15 : Fin 24)).index t a * S256x256.size a + 1 * ((ix2 r j : S256x256.Idx) a).val
    rw [index_15 t]
    fin_cases a
    · show 256 * t.val + r.val = t.val * 256 + 1 * r.val; omega
    · show j.val = 0 * 256 + 1 * j.val; omega
  refine (congrFun (vab_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [va_apply, prod_at]
  rfl

theorem arr_15 (t : Fin 1024) (j : Fin 256) : (R15 m c (ix2 t j) : EReal) = va (argsK m c) t j := by
  have h := tile_15 m c (ptAt t) (rowAt t) j
  rwa [pos_at] at h

/-- The sixth array the call writes, and its rows. -/
def R16 : Vec Ideal S1024x256 .f32 := (dats m 0 c).arrAt 16 cfg0.N

theorem tile_16 (t : Fin cfg0.N) (r : Fin 256) (j : Fin 256) :
    (R16 m c (ix2 (pos t r) j) : EReal) = qg (argsK m c) (pos t r) j := by
  refine Eq.trans ?_ ((congrFun (blocks16 m c t (flush_16 t)) (ix2 r j : S256x256.Idx)).trans
    ((congrFun (flushed16_A m c t) (ix2 r j : S256x256.Idx)).trans ?_))
  · refine congrArg (R16 m c) (funext fun a => Fin.ext ?_)
    show _ = (cfg0.win (16 : Fin 24)).index t a * S256x256.size a + 1 * ((ix2 r j : S256x256.Idx) a).val
    rw [index_16 t]
    fin_cases a
    · show 256 * t.val + r.val = t.val * 256 + 1 * r.val; omega
    · show j.val = 0 * 256 + 1 * j.val; omega
  refine (congrFun (qg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [qg_apply, prod_at]
  rfl

theorem arr_16 (t : Fin 1024) (j : Fin 256) : (R16 m c (ix2 t j) : EReal) = qg (argsK m c) t j := by
  have h := tile_16 m c (ptAt t) (rowAt t) j
  rwa [pos_at] at h

/-- The seventh array the call writes, and its rows. -/
def R17 : Vec Ideal S1024x256 .f32 := (dats m 0 c).arrAt 17 cfg0.N

theorem tile_17 (t : Fin cfg0.N) (r : Fin 256) (j : Fin 256) :
    (R17 m c (ix2 (pos t r) j) : EReal) = kg (argsK m c) (pos t r) j := by
  refine Eq.trans ?_ ((congrFun (blocks17 m c t (flush_17 t)) (ix2 r j : S256x256.Idx)).trans
    ((congrFun (flushed17_A m c t) (ix2 r j : S256x256.Idx)).trans ?_))
  · refine congrArg (R17 m c) (funext fun a => Fin.ext ?_)
    show _ = (cfg0.win (17 : Fin 24)).index t a * S256x256.size a + 1 * ((ix2 r j : S256x256.Idx) a).val
    rw [index_17 t]
    fin_cases a
    · show 256 * t.val + r.val = t.val * 256 + 1 * r.val; omega
    · show j.val = 0 * 256 + 1 * j.val; omega
  refine (congrFun (kg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [kg_apply, prod_at]
  rfl

theorem arr_17 (t : Fin 1024) (j : Fin 256) : (R17 m c (ix2 t j) : EReal) = kg (argsK m c) t j := by
  have h := tile_17 m c (ptAt t) (rowAt t) j
  rwa [pos_at] at h

/-- The eighth array the call writes, and its rows. -/
def R18 : Vec Ideal S1024x512 .f32 := (dats m 0 c).arrAt 18 cfg0.N

theorem tile_18 (t : Fin cfg0.N) (r : Fin 256) (j : Fin 512) :
    (R18 m c (ix2 (pos t r) j) : EReal) = vg (argsK m c) (pos t r) j := by
  refine Eq.trans ?_ ((congrFun (blocks18 m c t (flush_18 t)) (ix2 r j : S256x512.Idx)).trans
    ((congrFun (flushed18_A m c t) (ix2 r j : S256x512.Idx)).trans ?_))
  · refine congrArg (R18 m c) (funext fun a => Fin.ext ?_)
    show _ = (cfg0.win (18 : Fin 24)).index t a * S256x512.size a + 1 * ((ix2 r j : S256x512.Idx) a).val
    rw [index_18 t]
    fin_cases a
    · show 256 * t.val + r.val = t.val * 256 + 1 * r.val; omega
    · show j.val = 0 * 512 + 1 * j.val; omega
  refine (congrFun (vg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [vg_apply, prod_at]
  rfl

theorem arr_18 (t : Fin 1024) (j : Fin 512) : (R18 m c (ix2 t j) : EReal) = vg (argsK m c) t j := by
  have h := tile_18 m c (ptAt t) (rowAt t) j
  rwa [pos_at] at h

/-- The ninth array the call writes, and its rows. -/
def R19 : Vec Ideal S1024x512 .f32 := (dats m 0 c).arrAt 19 cfg0.N

theorem tile_19 (t : Fin cfg0.N) (r : Fin 256) (j : Fin 512) :
    (R19 m c (ix2 (pos t r) j) : EReal) = gg (argsK m c) (pos t r) j := by
  refine Eq.trans ?_ ((congrFun (blocks19 m c t (flush_19 t)) (ix2 r j : S256x512.Idx)).trans
    ((congrFun (flushed19_A m c t) (ix2 r j : S256x512.Idx)).trans ?_))
  · refine congrArg (R19 m c) (funext fun a => Fin.ext ?_)
    show _ = (cfg0.win (19 : Fin 24)).index t a * S256x512.size a + 1 * ((ix2 r j : S256x512.Idx) a).val
    rw [index_19 t]
    fin_cases a
    · show 256 * t.val + r.val = t.val * 256 + 1 * r.val; omega
    · show j.val = 0 * 512 + 1 * j.val; omega
  refine (congrFun (gg_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  rw [gg_apply, prod_at]
  rfl

theorem arr_19 (t : Fin 1024) (j : Fin 512) : (R19 m c (ix2 t j) : EReal) = gg (argsK m c) t j := by
  have h := tile_19 m c (ptAt t) (rowAt t) j
  rwa [pos_at] at h

/-- The tenth array the call writes, and its rows. -/
def R20 : Vec Ideal S1024x256 .f32 := (dats m 0 c).arrAt 20 cfg0.N

theorem tile_20 (t : Fin cfg0.N) (r : Fin 256) (j : Fin 256) :
    (R20 m c (ix2 (pos t r) j) : EReal) = la (argsK m c) (pos t r) j := by
  refine Eq.trans ?_ ((congrFun (blocks20 m c t (flush_20 t)) (ix2 r j : S256x256.Idx)).trans
    ((congrFun (flushed20_A m c t) (ix2 r j : S256x256.Idx)).trans ?_))
  · refine congrArg (R20 m c) (funext fun a => Fin.ext ?_)
    show _ = (cfg0.win (20 : Fin 24)).index t a * S256x256.size a + 1 * ((ix2 r j : S256x256.Idx) a).val
    rw [index_20 t]
    fin_cases a
    · show 256 * t.val + r.val = t.val * 256 + 1 * r.val; omega
    · show j.val = 0 * 256 + 1 * j.val; omega
  refine (congrFun (la_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t)) (ix2 r j)).trans ?_
  have h3 := fun k => blk_3 m c t k j
  have h4 := blk_4 m c t j
  rw [la_apply]
  simp only [prod_at, h3, h4]
  rfl

theorem arr_20 (t : Fin 1024) (j : Fin 256) : (R20 m c (ix2 t j) : EReal) = la (argsK m c) t j := by
  have h := tile_20 m c (ptAt t) (rowAt t) j
  rwa [pos_at] at h

theorem lat_at (t : Fin cfg0.N) (r : Fin 256) (j : Fin 128) :
    (k0_pay2 (k0_pay5 (iblk m c (0 : Fin 24) t) (iblk m c (1 : Fin 24) t) (iblk m c (2 : Fin 24) t)) (iblk m c (8 : Fin 24) t) (ix2 r j) : EReal) = lat (argsK m c) (pos t r) j := by
  have h8 := blk_8 m c t
  rw [lat_apply]
  simp only [prod_at, h8]
  rfl

theorem rot_at (t : Fin cfg0.N) (r : Fin 256) (l : Fin 128) :
    (k0_pay3 (k0_pay5 (iblk m c (0 : Fin 24) t) (iblk m c (1 : Fin 24) t) (iblk m c (2 : Fin 24) t)) (iblk m c (9 : Fin 24) t) (iblk m c (10 : Fin 24) t) (ix2 r l) : EReal) = rot (argsK m c) (pos t r) l := by
  rw [rot_apply, prod_at, prod_at, blk_9 m c t r l, blk_10 m c t r l]
  rfl

/-- The twelfth array the call writes, and its rows. -/
def R22 : Vec Ideal S1024x256 .f32 := (dats m 0 c).arrAt 22 cfg0.N

theorem tile_22 (t : Fin cfg0.N) (r : Fin 256) (j : Fin 256) :
    (R22 m c (ix2 (pos t r) j) : EReal) = keys (argsK m c) (pos t r) j := by
  refine Eq.trans ?_ ((congrFun (blocks22 m c t (flush_22 t)) (ix2 r j : S256x256.Idx)).trans
    ((congrFun (flushed22_A m c t) (ix2 r j : S256x256.Idx)).trans ?_))
  · refine congrArg (R22 m c) (funext fun a => Fin.ext ?_)
    show _ = (cfg0.win (22 : Fin 24)).index t a * S256x256.size a + 1 * ((ix2 r j : S256x256.Idx) a).val
    rw [index_22 t]
    fin_cases a
    · show 256 * t.val + r.val = t.val * 256 + 1 * r.val; omega
    · show j.val = 0 * 256 + 1 * j.val; omega
  refine (keys_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t) r j).trans ?_
  unfold keys
  by_cases h : j.val < 128
  · rw [dif_pos h, dif_pos h]
    rw [lat_at]
  · rw [dif_neg h, dif_neg h]
    rw [rot_at]

theorem arr_22 (t : Fin 1024) (j : Fin 256) : (R22 m c (ix2 t j) : EReal) = keys (argsK m c) t j := by
  have h := tile_22 m c (ptAt t) (rowAt t) j
  rwa [pos_at] at h

/-- The thirteenth array the call writes, and its rows. -/
def R23 : Vec Ideal S1024x160 .f32 := (dats m 0 c).arrAt 23 cfg0.N

theorem tile_23 (t : Fin cfg0.N) (r : Fin 256) (j : Fin 160) :
    (R23 m c (ix2 (pos t r) j) : EReal) = rows (argsK m c) (pos t r) j := by
  refine Eq.trans ?_ ((congrFun (blocks23 m c t (flush_23 t)) (ix2 r j : S256x160.Idx)).trans
    ((congrFun (flushed23_A m c t) (ix2 r j : S256x160.Idx)).trans ?_))
  · refine congrArg (R23 m c) (funext fun a => Fin.ext ?_)
    show _ = (cfg0.win (23 : Fin 24)).index t a * S256x160.size a + 1 * ((ix2 r j : S256x160.Idx) a).val
    rw [index_23 t]
    fin_cases a
    · show 256 * t.val + r.val = t.val * 256 + 1 * r.val; omega
    · show j.val = 0 * 160 + 1 * j.val; omega
  refine (rows_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c (0 : Fin 24) t) (iblk m c (1 : Fin 24) t) (iblk m c (2 : Fin 24) t) (iblk m c (3 : Fin 24) t) (iblk m c (4 : Fin 24) t) (iblk m c (5 : Fin 24) t) (iblk m c (6 : Fin 24) t) (iblk m c (7 : Fin 24) t) (iblk m c (8 : Fin 24) t) (iblk m c (9 : Fin 24) t) (iblk m c (10 : Fin 24) t) r j).trans ?_
  unfold rows
  by_cases h : j.val < 128
  · rw [dif_pos h, dif_pos h]
    rw [lat_at]
  · rw [dif_neg h, dif_neg h]
    rw [rot32_apply, rot_at]

theorem arr_23 (t : Fin 1024) (j : Fin 160) : (R23 m c (ix2 t j) : EReal) = rows (argsK m c) t j := by
  have h := tile_23 m c (ptAt t) (rowAt t) j
  rwa [pos_at] at h

end Cert.ProjSample

end
-- ==== Proof.ProjSample.Ref.lean ====
/-
  The reference of the fourth call read at an index: the product of the normalised rows with the weights, its parts, the
  log-decays, the latent and the rotary keys.
-/
module

public import proofs.«01_k».proof.Proof.Gen.Reference4Ideal.Read
public import proofs.«01_k».proof.Proof.Proj.Spec

@[expose] public section

set_option maxRecDepth 16384

noncomputable section

namespace Cert.ProjSample.Ref

open Idealize.ShloMosaic Idealize.ShloMosaic.TcCoe Cert.Reference4Ideal Cert.Reference4Ideal.Gen Cert.Reference4Ideal.Read Cert.Proj

variable (x0 : S1024x1024.Idx → EReal) (x1 : S1x1024.Idx → EReal) (x2 : S1024x3072.Idx → EReal) (x3 : S128x256.Idx → EReal)
  (x4 : S1x256.Idx → EReal) (x8 : S1x128.Idx → EReal) (x9 x10 : S1024x128.Idx → EReal)

/-- The arguments by coordinates. -/
def args : Args 1024 where
  x t k := x0 (ix2 t k)
  g k := x1 (ix2 0 k)
  w k j := x2 (ix2 k j)
  w2 k j := x3 (ix2 k j)
  b2 j := x4 (ix2 0 j)
  gc j := x8 (ix2 0 j)
  cos t l := x9 (ix2 t l)
  sin t l := x10 (ix2 t l)

/-- The product. -/
theorem z_at (t : Fin 1024) (j : Fin 3072) :
    (val_main_v15 (F := Ideal) x0 x1 x2 (ix2 t j) : EReal) = z (args x0 x1 x2 x3 x4 x8 x9 x10) t j := by
  unfold val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0 val_main_cst_1
  pointwise
  rfl

theorem qa_at (t : Fin 1024) (j : Fin 256) :
    (val_main_v63 (F := Ideal) x0 x1 x2 (ix2 t j) : EReal) = qa (args x0 x1 x2 x3 x4 x8 x9 x10) t j := by
  have h := z_at x0 x1 x2 x3 x4 x8 x9 x10 t
  unfold val_main_v63 val_main_v62 val_main_cst_6 val_main_v16
  generalize val_main_v15 (F := Ideal) x0 x1 x2 = p at h ⊢
  pointwise
  rw [h]
  rfl

theorem ka_at (t : Fin 1024) (j : Fin 256) :
    (val_main_v17 (F := Ideal) x0 x1 x2 (ix2 t j) : EReal) = ka (args x0 x1 x2 x3 x4 x8 x9 x10) t j := by
  have h := z_at x0 x1 x2 x3 x4 x8 x9 x10 t
  unfold val_main_v17
  generalize val_main_v15 (F := Ideal) x0 x1 x2 = p at h ⊢
  pointwise
  rw [h]
  rfl

theorem va_at (t : Fin 1024) (j : Fin 256) :
    (val_main_v18 (F := Ideal) x0 x1 x2 (ix2 t j) : EReal) = va (args x0 x1 x2 x3 x4 x8 x9 x10) t j := by
  have h := z_at x0 x1 x2 x3 x4 x8 x9 x10 t
  unfold val_main_v18
  generalize val_main_v15 (F := Ideal) x0 x1 x2 = p at h ⊢
  pointwise
  rw [h]
  rfl

theorem qg_at (t : Fin 1024) (j : Fin 256) :
    (val_main_v65 (F := Ideal) x0 x1 x2 (ix2 t j) : EReal) = qg (args x0 x1 x2 x3 x4 x8 x9 x10) t j := by
  have h := z_at x0 x1 x2 x3 x4 x8 x9 x10 t
  unfold val_main_v65 val_main_v64 val_main_cst_7 val_main_v19
  generalize val_main_v15 (F := Ideal) x0 x1 x2 = p at h ⊢
  pointwise
  rw [h]
  rfl

theorem kg_at (t : Fin 1024) (j : Fin 256) :
    (val_main_v20 (F := Ideal) x0 x1 x2 (ix2 t j) : EReal) = kg (args x0 x1 x2 x3 x4 x8 x9 x10) t j := by
  have h := z_at x0 x1 x2 x3 x4 x8 x9 x10 t
  unfold val_main_v20
  generalize val_main_v15 (F := Ideal) x0 x1 x2 = p at h ⊢
  pointwise
  rw [h]
  rfl

theorem vg_at (t : Fin 1024) (j : Fin 512) :
    (val_main_v21 (F := Ideal) x0 x1 x2 (ix2 t j) : EReal) = vg (args x0 x1 x2 x3 x4 x8 x9 x10) t j := by
  have h := z_at x0 x1 x2 x3 x4 x8 x9 x10 t
  unfold val_main_v21
  generalize val_main_v15 (F := Ideal) x0 x1 x2 = p at h ⊢
  pointwise
  rw [h]
  rfl

theorem gg_at (t : Fin 1024) (j : Fin 512) :
    (val_main_v22 (F := Ideal) x0 x1 x2 (ix2 t j) : EReal) = gg (args x0 x1 x2 x3 x4 x8 x9 x10) t j := by
  have h := z_at x0 x1 x2 x3 x4 x8 x9 x10 t
  unfold val_main_v22
  generalize val_main_v15 (F := Ideal) x0 x1 x2 = p at h ⊢
  pointwise
  rw [h]
  rfl

/-- What the log-decay is taken of. -/
theorem pre_at (t : Fin 1024) (j : Fin 256) :
    (val_main_v31 (F := Ideal) x0 x1 x2 x3 x4 (ix2 t j) : EReal)
      = (∑ k : Fin 128, z (args x0 x1 x2 x3 x4 x8 x9 x10) t ⟨2304 + k.val, by omega⟩ * x3 (ix2 k j)) + x4 (ix2 0 j) := by
  have h := z_at x0 x1 x2 x3 x4 x8 x9 x10 t
  unfold val_main_v31 val_main_v30 val_main_v29 val_main_v28 val_main_v27 val_main_v26 val_main_v23
  generalize val_main_v15 (F := Ideal) x0 x1 x2 = p at h ⊢
  pointwise
  simp only [h]

theorem la_at (t : Fin 1024) (j : Fin 256) :
    (val_main_v34 (F := Ideal) x0 x1 x2 x3 x4 (ix2 t j) : EReal) = la (args x0 x1 x2 x3 x4 x8 x9 x10) t j := by
  have h := pre_at x0 x1 x2 x3 x4 x8 x9 x10 t j
  unfold val_main_v34 val_main_v33 val_main_cst_2 val_main_v32 val_main_call0_v1 val_main_call0_call0_v11 val_main_call0_call0_v10
    val_main_call0_call0_v9 val_main_call0_call0_v8 val_main_call0_call0_v7 val_main_call0_call0_v6 val_main_call0_call0_v5
    val_main_call0_call0_v4 val_main_call0_call0_v3 val_main_call0_call0_v2 val_main_call0_call0_v1 val_main_call0_call0_v0
    val_main_call0_call0_cst val_main_call0_v0
  generalize val_main_v31 (F := Ideal) x0 x1 x2 x3 x4 = p at h ⊢
  pointwise
  rw [h, if_neg (fun hne => hne rfl)]
  unfold la
  exact decay_eq _

/-- The latent keys. -/
theorem lat_at (t : Fin 1024) (j : Fin 128) :
    (val_main_v48 (F := Ideal) x0 x1 x2 x8 (ix2 t j) : EReal) = lat (args x0 x1 x2 x3 x4 x8 x9 x10) t j := by
  have h := z_at x0 x1 x2 x3 x4 x8 x9 x10 t
  unfold val_main_v48 val_main_v47 val_main_v46 val_main_v45 val_main_v44 val_main_v43 val_main_v42 val_main_v41 val_main_v40
    val_main_v39 val_main_v38 val_main_v37 val_main_v36 val_main_v35 val_main_cst_3 val_main_cst_4 val_main_cst_5 val_main_v24
  generalize val_main_v15 (F := Ideal) x0 x1 x2 = p at h ⊢
  pointwise
  simp only [h]
  rfl

/-- The two halves of the rotary keys. -/
theorem ropeA_at (t : Fin 1024) (l : Fin 16) :
    (val_main_v55 (F := Ideal) x0 x1 x2 x9 x10 (ix2 t l) : EReal) = ropeA (args x0 x1 x2 x3 x4 x8 x9 x10) t l := by
  have h := z_at x0 x1 x2 x3 x4 x8 x9 x10 t
  unfold val_main_v55 val_main_v54 val_main_v53 val_main_v52 val_main_v51 val_main_v50 val_main_v49 val_main_v25
  generalize val_main_v15 (F := Ideal) x0 x1 x2 = p at h ⊢
  pointwise
  simp only [h]
  rfl

theorem ropeB_at (t : Fin 1024) (l : Fin 16) :
    (val_main_v58 (F := Ideal) x0 x1 x2 x9 x10 (ix2 t l) : EReal) = ropeB (args x0 x1 x2 x3 x4 x8 x9 x10) t l := by
  have h := z_at x0 x1 x2 x3 x4 x8 x9 x10 t
  unfold val_main_v58 val_main_v57 val_main_v56 val_main_v52 val_main_v51 val_main_v50 val_main_v49 val_main_v25
  generalize val_main_v15 (F := Ideal) x0 x1 x2 = p at h ⊢
  pointwise
  simp only [h]
  rfl

variable (H : Layout (args x0 x1 x2 x3 x4 x8 x9 x10))

include H

/-- Where the tables and the columns are laid out as the host code does, the reference's rotary keys are the kernel's. -/
theorem rope_at (t : Fin 1024) (l : Fin 32) (l' : Fin 128) (hl : l'.val % 32 = l.val) :
    (val_main_v59 (F := Ideal) x0 x1 x2 x9 x10 (ix2 t l) : EReal) = rot (args x0 x1 x2 x3 x4 x8 x9 x10) t l' := by
  have ha := ropeA_at x0 x1 x2 x3 x4 x8 x9 x10 t
  have hb := ropeB_at x0 x1 x2 x3 x4 x8 x9 x10 t
  rw [rot_eq H]
  unfold val_main_v59
  generalize val_main_v55 (F := Ideal) x0 x1 x2 x9 x10 = p at ha ⊢
  generalize val_main_v58 (F := Ideal) x0 x1 x2 x9 x10 = q at hb ⊢
  pointwise
  simp only [ha, hb, hl]

theorem rows_at (t : Fin 1024) (j : Fin 160) :
    (val_main_v60 (F := Ideal) x0 x1 x2 x8 x9 x10 (ix2 t j) : EReal) = rows (args x0 x1 x2 x3 x4 x8 x9 x10) t j := by
  have ha := lat_at x0 x1 x2 x3 x4 x8 x9 x10 t
  have hb := rope_at x0 x1 x2 x3 x4 x8 x9 x10 H t
  unfold val_main_v60 rows
  generalize val_main_v48 (F := Ideal) x0 x1 x2 x8 = p at ha ⊢
  generalize val_main_v59 (F := Ideal) x0 x1 x2 x9 x10 = q at hb ⊢
  pointwise
  by_cases h : j.val < 128
  · rw [dif_pos h, dif_pos h, ha]
  · rw [dif_neg h, dif_neg h]
    exact hb _ _ (by dsimp only; omega)

theorem keys_at (t : Fin 1024) (j : Fin 256) :
    (val_main_v61 (F := Ideal) x0 x1 x2 x8 x9 x10 (ix2 t j) : EReal) = keys (args x0 x1 x2 x3 x4 x8 x9 x10) t j := by
  have ha := lat_at x0 x1 x2 x3 x4 x8 x9 x10 t
  have hb := rope_at x0 x1 x2 x3 x4 x8 x9 x10 H t
  unfold val_main_v61 keys
  generalize val_main_v48 (F := Ideal) x0 x1 x2 x8 = p at ha ⊢
  generalize val_main_v59 (F := Ideal) x0 x1 x2 x9 x10 = q at hb ⊢
  pointwise
  by_cases h : j.val < 128
  · rw [dif_pos h, dif_pos h, ha]
  · rw [dif_neg h, dif_neg h]
    split_ifs <;> exact hb _ _ (by dsimp only; omega)

end Cert.ProjSample.Ref

end
-- ==== Proof.ProjSample.Claims.lean ====
/-
  The claims about the fourth call: its frames, and that its twelve claimed results are the reference's.
-/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.ProjSample.Arrays
public import proofs.«01_k».proof.Proof.ProjSample.Ref
public import Idealize.ShloMosaic.Adequacy

@[expose] public section

set_option maxRecDepth 16384

noncomputable section

namespace Cert.ProjSample

open Idealize.ShloMosaic Idealize.ShloMosaic.TcCoe Idealize.SL.Sem Cert.Proj

/-- The compiled kernel ends, its arguments unchanged and its counters at zero. -/
theorem frame_kernel : Cert.quiescent_Kernel4 := fun m ρ _ => Cert.Kernel4.Gen.frame m ρ

/-- The same of its idealization, and again under the layout's precondition. -/
theorem frame_ideal : Cert.quiescent_Kernel4Ideal := fun m ρ _ => Cert.Kernel4Ideal.Gen.frame m ρ

theorem frame_ideal_layout : Cert.quiescent_Kernel4Ideal_pre_sample_layout := fun m ρ _ => Cert.Kernel4Ideal.Gen.frame m ρ

/-- The same of the reference, which declares no semaphore. -/
theorem frame_ref : Cert.quiescent_Reference4Ideal := fun m ρ _ =>
  (θ_run Cert.Reference4Ideal.defs _ _).mono
    (fun r h => ⟨fun c => (h c).2.2.2.2.2.2.2.2.2.2.2.2, sem_eq_zero_of_no_sems (by decide) r.2⟩)
    (Cert.Reference4Ideal.Value.run (F := Ideal) m ρ)

theorem frame_ref_layout : Cert.quiescent_Reference4Ideal_pre_sample_layout := fun m ρ _ => frame_ref m ρ trivial

variable (m : (ℓ : Loc Cert.Kernel4Ideal.nD Cert.Kernel4Ideal.τ Cert.Kernel4Ideal.sig) → Buf (Elt Ideal) ℓ)
  (c : Dev Cert.Kernel4Ideal.nD)

/-- The arguments of the call that the claimed results depend on. -/
def a0 := m ((c.tc : Thread Cert.Kernel4Ideal.nD Cert.Kernel4Ideal.τ).loc Cert.Kernel4Ideal.main_arg0)
def a1 := m ((c.tc : Thread Cert.Kernel4Ideal.nD Cert.Kernel4Ideal.τ).loc Cert.Kernel4Ideal.main_arg1)
def a2 := m ((c.tc : Thread Cert.Kernel4Ideal.nD Cert.Kernel4Ideal.τ).loc Cert.Kernel4Ideal.main_arg2)
def a3 := m ((c.tc : Thread Cert.Kernel4Ideal.nD Cert.Kernel4Ideal.τ).loc Cert.Kernel4Ideal.main_arg3)
def a4 := m ((c.tc : Thread Cert.Kernel4Ideal.nD Cert.Kernel4Ideal.τ).loc Cert.Kernel4Ideal.main_arg4)
def a8 := m ((c.tc : Thread Cert.Kernel4Ideal.nD Cert.Kernel4Ideal.τ).loc Cert.Kernel4Ideal.main_arg8)
def a9 := m ((c.tc : Thread Cert.Kernel4Ideal.nD Cert.Kernel4Ideal.τ).loc Cert.Kernel4Ideal.main_arg9)
def a10 := m ((c.tc : Thread Cert.Kernel4Ideal.nD Cert.Kernel4Ideal.τ).loc Cert.Kernel4Ideal.main_arg10)

/-! Each claimed result of the reference, of the kernel's arguments, is the kernel's. -/

theorem ref_qa :
    Cert.Reference4Ideal.Read.val_main_v63 (F := Ideal) (a0 m c) (a1 m c) (a2 m c) = R11 m c := by
  funext i
  obtain ⟨t, j, rfl⟩ : ∃ (t : Fin 1024) (j : Fin 256), i = (ix2 t j : Cert.Kernel4Ideal.S1024x256.Idx) := ⟨_, _, eq_ix2 i⟩
  exact (Ref.qa_at (a0 m c) (a1 m c) (a2 m c) (a3 m c) (a4 m c) (a8 m c) (a9 m c) (a10 m c) t j).trans
    (arr_11 m c t j).symm

theorem ref_ka :
    Cert.Reference4Ideal.Read.val_main_v17 (F := Ideal) (a0 m c) (a1 m c) (a2 m c) = R12 m c := by
  funext i
  obtain ⟨t, j, rfl⟩ : ∃ (t : Fin 1024) (j : Fin 256), i = (ix2 t j : Cert.Kernel4Ideal.S1024x256.Idx) := ⟨_, _, eq_ix2 i⟩
  exact (Ref.ka_at (a0 m c) (a1 m c) (a2 m c) (a3 m c) (a4 m c) (a8 m c) (a9 m c) (a10 m c) t j).trans
    (arr_12 m c t j).symm

theorem ref_va :
    Cert.Reference4Ideal.Read.val_main_v18 (F := Ideal) (a0 m c) (a1 m c) (a2 m c) = R13 m c := by
  funext i
  obtain ⟨t, j, rfl⟩ : ∃ (t : Fin 1024) (j : Fin 256), i = (ix2 t j : Cert.Kernel4Ideal.S1024x256.Idx) := ⟨_, _, eq_ix2 i⟩
  exact (Ref.va_at (a0 m c) (a1 m c) (a2 m c) (a3 m c) (a4 m c) (a8 m c) (a9 m c) (a10 m c) t j).trans
    (arr_13 m c t j).symm

theorem ref_kab :
    Cert.Reference4Ideal.Read.val_main_v17 (F := Ideal) (a0 m c) (a1 m c) (a2 m c) = R14 m c := by
  funext i
  obtain ⟨t, j, rfl⟩ : ∃ (t : Fin 1024) (j : Fin 256), i = (ix2 t j : Cert.Kernel4Ideal.S1024x256.Idx) := ⟨_, _, eq_ix2 i⟩
  exact (Ref.ka_at (a0 m c) (a1 m c) (a2 m c) (a3 m c) (a4 m c) (a8 m c) (a9 m c) (a10 m c) t j).trans
    (arr_14 m c t j).symm

theorem ref_vab :
    Cert.Reference4Ideal.Read.val_main_v18 (F := Ideal) (a0 m c) (a1 m c) (a2 m c) = R15 m c := by
  funext i
  obtain ⟨t, j, rfl⟩ : ∃ (t : Fin 1024) (j : Fin 256), i = (ix2 t j : Cert.Kernel4Ideal.S1024x256.Idx) := ⟨_, _, eq_ix2 i⟩
  exact (Ref.va_at (a0 m c) (a1 m c) (a2 m c) (a3 m c) (a4 m c) (a8 m c) (a9 m c) (a10 m c) t j).trans
    (arr_15 m c t j).symm

theorem ref_qg :
    Cert.Reference4Ideal.Read.val_main_v65 (F := Ideal) (a0 m c) (a1 m c) (a2 m c) = R16 m c := by
  funext i
  obtain ⟨t, j, rfl⟩ : ∃ (t : Fin 1024) (j : Fin 256), i = (ix2 t j : Cert.Kernel4Ideal.S1024x256.Idx) := ⟨_, _, eq_ix2 i⟩
  exact (Ref.qg_at (a0 m c) (a1 m c) (a2 m c) (a3 m c) (a4 m c) (a8 m c) (a9 m c) (a10 m c) t j).trans
    (arr_16 m c t j).symm

theorem ref_kg :
    Cert.Reference4Ideal.Read.val_main_v20 (F := Ideal) (a0 m c) (a1 m c) (a2 m c) = R17 m c := by
  funext i
  obtain ⟨t, j, rfl⟩ : ∃ (t : Fin 1024) (j : Fin 256), i = (ix2 t j : Cert.Kernel4Ideal.S1024x256.Idx) := ⟨_, _, eq_ix2 i⟩
  exact (Ref.kg_at (a0 m c) (a1 m c) (a2 m c) (a3 m c) (a4 m c) (a8 m c) (a9 m c) (a10 m c) t j).trans
    (arr_17 m c t j).symm

theorem ref_vg :
    Cert.Reference4Ideal.Read.val_main_v21 (F := Ideal) (a0 m c) (a1 m c) (a2 m c) = R18 m c := by
  funext i
  obtain ⟨t, j, rfl⟩ : ∃ (t : Fin 1024) (j : Fin 512), i = (ix2 t j : Cert.Kernel4Ideal.S1024x512.Idx) := ⟨_, _, eq_ix2 i⟩
  exact (Ref.vg_at (a0 m c) (a1 m c) (a2 m c) (a3 m c) (a4 m c) (a8 m c) (a9 m c) (a10 m c) t j).trans
    (arr_18 m c t j).symm

theorem ref_gg :
    Cert.Reference4Ideal.Read.val_main_v22 (F := Ideal) (a0 m c) (a1 m c) (a2 m c) = R19 m c := by
  funext i
  obtain ⟨t, j, rfl⟩ : ∃ (t : Fin 1024) (j : Fin 512), i = (ix2 t j : Cert.Kernel4Ideal.S1024x512.Idx) := ⟨_, _, eq_ix2 i⟩
  exact (Ref.gg_at (a0 m c) (a1 m c) (a2 m c) (a3 m c) (a4 m c) (a8 m c) (a9 m c) (a10 m c) t j).trans
    (arr_19 m c t j).symm

theorem ref_la :
    Cert.Reference4Ideal.Read.val_main_v34 (F := Ideal) (a0 m c) (a1 m c) (a2 m c) (a3 m c) (a4 m c) = R20 m c := by
  funext i
  obtain ⟨t, j, rfl⟩ : ∃ (t : Fin 1024) (j : Fin 256), i = (ix2 t j : Cert.Kernel4Ideal.S1024x256.Idx) := ⟨_, _, eq_ix2 i⟩
  exact (Ref.la_at (a0 m c) (a1 m c) (a2 m c) (a3 m c) (a4 m c) (a8 m c) (a9 m c) (a10 m c) t j).trans
    (arr_20 m c t j).symm

theorem ref_keys (H : Layout (argsK m c)) :
    Cert.Reference4Ideal.Read.val_main_v61 (F := Ideal) (a0 m c) (a1 m c) (a2 m c) (a8 m c) (a9 m c) (a10 m c) = R22 m c := by
  funext i
  obtain ⟨t, j, rfl⟩ : ∃ (t : Fin 1024) (j : Fin 256), i = (ix2 t j : Cert.Kernel4Ideal.S1024x256.Idx) := ⟨_, _, eq_ix2 i⟩
  exact (Ref.keys_at (a0 m c) (a1 m c) (a2 m c) (a3 m c) (a4 m c) (a8 m c) (a9 m c) (a10 m c) H t j).trans
    (arr_22 m c t j).symm

theorem ref_rows (H : Layout (argsK m c)) :
    Cert.Reference4Ideal.Read.val_main_v60 (F := Ideal) (a0 m c) (a1 m c) (a2 m c) (a8 m c) (a9 m c) (a10 m c) = R23 m c := by
  funext i
  obtain ⟨t, j, rfl⟩ : ∃ (t : Fin 1024) (j : Fin 160), i = (ix2 t j : Cert.Kernel4Ideal.S1024x160.Idx) := ⟨_, _, eq_ix2 i⟩
  exact (Ref.rows_at (a0 m c) (a1 m c) (a2 m c) (a3 m c) (a4 m c) (a8 m c) (a9 m c) (a10 m c) H t j).trans
    (arr_23 m c t j).symm

/-- The kernel's claimed results are the reference's, over the extended reals. -/
theorem value : Cert.algebraic_Kernel4Ideal_Reference4Ideal_pre_sample_layout := by
  intro m ρ m' ρ' hpre hagree
  refine ⟨fun c => R11 m c, fun c => R12 m c, fun c => R13 m c, fun c => R14 m c, fun c => R15 m c, fun c => R16 m c, fun c => R17 m c, fun c => R18 m c, fun c => R19 m c, fun c => R20 m c, fun c => R22 m c, fun c => R23 m c, ?_, ?_⟩
  · refine (θ_run Cert.Kernel4Ideal.defs _ _).mono (fun r h c => ?_) (Cert.Kernel4Ideal.Value.run_blocks m ρ)
    obtain ⟨h0, h1, h2, h3, h4, h5, h6, h7, h8, h9, _, h11, h12, hargs⟩ := h c
    exact ⟨h0, h1, h2, h3, h4, h5, h6, h7, h8, h9, h11, h12, hargs⟩
  refine (θ_run Cert.Reference4Ideal.defs _ _).mono (fun r h c => ?_) (Cert.Reference4Ideal.Value.run (F := Ideal) m' ρ')
  have H := layout m c hpre
  obtain ⟨h0, h1, h2, h3, h4, h5, h6, h7, h8, h9, h10, h11, hargs⟩ := h c
  obtain ⟨e0, e1, e2, e3, e4, e5, e6, e7, e8, e9, e10⟩ := hagree c
  refine ⟨h0.trans ?_, h1.trans ?_, h2.trans ?_, h3.trans ?_, h4.trans ?_, h5.trans ?_, h6.trans ?_, h7.trans ?_, h8.trans ?_,
    h9.trans ?_, h10.trans ?_, h11.trans ?_, hargs⟩
  · refine (Cert.Reference4Ideal.Read.val_main_v63_eq _ _ _).trans ?_
    rw [e0, e1, e2]
    exact ref_qa m c
  · refine (Cert.Reference4Ideal.Read.val_main_v17_eq _ _ _).trans ?_
    rw [e0, e1, e2]
    exact ref_ka m c
  · refine (Cert.Reference4Ideal.Read.val_main_v18_eq _ _ _).trans ?_
    rw [e0, e1, e2]
    exact ref_va m c
  · refine (Cert.Reference4Ideal.Read.val_main_v17_eq _ _ _).trans ?_
    rw [e0, e1, e2]
    exact ref_kab m c
  · refine (Cert.Reference4Ideal.Read.val_main_v18_eq _ _ _).trans ?_
    rw [e0, e1, e2]
    exact ref_vab m c
  · refine (Cert.Reference4Ideal.Read.val_main_v65_eq _ _ _).trans ?_
    rw [e0, e1, e2]
    exact ref_qg m c
  · refine (Cert.Reference4Ideal.Read.val_main_v20_eq _ _ _).trans ?_
    rw [e0, e1, e2]
    exact ref_kg m c
  · refine (Cert.Reference4Ideal.Read.val_main_v21_eq _ _ _).trans ?_
    rw [e0, e1, e2]
    exact ref_vg m c
  · refine (Cert.Reference4Ideal.Read.val_main_v22_eq _ _ _).trans ?_
    rw [e0, e1, e2]
    exact ref_gg m c
  · refine (Cert.Reference4Ideal.Read.val_main_v34_eq m' c).trans ?_
    rw [e0, e1, e2, e3, e4]
    exact ref_la m c
  · refine (Cert.Reference4Ideal.Read.val_main_v61_eq m' c).trans ?_
    rw [e0, e1, e2, e8, e9, e10]
    exact ref_keys m c H
  · refine (Cert.Reference4Ideal.Read.val_main_v60_eq m' c).trans ?_
    rw [e0, e1, e2, e8, e9, e10]
    exact ref_rows m c H

end Cert.ProjSample

end
-- ==== Proof.FfnSample.Spec.lean ====
/-
  The end of a layer for the sample group, row by row: 128 sequences of 8 positions, side by side in 1024 rows, each
  sequence after two gate rows given.
-/
module

public import proofs.«01_k».proof.Proof.Ffn.Spec

@[expose] public section

noncomputable section

namespace Cert.FfnSample

open Idealize.ShloMosaic Cert.Ffn

/-- The call's arguments, as functions of their coordinates. -/
structure Args where
  x : Fin 1024 → Fin 1024 → EReal
  oa : Fin 1024 → Fin 256 → EReal
  og : Fin 1024 → Fin 512 → EReal
  oc : Fin 1024 → Fin 256 → EReal
  wo : Fin 1024 → Fin 1024 → EReal
  fn : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  pv : Fin 2 → Fin 1024 → Fin 2816 → EReal
  fw : Fin 1024 → EReal

/-- The row of a position of a sequence. -/
def at8 (q : Fin 128) (r : Fin 8) : Fin 1024 := ⟨8 * q.val + r.val, by omega⟩

/-- The two earlier gate rows are the same at each of a sequence's positions. -/
def Held (A : Args) : Prop := ∀ j q r f, A.pv j (at8 q r) f = A.pv j (at8 q 0) f

variable (A : Args)

/-- The residual row. -/
def row (n : Fin 1024) (e : Fin 1024) : EReal :=
  resid (A.x n e) (A.oa n) (A.og n) (A.oc n) (fun k => A.wo ⟨k.val, by omega⟩ e)
    (fun k => A.wo ⟨256 + k.val, by omega⟩ e) (fun k => A.wo ⟨768 + k.val, by omega⟩ e)

/-- The gate projection of the normalised row. -/
def gate (n : Fin 1024) (f : Fin 2816) : EReal := ∑ k, normed (row A n) A.fn k * A.wg k f

/-- The up projection of the normalised row. -/
def up (n : Fin 1024) (f : Fin 2816) : EReal := ∑ k, normed (row A n) A.fn k * A.wu k f

/-- The gate row one position back, the later of the rows given at a sequence's start. -/
def back1 (n : Fin 1024) (f : Fin 2816) : EReal :=
  if n.val % 8 = 0 then A.pv 1 n f else gate A ⟨n.val - 1, by omega⟩ f

/-- The gate row two positions back, the rows given at a sequence's first two positions. -/
def back2 (n : Fin 1024) (f : Fin 2816) : EReal :=
  if n.val % 8 = 0 then A.pv 0 n f else if n.val % 8 = 1 then A.pv 1 n f else gate A ⟨n.val - 2, by omega⟩ f

/-- The row that leaves the layer. -/
def out (n : Fin 1024) (e : Fin 1024) : EReal :=
  row A n e + ∑ f, gated (A.cb f) (A.cw 0 f) (A.cw 1 f) (A.cw 2 f) (back2 A n f) (back1 A n f) (gate A n f) (up A n f) * A.wd f e

/-- The same normalised. -/
def outNormed (n : Fin 1024) (e : Fin 1024) : EReal := normed (out A n) A.fw e

end Cert.FfnSample

end
-- ==== Proof.FfnSample.Body.lean ====
/-
  What the body of the fifth call computes from its blocks, read at an index: the residual row after the output
  projection, its normalisation, the gate and the up projection, the gate rows one and two positions back, and the
  rows of the result.
-/
module

public import proofs.«01_k».proof.Proof.Gen.Kernel5Ideal.Skeleton
public import proofs.«01_k».proof.Proof.FfnSample.Spec

@[expose] public section

set_option maxRecDepth 16384

noncomputable section

namespace Cert.FfnSample

open Idealize.ShloMosaic Idealize.ShloMosaic.TcCoe Cert.Kernel5Ideal Cert.Kernel5Ideal.Gen Cert.Ffn

/-- A row's place in its run of eight. -/
theorem place_apply (r : Fin 256) (f : Fin 2816) : k0_pay9 (ix2 r f) = BitVec.ofNat 32 (r.val % 8) := by
  unfold k0_pay9
  pointwise
  revert r
  decide +kernel

/-- A choice by whether the row's place is `n`. -/
theorem select_place (r : Fin 256) (n : ℕ) (hn : n < 8) (a b : EReal) :
    Scalar.select (IntOp.cmpi CmpIPredicate.eq (BitVec.ofNat 32 (r.val % 8)) (BitVec.ofNat 32 n)) a b
      = if r.val % 8 = n then a else b := by
  have hr := r.isLt
  have h : (BitVec.ofNat 32 (r.val % 8) == BitVec.ofNat 32 n) = decide (r.val % 8 = n) := by
    rw [Bool.eq_iff_iff, beq_iff_eq, decide_eq_true_iff]
    refine ⟨fun e => ?_, fun e => by rw [e]⟩
    have := congrArg BitVec.toNat e
    rw [BitVec.toNat_ofNat, BitVec.toNat_ofNat] at this
    omega
  show Scalar.select (BitVec.ofBool _) a b = _
  rw [h]
  by_cases e : r.val % 8 = n <;> simp [e, Scalar.select]

section
variable (v0 : Vec Ideal S1x256x1024 .f32) (v2 : Vec Ideal S1x256x256 .f32) (v5 : Vec Ideal S256x1024 .bf16)
  (v7 : Vec Ideal S1x256x512 .f32) (v10 : Vec Ideal S512x1024 .bf16) (v13 : Vec Ideal S1x256x256 .f32)
  (v16 : Vec Ideal S256x1024 .bf16) (v30 : Vec Ideal S1x1024 .f32)

theorem resid_apply (r : Fin 256) (e : Fin 1024) : (k0_pay2 v0 v2 v5 v7 v10 v13 v16 (ix2 r e) : EReal)
    = resid (v0 (ix3 0 r e)) (fun k => v2 (ix3 0 r k)) (fun k => v7 (ix3 0 r k)) (fun k => v13 (ix3 0 r k))
        (fun k => v5 (ix2 k e)) (fun k => v10 (ix2 k e)) (fun k => v16 (ix2 k e)) := by
  unfold k0_pay2 resid
  pointwise

theorem normed_apply (r : Fin 256) (e : Fin 1024) :
    (k0_pay5 (k0_pay3 v0 v2 v5 v7 v10 v13 v16) (k0_pay4 v30) (ix2 r e) : EReal)
    = normed (fun k => k0_pay2 v0 v2 v5 v7 v10 v13 v16 (ix2 r k)) (fun k => v30 (ix2 0 k)) e := by
  unfold k0_pay5 k0_pay4 k0_pay3 normed
  generalize k0_pay2 v0 v2 v5 v7 v10 v13 v16 = p
  pointwise
end

section
variable (v29 v31 : FVec Ideal S256x1024 .f32) (v34 v36 : Vec Ideal S1024x2816 .bf16) (v57 v59 : Vec Ideal S1x1x256x2816 .f32)

theorem gate_apply (r : Fin 256) (f : Fin 2816) : (k0_pay6 v29 v31 v34 (ix2 r f) : EReal)
    = ∑ k : Fin 1024, (k0_pay5 v29 v31 (ix2 r k) : EReal) * v34 (ix2 k f) := by
  unfold k0_pay6
  generalize k0_pay5 v29 v31 = p
  pointwise

theorem up_apply (r : Fin 256) (f : Fin 2816) : (k0_pay7 v29 v31 v36 (ix2 r f) : EReal)
    = ∑ k : Fin 1024, (k0_pay5 v29 v31 (ix2 r k) : EReal) * v36 (ix2 k f) := by
  unfold k0_pay7
  generalize k0_pay5 v29 v31 = p
  pointwise

theorem gateOut_apply (p : FVec Ideal S256x2816 .f32) (r : Fin 256) (f : Fin 2816) :
    (k0_pay15 p (ix4 0 0 r f) : EReal) = p (ix2 r f) := by
  unfold k0_pay15
  pointwise

theorem back1_apply (r : Fin 256) (f : Fin 2816) : (k0_pay12 v29 v31 v34 v59 (ix2 r f) : EReal)
    = if r.val % 8 = 0 then v59 (ix4 0 0 r f)
      else k0_pay6 v29 v31 v34 (ix2 ⟨(r.val + 255) % 256, Nat.mod_lt _ (by decide)⟩ f) := by
  have hp := place_apply r f
  unfold k0_pay12 k0_pay11
  generalize k0_pay6 v29 v31 v34 = p
  generalize k0_pay9 = w at hp ⊢
  pointwise
  rw [hp, select_place r 0 (by decide)]
  rfl

/-- The gate row two positions back, as the body chooses it. -/
def two : FVec Ideal S256x2816 .f32 :=
  select k0_pay13 (k0_pay10 v57) (select (cmpi .eq k0_pay9 k0_pay14) (k0_pay11 v59) (k0_pay8 v29 v31 v34))

theorem back2_apply (r : Fin 256) (f : Fin 2816) : (two v29 v31 v34 v57 v59 (ix2 r f) : EReal)
    = if r.val % 8 = 0 then v57 (ix4 0 0 r f) else if r.val % 8 = 1 then v59 (ix4 0 0 r f)
      else k0_pay6 v29 v31 v34 (ix2 ⟨(r.val + 254) % 256, Nat.mod_lt _ (by decide)⟩ f) := by
  have hp := place_apply r f
  unfold two k0_pay13 k0_pay14 k0_pay11 k0_pay10 k0_pay8
  generalize k0_pay6 v29 v31 v34 = p
  generalize k0_pay9 = w at hp ⊢
  pointwise
  rw [hp, select_place r 0 (by decide), select_place r 1 (by decide)]
  rfl
end

section
variable (v19 : FVec Ideal S256x1024 .f32) (v35 v37 v40 : FVec Ideal S256x2816 .f32) (v56 : IVec S256x2816 32)
  (v58 v60 v63 : FVec Ideal S256x2816 .f32) (v65 : IVec S256x2816 1) (v66 : IVec S256x2816 32)
  (v73 v74 v79 v83 : Vec Ideal S1x2816 .f32) (v91 : Vec Ideal S2816x1024 .bf16) (v107 : Vec Ideal S1x1024 .f32)

theorem out_apply (r : Fin 256) (e : Fin 1024) :
    (k0_pay16 v19 v35 v37 v40 v56 v58 v60 v63 v65 v66 v73 v74 v79 v83 v91 (ix2 r e) : EReal)
    = (v19 (ix2 r e) : EReal) + ∑ f : Fin 2816, gated (v73 (ix2 0 f)) (v74 (ix2 0 f)) (v79 (ix2 0 f)) (v83 (ix2 0 f))
        ((select v65 v58 (select (cmpi .eq v56 v66) v60 v40) : FVec Ideal S256x2816 .f32) (ix2 r f))
        (v63 (ix2 r f)) (v35 (ix2 r f)) (v37 (ix2 r f)) * v91 (ix2 f e) := by
  unfold k0_pay16 gated
  generalize select v65 v58 (select (cmpi .eq v56 v66) v60 v40) = w
  pointwise

theorem outBlock_apply (r : Fin 256) (e : Fin 1024) :
    (k0_pay17 v19 v35 v37 v40 v56 v58 v60 v63 v65 v66 v73 v74 v79 v83 v91 (ix3 0 r e) : EReal)
    = k0_pay16 v19 v35 v37 v40 v56 v58 v60 v63 v65 v66 v73 v74 v79 v83 v91 (ix2 r e) := by
  unfold k0_pay17
  generalize k0_pay16 v19 v35 v37 v40 v56 v58 v60 v63 v65 v66 v73 v74 v79 v83 v91 = p
  pointwise

theorem final_apply (r : Fin 256) (e : Fin 1024) :
    (k0_pay1 (k0_pay16 v19 v35 v37 v40 v56 v58 v60 v63 v65 v66 v73 v74 v79 v83 v91)
      (k0_pay18 v19 v35 v37 v40 v56 v58 v60 v63 v65 v66 v73 v74 v79 v83 v91) v107 (ix3 0 r e) : EReal)
    = normed (fun k => k0_pay16 v19 v35 v37 v40 v56 v58 v60 v63 v65 v66 v73 v74 v79 v83 v91 (ix2 r k)) (fun k => v107 (ix2 0 k)) e := by
  unfold k0_pay1 k0_pay18 normed
  generalize k0_pay16 v19 v35 v37 v40 v56 v58 v60 v63 v65 v66 v73 v74 v79 v83 v91 = p
  pointwise
end

end Cert.FfnSample

end
-- ==== Proof.FfnSample.Point.lean ====
/-
  One point of the grid of the fifth call: when its blocks are the arguments' rows of one tile of 256, the blocks it leaves
  are the named rows of the layer.
-/
module

public import proofs.«01_k».proof.Proof.Gen.Kernel5Ideal.Frame
public import proofs.«01_k».proof.Proof.FfnSample.Body

@[expose] public section

set_option maxRecDepth 16384

noncomputable section

namespace Cert.FfnSample

open Idealize.ShloMosaic Idealize.ShloMosaic.TcCoe Cert.Kernel5Ideal Cert.Kernel5Ideal.Gen Cert.Ffn

/-- Row `r` of tile `q`. -/
def pos (q : Fin 4) (r : Fin 256) : Fin 1024 := ⟨256 * q.val + r.val, by omega⟩

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

variable (A : Args) (q : Fin 4)
  (x0 : Vec Ideal S1x256x1024 .f32) (x1 : Vec Ideal S1x256x256 .f32) (x2 : Vec Ideal S1x256x512 .f32)
  (x3 : Vec Ideal S1x256x256 .f32) (x4 : Vec Ideal S1024x1024 .bf16) (x5 : Vec Ideal S1x1024 .f32)
  (x6 x7 : Vec Ideal S1024x2816 .bf16) (x8 : Vec Ideal S3x2816 .f32) (x9 : Vec Ideal S1x2816 .f32)
  (x10 : Vec Ideal S2816x1024 .bf16) (x11 : Vec Ideal S2x1x256x2816 .f32) (x12 : Vec Ideal S1x1024 .f32)

theorem woA_at (k : Fin 256) (e : Fin 1024) : (View.ld x4 r0_2 (ix2 k e) : EReal) = x4 (ix2 ⟨k.val, by omega⟩ e) := by
  refine congrArg x4 (funext fun a => Fin.ext ?_)
  refine (congrArg ((![0, 0] : Fin 2 → ℕ) a + ·) (Nat.one_mul _)).trans ?_
  fin_cases a <;> exact Nat.zero_add _

theorem woG_at (k : Fin 512) (e : Fin 1024) : (View.ld x4 r0_4 (ix2 k e) : EReal) = x4 (ix2 ⟨256 + k.val, by omega⟩ e) := by
  refine congrArg x4 (funext fun a => Fin.ext ?_)
  refine (congrArg ((![256, 0] : Fin 2 → ℕ) a + ·) (Nat.one_mul _)).trans ?_
  fin_cases a
  · rfl
  · exact Nat.zero_add _

theorem woC_at (k : Fin 256) (e : Fin 1024) : (View.ld x4 r0_5 (ix2 k e) : EReal) = x4 (ix2 ⟨768 + k.val, by omega⟩ e) := by
  refine congrArg x4 (funext fun a => Fin.ext ?_)
  refine (congrArg ((![768, 0] : Fin 2 → ℕ) a + ·) (Nat.one_mul _)).trans ?_
  fin_cases a
  · rfl
  · exact Nat.zero_add _

theorem cw0_at (f : Fin 2816) : (View.ld x8 r0_12 (ix2 (0 : Fin 1) f) : EReal) = x8 (ix2 0 f) := by
  refine congrArg x8 (funext fun a => Fin.ext ?_)
  refine (congrArg ((![0, 0] : Fin 2 → ℕ) a + ·) (Nat.one_mul _)).trans ?_
  fin_cases a
  · rfl
  · exact Nat.zero_add _

theorem cw1_at (f : Fin 2816) : (View.ld x8 r0_13 (ix2 (0 : Fin 1) f) : EReal) = x8 (ix2 1 f) := by
  refine congrArg x8 (funext fun a => Fin.ext ?_)
  refine (congrArg ((![1, 0] : Fin 2 → ℕ) a + ·) (Nat.one_mul _)).trans ?_
  fin_cases a
  · rfl
  · exact Nat.zero_add _

theorem cw2_at (f : Fin 2816) : (View.ld x8 r0_14 (ix2 (0 : Fin 1) f) : EReal) = x8 (ix2 2 f) := by
  refine congrArg x8 (funext fun a => Fin.ext ?_)
  refine (congrArg ((![2, 0] : Fin 2 → ℕ) a + ·) (Nat.one_mul _)).trans ?_
  fin_cases a
  · rfl
  · exact Nat.zero_add _

theorem pv0_at (r : Fin 256) (f : Fin 2816) : (View.ld x11 r0_8 (ix4 0 0 r f) : EReal) = x11 (ix4 0 0 r f) := by
  refine congrArg x11 (funext fun a => Fin.ext ?_)
  refine (congrArg ((![0, 0, 0, 0] : Fin 4 → ℕ) a + ·) (Nat.one_mul _)).trans ?_
  fin_cases a
  · rfl
  · rfl
  · exact Nat.zero_add _
  · exact Nat.zero_add _

theorem pv1_at (r : Fin 256) (f : Fin 2816) : (View.ld x11 r0_9 (ix4 0 0 r f) : EReal) = x11 (ix4 1 0 r f) := by
  refine congrArg x11 (funext fun a => Fin.ext ?_)
  refine (congrArg ((![1, 0, 0, 0] : Fin 4 → ℕ) a + ·) (Nat.one_mul _)).trans ?_
  fin_cases a
  · rfl
  · rfl
  · exact Nat.zero_add _
  · exact Nat.zero_add _

/-- The blocks are the arguments' rows of tile `q`. -/
structure IsBlock : Prop where
  e0 : ∀ r e, (x0 (ix3 0 r e) : EReal) = A.x (pos q r) e
  e1 : ∀ r e, (x1 (ix3 0 r e) : EReal) = A.oa (pos q r) e
  e2 : ∀ r e, (x2 (ix3 0 r e) : EReal) = A.og (pos q r) e
  e3 : ∀ r e, (x3 (ix3 0 r e) : EReal) = A.oc (pos q r) e
  e4 : ∀ k e, (x4 (ix2 k e) : EReal) = A.wo k e
  e5 : ∀ e, (x5 (ix2 0 e) : EReal) = A.fn e
  e6 : ∀ k e, (x6 (ix2 k e) : EReal) = A.wg k e
  e7 : ∀ k e, (x7 (ix2 k e) : EReal) = A.wu k e
  e8 : ∀ k e, (x8 (ix2 k e) : EReal) = A.cw k e
  e9 : ∀ e, (x9 (ix2 0 e) : EReal) = A.cb e
  e10 : ∀ k e, (x10 (ix2 k e) : EReal) = A.wd k e
  e11 : ∀ j r f, (x11 (ix4 j 0 r f) : EReal) = A.pv j (pos q r) f
  e12 : ∀ e, (x12 (ix2 0 e) : EReal) = A.fw e

variable (h : IsBlock A q x0 x1 x2 x3 x4 x5 x6 x7 x8 x9 x10 x11 x12)
include h

theorem row_at (r : Fin 256) (e : Fin 1024) : (k0_pay19 x0 x1 x2 x3 x4 x5 x6 x7 x8 x9 x10 x11 x12 (ix2 r e) : EReal) = row A (pos q r) e := by
  unfold k0_pay19 row
  rw [resid_apply, View.ld_unit_zero (S := S1x256x1024) hz3, View.ld_unit_zero (S := S1x256x256) hz3,
    View.ld_unit_zero (S := S1x256x512) hz3, View.ld_unit_zero (S := S1x256x256) hz3]
  simp only [h.e0, h.e1, h.e2, h.e3]
  exact congr (congr (congrArg (resid _ _ _ _) (funext fun k => (woA_at x4 k e).trans (h.e4 _ e)))
    (funext fun k => (woG_at x4 k e).trans (h.e4 _ e))) (funext fun k => (woC_at x4 k e).trans (h.e4 _ e))

theorem normed_at (r : Fin 256) (e : Fin 1024) :
    (k0_pay5 (k0_pay20 x0 x1 x2 x3 x4 x5 x6 x7 x8 x9 x10 x11 x12) (k0_pay21 x0 x1 x2 x3 x4 x5 x6 x7 x8 x9 x10 x11 x12) (ix2 r e) : EReal)
      = normed (row A (pos q r)) A.fn e := by
  unfold k0_pay20 k0_pay21
  rw [normed_apply, View.ld_unit_zero (S := S1x1024) hz2]
  exact congrArg₂ (fun v w => normed v w e) (funext fun k => row_at A q x0 x1 x2 x3 x4 x5 x6 x7 x8 x9 x10 x11 x12 h r k) (funext h.e5)

theorem gate_at (r : Fin 256) (f : Fin 2816) : (k0_pay22 x0 x1 x2 x3 x4 x5 x6 x7 x8 x9 x10 x11 x12 (ix2 r f) : EReal) = gate A (pos q r) f := by
  unfold k0_pay22
  rw [gate_apply, View.ld_unit_zero (S := S1024x2816) hz2]
  exact Finset.sum_congr rfl fun k _ => congrArg₂ (· * ·) (normed_at A q x0 x1 x2 x3 x4 x5 x6 x7 x8 x9 x10 x11 x12 h r k) (h.e6 k f)

theorem up_at (r : Fin 256) (f : Fin 2816) : (k0_pay23 x0 x1 x2 x3 x4 x5 x6 x7 x8 x9 x10 x11 x12 (ix2 r f) : EReal) = up A (pos q r) f := by
  unfold k0_pay23
  rw [up_apply, View.ld_unit_zero (S := S1024x2816) hz2]
  exact Finset.sum_congr rfl fun k _ => congrArg₂ (· * ·) (normed_at A q x0 x1 x2 x3 x4 x5 x6 x7 x8 x9 x10 x11 x12 h r k) (h.e7 k f)

theorem back1_at (r : Fin 256) (f : Fin 2816) : (k0_pay28 x0 x1 x2 x3 x4 x5 x6 x7 x8 x9 x10 x11 x12 (ix2 r f) : EReal) = back1 A (pos q r) f := by
  have hg := gate_at A q x0 x1 x2 x3 x4 x5 x6 x7 x8 x9 x10 x11 x12 h
  unfold k0_pay22 at hg
  unfold k0_pay28
  rw [back1_apply, hg, pv1_at, h.e11]
  unfold back1
  have hlt := r.isLt
  have p8 : (pos q r).val % 8 = r.val % 8 := by unfold pos; dsimp only; omega
  rw [p8]
  by_cases hr : r.val % 8 = 0
  · rw [if_pos hr, if_pos hr]
  · rw [if_neg hr, if_neg hr]
    exact congrArg (fun n => gate A n f) (Fin.ext (by unfold pos; dsimp only; omega))

theorem back2_at (r : Fin 256) (f : Fin 2816) :
    (two (k0_pay20 x0 x1 x2 x3 x4 x5 x6 x7 x8 x9 x10 x11 x12) (k0_pay21 x0 x1 x2 x3 x4 x5 x6 x7 x8 x9 x10 x11 x12) (View.ld x6 r0_7) (View.ld x11 r0_8) (View.ld x11 r0_9) (ix2 r f) : EReal)
      = back2 A (pos q r) f := by
  have hg := gate_at A q x0 x1 x2 x3 x4 x5 x6 x7 x8 x9 x10 x11 x12 h
  unfold k0_pay22 at hg
  rw [back2_apply, hg, pv0_at, pv1_at, h.e11, h.e11]
  unfold back2
  have hlt := r.isLt
  have p8 : (pos q r).val % 8 = r.val % 8 := by unfold pos; dsimp only; omega
  rw [p8]
  by_cases hr : r.val % 8 = 0
  · rw [if_pos hr, if_pos hr]
  rw [if_neg hr, if_neg hr]
  by_cases hr1 : r.val % 8 = 1
  · rw [if_pos hr1, if_pos hr1]
  · rw [if_neg hr1, if_neg hr1]
    exact congrArg (fun n => gate A n f) (Fin.ext (by unfold pos; dsimp only; omega))

theorem sum_at (r : Fin 256) (e : Fin 1024) : (k0_pay16 (k0_pay19 x0 x1 x2 x3 x4 x5 x6 x7 x8 x9 x10 x11 x12)
      (k0_pay22 x0 x1 x2 x3 x4 x5 x6 x7 x8 x9 x10 x11 x12)
      (k0_pay23 x0 x1 x2 x3 x4 x5 x6 x7 x8 x9 x10 x11 x12)
      (k0_pay24 x0 x1 x2 x3 x4 x5 x6 x7 x8 x9 x10 x11 x12)
      (k0_pay25 x0 x1 x2 x3 x4 x5 x6 x7 x8 x9 x10 x11 x12)
      (k0_pay26 x0 x1 x2 x3 x4 x5 x6 x7 x8 x9 x10 x11 x12)
      (k0_pay27 x0 x1 x2 x3 x4 x5 x6 x7 x8 x9 x10 x11 x12)
      (k0_pay28 x0 x1 x2 x3 x4 x5 x6 x7 x8 x9 x10 x11 x12)
      (k0_pay29 x0 x1 x2 x3 x4 x5 x6 x7 x8 x9 x10 x11 x12)
      (k0_pay30 x0 x1 x2 x3 x4 x5 x6 x7 x8 x9 x10 x11 x12)
      (View.ld x9 r0_11) (View.ld x8 r0_12) (View.ld x8 r0_13) (View.ld x8 r0_14) (View.ld x10 r0_15) (ix2 r e) : EReal) = out A (pos q r) e := by
  rw [out_apply, row_at A q x0 x1 x2 x3 x4 x5 x6 x7 x8 x9 x10 x11 x12 h, View.ld_unit_zero (S := S1x2816) hz2, View.ld_unit_zero (S := S2816x1024) hz2]
  unfold out
  refine congrArg (row A (pos q r) e + ·) (Finset.sum_congr rfl fun f _ => ?_)
  rw [cw0_at, cw1_at, cw2_at, h.e8, h.e8, h.e8, h.e9, h.e10, gate_at A q x0 x1 x2 x3 x4 x5 x6 x7 x8 x9 x10 x11 x12 h, up_at A q x0 x1 x2 x3 x4 x5 x6 x7 x8 x9 x10 x11 x12 h,
    back1_at A q x0 x1 x2 x3 x4 x5 x6 x7 x8 x9 x10 x11 x12 h, ← back2_at A q x0 x1 x2 x3 x4 x5 x6 x7 x8 x9 x10 x11 x12 h]
  rfl

/-- The first result's block. -/
theorem bOut_at (r : Fin 256) (e : Fin 1024) : (out0_13 x0 x1 x2 x3 x4 x5 x6 x7 x8 x9 x10 x11 x12 (ix3 0 r e) : EReal) = out A (pos q r) e := by
  unfold out0_13
  rw [View.canon_unit_zero (S := S1x256x1024) hz3, outBlock_apply]
  exact sum_at A q x0 x1 x2 x3 x4 x5 x6 x7 x8 x9 x10 x11 x12 h r e

/-- The second result's block. -/
theorem bGate_at (r : Fin 256) (f : Fin 2816) : (out0_14 x0 x1 x2 x3 x4 x5 x6 x7 x8 x9 x10 x11 x12 (ix4 0 0 r f) : EReal) = gate A (pos q r) f := by
  unfold out0_14
  rw [View.canon_unit_zero (S := S1x1x256x2816) hz4, gateOut_apply]
  exact gate_at A q x0 x1 x2 x3 x4 x5 x6 x7 x8 x9 x10 x11 x12 h r f

/-- The third result's block. -/
theorem bFinal_at (r : Fin 256) (e : Fin 1024) : (out0_15 x0 x1 x2 x3 x4 x5 x6 x7 x8 x9 x10 x11 x12 (ix3 0 r e) : EReal) = outNormed A (pos q r) e := by
  unfold out0_15
  rw [View.canon_unit_zero (S := S1x256x1024) hz3, final_apply, View.ld_unit_zero (S := S1x1024) hz2]
  exact congrArg₂ (fun v w => normed v w e) (funext fun k => sum_at A q x0 x1 x2 x3 x4 x5 x6 x7 x8 x9 x10 x11 x12 h r k) (funext h.e12)

end Cert.FfnSample

end
-- ==== Proof.FfnSample.Arrays.lean ====
/-
  The whole grid of the fifth call: the blocks the body reads are the arguments' rows of the point's tile, so the three
  result arrays hold the named rows.
-/
module

public import proofs.«01_k».proof.Proof.Gen.Kernel5Ideal.Value
public import proofs.«01_k».proof.Proof.FfnSample.Point

@[expose] public section

set_option maxRecDepth 16384
set_option Elab.async false

noncomputable section

namespace Cert.FfnSample

open Idealize.ShloMosaic Idealize.ShloMosaic.TcCoe Cert.Kernel5Ideal Cert.Kernel5Ideal.Gen Cert.Kernel5Ideal.Value Cert.Ffn

variable (m : (ℓ : Loc nD τ sig) → Buf (Elt Ideal) ℓ) (c : Dev nD)

/-- The kernel's arguments by coordinates. -/
def argsK : Args where
  x n e := (m ((c : Thread nD τ).loc main_arg0) : S1x1024x1024.Idx → EReal) (ix3 0 n e)
  oa n e := (m ((c : Thread nD τ).loc main_arg1) : S1x1024x256.Idx → EReal) (ix3 0 n e)
  og n e := (m ((c : Thread nD τ).loc main_arg2) : S1x1024x512.Idx → EReal) (ix3 0 n e)
  oc n e := (m ((c : Thread nD τ).loc main_arg3) : S1x1024x256.Idx → EReal) (ix3 0 n e)
  wo k e := (m ((c : Thread nD τ).loc main_arg4) : S1024x1024.Idx → EReal) (ix2 k e)
  fn e := (m ((c : Thread nD τ).loc main_arg5) : S1x1024.Idx → EReal) (ix2 0 e)
  wg k f := (m ((c : Thread nD τ).loc main_arg6) : S1024x2816.Idx → EReal) (ix2 k f)
  wu k f := (m ((c : Thread nD τ).loc main_arg7) : S1024x2816.Idx → EReal) (ix2 k f)
  cw j f := (m ((c : Thread nD τ).loc main_arg8) : S3x2816.Idx → EReal) (ix2 j f)
  cb f := (m ((c : Thread nD τ).loc main_arg9) : S1x2816.Idx → EReal) (ix2 0 f)
  wd f e := (m ((c : Thread nD τ).loc main_arg10) : S2816x1024.Idx → EReal) (ix2 f e)
  pv j n f := (m ((c : Thread nD τ).loc main_arg11) : S2x1x1024x2816.Idx → EReal) (ix4 j 0 n f)
  fw e := (m ((c : Thread nD τ).loc main_arg12) : S1x1024.Idx → EReal) (ix2 0 e)

theorem lt4 (t : Fin cfg0.N) : t.val < 4 := lt_of_lt_of_eq t.isLt N_0

/-- A point's tile. -/
def tileOf (t : Fin cfg0.N) : Fin 4 := ⟨t.val, lt4 t⟩

/-- The point of a tile. -/
def ptOf (q : Fin 4) : Fin cfg0.N := ⟨q.val, lt_of_lt_of_eq q.isLt N_0.symm⟩

/-- The tile of a row, and the row's place in it. -/
def tileAt (n : Fin 1024) : Fin 4 := ⟨n.val / 256, by omega⟩
def rowAt (n : Fin 1024) : Fin 256 := ⟨n.val % 256, by omega⟩

theorem pos_at (n : Fin 1024) : pos (tileAt n) (rowAt n) = n := Fin.ext (show 256 * (n.val / 256) + n.val % 256 = n.val by omega)

theorem index_0 : ∀ t : Fin cfg0.N, (cfg0.win (0 : Fin 16)).index t = ![0, t.val, 0] := by decide +kernel

theorem index_1 : ∀ t : Fin cfg0.N, (cfg0.win (1 : Fin 16)).index t = ![0, t.val, 0] := by decide +kernel

theorem index_2 : ∀ t : Fin cfg0.N, (cfg0.win (2 : Fin 16)).index t = ![0, t.val, 0] := by decide +kernel

theorem index_3 : ∀ t : Fin cfg0.N, (cfg0.win (3 : Fin 16)).index t = ![0, t.val, 0] := by decide +kernel

theorem index_4 : ∀ t : Fin cfg0.N, (cfg0.win (4 : Fin 16)).index t = ![0, 0] := by decide +kernel

theorem index_5 : ∀ t : Fin cfg0.N, (cfg0.win (5 : Fin 16)).index t = ![0, 0] := by decide +kernel

theorem index_6 : ∀ t : Fin cfg0.N, (cfg0.win (6 : Fin 16)).index t = ![0, 0] := by decide +kernel

theorem index_7 : ∀ t : Fin cfg0.N, (cfg0.win (7 : Fin 16)).index t = ![0, 0] := by decide +kernel

theorem index_8 : ∀ t : Fin cfg0.N, (cfg0.win (8 : Fin 16)).index t = ![0, 0] := by decide +kernel

theorem index_9 : ∀ t : Fin cfg0.N, (cfg0.win (9 : Fin 16)).index t = ![0, 0] := by decide +kernel

theorem index_10 : ∀ t : Fin cfg0.N, (cfg0.win (10 : Fin 16)).index t = ![0, 0] := by decide +kernel

theorem index_11 : ∀ t : Fin cfg0.N, (cfg0.win (11 : Fin 16)).index t = ![0, 0, t.val, 0] := by decide +kernel

theorem index_12 : ∀ t : Fin cfg0.N, (cfg0.win (12 : Fin 16)).index t = ![0, 0] := by decide +kernel

theorem index_13 : ∀ t : Fin cfg0.N, (cfg0.win (13 : Fin 16)).index t = ![0, t.val, 0] := by decide +kernel

theorem index_14 : ∀ t : Fin cfg0.N, (cfg0.win (14 : Fin 16)).index t = ![0, t.val, 0, 0] := by decide +kernel

theorem index_15 : ∀ t : Fin cfg0.N, (cfg0.win (15 : Fin 16)).index t = ![0, t.val, 0] := by decide +kernel

theorem flush_13 : ∀ t : Fin cfg0.N, (cfg0.win (13 : Fin 16)).flush t = true := by decide +kernel

theorem flush_14 : ∀ t : Fin cfg0.N, (cfg0.win (14 : Fin 16)).flush t = true := by decide +kernel

theorem flush_15 : ∀ t : Fin cfg0.N, (cfg0.win (15 : Fin 16)).flush t = true := by decide +kernel

theorem blk_0 (t : Fin cfg0.N) (r : Fin 256) (e : Fin 1024) :
    (iblk m c (0 : Fin 16) t (ix3 0 r e : S1x256x1024.Idx) : EReal) = (argsK m c).x (pos (tileOf t) r) e := by
  refine congrArg (m ((c : Thread nD τ).loc main_arg0)) (funext fun a => Fin.ext ?_)
  show (cfg0.win (0 : Fin 16)).index t a * S1x256x1024.size a + 1 * ((ix3 0 r e : S1x256x1024.Idx) a).val = _
  rw [index_0 t]
  fin_cases a
  · show 0 * 1 + 1 * 0 = 0; omega
  · show t.val * 256 + 1 * r.val = 256 * t.val + r.val; omega
  · show 0 * 1024 + 1 * e.val = e.val; omega

theorem blk_1 (t : Fin cfg0.N) (r : Fin 256) (e : Fin 256) :
    (iblk m c (1 : Fin 16) t (ix3 0 r e : S1x256x256.Idx) : EReal) = (argsK m c).oa (pos (tileOf t) r) e := by
  refine congrArg (m ((c : Thread nD τ).loc main_arg1)) (funext fun a => Fin.ext ?_)
  show (cfg0.win (1 : Fin 16)).index t a * S1x256x256.size a + 1 * ((ix3 0 r e : S1x256x256.Idx) a).val = _
  rw [index_1 t]
  fin_cases a
  · show 0 * 1 + 1 * 0 = 0; omega
  · show t.val * 256 + 1 * r.val = 256 * t.val + r.val; omega
  · show 0 * 256 + 1 * e.val = e.val; omega

theorem blk_2 (t : Fin cfg0.N) (r : Fin 256) (e : Fin 512) :
    (iblk m c (2 : Fin 16) t (ix3 0 r e : S1x256x512.Idx) : EReal) = (argsK m c).og (pos (tileOf t) r) e := by
  refine congrArg (m ((c : Thread nD τ).loc main_arg2)) (funext fun a => Fin.ext ?_)
  show (cfg0.win (2 : Fin 16)).index t a * S1x256x512.size a + 1 * ((ix3 0 r e : S1x256x512.Idx) a).val = _
  rw [index_2 t]
  fin_cases a
  · show 0 * 1 + 1 * 0 = 0; omega
  · show t.val * 256 + 1 * r.val = 256 * t.val + r.val; omega
  · show 0 * 512 + 1 * e.val = e.val; omega

theorem blk_3 (t : Fin cfg0.N) (r : Fin 256) (e : Fin 256) :
    (iblk m c (3 : Fin 16) t (ix3 0 r e : S1x256x256.Idx) : EReal) = (argsK m c).oc (pos (tileOf t) r) e := by
  refine congrArg (m ((c : Thread nD τ).loc main_arg3)) (funext fun a => Fin.ext ?_)
  show (cfg0.win (3 : Fin 16)).index t a * S1x256x256.size a + 1 * ((ix3 0 r e : S1x256x256.Idx) a).val = _
  rw [index_3 t]
  fin_cases a
  · show 0 * 1 + 1 * 0 = 0; omega
  · show t.val * 256 + 1 * r.val = 256 * t.val + r.val; omega
  · show 0 * 256 + 1 * e.val = e.val; omega

theorem blk_4 (t : Fin cfg0.N) (r : Fin 1024) (e : Fin 1024) :
    (iblk m c (4 : Fin 16) t (ix2 r e : S1024x1024.Idx) : EReal) = (argsK m c).wo r e := by
  refine congrArg (m ((c : Thread nD τ).loc main_arg4)) (funext fun a => Fin.ext ?_)
  show (cfg0.win (4 : Fin 16)).index t a * S1024x1024.size a + 1 * ((ix2 r e : S1024x1024.Idx) a).val = _
  rw [index_4 t]
  fin_cases a
  · show 0 * 1024 + 1 * r.val = r.val; omega
  · show 0 * 1024 + 1 * e.val = e.val; omega

theorem blk_6 (t : Fin cfg0.N) (r : Fin 1024) (e : Fin 2816) :
    (iblk m c (6 : Fin 16) t (ix2 r e : S1024x2816.Idx) : EReal) = (argsK m c).wg r e := by
  refine congrArg (m ((c : Thread nD τ).loc main_arg6)) (funext fun a => Fin.ext ?_)
  show (cfg0.win (6 : Fin 16)).index t a * S1024x2816.size a + 1 * ((ix2 r e : S1024x2816.Idx) a).val = _
  rw [index_6 t]
  fin_cases a
  · show 0 * 1024 + 1 * r.val = r.val; omega
  · show 0 * 2816 + 1 * e.val = e.val; omega

theorem blk_7 (t : Fin cfg0.N) (r : Fin 1024) (e : Fin 2816) :
    (iblk m c (7 : Fin 16) t (ix2 r e : S1024x2816.Idx) : EReal) = (argsK m c).wu r e := by
  refine congrArg (m ((c : Thread nD τ).loc main_arg7)) (funext fun a => Fin.ext ?_)
  show (cfg0.win (7 : Fin 16)).index t a * S1024x2816.size a + 1 * ((ix2 r e : S1024x2816.Idx) a).val = _
  rw [index_7 t]
  fin_cases a
  · show 0 * 1024 + 1 * r.val = r.val; omega
  · show 0 * 2816 + 1 * e.val = e.val; omega

theorem blk_8 (t : Fin cfg0.N) (r : Fin 3) (e : Fin 2816) :
    (iblk m c (8 : Fin 16) t (ix2 r e : S3x2816.Idx) : EReal) = (argsK m c).cw r e := by
  refine congrArg (m ((c : Thread nD τ).loc main_arg8)) (funext fun a => Fin.ext ?_)
  show (cfg0.win (8 : Fin 16)).index t a * S3x2816.size a + 1 * ((ix2 r e : S3x2816.Idx) a).val = _
  rw [index_8 t]
  fin_cases a
  · show 0 * 3 + 1 * r.val = r.val; omega
  · show 0 * 2816 + 1 * e.val = e.val; omega

theorem blk_10 (t : Fin cfg0.N) (r : Fin 2816) (e : Fin 1024) :
    (iblk m c (10 : Fin 16) t (ix2 r e : S2816x1024.Idx) : EReal) = (argsK m c).wd r e := by
  refine congrArg (m ((c : Thread nD τ).loc main_arg10)) (funext fun a => Fin.ext ?_)
  show (cfg0.win (10 : Fin 16)).index t a * S2816x1024.size a + 1 * ((ix2 r e : S2816x1024.Idx) a).val = _
  rw [index_10 t]
  fin_cases a
  · show 0 * 2816 + 1 * r.val = r.val; omega
  · show 0 * 1024 + 1 * e.val = e.val; omega

theorem blk_5 (t : Fin cfg0.N) (e : Fin 1024) :
    (iblk m c (5 : Fin 16) t (ix2 0 e : S1x1024.Idx) : EReal) = (argsK m c).fn e := by
  refine congrArg (m ((c : Thread nD τ).loc main_arg5)) (funext fun a => Fin.ext ?_)
  show (cfg0.win (5 : Fin 16)).index t a * S1x1024.size a + 1 * ((ix2 0 e : S1x1024.Idx) a).val = _
  rw [index_5 t]
  fin_cases a
  · show 0 * 1 + 1 * 0 = 0; omega
  · show 0 * 1024 + 1 * e.val = e.val; omega

theorem blk_9 (t : Fin cfg0.N) (e : Fin 2816) :
    (iblk m c (9 : Fin 16) t (ix2 0 e : S1x2816.Idx) : EReal) = (argsK m c).cb e := by
  refine congrArg (m ((c : Thread nD τ).loc main_arg9)) (funext fun a => Fin.ext ?_)
  show (cfg0.win (9 : Fin 16)).index t a * S1x2816.size a + 1 * ((ix2 0 e : S1x2816.Idx) a).val = _
  rw [index_9 t]
  fin_cases a
  · show 0 * 1 + 1 * 0 = 0; omega
  · show 0 * 2816 + 1 * e.val = e.val; omega

theorem blk_12 (t : Fin cfg0.N) (e : Fin 1024) :
    (iblk m c (12 : Fin 16) t (ix2 0 e : S1x1024.Idx) : EReal) = (argsK m c).fw e := by
  refine congrArg (m ((c : Thread nD τ).loc main_arg12)) (funext fun a => Fin.ext ?_)
  show (cfg0.win (12 : Fin 16)).index t a * S1x1024.size a + 1 * ((ix2 0 e : S1x1024.Idx) a).val = _
  rw [index_12 t]
  fin_cases a
  · show 0 * 1 + 1 * 0 = 0; omega
  · show 0 * 1024 + 1 * e.val = e.val; omega

theorem blk_11 (t : Fin cfg0.N) (j : Fin 2) (r : Fin 256) (f : Fin 2816) :
    (iblk m c (11 : Fin 16) t (ix4 j 0 r f : S2x1x256x2816.Idx) : EReal) = (argsK m c).pv j (pos (tileOf t) r) f := by
  refine congrArg (m ((c : Thread nD τ).loc main_arg11)) (funext fun a => Fin.ext ?_)
  show (cfg0.win (11 : Fin 16)).index t a * S2x1x256x2816.size a + 1 * ((ix4 j 0 r f : S2x1x256x2816.Idx) a).val = _
  rw [index_11 t]
  fin_cases a
  · show 0 * 2 + 1 * j.val = j.val; omega
  · show 0 * 1 + 1 * 0 = 0; omega
  · show t.val * 256 + 1 * r.val = 256 * t.val + r.val; omega
  · show 0 * 2816 + 1 * f.val = f.val; omega

/-- A point's blocks are the arguments' rows of its tile. -/
theorem isBlock (t : Fin cfg0.N) : IsBlock (argsK m c) (tileOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) :=
  ⟨blk_0 m c t, blk_1 m c t, blk_2 m c t, blk_3 m c t, blk_4 m c t, blk_5 m c t, blk_6 m c t, blk_7 m c t, blk_8 m c t,
    blk_9 m c t, blk_10 m c t, blk_11 m c t, blk_12 m c t⟩

/-- The result arrays. -/
def R13 : Vec Ideal S1x1024x1024 .f32 := (dats m 0 c).arrAt 13 cfg0.N
def R14 : Vec Ideal S1x4x256x2816 .f32 := (dats m 0 c).arrAt 14 cfg0.N
def R15 : Vec Ideal S1x1024x1024 .f32 := (dats m 0 c).arrAt 15 cfg0.N

theorem tile_13 (t : Fin cfg0.N) (r : Fin 256) (e : Fin 1024) :
    (R13 m c (ix3 0 (pos (tileOf t) r) e) : EReal) = out (argsK m c) (pos (tileOf t) r) e := by
  refine Eq.trans ?_ ((congrFun (blocks13 m c t (flush_13 t)) (ix3 0 r e : S1x256x1024.Idx)).trans
    ((congrFun (flushed13 m c t) (ix3 0 r e : S1x256x1024.Idx)).trans ?_))
  · refine congrArg (R13 m c) (funext fun a => Fin.ext ?_)
    show _ = (cfg0.win (13 : Fin 16)).index t a * S1x256x1024.size a + 1 * ((ix3 0 r e : S1x256x1024.Idx) a).val
    rw [index_13 t]
    fin_cases a
    · show 0 = 0 * 1 + 1 * 0; omega
    · show 256 * t.val + r.val = t.val * 256 + 1 * r.val; omega
    · show e.val = 0 * 1024 + 1 * e.val; omega
  · exact bOut_at (argsK m c) (tileOf t) _ _ _ _ _ _ _ _ _ _ _ _ _ (isBlock m c t) r e

theorem arr_13 (n : Fin 1024) (e : Fin 1024) : (R13 m c (ix3 0 n e) : EReal) = out (argsK m c) n e := by
  have h := tile_13 m c (ptOf (tileAt n)) (rowAt n) e
  rwa [show pos (tileOf (ptOf (tileAt n))) (rowAt n) = n from pos_at n] at h

theorem tile_15 (t : Fin cfg0.N) (r : Fin 256) (e : Fin 1024) :
    (R15 m c (ix3 0 (pos (tileOf t) r) e) : EReal) = outNormed (argsK m c) (pos (tileOf t) r) e := by
  refine Eq.trans ?_ ((congrFun (blocks15 m c t (flush_15 t)) (ix3 0 r e : S1x256x1024.Idx)).trans
    ((congrFun (flushed15 m c t) (ix3 0 r e : S1x256x1024.Idx)).trans ?_))
  · refine congrArg (R15 m c) (funext fun a => Fin.ext ?_)
    show _ = (cfg0.win (15 : Fin 16)).index t a * S1x256x1024.size a + 1 * ((ix3 0 r e : S1x256x1024.Idx) a).val
    rw [index_15 t]
    fin_cases a
    · show 0 = 0 * 1 + 1 * 0; omega
    · show 256 * t.val + r.val = t.val * 256 + 1 * r.val; omega
    · show e.val = 0 * 1024 + 1 * e.val; omega
  · exact bFinal_at (argsK m c) (tileOf t) _ _ _ _ _ _ _ _ _ _ _ _ _ (isBlock m c t) r e

theorem arr_15 (n : Fin 1024) (e : Fin 1024) : (R15 m c (ix3 0 n e) : EReal) = outNormed (argsK m c) n e := by
  have h := tile_15 m c (ptOf (tileAt n)) (rowAt n) e
  rwa [show pos (tileOf (ptOf (tileAt n))) (rowAt n) = n from pos_at n] at h

theorem tile_14 (t : Fin cfg0.N) (r : Fin 256) (f : Fin 2816) :
    (R14 m c (ix4 0 (tileOf t) r f) : EReal) = gate (argsK m c) (pos (tileOf t) r) f := by
  refine Eq.trans ?_ ((congrFun (blocks14 m c t (flush_14 t)) (ix4 0 0 r f : S1x1x256x2816.Idx)).trans
    ((congrFun (flushed14 m c t) (ix4 0 0 r f : S1x1x256x2816.Idx)).trans ?_))
  · refine congrArg (R14 m c) (funext fun a => Fin.ext ?_)
    show _ = (cfg0.win (14 : Fin 16)).index t a * S1x1x256x2816.size a + 1 * ((ix4 0 0 r f : S1x1x256x2816.Idx) a).val
    rw [index_14 t]
    fin_cases a
    · show 0 = 0 * 1 + 1 * 0; omega
    · show t.val = t.val * 1 + 1 * 0; omega
    · show r.val = 0 * 256 + 1 * r.val; omega
    · show f.val = 0 * 2816 + 1 * f.val; omega
  · exact bGate_at (argsK m c) (tileOf t) _ _ _ _ _ _ _ _ _ _ _ _ _ (isBlock m c t) r f

theorem arr_14 (q : Fin 4) (r : Fin 256) (f : Fin 2816) :
    (R14 m c (ix4 0 q r f) : EReal) = gate (argsK m c) (pos q r) f := tile_14 m c (ptOf q) r f

end Cert.FfnSample

end
-- ==== Proof.FfnSample.Pre.lean ====
/-
  What the precondition of the fifth call says of the memory: the two earlier gate rows are the same at each of a sequence's
  positions.
-/
module

public import proofs.«01_k».proof.Defs
public import proofs.«01_k».proof.Proof.Gen.Pre_sample_buffer
public import proofs.«01_k».proof.Proof.FfnSample.Arrays
public import Idealize.ShloMosaic.Lib.ReduceAll
public import Idealize.ShloMosaic.Lib.IdealHost

@[expose] public section

set_option maxRecDepth 16384

noncomputable section

namespace Cert.FfnSample

open Idealize.ShloMosaic Idealize.ShloMosaic.TcCoe Cert.Kernel5Ideal

/-- A decided equation whose word came out 1. -/
theorem of_word {x y : EReal} (h : BitVec.ofBool (decide (x = y)) = 1#1) : x = y := by
  by_contra hne
  simp [hne] at h

variable (m : (ℓ : Loc nD τ sig) → Buf (Elt Ideal) ℓ) (c : Dev nD)

/-- The precondition, read. -/
theorem held (h : Cert.Pre_Kernel5Ideal_sample_buffer m) : Held (argsK m c) := by
  have e := congrFun (h c) (fun a => a.elim0)
  have : Subsingleton Cert.Pre_sample_buffer.S_.Idx := ⟨fun y z => funext fun a => a.elim0⟩
  have e := Host.reduce_andi_all _ _ _ _ _ e
  unfold argsK
  generalize m ((c : Thread nD τ).loc main_arg11) = w at e ⊢
  intro j q r f
  have := e (ix4 j q r f)
  pointwise at this
  have := of_word this
  refine Eq.trans ?_ (this.trans ?_)
  · exact congrArg (fun n => w (ix4 j 0 n f)) (Fin.ext (by unfold at8; dsimp only; omega))
  · exact congrArg (fun n => w (ix4 j 0 n f)) (Fin.ext (by unfold at8; dsimp only; omega))

end Cert.FfnSample

end
-- ==== Proof.FfnSample.Ref.lean ====
/-
  The reference of the fifth call read at an index: the residual row, its normalisation, the two
  projections, the convolution over the row and the two before it, and the rows of the results.
-/
module

public import proofs.«01_k».proof.Proof.Gen.Reference5Ideal.Read
public import proofs.«01_k».proof.Proof.FfnSample.Spec

@[expose] public section

set_option maxRecDepth 16384

noncomputable section

namespace Cert.FfnSample.Ref

open Idealize.ShloMosaic Idealize.ShloMosaic.TcCoe Cert.Reference5Ideal Cert.Reference5Ideal.Gen Cert.Reference5Ideal.Read Cert.Ffn

variable (x0 : S1x1024x1024.Idx → EReal) (x1 : S1x1024x256.Idx → EReal) (x2 : S1x1024x512.Idx → EReal)
  (x3 : S1x1024x256.Idx → EReal) (x4 : S1024x1024.Idx → EReal) (x5 : S1x1024.Idx → EReal)
  (x6 x7 : S1024x2816.Idx → EReal) (x8 : S3x2816.Idx → EReal) (x9 : S1x2816.Idx → EReal)
  (x10 : S2816x1024.Idx → EReal) (x11 : S2x1x1024x2816.Idx → EReal) (x12 : S1x1024.Idx → EReal)

/-- The arguments by coordinates. -/
def args : Args where
  x n e := x0 (ix3 0 n e)
  oa n e := x1 (ix3 0 n e)
  og n e := x2 (ix3 0 n e)
  oc n e := x3 (ix3 0 n e)
  wo k e := x4 (ix2 k e)
  fn e := x5 (ix2 0 e)
  wg k f := x6 (ix2 k f)
  wu k f := x7 (ix2 k f)
  cw j f := x8 (ix2 j f)
  cb f := x9 (ix2 0 f)
  wd f e := x10 (ix2 f e)
  pv j n f := x11 (ix4 j 0 n f)
  fw e := x12 (ix2 0 e)

/-- The heads' outputs side by side. -/
theorem cat_at (n : Fin 1024) (k : Fin 1024) : (val_main_v0 (F := Ideal) x1 x2 x3 (ix3 0 n k) : EReal)
    = if h : k.val < 256 then x1 (ix3 0 n ⟨k.val, h⟩) else if h' : k.val - 256 < 512 then x2 (ix3 0 n ⟨k.val - 256, h'⟩)
      else x3 (ix3 0 n ⟨k.val - 256 - 512, by omega⟩) := by
  unfold val_main_v0
  pointwise

theorem cat_a (n : Fin 1024) (k : Fin 256) :
    (val_main_v0 (F := Ideal) x1 x2 x3 (ix3 0 n ⟨k.val, by omega⟩) : EReal) = x1 (ix3 0 n k) := by
  rw [cat_at, dif_pos k.isLt]

theorem cat_g (n : Fin 1024) (k : Fin 512) :
    (val_main_v0 (F := Ideal) x1 x2 x3 (ix3 0 n ⟨256 + k.val, by omega⟩) : EReal) = x2 (ix3 0 n k) := by
  rw [cat_at, dif_neg (by dsimp only; omega), dif_pos (by dsimp only; omega)]
  exact congrArg (fun j => x2 (ix3 0 n j)) (Fin.ext (by dsimp only; omega))

theorem cat_c (n : Fin 1024) (k : Fin 256) :
    (val_main_v0 (F := Ideal) x1 x2 x3 (ix3 0 n ⟨768 + k.val, by omega⟩) : EReal) = x3 (ix3 0 n k) := by
  rw [cat_at, dif_neg (by dsimp only; omega), dif_neg (by dsimp only; omega)]
  exact congrArg (fun j => x3 (ix3 0 n j)) (Fin.ext (by dsimp only; omega))

/-- The residual row. -/
theorem row_at (n : Fin 1024) (e : Fin 1024) :
    (val_main_v3 (F := Ideal) x0 x1 x2 x3 x4 (ix3 0 n e) : EReal) = row (args x0 x1 x2 x3 x4 x5 x6 x7 x8 x9 x10 x11 x12) n e := by
  unfold val_main_v3 val_main_v2 val_main_v1
  have ha := cat_a x1 x2 x3 n
  have hg := cat_g x1 x2 x3 n
  have hc := cat_c x1 x2 x3 n
  generalize val_main_v0 (F := Ideal) x1 x2 x3 = p at ha hg hc ⊢
  pointwise
  rw [sum_heads]
  simp only [ha, hg, hc]
  rfl

/-- The row normalised. -/
theorem normed_at (n : Fin 1024) (e : Fin 1024) :
    (val_main_v17 (F := Ideal) x0 x1 x2 x3 x4 x5 (ix3 0 n e) : EReal) = normed (row (args x0 x1 x2 x3 x4 x5 x6 x7 x8 x9 x10 x11 x12) n) (args x0 x1 x2 x3 x4 x5 x6 x7 x8 x9 x10 x11 x12).fn e := by
  have hr := row_at x0 x1 x2 x3 x4 x5 x6 x7 x8 x9 x10 x11 x12 n
  unfold val_main_v17 val_main_v16 val_main_v15 val_main_v14 val_main_v13 val_main_v12
    val_main_v11 val_main_v10 val_main_v9 val_main_v8 val_main_v7 val_main_v6 val_main_v5 val_main_v4 val_main_cst
    val_main_cst_0 val_main_cst_1
  generalize val_main_v3 (F := Ideal) x0 x1 x2 x3 x4 = p at hr ⊢
  pointwise
  simp only [hr]
  rfl

/-- The gate projection. -/
theorem gate_at (n : Fin 1024) (f : Fin 2816) :
    (val_main_v19 (F := Ideal) x0 x1 x2 x3 x4 x5 x6 (ix3 0 n f) : EReal) = gate (args x0 x1 x2 x3 x4 x5 x6 x7 x8 x9 x10 x11 x12) n f := by
  have hr := normed_at x0 x1 x2 x3 x4 x5 x6 x7 x8 x9 x10 x11 x12 n
  unfold val_main_v19 val_main_v18
  generalize val_main_v17 (F := Ideal) x0 x1 x2 x3 x4 x5 = p at hr ⊢
  pointwise
  simp only [hr]
  rfl

/-- The up projection. -/
theorem up_at (n : Fin 1024) (f : Fin 2816) :
    (val_main_v21 (F := Ideal) x0 x1 x2 x3 x4 x5 x7 (ix3 0 n f) : EReal) = up (args x0 x1 x2 x3 x4 x5 x6 x7 x8 x9 x10 x11 x12) n f := by
  have hr := normed_at x0 x1 x2 x3 x4 x5 x6 x7 x8 x9 x10 x11 x12 n
  unfold val_main_v21 val_main_v20
  generalize val_main_v17 (F := Ideal) x0 x1 x2 x3 x4 x5 = p at hr ⊢
  pointwise
  simp only [hr]
  rfl

/-- The two rows given at a sequence's start. -/
theorem start_at (q : Fin 128) (j : Fin 2) (f : Fin 2816) :
    (val_main_v25 (F := Ideal) x11 (ix3 q j f) : EReal) = (args x0 x1 x2 x3 x4 x5 x6 x7 x8 x9 x10 x11 x12).pv j (at8 q 0) f := by
  unfold val_main_v25 val_main_v24 val_main_v23 val_main_v22 at8
  pointwise
  exact congrArg (fun n => x11 (ix4 j 0 n f)) (Fin.ext (by dsimp only; omega))

/-- The gate projection, a sequence at a time. -/
theorem seq_at (q : Fin 128) (r : Fin 8) (f : Fin 2816) :
    (val_main_v26 (F := Ideal) x0 x1 x2 x3 x4 x5 x6 (ix3 q r f) : EReal) = gate (args x0 x1 x2 x3 x4 x5 x6 x7 x8 x9 x10 x11 x12) (at8 q r) f := by
  have hg := gate_at x0 x1 x2 x3 x4 x5 x6 x7 x8 x9 x10 x11 x12
  unfold val_main_v26
  generalize val_main_v19 (F := Ideal) x0 x1 x2 x3 x4 x5 x6 = p at hg ⊢
  rw [← hg]
  unfold at8
  pointwise
  exact congrArg (fun n => p (ix3 0 n f)) (Fin.ext (by dsimp only; omega))

/-- The gate projection behind the two rows given. -/
theorem padded_at (q : Fin 128) (t : Fin 10) (f : Fin 2816) :
    (val_main_v27 (F := Ideal) x0 x1 x2 x3 x4 x5 x6 x11 (ix3 q t f) : EReal)
      = if h : t.val < 2 then (args x0 x1 x2 x3 x4 x5 x6 x7 x8 x9 x10 x11 x12).pv ⟨t.val, h⟩ (at8 q 0) f else gate (args x0 x1 x2 x3 x4 x5 x6 x7 x8 x9 x10 x11 x12) (at8 q ⟨t.val - 2, by omega⟩) f := by
  have hg := seq_at x0 x1 x2 x3 x4 x5 x6 x7 x8 x9 x10 x11 x12 q
  have h0 := start_at x0 x1 x2 x3 x4 x5 x6 x7 x8 x9 x10 x11 x12 q
  unfold val_main_v27
  generalize val_main_v26 (F := Ideal) x0 x1 x2 x3 x4 x5 x6 = p at hg ⊢
  generalize val_main_v25 (F := Ideal) x11 = p0 at h0 ⊢
  pointwise
  simp only [hg, h0]

variable (H : Held (args x0 x1 x2 x3 x4 x5 x6 x7 x8 x9 x10 x11 x12))
include H

/-- The row two positions back. -/
theorem back2_at (q : Fin 128) (r : Fin 8) (f : Fin 2816) :
    (val_main_v29 (F := Ideal) x0 x1 x2 x3 x4 x5 x6 x11 (ix3 q r f) : EReal) = back2 (args x0 x1 x2 x3 x4 x5 x6 x7 x8 x9 x10 x11 x12) (at8 q r) f := by
  have hr := padded_at x0 x1 x2 x3 x4 x5 x6 x7 x8 x9 x10 x11 x12 q
  unfold val_main_v29
  generalize val_main_v27 (F := Ideal) x0 x1 x2 x3 x4 x5 x6 x11 = p at hr ⊢
  pointwise
  rw [hr]
  unfold back2
  have p8 : (at8 q r).val % 8 = r.val := by unfold at8; dsimp only; omega
  rw [p8, H 0 q r f, H 1 q r f]
  by_cases t0 : r.val = 0
  · rw [if_pos t0, dif_pos (by dsimp only; omega)]
    exact congrArg (fun j => (args x0 x1 x2 x3 x4 x5 x6 x7 x8 x9 x10 x11 x12).pv j (at8 q 0) f) (Fin.ext (by dsimp only; omega))
  rw [if_neg t0]
  by_cases t1 : r.val = 1
  · rw [if_pos t1, dif_pos (by dsimp only; omega)]
    exact congrArg (fun j => (args x0 x1 x2 x3 x4 x5 x6 x7 x8 x9 x10 x11 x12).pv j (at8 q 0) f) (Fin.ext (by dsimp only; omega))
  · rw [if_neg t1, dif_neg (by dsimp only; omega)]
    exact congrArg (fun n => gate (args x0 x1 x2 x3 x4 x5 x6 x7 x8 x9 x10 x11 x12) n f) (Fin.ext (by unfold at8; dsimp only; omega))

/-- The row one position back. -/
theorem back1_at (q : Fin 128) (r : Fin 8) (f : Fin 2816) :
    (val_main_v38 (F := Ideal) x0 x1 x2 x3 x4 x5 x6 x11 (ix3 q r f) : EReal) = back1 (args x0 x1 x2 x3 x4 x5 x6 x7 x8 x9 x10 x11 x12) (at8 q r) f := by
  have hr := padded_at x0 x1 x2 x3 x4 x5 x6 x7 x8 x9 x10 x11 x12 q
  unfold val_main_v38
  generalize val_main_v27 (F := Ideal) x0 x1 x2 x3 x4 x5 x6 x11 = p at hr ⊢
  pointwise
  rw [hr]
  unfold back1
  have p8 : (at8 q r).val % 8 = r.val := by unfold at8; dsimp only; omega
  rw [p8, H 1 q r f]
  by_cases t0 : r.val = 0
  · rw [if_pos t0, dif_pos (by dsimp only; omega)]
    exact congrArg (fun j => (args x0 x1 x2 x3 x4 x5 x6 x7 x8 x9 x10 x11 x12).pv j (at8 q 0) f) (Fin.ext (by dsimp only; omega))
  · rw [if_neg t0, dif_neg (by dsimp only; omega)]
    exact congrArg (fun n => gate (args x0 x1 x2 x3 x4 x5 x6 x7 x8 x9 x10 x11 x12) n f) (Fin.ext (by unfold at8; dsimp only; omega))

omit H in
/-- The row itself. -/
theorem back0_at (q : Fin 128) (r : Fin 8) (f : Fin 2816) :
    (val_main_v45 (F := Ideal) x0 x1 x2 x3 x4 x5 x6 x11 (ix3 q r f) : EReal) = gate (args x0 x1 x2 x3 x4 x5 x6 x7 x8 x9 x10 x11 x12) (at8 q r) f := by
  have hr := padded_at x0 x1 x2 x3 x4 x5 x6 x7 x8 x9 x10 x11 x12 q
  unfold val_main_v45
  generalize val_main_v27 (F := Ideal) x0 x1 x2 x3 x4 x5 x6 x11 = p at hr ⊢
  pointwise
  rw [hr, dif_neg (by dsimp only; omega)]
  exact congrArg (fun n => gate (args x0 x1 x2 x3 x4 x5 x6 x7 x8 x9 x10 x11 x12) n f) (Fin.ext (by unfold at8; dsimp only; omega))

/-- The convolution. -/
theorem conv_at (q : Fin 128) (r : Fin 8) (f : Fin 2816) :
    (val_main_v51 (F := Ideal) x0 x1 x2 x3 x4 x5 x6 x8 x9 x11 (ix3 q r f) : EReal)
      = x9 (ix2 0 f) + back2 (args x0 x1 x2 x3 x4 x5 x6 x7 x8 x9 x10 x11 x12) (at8 q r) f * x8 (ix2 0 f) + back1 (args x0 x1 x2 x3 x4 x5 x6 x7 x8 x9 x10 x11 x12) (at8 q r) f * x8 (ix2 1 f)
        + gate (args x0 x1 x2 x3 x4 x5 x6 x7 x8 x9 x10 x11 x12) (at8 q r) f * x8 (ix2 2 f) := by
  have h2 := back2_at x0 x1 x2 x3 x4 x5 x6 x7 x8 x9 x10 x11 x12 H q r f
  have h1 := back1_at x0 x1 x2 x3 x4 x5 x6 x7 x8 x9 x10 x11 x12 H q r f
  have h0 := back0_at x0 x1 x2 x3 x4 x5 x6 x7 x8 x9 x10 x11 x12 q r f
  unfold val_main_v51 val_main_v50 val_main_v49 val_main_v48 val_main_v47 val_main_v46 val_main_v44 val_main_v43 val_main_v42
    val_main_v41 val_main_v40 val_main_v39 val_main_v37 val_main_v36 val_main_v35 val_main_v34 val_main_v33 val_main_v32
    val_main_v31 val_main_v30 val_main_v28
  generalize val_main_v29 (F := Ideal) x0 x1 x2 x3 x4 x5 x6 x11 = p2 at h2 ⊢
  generalize val_main_v38 (F := Ideal) x0 x1 x2 x3 x4 x5 x6 x11 = p1 at h1 ⊢
  generalize val_main_v45 (F := Ideal) x0 x1 x2 x3 x4 x5 x6 x11 = p0 at h0 ⊢
  pointwise
  rw [h2, h1, h0]

/-- A row's sequence, and its position there. -/
def seqAt (n : Fin 1024) : Fin 128 := ⟨n.val / 8, by omega⟩
def posAt (n : Fin 1024) : Fin 8 := ⟨n.val % 8, by omega⟩

omit H in
theorem at8_at (n : Fin 1024) : at8 (seqAt n) (posAt n) = n := Fin.ext (show 8 * (n.val / 8) + n.val % 8 = n.val by omega)

/-- The gated product. -/
theorem gated_at (n : Fin 1024) (f : Fin 2816) :
    (val_main_v54 (F := Ideal) x0 x1 x2 x3 x4 x5 x6 x7 x8 x9 x11 (ix3 0 n f) : EReal)
      = gated (x9 (ix2 0 f)) (x8 (ix2 0 f)) (x8 (ix2 1 f)) (x8 (ix2 2 f)) (back2 (args x0 x1 x2 x3 x4 x5 x6 x7 x8 x9 x10 x11 x12) n f) (back1 (args x0 x1 x2 x3 x4 x5 x6 x7 x8 x9 x10 x11 x12) n f)
          (gate (args x0 x1 x2 x3 x4 x5 x6 x7 x8 x9 x10 x11 x12) n f) (up (args x0 x1 x2 x3 x4 x5 x6 x7 x8 x9 x10 x11 x12) n f) := by
  have hc := conv_at x0 x1 x2 x3 x4 x5 x6 x7 x8 x9 x10 x11 x12 H (seqAt n) (posAt n) f
  rw [at8_at] at hc
  have hu := up_at x0 x1 x2 x3 x4 x5 x6 x7 x8 x9 x10 x11 x12 n f
  unfold seqAt posAt at hc
  unfold val_main_v54 val_main_v53 val_main_v52 val_main_call0_v5 val_main_call0_v4 val_main_call0_v3 val_main_call0_v2
    val_main_call0_v1 val_main_call0_v0 val_main_call0_cst val_main_call0_cst_0 gated Ideal.logistic
  generalize val_main_v51 (F := Ideal) x0 x1 x2 x3 x4 x5 x6 x8 x9 x11 = p at hc ⊢
  generalize val_main_v21 (F := Ideal) x0 x1 x2 x3 x4 x5 x7 = q at hu ⊢
  pointwise
  rw [hc, hu]

/-- The row that leaves the layer. -/
theorem out_at (n : Fin 1024) (e : Fin 1024) :
    (val_main_v57 (F := Ideal) x0 x1 x2 x3 x4 x5 x6 x7 x8 x9 x10 x11 (ix3 0 n e) : EReal) = out (args x0 x1 x2 x3 x4 x5 x6 x7 x8 x9 x10 x11 x12) n e := by
  have hr := row_at x0 x1 x2 x3 x4 x5 x6 x7 x8 x9 x10 x11 x12 n e
  have hg := gated_at x0 x1 x2 x3 x4 x5 x6 x7 x8 x9 x10 x11 x12 H n
  unfold val_main_v57 val_main_v56 val_main_v55
  generalize val_main_v3 (F := Ideal) x0 x1 x2 x3 x4 = p at hr ⊢
  generalize val_main_v54 (F := Ideal) x0 x1 x2 x3 x4 x5 x6 x7 x8 x9 x11 = g at hg ⊢
  pointwise
  rw [hr]
  simp only [hg]
  rfl

omit H in
/-- The gate rows, in tiles of 256. -/
theorem gateOut_at (q : Fin 4) (r : Fin 256) (f : Fin 2816) :
    (val_main_v58 (F := Ideal) x0 x1 x2 x3 x4 x5 x6 (ix4 0 q r f) : EReal) = gate (args x0 x1 x2 x3 x4 x5 x6 x7 x8 x9 x10 x11 x12) ⟨256 * q.val + r.val, by omega⟩ f := by
  have hg := gate_at x0 x1 x2 x3 x4 x5 x6 x7 x8 x9 x10 x11 x12
  unfold val_main_v58
  generalize val_main_v19 (F := Ideal) x0 x1 x2 x3 x4 x5 x6 = p at hg ⊢
  rw [← hg]
  pointwise
  exact congrArg (fun n => p (ix3 0 n f)) (Fin.ext (by dsimp only; omega))

/-- The row that leaves the layer, normalised. -/
theorem outNormed_at (n : Fin 1024) (e : Fin 1024) :
    (val_main_v72 (F := Ideal) x0 x1 x2 x3 x4 x5 x6 x7 x8 x9 x10 x11 x12 (ix3 0 n e) : EReal) = outNormed (args x0 x1 x2 x3 x4 x5 x6 x7 x8 x9 x10 x11 x12) n e := by
  have hr := out_at x0 x1 x2 x3 x4 x5 x6 x7 x8 x9 x10 x11 x12 H n
  unfold val_main_v72 val_main_v71 val_main_v70 val_main_v69 val_main_v68 val_main_v67 val_main_v66 val_main_v65 val_main_v64
    val_main_v63 val_main_v62 val_main_v61 val_main_v60 val_main_v59 val_main_cst_2 val_main_cst_3 val_main_cst_4
  generalize val_main_v57 (F := Ideal) x0 x1 x2 x3 x4 x5 x6 x7 x8 x9 x10 x11 = p at hr ⊢
  pointwise
  simp only [hr]
  rfl

end Cert.FfnSample.Ref

end
-- ==== Proof.FfnSample.Claims.lean ====
/-
  The claims about the fifth call: its frames, and that its three results are the reference's.
-/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.FfnSample.Pre
public import proofs.«01_k».proof.Proof.FfnSample.Ref
public import Idealize.ShloMosaic.Adequacy

@[expose] public section

set_option maxRecDepth 16384

noncomputable section

namespace Cert.FfnSample

open Idealize.ShloMosaic Idealize.ShloMosaic.TcCoe Idealize.SL.Sem

/-- The compiled kernel ends, its arguments unchanged and its counters at zero. -/
theorem frame_kernel : Cert.quiescent_Kernel5 := fun m ρ _ => Cert.Kernel5.Gen.frame m ρ

/-- The same of its idealization, and again under the buffer's precondition. -/
theorem frame_ideal : Cert.quiescent_Kernel5Ideal := fun m ρ _ => Cert.Kernel5Ideal.Gen.frame m ρ

theorem frame_ideal_buffer : Cert.quiescent_Kernel5Ideal_pre_sample_buffer := fun m ρ _ => Cert.Kernel5Ideal.Gen.frame m ρ

/-- The same of the reference, which declares no semaphore. -/
theorem frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_ref_buffer : Cert.quiescent_Reference5Ideal_pre_sample_buffer := fun m ρ _ => frame_ref m ρ trivial

variable (m : (ℓ : Loc Cert.Kernel5Ideal.nD Cert.Kernel5Ideal.τ Cert.Kernel5Ideal.sig) → Buf (Elt Ideal) ℓ)
  (c : Dev Cert.Kernel5Ideal.nD)

/-- The arguments of the call. -/
def a0 := m ((c.tc : Thread Cert.Kernel5Ideal.nD Cert.Kernel5Ideal.τ).loc Cert.Kernel5Ideal.main_arg0)
def a1 := m ((c.tc : Thread Cert.Kernel5Ideal.nD Cert.Kernel5Ideal.τ).loc Cert.Kernel5Ideal.main_arg1)
def a2 := m ((c.tc : Thread Cert.Kernel5Ideal.nD Cert.Kernel5Ideal.τ).loc Cert.Kernel5Ideal.main_arg2)
def a3 := m ((c.tc : Thread Cert.Kernel5Ideal.nD Cert.Kernel5Ideal.τ).loc Cert.Kernel5Ideal.main_arg3)
def a4 := m ((c.tc : Thread Cert.Kernel5Ideal.nD Cert.Kernel5Ideal.τ).loc Cert.Kernel5Ideal.main_arg4)
def a5 := m ((c.tc : Thread Cert.Kernel5Ideal.nD Cert.Kernel5Ideal.τ).loc Cert.Kernel5Ideal.main_arg5)
def a6 := m ((c.tc : Thread Cert.Kernel5Ideal.nD Cert.Kernel5Ideal.τ).loc Cert.Kernel5Ideal.main_arg6)
def a7 := m ((c.tc : Thread Cert.Kernel5Ideal.nD Cert.Kernel5Ideal.τ).loc Cert.Kernel5Ideal.main_arg7)
def a8 := m ((c.tc : Thread Cert.Kernel5Ideal.nD Cert.Kernel5Ideal.τ).loc Cert.Kernel5Ideal.main_arg8)
def a9 := m ((c.tc : Thread Cert.Kernel5Ideal.nD Cert.Kernel5Ideal.τ).loc Cert.Kernel5Ideal.main_arg9)
def a10 := m ((c.tc : Thread Cert.Kernel5Ideal.nD Cert.Kernel5Ideal.τ).loc Cert.Kernel5Ideal.main_arg10)
def a11 := m ((c.tc : Thread Cert.Kernel5Ideal.nD Cert.Kernel5Ideal.τ).loc Cert.Kernel5Ideal.main_arg11)
def a12 := m ((c.tc : Thread Cert.Kernel5Ideal.nD Cert.Kernel5Ideal.τ).loc Cert.Kernel5Ideal.main_arg12)

/-- The reference's first result, of the kernel's arguments, is the kernel's. -/
theorem ref_out (H : Held (argsK m c)) :
    Cert.Reference5Ideal.Read.val_main_v57 (F := Ideal) (a0 m c) (a1 m c) (a2 m c) (a3 m c) (a4 m c) (a5 m c) (a6 m c) (a7 m c) (a8 m c) (a9 m c) (a10 m c) (a11 m c) = R13 m c := by
  funext i
  obtain ⟨z, n, e, rfl⟩ : ∃ (z : Fin 1) (n : Fin 1024) (e : Fin 1024), i = (ix3 z n e : Cert.Kernel5Ideal.S1x1024x1024.Idx) :=
    ⟨_, _, _, eq_ix3 i⟩
  obtain rfl : z = 0 := Subsingleton.elim _ _
  exact (Ref.out_at (a0 m c) (a1 m c) (a2 m c) (a3 m c) (a4 m c) (a5 m c) (a6 m c) (a7 m c) (a8 m c) (a9 m c) (a10 m c) (a11 m c) (a12 m c) H n e).trans
    (arr_13 m c n e).symm

/-- The second. -/
theorem ref_gate :
    Cert.Reference5Ideal.Read.val_main_v58 (F := Ideal) (a0 m c) (a1 m c) (a2 m c) (a3 m c) (a4 m c) (a5 m c) (a6 m c) = R14 m c := by
  funext i
  obtain ⟨z, q, r, f, rfl⟩ : ∃ (z : Fin 1) (q : Fin 4) (r : Fin 256) (f : Fin 2816),
      i = (ix4 z q r f : Cert.Kernel5Ideal.S1x4x256x2816.Idx) := ⟨_, _, _, _, eq_ix4 i⟩
  obtain rfl : z = 0 := Subsingleton.elim _ _
  exact (Ref.gateOut_at (a0 m c) (a1 m c) (a2 m c) (a3 m c) (a4 m c) (a5 m c) (a6 m c) (a7 m c) (a8 m c) (a9 m c) (a10 m c) (a11 m c) (a12 m c) q r f).trans
    (arr_14 m c q r f).symm

/-- The third. -/
theorem ref_final (H : Held (argsK m c)) :
    Cert.Reference5Ideal.Read.val_main_v72 (F := Ideal) (a0 m c) (a1 m c) (a2 m c) (a3 m c) (a4 m c) (a5 m c) (a6 m c) (a7 m c) (a8 m c) (a9 m c) (a10 m c) (a11 m c) (a12 m c) = R15 m c := by
  funext i
  obtain ⟨z, n, e, rfl⟩ : ∃ (z : Fin 1) (n : Fin 1024) (e : Fin 1024), i = (ix3 z n e : Cert.Kernel5Ideal.S1x1024x1024.Idx) :=
    ⟨_, _, _, eq_ix3 i⟩
  obtain rfl : z = 0 := Subsingleton.elim _ _
  exact (Ref.outNormed_at (a0 m c) (a1 m c) (a2 m c) (a3 m c) (a4 m c) (a5 m c) (a6 m c) (a7 m c) (a8 m c) (a9 m c) (a10 m c) (a11 m c) (a12 m c) H n e).trans
    (arr_15 m c n e).symm

/-- The kernel's results are the reference's, over the extended reals, where the earlier gate rows are held. -/
theorem value : Cert.algebraic_Kernel5Ideal_Reference5Ideal_pre_sample_buffer := by
  intro m ρ m' ρ' hpre hagree
  refine ⟨fun c => R13 m c, fun c => R14 m c, fun c => R15 m c, Cert.Kernel5Ideal.Value.run_blocks m ρ, ?_⟩
  refine (θ_run Cert.Reference5Ideal.defs _ _).mono (fun r h c => ⟨?_, ?_, ?_, (h c).2.2.2⟩)
    (Cert.Reference5Ideal.Value.run (F := Ideal) m' ρ')
  · refine (h c).1.trans ((Cert.Reference5Ideal.Read.val_main_v57_eq m' c).trans ?_)
    obtain ⟨e0, e1, e2, e3, e4, e5, e6, e7, e8, e9, e10, e11, e12⟩ := hagree c
    rw [e0, e1, e2, e3, e4, e5, e6, e7, e8, e9, e10, e11]
    exact ref_out m c (held m c hpre)
  · refine (h c).2.1.trans ((Cert.Reference5Ideal.Read.val_main_v58_eq _ _ _ _ _ _ _).trans ?_)
    obtain ⟨e0, e1, e2, e3, e4, e5, e6, e7, e8, e9, e10, e11, e12⟩ := hagree c
    rw [e0, e1, e2, e3, e4, e5, e6]
    exact ref_gate m c
  · refine (h c).2.2.1.trans ((Cert.Reference5Ideal.Read.val_main_v72_eq m' c).trans ?_)
    obtain ⟨e0, e1, e2, e3, e4, e5, e6, e7, e8, e9, e10, e11, e12⟩ := hagree c
    rw [e0, e1, e2, e3, e4, e5, e6, e7, e8, e9, e10, e11, e12]
    exact ref_final m c (held m c hpre)

end Cert.FfnSample

end
-- ==== Proof.lean ====
/-
  The proof of the claims. The attention call: the frames of the kernel, of its idealization and of the reference, and
  that its result is the reference's over the extended reals (Proof/Mla/Claims.lean). The call that ends the last
  layer: the same (Proof/Ffn/Claims.lean). The call that begins a layer: the same of all its results but one
  (Proof/Proj/Claims.lean). The last two for the sample group: the call that begins a layer
  (Proof/ProjSample/Claims.lean) and the call that ends the last one (Proof/FfnSample/Claims.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_causal_tables
public import proofs.«01_k».proof.Proof.Gen.Pre_causal_finite
public import proofs.«01_k».proof.Proof.Mla.Claims
public import proofs.«01_k».proof.Proof.Gen.Kernel2
public import proofs.«01_k».proof.Proof.Gen.Kernel2Ideal
public import proofs.«01_k».proof.Proof.Gen.Reference2Ideal
public import proofs.«01_k».proof.Proof.Ffn.Claims
public import proofs.«01_k».proof.Proof.Gen.Kernel3
public import proofs.«01_k».proof.Proof.Gen.Kernel3Ideal
public import proofs.«01_k».proof.Proof.Gen.Reference3Ideal
public import proofs.«01_k».proof.Proof.Gen.Pre_rotary_layout
public import proofs.«01_k».proof.Proof.Proj.Claims
public import proofs.«01_k».proof.Proof.Gen.Kernel4
public import proofs.«01_k».proof.Proof.Gen.Kernel4Ideal
public import proofs.«01_k».proof.Proof.Gen.Reference4Ideal
public import proofs.«01_k».proof.Proof.Gen.Pre_sample_layout
public import proofs.«01_k».proof.Proof.ProjSample.Claims
public import proofs.«01_k».proof.Proof.Gen.Kernel5
public import proofs.«01_k».proof.Proof.Gen.Kernel5Ideal
public import proofs.«01_k».proof.Proof.Gen.Reference5Ideal
public import proofs.«01_k».proof.Proof.Gen.Pre_sample_buffer
public import proofs.«01_k».proof.Proof.FfnSample.Claims

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Pre_causal_tables.Gen.facts, Cert.Pre_causal_finite.Gen.facts,
    Cert.Pre_rotary_layout.Gen.facts, Cert.Pre_sample_layout.Gen.facts, Cert.Pre_sample_buffer.Gen.facts,
    Cert.Mla.frame_kernel, Cert.Mla.frame_ideal, Cert.Mla.frame_ideal_finite, Cert.Mla.frame_ref,
    Cert.Mla.frame_ref_finite, Cert.Ffn.frame_kernel, Cert.Ffn.frame_ideal, Cert.Ffn.frame_ref,
    Cert.Proj.frame_kernel, Cert.Proj.frame_ideal, Cert.Proj.frame_ideal_layout, Cert.Proj.frame_ref,
    Cert.Proj.frame_ref_layout, Cert.ProjSample.frame_kernel, Cert.ProjSample.frame_ideal,
    Cert.ProjSample.frame_ideal_layout, Cert.ProjSample.frame_ref, Cert.ProjSample.frame_ref_layout,
    Cert.FfnSample.frame_kernel, Cert.FfnSample.frame_ideal, Cert.FfnSample.frame_ideal_buffer,
    Cert.FfnSample.frame_ref, Cert.FfnSample.frame_ref_buffer, trivial, Cert.Mla.value, trivial, Cert.Ffn.value,
    trivial, Cert.Proj.value, trivial, Cert.ProjSample.value, trivial, Cert.FfnSample.value⟩

end Cert.Proof

end
